-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_queries_and_keys_are_finite [hPre_queries_and_keys_are_finite : Cert.Pre_queries_and_keys_are_finite.Facts] (m : (ℓ : Loc Cert.KernelIdeal.nD Cert.KernelIdeal.τ Cert.KernelIdeal.sig) → Buf (Elt Ideal) ℓ) : Prop :=
  ∀ c : Dev Cert.KernelIdeal.nD,
    (Cert.Pre_queries_and_keys_are_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_queries_and_keys_are_finite [hPre_queries_and_keys_are_finite : Cert.Pre_queries_and_keys_are_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_queries_and_keys_are_finite.fn (F := Ideal) (m ((c.tc : Thread Cert.ReferenceIdeal.nD Cert.ReferenceIdeal.τ).loc Cert.ReferenceIdeal.main_arg0))) = (fun _ => 1#1)

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def Pre_KernelUv (m : (ℓ : Loc Cert.KernelUv.nD Cert.KernelUv.τ Cert.KernelUv.sig) → Buf (Elt Bits) ℓ) : Prop :=
  True

def Pre_KernelUvIdeal (m : (ℓ : Loc Cert.KernelUvIdeal.nD Cert.KernelUvIdeal.τ Cert.KernelUvIdeal.sig) → Buf (Elt Ideal) ℓ) : Prop :=
  True

def Pre_ReferenceUvIdeal (m : (ℓ : Loc Cert.ReferenceUvIdeal.nD Cert.ReferenceUvIdeal.τ Cert.ReferenceUvIdeal.sig) → Buf (Elt Ideal) ℓ) : Prop :=
  True

def Pre_KernelGates (m : (ℓ : Loc Cert.KernelGates.nD Cert.KernelGates.τ Cert.KernelGates.sig) → Buf (Elt Bits) ℓ) : Prop :=
  True

def Pre_KernelGatesIdeal (m : (ℓ : Loc Cert.KernelGatesIdeal.nD Cert.KernelGatesIdeal.τ Cert.KernelGatesIdeal.sig) → Buf (Elt Ideal) ℓ) : Prop :=
  True

def Pre_ReferenceGatesIdeal (m : (ℓ : Loc Cert.ReferenceGatesIdeal.nD Cert.ReferenceGatesIdeal.τ Cert.ReferenceGatesIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelMoe [hPre_items_are_packed : Cert.Pre_items_are_packed.Facts] (m : (ℓ : Loc Cert.KernelMoe.nD Cert.KernelMoe.τ Cert.KernelMoe.sig) → Buf (Elt Bits) ℓ) : Prop :=
  ∀ c : Dev Cert.KernelMoe.nD,
    (Cert.Pre_items_are_packed.fn (F := Bits) (m ((c.tc : Thread Cert.KernelMoe.nD Cert.KernelMoe.τ).loc Cert.KernelMoe.main_arg0)) (m ((c.tc : Thread Cert.KernelMoe.nD Cert.KernelMoe.τ).loc Cert.KernelMoe.main_arg1)) (m ((c.tc : Thread Cert.KernelMoe.nD Cert.KernelMoe.τ).loc Cert.KernelMoe.main_arg2)) (m ((c.tc : Thread Cert.KernelMoe.nD Cert.KernelMoe.τ).loc Cert.KernelMoe.main_arg3)) (m ((c.tc : Thread Cert.KernelMoe.nD Cert.KernelMoe.τ).loc Cert.KernelMoe.main_arg4)) (m ((c.tc : Thread Cert.KernelMoe.nD Cert.KernelMoe.τ).loc Cert.KernelMoe.main_arg5)) (m ((c.tc : Thread Cert.KernelMoe.nD Cert.KernelMoe.τ).loc Cert.KernelMoe.main_arg6)) (m ((c.tc : Thread Cert.KernelMoe.nD Cert.KernelMoe.τ).loc Cert.KernelMoe.main_arg7))) = (fun _ => 1#1)

def Pre_KernelMoeIdeal [hPre_items_are_packed : Cert.Pre_items_are_packed.Facts] (m : (ℓ : Loc Cert.KernelMoeIdeal.nD Cert.KernelMoeIdeal.τ Cert.KernelMoeIdeal.sig) → Buf (Elt Ideal) ℓ) : Prop :=
  ∀ c : Dev Cert.KernelMoeIdeal.nD,
    (Cert.Pre_items_are_packed.fn (F := Ideal) (m ((c.tc : Thread Cert.KernelMoeIdeal.nD Cert.KernelMoeIdeal.τ).loc Cert.KernelMoeIdeal.main_arg0)) (m ((c.tc : Thread Cert.KernelMoeIdeal.nD Cert.KernelMoeIdeal.τ).loc Cert.KernelMoeIdeal.main_arg1)) (m ((c.tc : Thread Cert.KernelMoeIdeal.nD Cert.KernelMoeIdeal.τ).loc Cert.KernelMoeIdeal.main_arg2)) (m ((c.tc : Thread Cert.KernelMoeIdeal.nD Cert.KernelMoeIdeal.τ).loc Cert.KernelMoeIdeal.main_arg3)) (m ((c.tc : Thread Cert.KernelMoeIdeal.nD Cert.KernelMoeIdeal.τ).loc Cert.KernelMoeIdeal.main_arg4)) (m ((c.tc : Thread Cert.KernelMoeIdeal.nD Cert.KernelMoeIdeal.τ).loc Cert.KernelMoeIdeal.main_arg5)) (m ((c.tc : Thread Cert.KernelMoeIdeal.nD Cert.KernelMoeIdeal.τ).loc Cert.KernelMoeIdeal.main_arg6)) (m ((c.tc : Thread Cert.KernelMoeIdeal.nD Cert.KernelMoeIdeal.τ).loc Cert.KernelMoeIdeal.main_arg7))) = (fun _ => 1#1)

def Pre_ReferenceMoeIdeal (m : (ℓ : Loc Cert.ReferenceMoeIdeal.nD Cert.ReferenceMoeIdeal.τ Cert.ReferenceMoeIdeal.sig) → Buf (Elt Ideal) ℓ) : Prop :=
  True

def Pre_ReferenceMoeIdeal_items_are_packed [hPre_items_are_packed : Cert.Pre_items_are_packed.Facts] (m : (ℓ : Loc Cert.ReferenceMoeIdeal.nD Cert.ReferenceMoeIdeal.τ Cert.ReferenceMoeIdeal.sig) → Buf (Elt Ideal) ℓ) : Prop :=
  ∀ c : Dev Cert.ReferenceMoeIdeal.nD,
    (Cert.Pre_items_are_packed.fn (F := Ideal) (m ((c.tc : Thread Cert.ReferenceMoeIdeal.nD Cert.ReferenceMoeIdeal.τ).loc Cert.ReferenceMoeIdeal.main_arg0)) (m ((c.tc : Thread Cert.ReferenceMoeIdeal.nD Cert.ReferenceMoeIdeal.τ).loc Cert.ReferenceMoeIdeal.main_arg1)) (m ((c.tc : Thread Cert.ReferenceMoeIdeal.nD Cert.ReferenceMoeIdeal.τ).loc Cert.ReferenceMoeIdeal.main_arg2)) (m ((c.tc : Thread Cert.ReferenceMoeIdeal.nD Cert.ReferenceMoeIdeal.τ).loc Cert.ReferenceMoeIdeal.main_arg3)) (m ((c.tc : Thread Cert.ReferenceMoeIdeal.nD Cert.ReferenceMoeIdeal.τ).loc Cert.ReferenceMoeIdeal.main_arg4)) (m ((c.tc : Thread Cert.ReferenceMoeIdeal.nD Cert.ReferenceMoeIdeal.τ).loc Cert.ReferenceMoeIdeal.main_arg5)) (m ((c.tc : Thread Cert.ReferenceMoeIdeal.nD Cert.ReferenceMoeIdeal.τ).loc Cert.ReferenceMoeIdeal.main_arg6)) (m ((c.tc : Thread Cert.ReferenceMoeIdeal.nD Cert.ReferenceMoeIdeal.τ).loc Cert.ReferenceMoeIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_queries_and_keys_are_finite [hKernelIdeal : Cert.KernelIdeal.Facts] [hPre_queries_and_keys_are_finite : Cert.Pre_queries_and_keys_are_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_queries_and_keys_are_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_queries_and_keys_are_finite [hReferenceIdeal : Cert.ReferenceIdeal.Facts] [hPre_queries_and_keys_are_finite : Cert.Pre_queries_and_keys_are_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_queries_and_keys_are_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1))
      ∧ r.2.sem = fun _ => 0)

def quiescent_KernelUv [hKernelUv : Cert.KernelUv.Facts] : Prop :=
  ∀ (m : (ℓ : Loc Cert.KernelUv.nD Cert.KernelUv.τ Cert.KernelUv.sig) → Buf (Elt Bits) ℓ) (g : Dev Cert.KernelUv.nD → PrngReg), Pre_KernelUv m →
    θ_run (Cert.KernelUv.defs (F := Bits)) (onTc (τ := Cert.KernelUv.τ) (Cert.KernelUv.main (F := Bits))) ⟨m, fun _ => 0, g⟩ (fun r => (∀ c : Dev Cert.KernelUv.nD,
      r.2.mem ((c.tc : Thread Cert.KernelUv.nD Cert.KernelUv.τ).loc Cert.KernelUv.main_arg0) = m ((c.tc : Thread Cert.KernelUv.nD Cert.KernelUv.τ).loc Cert.KernelUv.main_arg0)
      ∧ r.2.mem ((c.tc : Thread Cert.KernelUv.nD Cert.KernelUv.τ).loc Cert.KernelUv.main_arg1) = m ((c.tc : Thread Cert.KernelUv.nD Cert.KernelUv.τ).loc Cert.KernelUv.main_arg1))
      ∧ r.2.sem = fun _ => 0)

def quiescent_KernelUvIdeal [hKernelUvIdeal : Cert.KernelUvIdeal.Facts] : Prop :=
  ∀ (m : (ℓ : Loc Cert.KernelUvIdeal.nD Cert.KernelUvIdeal.τ Cert.KernelUvIdeal.sig) → Buf (Elt Ideal) ℓ) (g : Dev Cert.KernelUvIdeal.nD → PrngReg), Pre_KernelUvIdeal m →
    θ_run (Cert.KernelUvIdeal.defs (F := Ideal)) (onTc (τ := Cert.KernelUvIdeal.τ) (Cert.KernelUvIdeal.main (F := Ideal))) ⟨m, fun _ => 0, g⟩ (fun r => (∀ c : Dev Cert.KernelUvIdeal.nD,
      r.2.mem ((c.tc : Thread Cert.KernelUvIdeal.nD Cert.KernelUvIdeal.τ).loc Cert.KernelUvIdeal.main_arg0) = m ((c.tc : Thread Cert.KernelUvIdeal.nD Cert.KernelUvIdeal.τ).loc Cert.KernelUvIdeal.main_arg0)
      ∧ r.2.mem ((c.tc : Thread Cert.KernelUvIdeal.nD Cert.KernelUvIdeal.τ).loc Cert.KernelUvIdeal.main_arg1) = m ((c.tc : Thread Cert.KernelUvIdeal.nD Cert.KernelUvIdeal.τ).loc Cert.KernelUvIdeal.main_arg1))
      ∧ r.2.sem = fun _ => 0)

def quiescent_ReferenceUvIdeal [hReferenceUvIdeal : Cert.ReferenceUvIdeal.Facts] : Prop :=
  ∀ (m : (ℓ : Loc Cert.ReferenceUvIdeal.nD Cert.ReferenceUvIdeal.τ Cert.ReferenceUvIdeal.sig) → Buf (Elt Ideal) ℓ) (g : Dev Cert.ReferenceUvIdeal.nD → PrngReg), Pre_ReferenceUvIdeal m →
    θ_run (Cert.ReferenceUvIdeal.defs (F := Ideal)) (onTc (τ := Cert.ReferenceUvIdeal.τ) (Cert.ReferenceUvIdeal.main (F := Ideal))) ⟨m, fun _ => 0, g⟩ (fun r => (∀ c : Dev Cert.ReferenceUvIdeal.nD,
      r.2.mem ((c.tc : Thread Cert.ReferenceUvIdeal.nD Cert.ReferenceUvIdeal.τ).loc Cert.ReferenceUvIdeal.main_arg0) = m ((c.tc : Thread Cert.ReferenceUvIdeal.nD Cert.ReferenceUvIdeal.τ).loc Cert.ReferenceUvIdeal.main_arg0)
      ∧ r.2.mem ((c.tc : Thread Cert.ReferenceUvIdeal.nD Cert.ReferenceUvIdeal.τ).loc Cert.ReferenceUvIdeal.main_arg1) = m ((c.tc : Thread Cert.ReferenceUvIdeal.nD Cert.ReferenceUvIdeal.τ).loc Cert.ReferenceUvIdeal.main_arg1))
      ∧ r.2.sem = fun _ => 0)

def quiescent_KernelGates [hKernelGates : Cert.KernelGates.Facts] : Prop :=
  ∀ (m : (ℓ : Loc Cert.KernelGates.nD Cert.KernelGates.τ Cert.KernelGates.sig) → Buf (Elt Bits) ℓ) (g : Dev Cert.KernelGates.nD → PrngReg), Pre_KernelGates m →
    θ_run (Cert.KernelGates.defs (F := Bits)) (onTc (τ := Cert.KernelGates.τ) (Cert.KernelGates.main (F := Bits))) ⟨m, fun _ => 0, g⟩ (fun r => (∀ c : Dev Cert.KernelGates.nD,
      r.2.mem ((c.tc : Thread Cert.KernelGates.nD Cert.KernelGates.τ).loc Cert.KernelGates.main_arg0) = m ((c.tc : Thread Cert.KernelGates.nD Cert.KernelGates.τ).loc Cert.KernelGates.main_arg0)
      ∧ r.2.mem ((c.tc : Thread Cert.KernelGates.nD Cert.KernelGates.τ).loc Cert.KernelGates.main_arg1) = m ((c.tc : Thread Cert.KernelGates.nD Cert.KernelGates.τ).loc Cert.KernelGates.main_arg1)
      ∧ r.2.mem ((c.tc : Thread Cert.KernelGates.nD Cert.KernelGates.τ).loc Cert.KernelGates.main_arg2) = m ((c.tc : Thread Cert.KernelGates.nD Cert.KernelGates.τ).loc Cert.KernelGates.main_arg2))
      ∧ r.2.sem = fun _ => 0)

def quiescent_KernelGatesIdeal [hKernelGatesIdeal : Cert.KernelGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg), Pre_KernelGatesIdeal m →
    θ_run (Cert.KernelGatesIdeal.defs (F := Ideal)) (onTc (τ := Cert.KernelGatesIdeal.τ) (Cert.KernelGatesIdeal.main (F := Ideal))) ⟨m, fun _ => 0, g⟩ (fun r => (∀ c : Dev Cert.KernelGatesIdeal.nD,
      r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
      ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
      ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2))
      ∧ r.2.sem = fun _ => 0)

def quiescent_ReferenceGatesIdeal [hReferenceGatesIdeal : Cert.ReferenceGatesIdeal.Facts] : Prop :=
  ∀ (m : (ℓ : Loc Cert.ReferenceGatesIdeal.nD Cert.ReferenceGatesIdeal.τ Cert.ReferenceGatesIdeal.sig) → Buf (Elt Ideal) ℓ) (g : Dev Cert.ReferenceGatesIdeal.nD → PrngReg), Pre_ReferenceGatesIdeal m →
    θ_run (Cert.ReferenceGatesIdeal.defs (F := Ideal)) (onTc (τ := Cert.ReferenceGatesIdeal.τ) (Cert.ReferenceGatesIdeal.main (F := Ideal))) ⟨m, fun _ => 0, g⟩ (fun r => (∀ c : Dev Cert.ReferenceGatesIdeal.nD,
      r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1)
      ∧ r.2.mem ((c.tc : Thread Cert.ReferenceGatesIdeal.nD Cert.ReferenceGatesIdeal.τ).loc Cert.ReferenceGatesIdeal.main_arg2) = m ((c.tc : Thread Cert.ReferenceGatesIdeal.nD Cert.ReferenceGatesIdeal.τ).loc Cert.ReferenceGatesIdeal.main_arg2))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6))
      ∧ r.2.sem = fun _ => 0)

def quiescent_KernelMoe [hKernelMoe : Cert.KernelMoe.Facts] [hPre_items_are_packed : Cert.Pre_items_are_packed.Facts] : Prop :=
  ∀ (m : (ℓ : Loc Cert.KernelMoe.nD Cert.KernelMoe.τ Cert.KernelMoe.sig) → Buf (Elt Bits) ℓ) (g : Dev Cert.KernelMoe.nD → PrngReg), Pre_KernelMoe m →
    θ_run (Cert.KernelMoe.defs (F := Bits)) (onTc (τ := Cert.KernelMoe.τ) (Cert.KernelMoe.main (F := Bits))) ⟨m, fun _ => 0, g⟩ (fun r => (∀ c : Dev Cert.KernelMoe.nD,
      r.2.mem ((c.tc : Thread Cert.KernelMoe.nD Cert.KernelMoe.τ).loc Cert.KernelMoe.main_arg0) = m ((c.tc : Thread Cert.KernelMoe.nD Cert.KernelMoe.τ).loc Cert.KernelMoe.main_arg0)
      ∧ r.2.mem ((c.tc : Thread Cert.KernelMoe.nD Cert.KernelMoe.τ).loc Cert.KernelMoe.main_arg1) = m ((c.tc : Thread Cert.KernelMoe.nD Cert.KernelMoe.τ).loc Cert.KernelMoe.main_arg1)
      ∧ r.2.mem ((c.tc : Thread Cert.KernelMoe.nD Cert.KernelMoe.τ).loc Cert.KernelMoe.main_arg2) = m ((c.tc : Thread Cert.KernelMoe.nD Cert.KernelMoe.τ).loc Cert.KernelMoe.main_arg2)
      ∧ r.2.mem ((c.tc : Thread Cert.KernelMoe.nD Cert.KernelMoe.τ).loc Cert.KernelMoe.main_arg3) = m ((c.tc : Thread Cert.KernelMoe.nD Cert.KernelMoe.τ).loc Cert.KernelMoe.main_arg3)
      ∧ r.2.mem ((c.tc : Thread Cert.KernelMoe.nD Cert.KernelMoe.τ).loc Cert.KernelMoe.main_arg4) = m ((c.tc : Thread Cert.KernelMoe.nD Cert.KernelMoe.τ).loc Cert.KernelMoe.main_arg4)
      ∧ r.2.mem ((c.tc : Thread Cert.KernelMoe.nD Cert.KernelMoe.τ).loc Cert.KernelMoe.main_arg5) = m ((c.tc : Thread Cert.KernelMoe.nD Cert.KernelMoe.τ).loc Cert.KernelMoe.main_arg5)
      ∧ r.2.mem ((c.tc : Thread Cert.KernelMoe.nD Cert.KernelMoe.τ).loc Cert.KernelMoe.main_arg6) = m ((c.tc : Thread Cert.KernelMoe.nD Cert.KernelMoe.τ).loc Cert.KernelMoe.main_arg6)
      ∧ r.2.mem ((c.tc : Thread Cert.KernelMoe.nD Cert.KernelMoe.τ).loc Cert.KernelMoe.main_arg7) = m ((c.tc : Thread Cert.KernelMoe.nD Cert.KernelMoe.τ).loc Cert.KernelMoe.main_arg7))
      ∧ r.2.sem = fun _ => 0)

def quiescent_KernelMoeIdeal [hKernelMoeIdeal : Cert.KernelMoeIdeal.Facts] [hPre_items_are_packed : Cert.Pre_items_are_packed.Facts] : Prop :=
  ∀ (m : (ℓ : Loc Cert.KernelMoeIdeal.nD Cert.KernelMoeIdeal.τ Cert.KernelMoeIdeal.sig) → Buf (Elt Ideal) ℓ) (g : Dev Cert.KernelMoeIdeal.nD → PrngReg), Pre_KernelMoeIdeal m →
    θ_run (Cert.KernelMoeIdeal.defs (F := Ideal)) (onTc (τ := Cert.KernelMoeIdeal.τ) (Cert.KernelMoeIdeal.main (F := Ideal))) ⟨m, fun _ => 0, g⟩ (fun r => (∀ c : Dev Cert.KernelMoeIdeal.nD,
      r.2.mem ((c.tc : Thread Cert.KernelMoeIdeal.nD Cert.KernelMoeIdeal.τ).loc Cert.KernelMoeIdeal.main_arg0) = m ((c.tc : Thread Cert.KernelMoeIdeal.nD Cert.KernelMoeIdeal.τ).loc Cert.KernelMoeIdeal.main_arg0)
      ∧ r.2.mem ((c.tc : Thread Cert.KernelMoeIdeal.nD Cert.KernelMoeIdeal.τ).loc Cert.KernelMoeIdeal.main_arg1) = m ((c.tc : Thread Cert.KernelMoeIdeal.nD Cert.KernelMoeIdeal.τ).loc Cert.KernelMoeIdeal.main_arg1)
      ∧ r.2.mem ((c.tc : Thread Cert.KernelMoeIdeal.nD Cert.KernelMoeIdeal.τ).loc Cert.KernelMoeIdeal.main_arg2) = m ((c.tc : Thread Cert.KernelMoeIdeal.nD Cert.KernelMoeIdeal.τ).loc Cert.KernelMoeIdeal.main_arg2)
      ∧ r.2.mem ((c.tc : Thread Cert.KernelMoeIdeal.nD Cert.KernelMoeIdeal.τ).loc Cert.KernelMoeIdeal.main_arg3) = m ((c.tc : Thread Cert.KernelMoeIdeal.nD Cert.KernelMoeIdeal.τ).loc Cert.KernelMoeIdeal.main_arg3)
      ∧ r.2.mem ((c.tc : Thread Cert.KernelMoeIdeal.nD Cert.KernelMoeIdeal.τ).loc Cert.KernelMoeIdeal.main_arg4) = m ((c.tc : Thread Cert.KernelMoeIdeal.nD Cert.KernelMoeIdeal.τ).loc Cert.KernelMoeIdeal.main_arg4)
      ∧ r.2.mem ((c.tc : Thread Cert.KernelMoeIdeal.nD Cert.KernelMoeIdeal.τ).loc Cert.KernelMoeIdeal.main_arg5) = m ((c.tc : Thread Cert.KernelMoeIdeal.nD Cert.KernelMoeIdeal.τ).loc Cert.KernelMoeIdeal.main_arg5)
      ∧ r.2.mem ((c.tc : Thread Cert.KernelMoeIdeal.nD Cert.KernelMoeIdeal.τ).loc Cert.KernelMoeIdeal.main_arg6) = m ((c.tc : Thread Cert.KernelMoeIdeal.nD Cert.KernelMoeIdeal.τ).loc Cert.KernelMoeIdeal.main_arg6)
      ∧ r.2.mem ((c.tc : Thread Cert.KernelMoeIdeal.nD Cert.KernelMoeIdeal.τ).loc Cert.KernelMoeIdeal.main_arg7) = m ((c.tc : Thread Cert.KernelMoeIdeal.nD Cert.KernelMoeIdeal.τ).loc Cert.KernelMoeIdeal.main_arg7))
      ∧ r.2.sem = fun _ => 0)

def quiescent_ReferenceMoeIdeal [hReferenceMoeIdeal : Cert.ReferenceMoeIdeal.Facts] : Prop :=
  ∀ (m : (ℓ : Loc Cert.ReferenceMoeIdeal.nD Cert.ReferenceMoeIdeal.τ Cert.ReferenceMoeIdeal.sig) → Buf (Elt Ideal) ℓ) (g : Dev Cert.ReferenceMoeIdeal.nD → PrngReg), Pre_ReferenceMoeIdeal m →
    θ_run (Cert.ReferenceMoeIdeal.defs (F := Ideal)) (onTc (τ := Cert.ReferenceMoeIdeal.τ) (Cert.ReferenceMoeIdeal.main (F := Ideal))) ⟨m, fun _ => 0, g⟩ (fun r => (∀ c : Dev Cert.ReferenceMoeIdeal.nD,
      r.2.mem ((c.tc : Thread Cert.ReferenceMoeIdeal.nD Cert.ReferenceMoeIdeal.τ).loc Cert.ReferenceMoeIdeal.main_arg0) = m ((c.tc : Thread Cert.ReferenceMoeIdeal.nD Cert.ReferenceMoeIdeal.τ).loc Cert.ReferenceMoeIdeal.main_arg0)
      ∧ r.2.mem ((c.tc : Thread Cert.ReferenceMoeIdeal.nD Cert.ReferenceMoeIdeal.τ).loc Cert.ReferenceMoeIdeal.main_arg1) = m ((c.tc : Thread Cert.ReferenceMoeIdeal.nD Cert.ReferenceMoeIdeal.τ).loc Cert.ReferenceMoeIdeal.main_arg1)
      ∧ r.2.mem ((c.tc : Thread Cert.ReferenceMoeIdeal.nD Cert.ReferenceMoeIdeal.τ).loc Cert.ReferenceMoeIdeal.main_arg2) = m ((c.tc : Thread Cert.ReferenceMoeIdeal.nD Cert.ReferenceMoeIdeal.τ).loc Cert.ReferenceMoeIdeal.main_arg2)
      ∧ r.2.mem ((c.tc : Thread Cert.ReferenceMoeIdeal.nD Cert.ReferenceMoeIdeal.τ).loc Cert.ReferenceMoeIdeal.main_arg3) = m ((c.tc : Thread Cert.ReferenceMoeIdeal.nD Cert.ReferenceMoeIdeal.τ).loc Cert.ReferenceMoeIdeal.main_arg3)
      ∧ r.2.mem ((c.tc : Thread Cert.ReferenceMoeIdeal.nD Cert.ReferenceMoeIdeal.τ).loc Cert.ReferenceMoeIdeal.main_arg4) = m ((c.tc : Thread Cert.ReferenceMoeIdeal.nD Cert.ReferenceMoeIdeal.τ).loc Cert.ReferenceMoeIdeal.main_arg4)
      ∧ r.2.mem ((c.tc : Thread Cert.ReferenceMoeIdeal.nD Cert.ReferenceMoeIdeal.τ).loc Cert.ReferenceMoeIdeal.main_arg5) = m ((c.tc : Thread Cert.ReferenceMoeIdeal.nD Cert.ReferenceMoeIdeal.τ).loc Cert.ReferenceMoeIdeal.main_arg5)
      ∧ r.2.mem ((c.tc : Thread Cert.ReferenceMoeIdeal.nD Cert.ReferenceMoeIdeal.τ).loc Cert.ReferenceMoeIdeal.main_arg6) = m ((c.tc : Thread Cert.ReferenceMoeIdeal.nD Cert.ReferenceMoeIdeal.τ).loc Cert.ReferenceMoeIdeal.main_arg6)
      ∧ r.2.mem ((c.tc : Thread Cert.ReferenceMoeIdeal.nD Cert.ReferenceMoeIdeal.τ).loc Cert.ReferenceMoeIdeal.main_arg7) = m ((c.tc : Thread Cert.ReferenceMoeIdeal.nD Cert.ReferenceMoeIdeal.τ).loc Cert.ReferenceMoeIdeal.main_arg7))
      ∧ r.2.sem = fun _ => 0)

def quiescent_ReferenceMoeIdeal_pre_items_are_packed [hReferenceMoeIdeal : Cert.ReferenceMoeIdeal.Facts] [hPre_items_are_packed : Cert.Pre_items_are_packed.Facts] : Prop :=
  ∀ (m : (ℓ : Loc Cert.ReferenceMoeIdeal.nD Cert.ReferenceMoeIdeal.τ Cert.ReferenceMoeIdeal.sig) → Buf (Elt Ideal) ℓ) (g : Dev Cert.ReferenceMoeIdeal.nD → PrngReg), Pre_ReferenceMoeIdeal_items_are_packed m →
    θ_run (Cert.ReferenceMoeIdeal.defs (F := Ideal)) (onTc (τ := Cert.ReferenceMoeIdeal.τ) (Cert.ReferenceMoeIdeal.main (F := Ideal))) ⟨m, fun _ => 0, g⟩ (fun r => (∀ c : Dev Cert.ReferenceMoeIdeal.nD,
      r.2.mem ((c.tc : Thread Cert.ReferenceMoeIdeal.nD Cert.ReferenceMoeIdeal.τ).loc Cert.ReferenceMoeIdeal.main_arg0) = m ((c.tc : Thread Cert.ReferenceMoeIdeal.nD Cert.ReferenceMoeIdeal.τ).loc Cert.ReferenceMoeIdeal.main_arg0)
      ∧ r.2.mem ((c.tc : Thread Cert.ReferenceMoeIdeal.nD Cert.ReferenceMoeIdeal.τ).loc Cert.ReferenceMoeIdeal.main_arg1) = m ((c.tc : Thread Cert.ReferenceMoeIdeal.nD Cert.ReferenceMoeIdeal.τ).loc Cert.ReferenceMoeIdeal.main_arg1)
      ∧ r.2.mem ((c.tc : Thread Cert.ReferenceMoeIdeal.nD Cert.ReferenceMoeIdeal.τ).loc Cert.ReferenceMoeIdeal.main_arg2) = m ((c.tc : Thread Cert.ReferenceMoeIdeal.nD Cert.ReferenceMoeIdeal.τ).loc Cert.ReferenceMoeIdeal.main_arg2)
      ∧ r.2.mem ((c.tc : Thread Cert.ReferenceMoeIdeal.nD Cert.ReferenceMoeIdeal.τ).loc Cert.ReferenceMoeIdeal.main_arg3) = m ((c.tc : Thread Cert.ReferenceMoeIdeal.nD Cert.ReferenceMoeIdeal.τ).loc Cert.ReferenceMoeIdeal.main_arg3)
      ∧ r.2.mem ((c.tc : Thread Cert.ReferenceMoeIdeal.nD Cert.ReferenceMoeIdeal.τ).loc Cert.ReferenceMoeIdeal.main_arg4) = m ((c.tc : Thread Cert.ReferenceMoeIdeal.nD Cert.ReferenceMoeIdeal.τ).loc Cert.ReferenceMoeIdeal.main_arg4)
      ∧ r.2.mem ((c.tc : Thread Cert.ReferenceMoeIdeal.nD Cert.ReferenceMoeIdeal.τ).loc Cert.ReferenceMoeIdeal.main_arg5) = m ((c.tc : Thread Cert.ReferenceMoeIdeal.nD Cert.ReferenceMoeIdeal.τ).loc Cert.ReferenceMoeIdeal.main_arg5)
      ∧ r.2.mem ((c.tc : Thread Cert.ReferenceMoeIdeal.nD Cert.ReferenceMoeIdeal.τ).loc Cert.ReferenceMoeIdeal.main_arg6) = m ((c.tc : Thread Cert.ReferenceMoeIdeal.nD Cert.ReferenceMoeIdeal.τ).loc Cert.ReferenceMoeIdeal.main_arg6)
      ∧ r.2.mem ((c.tc : Thread Cert.ReferenceMoeIdeal.nD Cert.ReferenceMoeIdeal.τ).loc Cert.ReferenceMoeIdeal.main_arg7) = m ((c.tc : Thread Cert.ReferenceMoeIdeal.nD Cert.ReferenceMoeIdeal.τ).loc Cert.ReferenceMoeIdeal.main_arg7))
      ∧ r.2.sem = fun _ => 0)

def preserves_Kernel_KernelIdeal : Prop :=
  IdealRules.named_const.Statement Cert.KernelIdeal.κ "neg_log2_e" .f32 0xBFB8AA3B#32 ((-((Real.log 2)⁻¹) : ℝ) : EReal)

def algebraic_KernelIdeal_ReferenceIdeal_pre_queries_and_keys_are_finite [hKernelIdeal : Cert.KernelIdeal.Facts] [hReferenceIdeal : Cert.ReferenceIdeal.Facts] [hPre_queries_and_keys_are_finite : Cert.Pre_queries_and_keys_are_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_queries_and_keys_are_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_KernelQkv_KernelQkvIdeal : Prop :=
  True

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)) →
    ∃ (v0 : (c : Dev Cert.KernelQkvIdeal.nD) → Buf (Elt Ideal) ((c.tc : Thread Cert.KernelQkvIdeal.nD Cert.KernelQkvIdeal.τ).loc Cert.KernelQkvIdeal.main_v2)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v2) = v0 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v3) = v0 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1))

def preserves_KernelUv_KernelUvIdeal : Prop :=
  True

def algebraic_KernelUvIdeal_ReferenceUvIdeal [hKernelUvIdeal : Cert.KernelUvIdeal.Facts] [hReferenceUvIdeal : Cert.ReferenceUvIdeal.Facts] : Prop :=
  ∀ (m : (ℓ : Loc Cert.KernelUvIdeal.nD Cert.KernelUvIdeal.τ Cert.KernelUvIdeal.sig) → Buf (Elt Ideal) ℓ) (g : Dev Cert.KernelUvIdeal.nD → PrngReg)
    (m' : (ℓ : Loc Cert.ReferenceUvIdeal.nD Cert.ReferenceUvIdeal.τ Cert.ReferenceUvIdeal.sig) → Buf (Elt Ideal) ℓ) (g' : Dev Cert.ReferenceUvIdeal.nD → PrngReg), Pre_KernelUvIdeal m →
    (∀ c : Dev Cert.KernelUvIdeal.nD,
      m' ((c.tc : Thread Cert.ReferenceUvIdeal.nD Cert.ReferenceUvIdeal.τ).loc Cert.ReferenceUvIdeal.main_arg0) = m ((c.tc : Thread Cert.KernelUvIdeal.nD Cert.KernelUvIdeal.τ).loc Cert.KernelUvIdeal.main_arg0)
      ∧ m' ((c.tc : Thread Cert.ReferenceUvIdeal.nD Cert.ReferenceUvIdeal.τ).loc Cert.ReferenceUvIdeal.main_arg1) = m ((c.tc : Thread Cert.KernelUvIdeal.nD Cert.KernelUvIdeal.τ).loc Cert.KernelUvIdeal.main_arg1)) →
    ∃ (v0 : (c : Dev Cert.KernelUvIdeal.nD) → Buf (Elt Ideal) ((c.tc : Thread Cert.KernelUvIdeal.nD Cert.KernelUvIdeal.τ).loc Cert.KernelUvIdeal.main_v2)),
      θ_run (Cert.KernelUvIdeal.defs (F := Ideal)) (onTc (τ := Cert.KernelUvIdeal.τ) (Cert.KernelUvIdeal.main (F := Ideal))) ⟨m, fun _ => 0, g⟩ (fun r => ∀ c : Dev Cert.KernelUvIdeal.nD,
          r.2.mem ((c.tc : Thread Cert.KernelUvIdeal.nD Cert.KernelUvIdeal.τ).loc Cert.KernelUvIdeal.main_v2) = v0 c
          ∧ r.2.mem ((c.tc : Thread Cert.KernelUvIdeal.nD Cert.KernelUvIdeal.τ).loc Cert.KernelUvIdeal.main_arg0) = m ((c.tc : Thread Cert.KernelUvIdeal.nD Cert.KernelUvIdeal.τ).loc Cert.KernelUvIdeal.main_arg0)
          ∧ r.2.mem ((c.tc : Thread Cert.KernelUvIdeal.nD Cert.KernelUvIdeal.τ).loc Cert.KernelUvIdeal.main_arg1) = m ((c.tc : Thread Cert.KernelUvIdeal.nD Cert.KernelUvIdeal.τ).loc Cert.KernelUvIdeal.main_arg1))
      ∧ θ_run (Cert.ReferenceUvIdeal.defs (F := Ideal)) (onTc (τ := Cert.ReferenceUvIdeal.τ) (Cert.ReferenceUvIdeal.main (F := Ideal))) ⟨m', fun _ => 0, g'⟩ (fun r => ∀ c : Dev Cert.ReferenceUvIdeal.nD,
          r.2.mem ((c.tc : Thread Cert.ReferenceUvIdeal.nD Cert.ReferenceUvIdeal.τ).loc Cert.ReferenceUvIdeal.main_v10) = v0 c
          ∧ r.2.mem ((c.tc : Thread Cert.ReferenceUvIdeal.nD Cert.ReferenceUvIdeal.τ).loc Cert.ReferenceUvIdeal.main_arg0) = m' ((c.tc : Thread Cert.ReferenceUvIdeal.nD Cert.ReferenceUvIdeal.τ).loc Cert.ReferenceUvIdeal.main_arg0)
          ∧ r.2.mem ((c.tc : Thread Cert.ReferenceUvIdeal.nD Cert.ReferenceUvIdeal.τ).loc Cert.ReferenceUvIdeal.main_arg1) = m' ((c.tc : Thread Cert.ReferenceUvIdeal.nD Cert.ReferenceUvIdeal.τ).loc Cert.ReferenceUvIdeal.main_arg1))

def preserves_KernelGates_KernelGatesIdeal : Prop :=
  True

def algebraic_KernelGatesIdeal_ReferenceGatesIdeal [hKernelGatesIdeal : Cert.KernelGatesIdeal.Facts] [hReferenceGatesIdeal : Cert.ReferenceGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg)
    (m' : (ℓ : Loc Cert.ReferenceGatesIdeal.nD Cert.ReferenceGatesIdeal.τ Cert.ReferenceGatesIdeal.sig) → Buf (Elt Ideal) ℓ) (g' : Dev Cert.ReferenceGatesIdeal.nD → PrngReg), Pre_KernelGatesIdeal m →
    (∀ c : Dev Cert.KernelGatesIdeal.nD,
      m' ((c.tc : Thread Cert.ReferenceGatesIdeal.nD Cert.ReferenceGatesIdeal.τ).loc Cert.ReferenceGatesIdeal.main_arg0) = m ((c.tc : Thread Cert.KernelGatesIdeal.nD Cert.KernelGatesIdeal.τ).loc Cert.KernelGatesIdeal.main_arg0)
      ∧ m' ((c.tc : Thread Cert.ReferenceGatesIdeal.nD Cert.ReferenceGatesIdeal.τ).loc Cert.ReferenceGatesIdeal.main_arg1) = m ((c.tc : Thread Cert.KernelGatesIdeal.nD Cert.KernelGatesIdeal.τ).loc Cert.KernelGatesIdeal.main_arg1)
      ∧ m' ((c.tc : Thread Cert.ReferenceGatesIdeal.nD Cert.ReferenceGatesIdeal.τ).loc Cert.ReferenceGatesIdeal.main_arg2) = m ((c.tc : Thread Cert.KernelGatesIdeal.nD Cert.KernelGatesIdeal.τ).loc Cert.KernelGatesIdeal.main_arg2)) →
    ∃ (v0 : (c : Dev Cert.KernelGatesIdeal.nD) → Buf (Elt Ideal) ((c.tc : Thread Cert.KernelGatesIdeal.nD Cert.KernelGatesIdeal.τ).loc Cert.KernelGatesIdeal.main_v1)),
      θ_run (Cert.KernelGatesIdeal.defs (F := Ideal)) (onTc (τ := Cert.KernelGatesIdeal.τ) (Cert.KernelGatesIdeal.main (F := Ideal))) ⟨m, fun _ => 0, g⟩ (fun r => ∀ c : Dev Cert.KernelGatesIdeal.nD,
          r.2.mem ((c.tc : Thread Cert.KernelGatesIdeal.nD Cert.KernelGatesIdeal.τ).loc Cert.KernelGatesIdeal.main_v1) = v0 c
          ∧ r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
          ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
          ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2))
      ∧ θ_run (Cert.ReferenceGatesIdeal.defs (F := Ideal)) (onTc (τ := Cert.ReferenceGatesIdeal.τ) (Cert.ReferenceGatesIdeal.main (F := Ideal))) ⟨m', fun _ => 0, g'⟩ (fun r => ∀ c : Dev Cert.ReferenceGatesIdeal.nD,
          r.2.mem ((c.tc : Thread Cert.ReferenceGatesIdeal.nD Cert.ReferenceGatesIdeal.τ).loc Cert.ReferenceGatesIdeal.main_v12) = v0 c
          ∧ r.2.mem ((c.tc : Thread Cert.ReferenceGatesIdeal.nD Cert.ReferenceGatesIdeal.τ).loc Cert.ReferenceGatesIdeal.main_arg0) = m' ((c.tc : Thread Cert.ReferenceGatesIdeal.nD Cert.ReferenceGatesIdeal.τ).loc Cert.ReferenceGatesIdeal.main_arg0)
          ∧ r.2.mem ((c.tc : Thread Cert.ReferenceGatesIdeal.nD Cert.ReferenceGatesIdeal.τ).loc Cert.ReferenceGatesIdeal.main_arg1) = m' ((c.tc : Thread Cert.ReferenceGatesIdeal.nD Cert.ReferenceGatesIdeal.τ).loc Cert.ReferenceGatesIdeal.main_arg1)
          ∧ r.2.mem ((c.tc : Thread Cert.ReferenceGatesIdeal.nD Cert.ReferenceGatesIdeal.τ).loc Cert.ReferenceGatesIdeal.main_arg2) = m' ((c.tc : Thread Cert.ReferenceGatesIdeal.nD Cert.ReferenceGatesIdeal.τ).loc Cert.ReferenceGatesIdeal.main_arg2))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)) →
    ∃ (v0 : (c : Dev Cert.KernelMergeIdeal.nD) → Buf (Elt Ideal) ((c.tc : Thread Cert.KernelMergeIdeal.nD Cert.KernelMergeIdeal.τ).loc Cert.KernelMergeIdeal.main_v3)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v3) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v11) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6))

def preserves_KernelMoe_KernelMoeIdeal : Prop :=
  True

def algebraic_KernelMoeIdeal_ReferenceMoeIdeal_on_rows_with_work [hKernelMoeIdeal : Cert.KernelMoeIdeal.Facts] [hReferenceMoeIdeal : Cert.ReferenceMoeIdeal.Facts] [hPre_items_are_packed : Cert.Pre_items_are_packed.Facts] [hOn_rows_with_work : Cert.On_rows_with_work.Facts] : Prop :=
  ∀ (m : (ℓ : Loc Cert.KernelMoeIdeal.nD Cert.KernelMoeIdeal.τ Cert.KernelMoeIdeal.sig) → Buf (Elt Ideal) ℓ) (g : Dev Cert.KernelMoeIdeal.nD → PrngReg)
    (m' : (ℓ : Loc Cert.ReferenceMoeIdeal.nD Cert.ReferenceMoeIdeal.τ Cert.ReferenceMoeIdeal.sig) → Buf (Elt Ideal) ℓ) (g' : Dev Cert.ReferenceMoeIdeal.nD → PrngReg), Pre_KernelMoeIdeal m →
    (∀ c : Dev Cert.KernelMoeIdeal.nD,
      m' ((c.tc : Thread Cert.ReferenceMoeIdeal.nD Cert.ReferenceMoeIdeal.τ).loc Cert.ReferenceMoeIdeal.main_arg0) = m ((c.tc : Thread Cert.KernelMoeIdeal.nD Cert.KernelMoeIdeal.τ).loc Cert.KernelMoeIdeal.main_arg0)
      ∧ m' ((c.tc : Thread Cert.ReferenceMoeIdeal.nD Cert.ReferenceMoeIdeal.τ).loc Cert.ReferenceMoeIdeal.main_arg1) = m ((c.tc : Thread Cert.KernelMoeIdeal.nD Cert.KernelMoeIdeal.τ).loc Cert.KernelMoeIdeal.main_arg1)
      ∧ m' ((c.tc : Thread Cert.ReferenceMoeIdeal.nD Cert.ReferenceMoeIdeal.τ).loc Cert.ReferenceMoeIdeal.main_arg2) = m ((c.tc : Thread Cert.KernelMoeIdeal.nD Cert.KernelMoeIdeal.τ).loc Cert.KernelMoeIdeal.main_arg2)
      ∧ m' ((c.tc : Thread Cert.ReferenceMoeIdeal.nD Cert.ReferenceMoeIdeal.τ).loc Cert.ReferenceMoeIdeal.main_arg3) = m ((c.tc : Thread Cert.KernelMoeIdeal.nD Cert.KernelMoeIdeal.τ).loc Cert.KernelMoeIdeal.main_arg3)
      ∧ m' ((c.tc : Thread Cert.ReferenceMoeIdeal.nD Cert.ReferenceMoeIdeal.τ).loc Cert.ReferenceMoeIdeal.main_arg4) = m ((c.tc : Thread Cert.KernelMoeIdeal.nD Cert.KernelMoeIdeal.τ).loc Cert.KernelMoeIdeal.main_arg4)
      ∧ m' ((c.tc : Thread Cert.ReferenceMoeIdeal.nD Cert.ReferenceMoeIdeal.τ).loc Cert.ReferenceMoeIdeal.main_arg5) = m ((c.tc : Thread Cert.KernelMoeIdeal.nD Cert.KernelMoeIdeal.τ).loc Cert.KernelMoeIdeal.main_arg5)
      ∧ m' ((c.tc : Thread Cert.ReferenceMoeIdeal.nD Cert.ReferenceMoeIdeal.τ).loc Cert.ReferenceMoeIdeal.main_arg6) = m ((c.tc : Thread Cert.KernelMoeIdeal.nD Cert.KernelMoeIdeal.τ).loc Cert.KernelMoeIdeal.main_arg6)
      ∧ m' ((c.tc : Thread Cert.ReferenceMoeIdeal.nD Cert.ReferenceMoeIdeal.τ).loc Cert.ReferenceMoeIdeal.main_arg7) = m ((c.tc : Thread Cert.KernelMoeIdeal.nD Cert.KernelMoeIdeal.τ).loc Cert.KernelMoeIdeal.main_arg7)) →
    ∃ (v0 : (c : Dev Cert.KernelMoeIdeal.nD) → Buf (Elt Ideal) ((c.tc : Thread Cert.KernelMoeIdeal.nD Cert.KernelMoeIdeal.τ).loc Cert.KernelMoeIdeal.main_v0)),
      θ_run (Cert.KernelMoeIdeal.defs (F := Ideal)) (onTc (τ := Cert.KernelMoeIdeal.τ) (Cert.KernelMoeIdeal.main (F := Ideal))) ⟨m, fun _ => 0, g⟩ (fun r => ∀ c : Dev Cert.KernelMoeIdeal.nD,
          (∀ i : (⟨2, ![74240, 2048]⟩ : Shape).Idx, (Cert.On_rows_with_work.fn (F := Ideal) (m ((c.tc : Thread Cert.KernelMoeIdeal.nD Cert.KernelMoeIdeal.τ).loc Cert.KernelMoeIdeal.main_arg0)) (m ((c.tc : Thread Cert.KernelMoeIdeal.nD Cert.KernelMoeIdeal.τ).loc Cert.KernelMoeIdeal.main_arg1)) (m ((c.tc : Thread Cert.KernelMoeIdeal.nD Cert.KernelMoeIdeal.τ).loc Cert.KernelMoeIdeal.main_arg2)) (m ((c.tc : Thread Cert.KernelMoeIdeal.nD Cert.KernelMoeIdeal.τ).loc Cert.KernelMoeIdeal.main_arg3)) (m ((c.tc : Thread Cert.KernelMoeIdeal.nD Cert.KernelMoeIdeal.τ).loc Cert.KernelMoeIdeal.main_arg4)) (m ((c.tc : Thread Cert.KernelMoeIdeal.nD Cert.KernelMoeIdeal.τ).loc Cert.KernelMoeIdeal.main_arg5)) (m ((c.tc : Thread Cert.KernelMoeIdeal.nD Cert.KernelMoeIdeal.τ).loc Cert.KernelMoeIdeal.main_arg6)) (m ((c.tc : Thread Cert.KernelMoeIdeal.nD Cert.KernelMoeIdeal.τ).loc Cert.KernelMoeIdeal.main_arg7))) i = 1#1 → r.2.mem ((c.tc : Thread Cert.KernelMoeIdeal.nD Cert.KernelMoeIdeal.τ).loc Cert.KernelMoeIdeal.main_v0) i = v0 c i)
          ∧ r.2.mem ((c.tc : Thread Cert.KernelMoeIdeal.nD Cert.KernelMoeIdeal.τ).loc Cert.KernelMoeIdeal.main_arg0) = m ((c.tc : Thread Cert.KernelMoeIdeal.nD Cert.KernelMoeIdeal.τ).loc Cert.KernelMoeIdeal.main_arg0)
          ∧ r.2.mem ((c.tc : Thread Cert.KernelMoeIdeal.nD Cert.KernelMoeIdeal.τ).loc Cert.KernelMoeIdeal.main_arg1) = m ((c.tc : Thread Cert.KernelMoeIdeal.nD Cert.KernelMoeIdeal.τ).loc Cert.KernelMoeIdeal.main_arg1)
          ∧ r.2.mem ((c.tc : Thread Cert.KernelMoeIdeal.nD Cert.KernelMoeIdeal.τ).loc Cert.KernelMoeIdeal.main_arg2) = m ((c.tc : Thread Cert.KernelMoeIdeal.nD Cert.KernelMoeIdeal.τ).loc Cert.KernelMoeIdeal.main_arg2)
          ∧ r.2.mem ((c.tc : Thread Cert.KernelMoeIdeal.nD Cert.KernelMoeIdeal.τ).loc Cert.KernelMoeIdeal.main_arg3) = m ((c.tc : Thread Cert.KernelMoeIdeal.nD Cert.KernelMoeIdeal.τ).loc Cert.KernelMoeIdeal.main_arg3)
          ∧ r.2.mem ((c.tc : Thread Cert.KernelMoeIdeal.nD Cert.KernelMoeIdeal.τ).loc Cert.KernelMoeIdeal.main_arg4) = m ((c.tc : Thread Cert.KernelMoeIdeal.nD Cert.KernelMoeIdeal.τ).loc Cert.KernelMoeIdeal.main_arg4)
          ∧ r.2.mem ((c.tc : Thread Cert.KernelMoeIdeal.nD Cert.KernelMoeIdeal.τ).loc Cert.KernelMoeIdeal.main_arg5) = m ((c.tc : Thread Cert.KernelMoeIdeal.nD Cert.KernelMoeIdeal.τ).loc Cert.KernelMoeIdeal.main_arg5)
          ∧ r.2.mem ((c.tc : Thread Cert.KernelMoeIdeal.nD Cert.KernelMoeIdeal.τ).loc Cert.KernelMoeIdeal.main_arg6) = m ((c.tc : Thread Cert.KernelMoeIdeal.nD Cert.KernelMoeIdeal.τ).loc Cert.KernelMoeIdeal.main_arg6)
          ∧ r.2.mem ((c.tc : Thread Cert.KernelMoeIdeal.nD Cert.KernelMoeIdeal.τ).loc Cert.KernelMoeIdeal.main_arg7) = m ((c.tc : Thread Cert.KernelMoeIdeal.nD Cert.KernelMoeIdeal.τ).loc Cert.KernelMoeIdeal.main_arg7))
      ∧ θ_run (Cert.ReferenceMoeIdeal.defs (F := Ideal)) (onTc (τ := Cert.ReferenceMoeIdeal.τ) (Cert.ReferenceMoeIdeal.main (F := Ideal))) ⟨m', fun _ => 0, g'⟩ (fun r => ∀ c : Dev Cert.ReferenceMoeIdeal.nD,
          (∀ i : (⟨2, ![74240, 2048]⟩ : Shape).Idx, (Cert.On_rows_with_work.fn (F := Ideal) (m ((c.tc : Thread Cert.KernelMoeIdeal.nD Cert.KernelMoeIdeal.τ).loc Cert.KernelMoeIdeal.main_arg0)) (m ((c.tc : Thread Cert.KernelMoeIdeal.nD Cert.KernelMoeIdeal.τ).loc Cert.KernelMoeIdeal.main_arg1)) (m ((c.tc : Thread Cert.KernelMoeIdeal.nD Cert.KernelMoeIdeal.τ).loc Cert.KernelMoeIdeal.main_arg2)) (m ((c.tc : Thread Cert.KernelMoeIdeal.nD Cert.KernelMoeIdeal.τ).loc Cert.KernelMoeIdeal.main_arg3)) (m ((c.tc : Thread Cert.KernelMoeIdeal.nD Cert.KernelMoeIdeal.τ).loc Cert.KernelMoeIdeal.main_arg4)) (m ((c.tc : Thread Cert.KernelMoeIdeal.nD Cert.KernelMoeIdeal.τ).loc Cert.KernelMoeIdeal.main_arg5)) (m ((c.tc : Thread Cert.KernelMoeIdeal.nD Cert.KernelMoeIdeal.τ).loc Cert.KernelMoeIdeal.main_arg6)) (m ((c.tc : Thread Cert.KernelMoeIdeal.nD Cert.KernelMoeIdeal.τ).loc Cert.KernelMoeIdeal.main_arg7))) i = 1#1 → r.2.mem ((c.tc : Thread Cert.ReferenceMoeIdeal.nD Cert.ReferenceMoeIdeal.τ).loc Cert.ReferenceMoeIdeal.main_v38) i = v0 c i)
          ∧ r.2.mem ((c.tc : Thread Cert.ReferenceMoeIdeal.nD Cert.ReferenceMoeIdeal.τ).loc Cert.ReferenceMoeIdeal.main_arg0) = m' ((c.tc : Thread Cert.ReferenceMoeIdeal.nD Cert.ReferenceMoeIdeal.τ).loc Cert.ReferenceMoeIdeal.main_arg0)
          ∧ r.2.mem ((c.tc : Thread Cert.ReferenceMoeIdeal.nD Cert.ReferenceMoeIdeal.τ).loc Cert.ReferenceMoeIdeal.main_arg1) = m' ((c.tc : Thread Cert.ReferenceMoeIdeal.nD Cert.ReferenceMoeIdeal.τ).loc Cert.ReferenceMoeIdeal.main_arg1)
          ∧ r.2.mem ((c.tc : Thread Cert.ReferenceMoeIdeal.nD Cert.ReferenceMoeIdeal.τ).loc Cert.ReferenceMoeIdeal.main_arg2) = m' ((c.tc : Thread Cert.ReferenceMoeIdeal.nD Cert.ReferenceMoeIdeal.τ).loc Cert.ReferenceMoeIdeal.main_arg2)
          ∧ r.2.mem ((c.tc : Thread Cert.ReferenceMoeIdeal.nD Cert.ReferenceMoeIdeal.τ).loc Cert.ReferenceMoeIdeal.main_arg3) = m' ((c.tc : Thread Cert.ReferenceMoeIdeal.nD Cert.ReferenceMoeIdeal.τ).loc Cert.ReferenceMoeIdeal.main_arg3)
          ∧ r.2.mem ((c.tc : Thread Cert.ReferenceMoeIdeal.nD Cert.ReferenceMoeIdeal.τ).loc Cert.ReferenceMoeIdeal.main_arg4) = m' ((c.tc : Thread Cert.ReferenceMoeIdeal.nD Cert.ReferenceMoeIdeal.τ).loc Cert.ReferenceMoeIdeal.main_arg4)
          ∧ r.2.mem ((c.tc : Thread Cert.ReferenceMoeIdeal.nD Cert.ReferenceMoeIdeal.τ).loc Cert.ReferenceMoeIdeal.main_arg5) = m' ((c.tc : Thread Cert.ReferenceMoeIdeal.nD Cert.ReferenceMoeIdeal.τ).loc Cert.ReferenceMoeIdeal.main_arg5)
          ∧ r.2.mem ((c.tc : Thread Cert.ReferenceMoeIdeal.nD Cert.ReferenceMoeIdeal.τ).loc Cert.ReferenceMoeIdeal.main_arg6) = m' ((c.tc : Thread Cert.ReferenceMoeIdeal.nD Cert.ReferenceMoeIdeal.τ).loc Cert.ReferenceMoeIdeal.main_arg6)
          ∧ r.2.mem ((c.tc : Thread Cert.ReferenceMoeIdeal.nD Cert.ReferenceMoeIdeal.τ).loc Cert.ReferenceMoeIdeal.main_arg7) = m' ((c.tc : Thread Cert.ReferenceMoeIdeal.nD Cert.ReferenceMoeIdeal.τ).loc Cert.ReferenceMoeIdeal.main_arg7))

def Claim : Prop :=
  ∃ (hKernel : Cert.Kernel.Facts) (hKernelIdeal : Cert.KernelIdeal.Facts) (hReferenceIdeal : Cert.ReferenceIdeal.Facts) (hKernelQkv : Cert.KernelQkv.Facts) (hKernelQkvIdeal : Cert.KernelQkvIdeal.Facts) (hReferenceQkvIdeal : Cert.ReferenceQkvIdeal.Facts) (hKernelUv : Cert.KernelUv.Facts) (hKernelUvIdeal : Cert.KernelUvIdeal.Facts) (hReferenceUvIdeal : Cert.ReferenceUvIdeal.Facts) (hKernelGates : Cert.KernelGates.Facts) (hKernelGatesIdeal : Cert.KernelGatesIdeal.Facts) (hReferenceGatesIdeal : Cert.ReferenceGatesIdeal.Facts) (hKernelMerge : Cert.KernelMerge.Facts) (hKernelMergeIdeal : Cert.KernelMergeIdeal.Facts) (hReferenceMergeIdeal : Cert.ReferenceMergeIdeal.Facts) (hKernelMoe : Cert.KernelMoe.Facts) (hKernelMoeIdeal : Cert.KernelMoeIdeal.Facts) (hReferenceMoeIdeal : Cert.ReferenceMoeIdeal.Facts) (hPre_queries_and_keys_are_finite : Cert.Pre_queries_and_keys_are_finite.Facts) (hPre_items_are_packed : Cert.Pre_items_are_packed.Facts) (hOn_rows_with_work : Cert.On_rows_with_work.Facts),
    quiescent_Kernel (hKernel := hKernel)
    ∧ quiescent_KernelIdeal (hKernelIdeal := hKernelIdeal)
    ∧ quiescent_KernelIdeal_pre_queries_and_keys_are_finite (hKernelIdeal := hKernelIdeal) (hPre_queries_and_keys_are_finite := hPre_queries_and_keys_are_finite)
    ∧ quiescent_ReferenceIdeal (hReferenceIdeal := hReferenceIdeal)
    ∧ quiescent_ReferenceIdeal_pre_queries_and_keys_are_finite (hReferenceIdeal := hReferenceIdeal) (hPre_queries_and_keys_are_finite := hPre_queries_and_keys_are_finite)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ quiescent_KernelUv (hKernelUv := hKernelUv)
    ∧ quiescent_KernelUvIdeal (hKernelUvIdeal := hKernelUvIdeal)
    ∧ quiescent_ReferenceUvIdeal (hReferenceUvIdeal := hReferenceUvIdeal)
    ∧ quiescent_KernelGates (hKernelGates := hKernelGates)
    ∧ quiescent_KernelGatesIdeal (hKernelGatesIdeal := hKernelGatesIdeal)
    ∧ quiescent_ReferenceGatesIdeal (hReferenceGatesIdeal := hReferenceGatesIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelMoe (hKernelMoe := hKernelMoe) (hPre_items_are_packed := hPre_items_are_packed)
    ∧ quiescent_KernelMoeIdeal (hKernelMoeIdeal := hKernelMoeIdeal) (hPre_items_are_packed := hPre_items_are_packed)
    ∧ quiescent_ReferenceMoeIdeal (hReferenceMoeIdeal := hReferenceMoeIdeal)
    ∧ quiescent_ReferenceMoeIdeal_pre_items_are_packed (hReferenceMoeIdeal := hReferenceMoeIdeal) (hPre_items_are_packed := hPre_items_are_packed)
    ∧ preserves_Kernel_KernelIdeal
    ∧ algebraic_KernelIdeal_ReferenceIdeal_pre_queries_and_keys_are_finite (hKernelIdeal := hKernelIdeal) (hReferenceIdeal := hReferenceIdeal) (hPre_queries_and_keys_are_finite := hPre_queries_and_keys_are_finite)
    ∧ preserves_KernelQkv_KernelQkvIdeal
    ∧ algebraic_KernelQkvIdeal_ReferenceQkvIdeal (hKernelQkvIdeal := hKernelQkvIdeal) (hReferenceQkvIdeal := hReferenceQkvIdeal)
    ∧ preserves_KernelUv_KernelUvIdeal
    ∧ algebraic_KernelUvIdeal_ReferenceUvIdeal (hKernelUvIdeal := hKernelUvIdeal) (hReferenceUvIdeal := hReferenceUvIdeal)
    ∧ preserves_KernelGates_KernelGatesIdeal
    ∧ algebraic_KernelGatesIdeal_ReferenceGatesIdeal (hKernelGatesIdeal := hKernelGatesIdeal) (hReferenceGatesIdeal := hReferenceGatesIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelMoe_KernelMoeIdeal
    ∧ algebraic_KernelMoeIdeal_ReferenceMoeIdeal_on_rows_with_work (hKernelMoeIdeal := hKernelMoeIdeal) (hReferenceMoeIdeal := hReferenceMoeIdeal) (hPre_items_are_packed := hPre_items_are_packed) (hOn_rows_with_work := hOn_rows_with_work)
-- ==== On_rows_with_work.lean ====
abbrev S58 : Shape := ⟨1, ![58]⟩
abbrev S74240x2048 : Shape := ⟨2, ![74240, 2048]⟩
abbrev S32x2048x4096 : Shape := ⟨3, ![32, 2048, 4096]⟩
abbrev S32x1x4096 : Shape := ⟨3, ![32, 1, 4096]⟩
abbrev S32x2048x2048 : Shape := ⟨3, ![32, 2048, 2048]⟩
abbrev S32x1x2048 : Shape := ⟨3, ![32, 1, 2048]⟩
abbrev S5 : Shape := ⟨1, ![5]⟩
abbrev S1x5 : Shape := ⟨2, ![1, 5]⟩
abbrev S58x1 : Shape := ⟨2, ![58, 1]⟩
abbrev S58x5 : Shape := ⟨2, ![58, 5]⟩
abbrev S58x5x1x1 : Shape := ⟨4, ![58, 5, 1, 1]⟩
abbrev S58x5x256x2048 : Shape := ⟨4, ![58, 5, 256, 2048]⟩

class Facts : Prop where
  bcast_S5_S1x5_1 : S5.BroadcastsInDim S1x5 (![1] : Fin 1 → Fin S1x5.rank)
  bcast_S58_S58x1_0 : S58.BroadcastsInDim S58x1 (![0] : Fin 1 → Fin S58x1.rank)
  bcast_S1x5_S58x5_0_1 : S1x5.BroadcastsInDim S58x5 (![0, 1] : Fin 2 → Fin S58x5.rank)
  bcast_S58x1_S58x5_0_1 : S58x1.BroadcastsInDim S58x5 (![0, 1] : Fin 2 → Fin S58x5.rank)
  bcast_S58x5_S58x5x1x1_0_1 : S58x5.BroadcastsInDim S58x5x1x1 (![0, 1] : Fin 2 → Fin S58x5x1x1.rank)
  bcast_S58x5x1x1_S58x5x256x2048_0_1_2_3 : S58x5x1x1.BroadcastsInDim S58x5x256x2048 (![0, 1, 2, 3] : Fin 4 → Fin S58x5x256x2048.rank)
  shapeCasts_S58x5x256x2048_S74240x2048 : S58x5x256x2048.ShapeCasts S74240x2048

variable [Facts]

def fn {F : FTy → Type} [FloatOps F] (main_arg0 : IVec S58 32) (main_arg1 : IVec S58 32) (main_arg2 : IVec S58 32) (main_arg3 : FVec F S74240x2048 .bf16) (main_arg4 : FVec F S32x2048x4096 .f32) (main_arg5 : FVec F S32x1x4096 .f32) (main_arg6 : FVec F S32x2048x2048 .f32) (main_arg7 : FVec F S32x1x2048 .f32) : IVec S74240x2048 1 :=
  let main_v0 : IVec S5 32 := iotaInDim S5 32 0
  let main_v1 : IVec S1x5 32 := broadcastInDim S1x5 ![1] bcast_S5_S1x5_1 main_v0
  let main_v2 : IVec S58x1 32 := broadcastInDim S58x1 ![0] bcast_S58_S58x1_0 main_arg1
  let main_v3 : IVec S58x5 32 := broadcastInDim S58x5 ![0, 1] bcast_S1x5_S58x5_0_1 main_v1
  let main_v4 : IVec S58x5 32 := broadcastInDim S58x5 ![0, 1] bcast_S58x1_S58x5_0_1 main_v2
  let main_v5 : IVec S58x5 1 := cmpi .slt main_v3 main_v4
  let main_v6 : IVec S58x5x1x1 1 := broadcastInDim S58x5x1x1 ![0, 1] bcast_S58x5_S58x5x1x1_0_1 main_v5
  let main_v7 : IVec S58x5x256x2048 1 := broadcastInDim S58x5x256x2048 ![0, 1, 2, 3] bcast_S58x5x1x1_S58x5x256x2048_0_1_2_3 main_v6
  let main_v8 : IVec S74240x2048 1 := shapeCast S74240x2048 main_v7 shapeCasts_S58x5x256x2048_S74240x2048
  main_v8
-- ==== Pre_items_are_packed.lean ====
abbrev S58 : Shape := ⟨1, ![58]⟩
abbrev S74240x2048 : Shape := ⟨2, ![74240, 2048]⟩
abbrev S32x2048x4096 : Shape := ⟨3, ![32, 2048, 4096]⟩
abbrev S32x1x4096 : Shape := ⟨3, ![32, 1, 4096]⟩
abbrev S32x2048x2048 : Shape := ⟨3, ![32, 2048, 2048]⟩
abbrev S32x1x2048 : Shape := ⟨3, ![32, 1, 2048]⟩
abbrev S1 : Shape := ⟨1, ![1]⟩
abbrev S57 : Shape := ⟨1, ![57]⟩
abbrev S_ : Shape := ⟨0, ![]⟩

class Facts : Prop where
  slices_S58_S1_0 : S58.Slices ![0] S1
  slices_S58_S57_0 : S58.Slices ![0] S57
  concatenates_S1_S57_S58_d0 : Shape.Concatenates [S1, S57] S58 0
  bcast_S_S58 : S_.BroadcastsInDim S58 (![] : Fin 0 → Fin S58.rank)

variable [Facts]

def fn_where {F : FTy → Type} [FloatOps F] (arg0 : IVec S58 1) (arg1 : IVec S58 32) (arg2 : IVec S58 32) : IVec S58 32 :=
  let v0 : IVec S58 32 := select arg0 arg1 arg2
  v0

def fn_part1 {F : FTy → Type} [FloatOps F] (main_arg1 : IVec S58 32) (main_v0 : IVec S58 32) (main_v14 : IVec S58 1) (main_v18 : IVec S58 1) : IVec S58 1 :=
  let main_v19 : IVec S58 1 := andi main_v14 main_v18
  let main_c_4 : IVec S_ 32 := constantI S_ 32 0#32
  let main_v20 : IVec S58 32 := broadcastInDim S58 ![] bcast_S_S58 main_c_4
  let main_v21 : IVec S58 1 := cmpi .sgt main_arg1 main_v20
  let main_c_5 : IVec S_ 32 := constantI S_ 32 0#32
  let main_v22 : IVec S58 32 := broadcastInDim S58 ![] bcast_S_S58 main_c_5
  let main_v23 : IVec S58 1 := cmpi .sgt main_v0 main_v22
  let main_v24 : IVec S58 1 := ori main_v21 main_v23
  let main_v25 : IVec S58 1 := andi main_v19 main_v24
  main_v25

def fn {F : FTy → Type} [FloatOps F] (main_arg0 : IVec S58 32) (main_arg1 : IVec S58 32) (main_arg2 : IVec S58 32) (main_arg3 : FVec F S74240x2048 .bf16) (main_arg4 : FVec F S32x2048x4096 .f32) (main_arg5 : FVec F S32x1x4096 .f32) (main_arg6 : FVec F S32x2048x2048 .f32) (main_arg7 : FVec F S32x1x2048 .f32) : IVec S58 1 :=
  let main_v0 : IVec S58 32 := iotaInDim S58 32 0
  let main_v1 : IVec S1 32 := (extractStridedSlice S1 ![0] · slices_S58_S1_0) main_arg2
  let main_v2 : IVec S57 32 := (extractStridedSlice S57 ![0] · slices_S58_S57_0) main_arg2
  let main_v3 : IVec S58 32 := (fun a b => concatenate S58 0 [⟨S1, a⟩, ⟨S57, b⟩] concatenates_S1_S57_S58_d0) main_v1 main_v2
  let main_c : IVec S_ 32 := constantI S_ 32 0#32
  let main_v4 : IVec S58 32 := broadcastInDim S58 ![] bcast_S_S58 main_c
  let main_v5 : IVec S58 1 := cmpi .sge main_arg0 main_v4
  let main_c_0 : IVec S_ 32 := constantI S_ 32 32#32
  let main_v6 : IVec S58 32 := broadcastInDim S58 ![] bcast_S_S58 main_c_0
  let main_v7 : IVec S58 1 := cmpi .slt main_arg0 main_v6
  let main_v8 : IVec S58 1 := andi main_v5 main_v7
  let main_c_1 : IVec S_ 32 := constantI S_ 32 0#32
  let main_v9 : IVec S58 32 := broadcastInDim S58 ![] bcast_S_S58 main_c_1
  let main_v10 : IVec S58 1 := cmpi .sge main_arg1 main_v9
  let main_v11 : IVec S58 1 := andi main_v8 main_v10
  let main_c_2 : IVec S_ 32 := constantI S_ 32 5#32
  let main_v12 : IVec S58 32 := broadcastInDim S58 ![] bcast_S_S58 main_c_2
  let main_v13 : IVec S58 1 := cmpi .sle main_arg1 main_v12
  let main_v14 : IVec S58 1 := andi main_v11 main_v13
  let main_c_3 : IVec S_ 32 := constantI S_ 32 0#32
  let main_v15 : IVec S58 32 := broadcastInDim S58 ![] bcast_S_S58 main_c_3
  let main_v16 : IVec S58 1 := cmpi .sgt main_arg1 main_v15
  let main_v17 : IVec S58 32 := fn_where (F := F) main_v16 main_v0 main_v3
  let main_v18 : IVec S58 1 := cmpi .eq main_arg2 main_v17
  fn_part1 (F := F) main_arg1 main_v0 main_v14 main_v18
-- ==== Pre_queries_and_keys_are_finite.lean ====
abbrev S8192x3072 : Shape := ⟨2, ![8192, 3072]⟩
abbrev S8192x2048 : Shape := ⟨2, ![8192, 2048]⟩
abbrev S_ : Shape := ⟨0, ![]⟩

class Facts : Prop where
  slices_S8192x3072_S8192x2048_0_0 : S8192x3072.Slices ![0, 0] S8192x2048
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x3072 .bf16) : IVec S_ 1 :=
  let main_v0 : FVec F S8192x2048 .bf16 := (extractStridedSlice S8192x2048 ![0, 0] · slices_S8192x3072_S8192x2048_0_0) main_arg0
  let main_v1 : FVec F S8192x2048 .f32 := (extf .f32 · bitsLt_bf16_f32) main_v0
  let main_v2 : FVec F S8192x2048 .f32 := Host.absf main_v1
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_c : IVec S_ 1 := constantI S_ 1 1#1
  let main_v5 : IVec S_ 1 := (fun x v => Host.reduce IntOp.andi x v reducesTo_S8192x2048_S_d0_1 h_S_) main_v4 main_c
  main_v5
-- ==== Kernel.lean ====
abbrev S8192x3072 : Shape := ⟨2, ![8192, 3072]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S128x512 : Shape := ⟨2, ![128, 512]⟩
abbrev S256x512 : Shape := ⟨2, ![256, 512]⟩
abbrev S8192x1024 : Shape := ⟨2, ![8192, 1024]⟩
abbrev S256x256 : Shape := ⟨2, ![256, 256]⟩
abbrev S4096x256 : Shape := ⟨2, ![4096, 256]⟩
abbrev S2x32x256x128 : Shape := ⟨4, ![2, 32, 256, 128]⟩
abbrev S2x256x128 : Shape := ⟨3, ![2, 256, 128]⟩
abbrev S2x256x256 : Shape := ⟨3, ![2, 256, 256]⟩
abbrev S2x2x256x256 : Shape := ⟨4, ![2, 2, 256, 256]⟩
abbrev S1x1x128x128 : Shape := ⟨4, ![1, 1, 128, 128]⟩
abbrev S256x128 : Shape := ⟨2, ![256, 128]⟩
abbrev S1x1x256x128 : Shape := ⟨4, ![1, 1, 256, 128]⟩
abbrev S1x1x256x256 : Shape := ⟨4, ![1, 1, 256, 256]⟩
abbrev S1x256x256 : Shape := ⟨3, ![1, 256, 256]⟩
abbrev S1x256x128 : Shape := ⟨3, ![1, 256, 128]⟩

abbrev nBuf : Space → Nat
  | .hbm => 16
  | .vmem => 15
  | .smem => 0
  | _ => 0

abbrev bufTy : (tb : Table) → Fin (tcTables nBuf tb) → BufTy
  | .hbm, ⟨0, _⟩ => ⟨S8192x3072, .bf16⟩
  | .hbm, ⟨1, _⟩ => ⟨S128, .i32⟩
  | .hbm, ⟨2, _⟩ => ⟨S128x1, .i32⟩
  | .hbm, ⟨3, _⟩ => ⟨S1x128, .i32⟩
  | .hbm, ⟨4, _⟩ => ⟨S128x128, .i32⟩
  | .hbm, ⟨5, _⟩ => ⟨S128x128, .i32⟩
  | .hbm, ⟨6, _⟩ => ⟨S128x128, .i1⟩
  | .hbm, ⟨7, _⟩ => ⟨S128x128, .bf16⟩
  | .hbm, ⟨8, _⟩ => ⟨S_, .bf16⟩
  | .hbm, ⟨9, _⟩ => ⟨S128x128, .bf16⟩
  | .hbm, ⟨10, _⟩ => ⟨S_, .bf16⟩
  | .hbm, ⟨11, _⟩ => ⟨S128x128, .bf16⟩
  | .hbm, ⟨12, _⟩ => ⟨S128x512, .bf16⟩
  | .hbm, ⟨13, _⟩ => ⟨S128x512, .bf16⟩
  | .hbm, ⟨14, _⟩ => ⟨S256x512, .bf16⟩
  | .hbm, ⟨15, _⟩ => ⟨S8192x1024, .bf16⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x512, .bf16⟩
  | .local _ .vmem, ⟨7, _⟩ => ⟨S256x256, .bf16⟩
  | .local _ .vmem, ⟨8, _⟩ => ⟨S256x256, .bf16⟩
  | .local _ .vmem, ⟨9, _⟩ => ⟨S2x32x256x128, .bf16⟩
  | .local _ .vmem, ⟨10, _⟩ => ⟨S2x32x256x128, .bf16⟩
  | .local _ .vmem, ⟨11, _⟩ => ⟨S2x256x128, .f32⟩
  | .local _ .vmem, ⟨12, _⟩ => ⟨S2x256x256, .f32⟩
  | .local _ .vmem, ⟨13, _⟩ => ⟨S2x2x256x256, .f32⟩
  | .local _ .vmem, ⟨14, _⟩ => ⟨S2x2x256x256, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 4, 16], ![false, false, false]⟩

def k0_off1 (i : grid0.Coords) : Fin 4 → Nat :=
  let c0_15 : Index := 0#32
  let arg2 : BitVec 32 := BitVec.ofNat 32 (i 2).val
  let c2_i32 : BitVec 32 := 2#32
  let v22 : BitVec 32 := Scalar.muli arg2 c2_i32
  let c1_i32 : BitVec 32 := 1#32
  let v23 : BitVec 32 := Scalar.addi v22 c1_i32
  let v25 : Index := Scalar.indexCast v23
  let c0_16 : Index := 0#32
  let c0_17 : Index := 0#32
  ![0, v25.toNat, 0, 0]
def k0_off2 (i : grid0.Coords) : Fin 4 → Nat :=
  let c0_19 : Index := 0#32
  let arg2 : BitVec 32 := BitVec.ofNat 32 (i 2).val
  let c2_i32_14 : BitVec 32 := 2#32
  let v24 : BitVec 32 := Scalar.muli arg2 c2_i32_14
  let v29 : Index := Scalar.indexCast v24
  let c0_20 : Index := 0#32
  let c0_21 : Index := 0#32
  ![0, v29.toNat, 0, 0]
def k0_off3 (i : grid0.Coords) : Fin 4 → Nat :=
  let c0_27 : Index := 0#32
  let arg2 : BitVec 32 := BitVec.ofNat 32 (i 2).val
  let c2_i32 : BitVec 32 := 2#32
  let v22 : BitVec 32 := Scalar.muli arg2 c2_i32
  let c1_i32 : BitVec 32 := 1#32
  let v23 : BitVec 32 := Scalar.addi v22 c1_i32
  let c2_i32_23 : BitVec 32 := 2#32
  let v33 : BitVec 32 := Scalar.subi v23 c2_i32_23
  let c0_i32_24 : BitVec 32 := 0#32
  let v34 : BitVec 32 := Scalar.maxsi v33 c0_i32_24
  let v37 : Index := Scalar.indexCast v34
  let c0_28 : Index := 0#32
  let c0_29 : Index := 0#32
  ![0, v37.toNat, 0, 0]
def k0_off4 (i : grid0.Coords) : Fin 4 → Nat :=
  let c0_35 : Index := 0#32
  let arg2 : BitVec 32 := BitVec.ofNat 32 (i 2).val
  let c2_i32_14 : BitVec 32 := 2#32
  let v24 : BitVec 32 := Scalar.muli arg2 c2_i32_14
  let c2_i32_25 : BitVec 32 := 2#32
  let v35 : BitVec 32 := Scalar.subi v24 c2_i32_25
  let c0_i32_26 : BitVec 32 := 0#32
  let v36 : BitVec 32 := Scalar.maxsi v35 c0_i32_26
  let v44 : Index := Scalar.indexCast v36
  let c0_36 : Index := 0#32
  let c0_37 : Index := 0#32
  ![0, v44.toNat, 0, 0]
def k0_off5 (i : grid0.Coords) : Fin 4 → Nat :=
  let c1_74 : Index := 1#32
  let arg2 : BitVec 32 := BitVec.ofNat 32 (i 2).val
  let c2_i32 : BitVec 32 := 2#32
  let v22 : BitVec 32 := Scalar.muli arg2 c2_i32
  let c1_i32 : BitVec 32 := 1#32
  let v23 : BitVec 32 := Scalar.addi v22 c1_i32
  let v138 : Index := Scalar.indexCast v23
  let c0_75 : Index := 0#32
  let c0_76 : Index := 0#32
  ![1, v138.toNat, 0, 0]
def k0_off6 (i : grid0.Coords) : Fin 4 → Nat :=
  let c1_78 : Index := 1#32
  let arg2 : BitVec 32 := BitVec.ofNat 32 (i 2).val
  let c2_i32_14 : BitVec 32 := 2#32
  let v24 : BitVec 32 := Scalar.muli arg2 c2_i32_14
  let v142 : Index := Scalar.indexCast v24
  let c0_79 : Index := 0#32
  let c0_80 : Index := 0#32
  ![1, v142.toNat, 0, 0]
def k0_off7 (i : grid0.Coords) : Fin 4 → Nat :=
  let c1_86 : Index := 1#32
  let arg2 : BitVec 32 := BitVec.ofNat 32 (i 2).val
  let c2_i32 : BitVec 32 := 2#32
  let v22 : BitVec 32 := Scalar.muli arg2 c2_i32
  let c1_i32 : BitVec 32 := 1#32
  let v23 : BitVec 32 := Scalar.addi v22 c1_i32
  let c2_i32_82 : BitVec 32 := 2#32
  let v146 : BitVec 32 := Scalar.subi v23 c2_i32_82
  let c0_i32_83 : BitVec 32 := 0#32
  let v147 : BitVec 32 := Scalar.maxsi v146 c0_i32_83
  let v150 : Index := Scalar.indexCast v147
  let c0_87 : Index := 0#32
  let c0_88 : Index := 0#32
  ![1, v150.toNat, 0, 0]
def k0_off8 (i : grid0.Coords) : Fin 4 → Nat :=
  let c1_94 : Index := 1#32
  let arg2 : BitVec 32 := BitVec.ofNat 32 (i 2).val
  let c2_i32_14 : BitVec 32 := 2#32
  let v24 : BitVec 32 := Scalar.muli arg2 c2_i32_14
  let c2_i32_84 : BitVec 32 := 2#32
  let v148 : BitVec 32 := Scalar.subi v24 c2_i32_84
  let c0_i32_85 : BitVec 32 := 0#32
  let v149 : BitVec 32 := Scalar.maxsi v148 c0_i32_85
  let v157 : Index := Scalar.indexCast v149
  let c0_95 : Index := 0#32
  let c0_96 : Index := 0#32
  ![1, v157.toNat, 0, 0]
@[reducible] def k0_t1_loop (i : grid0.Coords) : Scf.Loop 32 :=
  let c0_i32_137 : BitVec 32 := 0#32
  let arg2 : BitVec 32 := BitVec.ofNat 32 (i 2).val
  let v251 : BitVec 32 := Scalar.subi arg2 c0_i32_137
  let c1_i32_138 : BitVec 32 := 1#32
  let v253 : BitVec 32 := Scalar.divsi v251 c1_i32_138
  let v254 : BitVec 32 := Scalar.muli v253 c1_i32_138
  let v255 : BitVec 32 := Scalar.addi c0_i32_137 v254
  let c1_i32_139 : BitVec 32 := 1#32
  ⟨c0_i32_137, v255, c1_i32_139⟩
def k0_off9 (i : grid0.Coords) (k0_t1 : Fin (k0_t1_loop i).trips) : Fin 4 → Nat :=
  let c0_219 : Index := 0#32
  let arg2 : BitVec 32 := BitVec.ofNat 32 (i 2).val
  let c2_i32 : BitVec 32 := 2#32
  let v22 : BitVec 32 := Scalar.muli arg2 c2_i32
  let c1_i32 : BitVec 32 := 1#32
  let v23 : BitVec 32 := Scalar.addi v22 c1_i32
  let c2_i32_199 : BitVec 32 := 2#32
  let c0_i32_137 : BitVec 32 := 0#32
  let c1_i32_139 : BitVec 32 := 1#32
  let arg14 : BitVec 32 := Scf.iv c0_i32_137 c1_i32_139 k0_t1
  let c2_i32_198 : BitVec 32 := 2#32
  let v305 : BitVec 32 := Scalar.addi arg14 c2_i32_198
  let v306 : BitVec 32 := Scalar.muli c2_i32_199 v305
  let v307 : BitVec 32 := Scalar.subi v23 v306
  let c0_i32_200 : BitVec 32 := 0#32
  let v308 : BitVec 32 := Scalar.maxsi v307 c0_i32_200
  let v320 : Index := Scalar.indexCast v308
  let c0_220 : Index := 0#32
  let c0_221 : Index := 0#32
  ![0, v320.toNat, 0, 0]
def k0_off10 (i : grid0.Coords) (k0_t1 : Fin (k0_t1_loop i).trips) : Fin 4 → Nat :=
  let c0_223 : Index := 0#32
  let arg2 : BitVec 32 := BitVec.ofNat 32 (i 2).val
  let c2_i32_14 : BitVec 32 := 2#32
  let v24 : BitVec 32 := Scalar.muli arg2 c2_i32_14
  let c2_i32_201 : BitVec 32 := 2#32
  let c0_i32_137 : BitVec 32 := 0#32
  let c1_i32_139 : BitVec 32 := 1#32
  let arg14 : BitVec 32 := Scf.iv c0_i32_137 c1_i32_139 k0_t1
  let c2_i32_198 : BitVec 32 := 2#32
  let v305 : BitVec 32 := Scalar.addi arg14 c2_i32_198
  let v309 : BitVec 32 := Scalar.muli c2_i32_201 v305
  let v310 : BitVec 32 := Scalar.subi v24 v309
  let c0_i32_202 : BitVec 32 := 0#32
  let v311 : BitVec 32 := Scalar.maxsi v310 c0_i32_202
  let v324 : Index := Scalar.indexCast v311
  let c0_224 : Index := 0#32
  let c0_225 : Index := 0#32
  ![0, v324.toNat, 0, 0]
def k0_off11 (i : grid0.Coords) (k0_t1 : Fin (k0_t1_loop i).trips) : Fin 4 → Nat :=
  let c0_230 : Index := 0#32
  let arg2 : BitVec 32 := BitVec.ofNat 32 (i 2).val
  let c2_i32 : BitVec 32 := 2#32
  let v22 : BitVec 32 := Scalar.muli arg2 c2_i32
  let c1_i32 : BitVec 32 := 1#32
  let v23 : BitVec 32 := Scalar.addi v22 c1_i32
  let c2_i32_189 : BitVec 32 := 2#32
  let c0_i32_137 : BitVec 32 := 0#32
  let c1_i32_139 : BitVec 32 := 1#32
  let arg14 : BitVec 32 := Scf.iv c0_i32_137 c1_i32_139 k0_t1
  let v292 : BitVec 32 := Scalar.muli c2_i32_189 arg14
  let v293 : BitVec 32 := Scalar.subi v23 v292
  let c0_i32_190 : BitVec 32 := 0#32
  let v294 : BitVec 32 := Scalar.maxsi v293 c0_i32_190
  let v330 : Index := Scalar.indexCast v294
  let c0_231 : Index := 0#32
  let c0_232 : Index := 0#32
  ![0, v330.toNat, 0, 0]
def k0_off12 (i : grid0.Coords) (k0_t1 : Fin (k0_t1_loop i).trips) : Fin 4 → Nat :=
  let c0_235 : Index := 0#32
  let arg2 : BitVec 32 := BitVec.ofNat 32 (i 2).val
  let c2_i32_14 : BitVec 32 := 2#32
  let v24 : BitVec 32 := Scalar.muli arg2 c2_i32_14
  let c2_i32_191 : BitVec 32 := 2#32
  let c0_i32_137 : BitVec 32 := 0#32
  let c1_i32_139 : BitVec 32 := 1#32
  let arg14 : BitVec 32 := Scf.iv c0_i32_137 c1_i32_139 k0_t1
  let v295 : BitVec 32 := Scalar.muli c2_i32_191 arg14
  let v296 : BitVec 32 := Scalar.subi v24 v295
  let c0_i32_192 : BitVec 32 := 0#32
  let v297 : BitVec 32 := Scalar.maxsi v296 c0_i32_192
  let v336 : Index := Scalar.indexCast v297
  let c0_236 : Index := 0#32
  let c0_237 : Index := 0#32
  ![0, v336.toNat, 0, 0]
def k0_off13 (i : grid0.Coords) (k0_t1 : Fin (k0_t1_loop i).trips) : Fin 4 → Nat :=
  let c1_288 : Index := 1#32
  let arg2 : BitVec 32 := BitVec.ofNat 32 (i 2).val
  let c2_i32 : BitVec 32 := 2#32
  let v22 : BitVec 32 := Scalar.muli arg2 c2_i32
  let c1_i32 : BitVec 32 := 1#32
  let v23 : BitVec 32 := Scalar.addi v22 c1_i32
  let c2_i32_199 : BitVec 32 := 2#32
  let c0_i32_137 : BitVec 32 := 0#32
  let c1_i32_139 : BitVec 32 := 1#32
  let arg14 : BitVec 32 := Scf.iv c0_i32_137 c1_i32_139 k0_t1
  let c2_i32_198 : BitVec 32 := 2#32
  let v305 : BitVec 32 := Scalar.addi arg14 c2_i32_198
  let v306 : BitVec 32 := Scalar.muli c2_i32_199 v305
  let v307 : BitVec 32 := Scalar.subi v23 v306
  let c0_i32_200 : BitVec 32 := 0#32
  let v308 : BitVec 32 := Scalar.maxsi v307 c0_i32_200
  let v410 : Index := Scalar.indexCast v308
  let c0_289 : Index := 0#32
  let c0_290 : Index := 0#32
  ![1, v410.toNat, 0, 0]
def k0_off14 (i : grid0.Coords) (k0_t1 : Fin (k0_t1_loop i).trips) : Fin 4 → Nat :=
  let c1_292 : Index := 1#32
  let arg2 : BitVec 32 := BitVec.ofNat 32 (i 2).val
  let c2_i32_14 : BitVec 32 := 2#32
  let v24 : BitVec 32 := Scalar.muli arg2 c2_i32_14
  let c2_i32_201 : BitVec 32 := 2#32
  let c0_i32_137 : BitVec 32 := 0#32
  let c1_i32_139 : BitVec 32 := 1#32
  let arg14 : BitVec 32 := Scf.iv c0_i32_137 c1_i32_139 k0_t1
  let c2_i32_198 : BitVec 32 := 2#32
  let v305 : BitVec 32 := Scalar.addi arg14 c2_i32_198
  let v309 : BitVec 32 := Scalar.muli c2_i32_201 v305
  let v310 : BitVec 32 := Scalar.subi v24 v309
  let c0_i32_202 : BitVec 32 := 0#32
  let v311 : BitVec 32 := Scalar.maxsi v310 c0_i32_202
  let v414 : Index := Scalar.indexCast v311
  let c0_293 : Index := 0#32
  let c0_294 : Index := 0#32
  ![1, v414.toNat, 0, 0]
def k0_off15 (i : grid0.Coords) (k0_t1 : Fin (k0_t1_loop i).trips) : Fin 4 → Nat :=
  let c1_299 : Index := 1#32
  let arg2 : BitVec 32 := BitVec.ofNat 32 (i 2).val
  let c2_i32 : BitVec 32 := 2#32
  let v22 : BitVec 32 := Scalar.muli arg2 c2_i32
  let c1_i32 : BitVec 32 := 1#32
  let v23 : BitVec 32 := Scalar.addi v22 c1_i32
  let c2_i32_189 : BitVec 32 := 2#32
  let c0_i32_137 : BitVec 32 := 0#32
  let c1_i32_139 : BitVec 32 := 1#32
  let arg14 : BitVec 32 := Scf.iv c0_i32_137 c1_i32_139 k0_t1
  let v292 : BitVec 32 := Scalar.muli c2_i32_189 arg14
  let v293 : BitVec 32 := Scalar.subi v23 v292
  let c0_i32_190 : BitVec 32 := 0#32
  let v294 : BitVec 32 := Scalar.maxsi v293 c0_i32_190
  let v420 : Index := Scalar.indexCast v294
  let c0_300 : Index := 0#32
  let c0_301 : Index := 0#32
  ![1, v420.toNat, 0, 0]
def k0_off16 (i : grid0.Coords) (k0_t1 : Fin (k0_t1_loop i).trips) : Fin 4 → Nat :=
  let c1_304 : Index := 1#32
  let arg2 : BitVec 32 := BitVec.ofNat 32 (i 2).val
  let c2_i32_14 : BitVec 32 := 2#32
  let v24 : BitVec 32 := Scalar.muli arg2 c2_i32_14
  let c2_i32_191 : BitVec 32 := 2#32
  let c0_i32_137 : BitVec 32 := 0#32
  let c1_i32_139 : BitVec 32 := 1#32
  let arg14 : BitVec 32 := Scf.iv c0_i32_137 c1_i32_139 k0_t1
  let v295 : BitVec 32 := Scalar.muli c2_i32_191 arg14
  let v296 : BitVec 32 := Scalar.subi v24 v295
  let c0_i32_192 : BitVec 32 := 0#32
  let v297 : BitVec 32 := Scalar.maxsi v296 c0_i32_192
  let v426 : Index := Scalar.indexCast v297
  let c0_305 : Index := 0#32
  let c0_306 : Index := 0#32
  ![1, v426.toNat, 0, 0]
@[reducible] def k0_t2_loop (i : grid0.Coords) : Scf.Loop 32 :=
  let c0_i32_137 : BitVec 32 := 0#32
  let arg2 : BitVec 32 := BitVec.ofNat 32 (i 2).val
  let v251 : BitVec 32 := Scalar.subi arg2 c0_i32_137
  let c1_i32_138 : BitVec 32 := 1#32
  let v253 : BitVec 32 := Scalar.divsi v251 c1_i32_138
  let v254 : BitVec 32 := Scalar.muli v253 c1_i32_138
  let v255 : BitVec 32 := Scalar.addi c0_i32_137 v254
  let v252 : BitVec 32 := Scalar.addi c0_i32_137 v251
  let c1_i32_140 : BitVec 32 := 1#32
  ⟨v255, v252, c1_i32_140⟩
def k0_off17 (i : grid0.Coords) (k0_t2 : Fin (k0_t2_loop i).trips) : Fin 4 → Nat :=
  let c0_219 : Index := 0#32
  let arg2 : BitVec 32 := BitVec.ofNat 32 (i 2).val
  let c2_i32 : BitVec 32 := 2#32
  let v22 : BitVec 32 := Scalar.muli arg2 c2_i32
  let c1_i32 : BitVec 32 := 1#32
  let v23 : BitVec 32 := Scalar.addi v22 c1_i32
  let c2_i32_199 : BitVec 32 := 2#32
  let c0_i32_137 : BitVec 32 := 0#32
  let v251 : BitVec 32 := Scalar.subi arg2 c0_i32_137
  let c1_i32_138 : BitVec 32 := 1#32
  let v253 : BitVec 32 := Scalar.divsi v251 c1_i32_138
  let v254 : BitVec 32 := Scalar.muli v253 c1_i32_138
  let v255 : BitVec 32 := Scalar.addi c0_i32_137 v254
  let c1_i32_140 : BitVec 32 := 1#32
  let arg14 : BitVec 32 := Scf.iv v255 c1_i32_140 k0_t2
  let c2_i32_198 : BitVec 32 := 2#32
  let v305 : BitVec 32 := Scalar.addi arg14 c2_i32_198
  let v306 : BitVec 32 := Scalar.muli c2_i32_199 v305
  let v307 : BitVec 32 := Scalar.subi v23 v306
  let c0_i32_200 : BitVec 32 := 0#32
  let v308 : BitVec 32 := Scalar.maxsi v307 c0_i32_200
  let v320 : Index := Scalar.indexCast v308
  let c0_220 : Index := 0#32
  let c0_221 : Index := 0#32
  ![0, v320.toNat, 0, 0]
def k0_off18 (i : grid0.Coords) (k0_t2 : Fin (k0_t2_loop i).trips) : Fin 4 → Nat :=
  let c0_223 : Index := 0#32
  let arg2 : BitVec 32 := BitVec.ofNat 32 (i 2).val
  let c2_i32_14 : BitVec 32 := 2#32
  let v24 : BitVec 32 := Scalar.muli arg2 c2_i32_14
  let c2_i32_201 : BitVec 32 := 2#32
  let c0_i32_137 : BitVec 32 := 0#32
  let v251 : BitVec 32 := Scalar.subi arg2 c0_i32_137
  let c1_i32_138 : BitVec 32 := 1#32
  let v253 : BitVec 32 := Scalar.divsi v251 c1_i32_138
  let v254 : BitVec 32 := Scalar.muli v253 c1_i32_138
  let v255 : BitVec 32 := Scalar.addi c0_i32_137 v254
  let c1_i32_140 : BitVec 32 := 1#32
  let arg14 : BitVec 32 := Scf.iv v255 c1_i32_140 k0_t2
  let c2_i32_198 : BitVec 32 := 2#32
  let v305 : BitVec 32 := Scalar.addi arg14 c2_i32_198
  let v309 : BitVec 32 := Scalar.muli c2_i32_201 v305
  let v310 : BitVec 32 := Scalar.subi v24 v309
  let c0_i32_202 : BitVec 32 := 0#32
  let v311 : BitVec 32 := Scalar.maxsi v310 c0_i32_202
  let v324 : Index := Scalar.indexCast v311
  let c0_224 : Index := 0#32
  let c0_225 : Index := 0#32
  ![0, v324.toNat, 0, 0]
def k0_off19 (i : grid0.Coords) (k0_t2 : Fin (k0_t2_loop i).trips) : Fin 4 → Nat :=
  let c0_230 : Index := 0#32
  let arg2 : BitVec 32 := BitVec.ofNat 32 (i 2).val
  let c2_i32 : BitVec 32 := 2#32
  let v22 : BitVec 32 := Scalar.muli arg2 c2_i32
  let c1_i32 : BitVec 32 := 1#32
  let v23 : BitVec 32 := Scalar.addi v22 c1_i32
  let c2_i32_189 : BitVec 32 := 2#32
  let c0_i32_137 : BitVec 32 := 0#32
  let v251 : BitVec 32 := Scalar.subi arg2 c0_i32_137
  let c1_i32_138 : BitVec 32 := 1#32
  let v253 : BitVec 32 := Scalar.divsi v251 c1_i32_138
  let v254 : BitVec 32 := Scalar.muli v253 c1_i32_138
  let v255 : BitVec 32 := Scalar.addi c0_i32_137 v254
  let c1_i32_140 : BitVec 32 := 1#32
  let arg14 : BitVec 32 := Scf.iv v255 c1_i32_140 k0_t2
  let v292 : BitVec 32 := Scalar.muli c2_i32_189 arg14
  let v293 : BitVec 32 := Scalar.subi v23 v292
  let c0_i32_190 : BitVec 32 := 0#32
  let v294 : BitVec 32 := Scalar.maxsi v293 c0_i32_190
  let v330 : Index := Scalar.indexCast v294
  let c0_231 : Index := 0#32
  let c0_232 : Index := 0#32
  ![0, v330.toNat, 0, 0]
def k0_off20 (i : grid0.Coords) (k0_t2 : Fin (k0_t2_loop i).trips) : Fin 4 → Nat :=
  let c0_235 : Index := 0#32
  let arg2 : BitVec 32 := BitVec.ofNat 32 (i 2).val
  let c2_i32_14 : BitVec 32 := 2#32
  let v24 : BitVec 32 := Scalar.muli arg2 c2_i32_14
  let c2_i32_191 : BitVec 32 := 2#32
  let c0_i32_137 : BitVec 32 := 0#32
  let v251 : BitVec 32 := Scalar.subi arg2 c0_i32_137
  let c1_i32_138 : BitVec 32 := 1#32
  let v253 : BitVec 32 := Scalar.divsi v251 c1_i32_138
  let v254 : BitVec 32 := Scalar.muli v253 c1_i32_138
  let v255 : BitVec 32 := Scalar.addi c0_i32_137 v254
  let c1_i32_140 : BitVec 32 := 1#32
  let arg14 : BitVec 32 := Scf.iv v255 c1_i32_140 k0_t2
  let v295 : BitVec 32 := Scalar.muli c2_i32_191 arg14
  let v296 : BitVec 32 := Scalar.subi v24 v295
  let c0_i32_192 : BitVec 32 := 0#32
  let v297 : BitVec 32 := Scalar.maxsi v296 c0_i32_192
  let v336 : Index := Scalar.indexCast v297
  let c0_236 : Index := 0#32
  let c0_237 : Index := 0#32
  ![0, v336.toNat, 0, 0]
def k0_off21 (i : grid0.Coords) (k0_t2 : Fin (k0_t2_loop i).trips) : Fin 4 → Nat :=
  let c1_288 : Index := 1#32
  let arg2 : BitVec 32 := BitVec.ofNat 32 (i 2).val
  let c2_i32 : BitVec 32 := 2#32
  let v22 : BitVec 32 := Scalar.muli arg2 c2_i32
  let c1_i32 : BitVec 32 := 1#32
  let v23 : BitVec 32 := Scalar.addi v22 c1_i32
  let c2_i32_199 : BitVec 32 := 2#32
  let c0_i32_137 : BitVec 32 := 0#32
  let v251 : BitVec 32 := Scalar.subi arg2 c0_i32_137
  let c1_i32_138 : BitVec 32 := 1#32
  let v253 : BitVec 32 := Scalar.divsi v251 c1_i32_138
  let v254 : BitVec 32 := Scalar.muli v253 c1_i32_138
  let v255 : BitVec 32 := Scalar.addi c0_i32_137 v254
  let c1_i32_140 : BitVec 32 := 1#32
  let arg14 : BitVec 32 := Scf.iv v255 c1_i32_140 k0_t2
  let c2_i32_198 : BitVec 32 := 2#32
  let v305 : BitVec 32 := Scalar.addi arg14 c2_i32_198
  let v306 : BitVec 32 := Scalar.muli c2_i32_199 v305
  let v307 : BitVec 32 := Scalar.subi v23 v306
  let c0_i32_200 : BitVec 32 := 0#32
  let v308 : BitVec 32 := Scalar.maxsi v307 c0_i32_200
  let v410 : Index := Scalar.indexCast v308
  let c0_289 : Index := 0#32
  let c0_290 : Index := 0#32
  ![1, v410.toNat, 0, 0]
def k0_off22 (i : grid0.Coords) (k0_t2 : Fin (k0_t2_loop i).trips) : Fin 4 → Nat :=
  let c1_292 : Index := 1#32
  let arg2 : BitVec 32 := BitVec.ofNat 32 (i 2).val
  let c2_i32_14 : BitVec 32 := 2#32
  let v24 : BitVec 32 := Scalar.muli arg2 c2_i32_14
  let c2_i32_201 : BitVec 32 := 2#32
  let c0_i32_137 : BitVec 32 := 0#32
  let v251 : BitVec 32 := Scalar.subi arg2 c0_i32_137
  let c1_i32_138 : BitVec 32 := 1#32
  let v253 : BitVec 32 := Scalar.divsi v251 c1_i32_138
  let v254 : BitVec 32 := Scalar.muli v253 c1_i32_138
  let v255 : BitVec 32 := Scalar.addi c0_i32_137 v254
  let c1_i32_140 : BitVec 32 := 1#32
  let arg14 : BitVec 32 := Scf.iv v255 c1_i32_140 k0_t2
  let c2_i32_198 : BitVec 32 := 2#32
  let v305 : BitVec 32 := Scalar.addi arg14 c2_i32_198
  let v309 : BitVec 32 := Scalar.muli c2_i32_201 v305
  let v310 : BitVec 32 := Scalar.subi v24 v309
  let c0_i32_202 : BitVec 32 := 0#32
  let v311 : BitVec 32 := Scalar.maxsi v310 c0_i32_202
  let v414 : Index := Scalar.indexCast v311
  let c0_293 : Index := 0#32
  let c0_294 : Index := 0#32
  ![1, v414.toNat, 0, 0]
def k0_off23 (i : grid0.Coords) (k0_t2 : Fin (k0_t2_loop i).trips) : Fin 4 → Nat :=
  let c1_299 : Index := 1#32
  let arg2 : BitVec 32 := BitVec.ofNat 32 (i 2).val
  let c2_i32 : BitVec 32 := 2#32
  let v22 : BitVec 32 := Scalar.muli arg2 c2_i32
  let c1_i32 : BitVec 32 := 1#32
  let v23 : BitVec 32 := Scalar.addi v22 c1_i32
  let c2_i32_189 : BitVec 32 := 2#32
  let c0_i32_137 : BitVec 32 := 0#32
  let v251 : BitVec 32 := Scalar.subi arg2 c0_i32_137
  let c1_i32_138 : BitVec 32 := 1#32
  let v253 : BitVec 32 := Scalar.divsi v251 c1_i32_138
  let v254 : BitVec 32 := Scalar.muli v253 c1_i32_138
  let v255 : BitVec 32 := Scalar.addi c0_i32_137 v254
  let c1_i32_140 : BitVec 32 := 1#32
  let arg14 : BitVec 32 := Scf.iv v255 c1_i32_140 k0_t2
  let v292 : BitVec 32 := Scalar.muli c2_i32_189 arg14
  let v293 : BitVec 32 := Scalar.subi v23 v292
  let c0_i32_190 : BitVec 32 := 0#32
  let v294 : BitVec 32 := Scalar.maxsi v293 c0_i32_190
  let v420 : Index := Scalar.indexCast v294
  let c0_300 : Index := 0#32
  let c0_301 : Index := 0#32
  ![1, v420.toNat, 0, 0]
def k0_off24 (i : grid0.Coords) (k0_t2 : Fin (k0_t2_loop i).trips) : Fin 4 → Nat :=
  let c1_304 : Index := 1#32
  let arg2 : BitVec 32 := BitVec.ofNat 32 (i 2).val
  let c2_i32_14 : BitVec 32 := 2#32
  let v24 : BitVec 32 := Scalar.muli arg2 c2_i32_14
  let c2_i32_191 : BitVec 32 := 2#32
  let c0_i32_137 : BitVec 32 := 0#32
  let v251 : BitVec 32 := Scalar.subi arg2 c0_i32_137
  let c1_i32_138 : BitVec 32 := 1#32
  let v253 : BitVec 32 := Scalar.divsi v251 c1_i32_138
  let v254 : BitVec 32 := Scalar.muli v253 c1_i32_138
  let v255 : BitVec 32 := Scalar.addi c0_i32_137 v254
  let c1_i32_140 : BitVec 32 := 1#32
  let arg14 : BitVec 32 := Scf.iv v255 c1_i32_140 k0_t2
  let v295 : BitVec 32 := Scalar.muli c2_i32_191 arg14
  let v296 : BitVec 32 := Scalar.subi v24 v295
  let c0_i32_192 : BitVec 32 := 0#32
  let v297 : BitVec 32 := Scalar.maxsi v296 c0_i32_192
  let v426 : Index := Scalar.indexCast v297
  let c0_305 : Index := 0#32
  let c0_306 : Index := 0#32
  ![1, v426.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "neg_log2_e" => some ((-((Real.log 2)⁻¹) : ℝ) : EReal)
  | _ => none
-- ==== ReferenceIdeal.lean ====
abbrev S8192x3072 : Shape := ⟨2, ![8192, 3072]⟩
abbrev S8192x1024 : Shape := ⟨2, ![8192, 1024]⟩
abbrev S2x4096x16x64 : Shape := ⟨4, ![2, 4096, 16, 64]⟩
abbrev S2x16x4096x64 : Shape := ⟨4, ![2, 16, 4096, 64]⟩
abbrev S4096 : Shape := ⟨1, ![4096]⟩
abbrev S2x16x4096x4096 : Shape := ⟨4, ![2, 16, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 74
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S2x4096x16x64, .bf16⟩
  | .hbm, ⟨5, _⟩ => ⟨S2x16x4096x64, .bf16⟩
  | .hbm, ⟨6, _⟩ => ⟨S2x4096x16x64, .bf16⟩
  | .hbm, ⟨7, _⟩ => ⟨S2x16x4096x64, .bf16⟩
  | .hbm, ⟨8, _⟩ => ⟨S2x4096x16x64, .bf16⟩
  | .hbm, ⟨9, _⟩ => ⟨S2x16x4096x64, .bf16⟩
  | .hbm, ⟨10, _⟩ => ⟨S4096, .i32⟩
  | .hbm, ⟨11, _⟩ => ⟨S2x16x4096x4096, .f32⟩
  | .hbm, ⟨12, _⟩ => ⟨S_, .f32⟩
  | .hbm, ⟨13, _⟩ => ⟨S2x16x4096x4096, .f32⟩
  | .hbm, ⟨14, _⟩ => ⟨S2x16x4096x4096, .f32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S2x16x4096x4096, .f32⟩
  | .hbm, ⟨21, _⟩ => ⟨S_, .f32⟩
  | .hbm, ⟨22, _⟩ => ⟨S2x16x4096x4096, .f32⟩
  | .hbm, ⟨23, _⟩ => ⟨S2x16x4096x4096, .f32⟩
  | .hbm, ⟨24, _⟩ => ⟨S2x16x4096x4096, .f32⟩
  | .hbm, ⟨25, _⟩ => ⟨S2x16x4096x4096, .f32⟩
  | .hbm, ⟨26, _⟩ => ⟨S2x16x4096x4096, .i1⟩
  | .hbm, ⟨27, _⟩ => ⟨S2x16x4096x4096, .f32⟩
  | .hbm, ⟨28, _⟩ => ⟨S2x16x4096x4096, .f32⟩
  | .hbm, ⟨29, _⟩ => ⟨S2x16x4096x4096, .f32⟩
  | .hbm, ⟨30, _⟩ => ⟨S2x16x4096x4096, .f32⟩
  | .hbm, ⟨31, _⟩ => ⟨S2x16x4096x4096, .f32⟩
  | .hbm, ⟨32, _⟩ => ⟨S2x16x4096x4096, .f32⟩
  | .hbm, ⟨33, _⟩ => ⟨S2x16x4096x4096, .f32⟩
  | .hbm, ⟨34, _⟩ => ⟨S2x16x4096x4096, .f32⟩
  | .hbm, ⟨35, _⟩ => ⟨S2x16x4096x4096, .f32⟩
  | .hbm, ⟨36, _⟩ => ⟨S2x16x4096x4096, .f32⟩
  | .hbm, ⟨37, _⟩ => ⟨S2x16x4096x4096, .f32⟩
  | .hbm, ⟨38, _⟩ => ⟨S_, .f32⟩
  | .hbm, ⟨39, _⟩ => ⟨S2x16x4096x4096, .f32⟩
  | .hbm, ⟨40, _⟩ => ⟨S2x16x4096x4096, .f32⟩
  | .hbm, ⟨41, _⟩ => ⟨S2x16x4096x4096, .f32⟩
  | .hbm, ⟨42, _⟩ => ⟨S2x16x4096x4096, .f32⟩
  | .hbm, ⟨43, _⟩ => ⟨S2x16x4096x4096, .i1⟩
  | .hbm, ⟨44, _⟩ => ⟨S2x16x4096x4096, .f32⟩
  | .hbm, ⟨45, _⟩ => ⟨S2x16x4096x4096, .f32⟩
  | .hbm, ⟨46, _⟩ => ⟨S2x16x4096x4096, .f32⟩
  | .hbm, ⟨47, _⟩ => ⟨S2x16x4096x4096, .f32⟩
  | .hbm, ⟨48, _⟩ => ⟨S2x16x4096x4096, .f32⟩
  | .hbm, ⟨49, _⟩ => ⟨S2x16x4096x4096, .f32⟩
  | .hbm, ⟨50, _⟩ => ⟨S2x16x4096x4096, .f32⟩
  | .hbm, ⟨51, _⟩ => ⟨S2x16x4096x4096, .f32⟩
  | .hbm, ⟨52, _⟩ => ⟨S2x16x4096x4096, .f32⟩
  | .hbm, ⟨53, _⟩ => ⟨S_, .f32⟩
  | .hbm, ⟨54, _⟩ => ⟨S_, .f32⟩
  | .hbm, ⟨55, _⟩ => ⟨S2x16x4096x4096, .i1⟩
  | .hbm, ⟨56, _⟩ => ⟨S2x16x4096x4096, .f32⟩
  | .hbm, ⟨57, _⟩ => ⟨S2x16x4096x4096, .f32⟩
  | .hbm, ⟨58, _⟩ => ⟨S_, .f32⟩
  | .hbm, ⟨59, _⟩ => ⟨S_, .f32⟩
  | .hbm, ⟨60, _⟩ => ⟨S2x16x4096x4096, .f32⟩
  | .hbm, ⟨61, _⟩ => ⟨S2x16x4096x4096, .f32⟩
  | .hbm, ⟨62, _⟩ => ⟨S2x16x4096x4096, .f32⟩
  | .hbm, ⟨63, _⟩ => ⟨S2x16x4096x4096, .f32⟩
  | .hbm, ⟨64, _⟩ => ⟨S_, .f32⟩
  | .hbm, ⟨65, _⟩ => ⟨S_, .f32⟩
  | .hbm, ⟨66, _⟩ => ⟨S2x16x4096x4096, .i1⟩
  | .hbm, ⟨67, _⟩ => ⟨S2x16x4096x4096, .f32⟩
  | .hbm, ⟨68, _⟩ => ⟨S2x16x4096x4096, .f32⟩
  | .hbm, ⟨69, _⟩ => ⟨S2x16x4096x4096, .bf16⟩
  | .hbm, ⟨70, _⟩ => ⟨S2x16x4096x64, .f32⟩
  | .hbm, ⟨71, _⟩ => ⟨S2x4096x16x64, .f32⟩
  | .hbm, ⟨72, _⟩ => ⟨S8192x1024, .f32⟩
  | .hbm, ⟨73, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v18 : Ref sig .tc := ⟨.hbm, 35, rfl⟩
abbrev main_v19 : Ref sig .tc := ⟨.hbm, 36, rfl⟩
abbrev main_call1_v0 : Ref sig .tc := ⟨.hbm, 37, rfl⟩
abbrev main_call1_call0_cst : Ref sig .tc := ⟨.hbm, 38, rfl⟩
abbrev main_call1_call0_v0 : Ref sig .tc := ⟨.hbm, 39, rfl⟩
abbrev main_call1_call0_v1 : Ref sig .tc := ⟨.hbm, 40, rfl⟩
abbrev main_call1_call0_v2 : Ref sig .tc := ⟨.hbm, 41, rfl⟩
abbrev main_call1_call0_v3 : Ref sig .tc := ⟨.hbm, 42, rfl⟩
abbrev main_call1_call0_v4 : Ref sig .tc := ⟨.hbm, 43, rfl⟩
abbrev main_call1_call0_v5 : Ref sig .tc := ⟨.hbm, 44, rfl⟩
abbrev main_call1_call0_v6 : Ref sig .tc := ⟨.hbm, 45, rfl⟩
abbrev main_call1_call0_v7 : Ref sig .tc := ⟨.hbm, 46, rfl⟩
abbrev main_call1_call0_v8 : Ref sig .tc := ⟨.hbm, 47, rfl⟩
abbrev main_call1_call0_v9 : Ref sig .tc := ⟨.hbm, 48, rfl⟩
abbrev main_call1_call0_v10 : Ref sig .tc := ⟨.hbm, 49, rfl⟩
abbrev main_call1_call0_v11 : Ref sig .tc := ⟨.hbm, 50, rfl⟩
abbrev main_call1_v1 : Ref sig .tc := ⟨.hbm, 51, rfl⟩
abbrev main_v20 : Ref sig .tc := ⟨.hbm, 52, rfl⟩
abbrev main_cst_0 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v21 : Ref sig .tc := ⟨.hbm, 57, rfl⟩
abbrev main_call3_cst : Ref sig .tc := ⟨.hbm, 58, rfl⟩
abbrev main_call3_v0 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩

abbrev nD : Nat := 1
abbrev τ : Topo := Topo.v7x

variable {F : FTy → Type} [FloatOps F]
-- ==== KernelQkv.lean ====
abbrev S8192x2048 : Shape := ⟨2, ![8192, 2048]⟩
abbrev S2048x9216 : Shape := ⟨2, ![2048, 9216]⟩
abbrev S_ : Shape := ⟨0, ![]⟩
abbrev S3072 : Shape := ⟨1, ![3072]⟩
abbrev S1x3072 : Shape := ⟨2, ![1, 3072]⟩
abbrev S8192x3072 : Shape := ⟨2, ![8192, 3072]⟩
abbrev S512x2048 : Shape := ⟨2, ![512, 2048]⟩
abbrev S2048x1024 : Shape := ⟨2, ![2048, 1024]⟩
abbrev S1x1024 : Shape := ⟨2, ![1, 1024]⟩
abbrev S512x1024 : Shape := ⟨2, ![512, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x9216, .f32⟩
  | .hbm, ⟨2, _⟩ => ⟨S_, .f32⟩
  | .hbm, ⟨3, _⟩ => ⟨S3072, .f32⟩
  | .hbm, ⟨4, _⟩ => ⟨S1x3072, .f32⟩
  | .hbm, ⟨5, _⟩ => ⟨S8192x3072, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceQkvIdeal.lean ====
abbrev S8192x2048 : Shape := ⟨2, ![8192, 2048]⟩
abbrev S2048x9216 : Shape := ⟨2, ![2048, 9216]⟩
abbrev S2048x3072 : Shape := ⟨2, ![2048, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x9216, .f32⟩
  | .hbm, ⟨2, _⟩ => ⟨S8192x2048, .f32⟩
  | .hbm, ⟨3, _⟩ => ⟨S2048x3072, .f32⟩
  | .hbm, ⟨4, _⟩ => ⟨S8192x3072, .f32⟩
  | .hbm, ⟨5, _⟩ => ⟨S8192x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelUv.lean ====
abbrev S8192x2048 : Shape := ⟨2, ![8192, 2048]⟩
abbrev S2048x9216 : Shape := ⟨2, ![2048, 9216]⟩
abbrev S_ : Shape := ⟨0, ![]⟩
abbrev S2048 : Shape := ⟨1, ![2048]⟩
abbrev S1x2048 : Shape := ⟨2, ![1, 2048]⟩
abbrev S512x2048 : Shape := ⟨2, ![512, 2048]⟩
abbrev S2048x1024 : Shape := ⟨2, ![2048, 1024]⟩
abbrev S1x1024 : Shape := ⟨2, ![1, 1024]⟩
abbrev S512x1024 : Shape := ⟨2, ![512, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x9216, .f32⟩
  | .hbm, ⟨2, _⟩ => ⟨S_, .f32⟩
  | .hbm, ⟨3, _⟩ => ⟨S2048, .f32⟩
  | .hbm, ⟨4, _⟩ => ⟨S1x2048, .f32⟩
  | .hbm, ⟨5, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceUvIdeal.lean ====
abbrev S8192x2048 : Shape := ⟨2, ![8192, 2048]⟩
abbrev S2048x9216 : Shape := ⟨2, ![2048, 9216]⟩
abbrev S2048x2048 : Shape := ⟨2, ![2048, 2048]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x9216, .f32⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== KernelGates.lean ====
abbrev S8192x2048 : Shape := ⟨2, ![8192, 2048]⟩
abbrev S2048x9216 : Shape := ⟨2, ![2048, 9216]⟩
abbrev S4096 : Shape := ⟨1, ![4096]⟩
abbrev S1x4096 : Shape := ⟨2, ![1, 4096]⟩
abbrev S8192x4096 : Shape := ⟨2, ![8192, 4096]⟩
abbrev S512x2048 : Shape := ⟨2, ![512, 2048]⟩
abbrev S2048x1024 : Shape := ⟨2, ![2048, 1024]⟩
abbrev S1x1024 : Shape := ⟨2, ![1, 1024]⟩
abbrev S512x1024 : Shape := ⟨2, ![512, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x9216, .f32⟩
  | .hbm, ⟨2, _⟩ => ⟨S4096, .f32⟩
  | .hbm, ⟨3, _⟩ => ⟨S1x4096, .f32⟩
  | .hbm, ⟨4, _⟩ => ⟨S8192x4096, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceGatesIdeal.lean ====
abbrev S8192x2048 : Shape := ⟨2, ![8192, 2048]⟩
abbrev S2048x9216 : Shape := ⟨2, ![2048, 9216]⟩
abbrev S4096 : Shape := ⟨1, ![4096]⟩
abbrev S2048x4096 : Shape := ⟨2, ![2048, 4096]⟩
abbrev S8192x4096 : Shape := ⟨2, ![8192, 4096]⟩
abbrev S1x4096 : Shape := ⟨2, ![1, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x9216, .f32⟩
  | .hbm, ⟨2, _⟩ => ⟨S4096, .f32⟩
  | .hbm, ⟨3, _⟩ => ⟨S8192x2048, .f32⟩
  | .hbm, ⟨4, _⟩ => ⟨S2048x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelMerge.lean ====
abbrev S8192x1024 : Shape := ⟨2, ![8192, 1024]⟩
abbrev S8192x4096 : Shape := ⟨2, ![8192, 4096]⟩
abbrev S8192x2048 : Shape := ⟨2, ![8192, 2048]⟩
abbrev S1024x2048 : Shape := ⟨2, ![1024, 2048]⟩
abbrev S2048x2048 : Shape := ⟨2, ![2048, 2048]⟩
abbrev S256x1024 : Shape := ⟨2, ![256, 1024]⟩
abbrev S256x4096 : Shape := ⟨2, ![256, 4096]⟩
abbrev S256x2048 : Shape := ⟨2, ![256, 2048]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x4096, .bf16⟩
  | .hbm, ⟨3, _⟩ => ⟨S8192x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S1024x2048, .bf16⟩
  | .hbm, ⟨8, _⟩ => ⟨S1024x2048, .bf16⟩
  | .hbm, ⟨9, _⟩ => ⟨S2048x2048, .bf16⟩
  | .hbm, ⟨10, _⟩ => ⟨S8192x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x4096, .bf16⟩
  | .local _ .vmem, ⟨5, _⟩ => ⟨S256x4096, .bf16⟩
  | .local _ .vmem, ⟨6, _⟩ => ⟨S256x2048, .f32⟩
  | .local _ .vmem, ⟨7, _⟩ => ⟨S256x2048, .f32⟩
  | .local _ .vmem, ⟨8, _⟩ => ⟨S1024x2048, .bf16⟩
  | .local _ .vmem, ⟨9, _⟩ => ⟨S1024x2048, .bf16⟩
  | .local _ .vmem, ⟨10, _⟩ => ⟨S2048x2048, .bf16⟩
  | .local _ .vmem, ⟨11, _⟩ => ⟨S256x2048, .f32⟩
  | .local _ .vmem, ⟨12, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceMergeIdeal.lean ====
abbrev S8192x1024 : Shape := ⟨2, ![8192, 1024]⟩
abbrev S8192x4096 : Shape := ⟨2, ![8192, 4096]⟩
abbrev S8192x2048 : Shape := ⟨2, ![8192, 2048]⟩
abbrev S1024x2048 : Shape := ⟨2, ![1024, 2048]⟩
abbrev S2048x2048 : Shape := ⟨2, ![2048, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x4096, .bf16⟩
  | .hbm, ⟨3, _⟩ => ⟨S8192x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S8192x1024, .f32⟩
  | .hbm, ⟨8, _⟩ => ⟨S8192x1024, .f32⟩
  | .hbm, ⟨9, _⟩ => ⟨S8192x4096, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== KernelMoe.lean ====
abbrev S58 : Shape := ⟨1, ![58]⟩
abbrev S74240x2048 : Shape := ⟨2, ![74240, 2048]⟩
abbrev S32x2048x4096 : Shape := ⟨3, ![32, 2048, 4096]⟩
abbrev S32x1x4096 : Shape := ⟨3, ![32, 1, 4096]⟩
abbrev S32x2048x2048 : Shape := ⟨3, ![32, 2048, 2048]⟩
abbrev S32x1x2048 : Shape := ⟨3, ![32, 1, 2048]⟩
abbrev S1280x2048 : Shape := ⟨2, ![1280, 2048]⟩
abbrev S1 : Shape := ⟨1, ![1]⟩
abbrev S1x2048x512 : Shape := ⟨3, ![1, 2048, 512]⟩
abbrev S1x1x512 : Shape := ⟨3, ![1, 1, 512]⟩
abbrev S1x256x2048 : Shape := ⟨3, ![1, 256, 2048]⟩
abbrev S1x1x2048 : Shape := ⟨3, ![1, 1, 2048]⟩
abbrev S2048x512 : Shape := ⟨2, ![2048, 512]⟩
abbrev S256x2048 : Shape := ⟨2, ![256, 2048]⟩
abbrev S256x256 : Shape := ⟨2, ![256, 256]⟩
abbrev S1x2048 : Shape := ⟨2, ![1, 2048]⟩
abbrev S1x512 : Shape := ⟨2, ![1, 512]⟩
abbrev S256x512 : Shape := ⟨2, ![256, 512]⟩

abbrev nBuf : Space → Nat
  | .hbm => 6
  | .vmem => 14
  | .smem => 3
  | _ => 0

abbrev bufTy : (tb : Table) → Fin (tcTables nBuf tb) → BufTy
  | .hbm, ⟨0, _⟩ => ⟨S74240x2048, .bf16⟩
  | .hbm, ⟨1, _⟩ => ⟨S32x2048x4096, .f32⟩
  | .hbm, ⟨2, _⟩ => ⟨S32x1x4096, .f32⟩
  | .hbm, ⟨3, _⟩ => ⟨S32x2048x2048, .f32⟩
  | .hbm, ⟨4, _⟩ => ⟨S32x1x2048, .f32⟩
  | .hbm, ⟨5, _⟩ => ⟨S74240x2048, .f32⟩
  | .local _ .vmem, ⟨0, _⟩ => ⟨S1280x2048, .bf16⟩
  | .local _ .vmem, ⟨1, _⟩ => ⟨S1280x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x1x512, .f32⟩
  | .local _ .vmem, ⟨5, _⟩ => ⟨S1x1x512, .f32⟩
  | .local _ .vmem, ⟨6, _⟩ => ⟨S1x256x2048, .f32⟩
  | .local _ .vmem, ⟨7, _⟩ => ⟨S1x256x2048, .f32⟩
  | .local _ .vmem, ⟨8, _⟩ => ⟨S1x1x2048, .f32⟩
  | .local _ .vmem, ⟨9, _⟩ => ⟨S1x1x2048, .f32⟩
  | .local _ .vmem, ⟨10, _⟩ => ⟨S1280x2048, .f32⟩
  | .local _ .vmem, ⟨11, _⟩ => ⟨S1280x2048, .f32⟩
  | .local _ .vmem, ⟨12, _⟩ => ⟨S2048x512, .bf16⟩
  | .local _ .vmem, ⟨13, _⟩ => ⟨S256x2048, .bf16⟩
  | .local _ .smem, ⟨0, _⟩ => ⟨S58, .i32⟩
  | .local _ .smem, ⟨1, _⟩ => ⟨S58, .i32⟩
  | .local _ .smem, ⟨2, _⟩ => ⟨S58, .i32⟩
  | _, _ => ⟨S74240x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![58, 8], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c0_i32_27 : BitVec 32 := 0#32
  let c0_i32_20 : BitVec 32 := 0#32
  let v44 : BitVec 1 := Scalar.cmpi .sgt v1 c0_i32_20
  let v45 : BitVec 32 := Scalar.extui v44
  let c0_i32_21 : BitVec 32 := 0#32
  let v46 : BitVec 1 := Scalar.cmpi .slt v1 c0_i32_21
  let v47 : BitVec 32 := Scalar.extui v46
  let v48 : BitVec 32 := Scalar.subi v45 v47
  let c2_i32 : BitVec 32 := 2#32
  let c0_i32_22 : BitVec 32 := 0#32
  let v49 : BitVec 1 := Scalar.cmpi .sgt c2_i32 c0_i32_22
  let v50 : BitVec 32 := Scalar.extui v49
  let c0_i32_23 : BitVec 32 := 0#32
  let v51 : BitVec 1 := Scalar.cmpi .slt c2_i32 c0_i32_23
  let v52 : BitVec 32 := Scalar.extui v51
  let v53 : BitVec 32 := Scalar.subi v50 v52
  let v54 : BitVec 1 := Scalar.cmpi .ne v48 v53
  let v55 : BitVec 32 := Scalar.remsi v1 c2_i32
  let c0_i32_24 : BitVec 32 := 0#32
  let v56 : BitVec 1 := Scalar.cmpi .ne v55 c0_i32_24
  let v57 : BitVec 1 := Scalar.andi v54 v56
  let v43 : BitVec 32 := Scalar.divsi v1 c2_i32
  let c1_i32_25 : BitVec 32 := 1#32
  let v58 : BitVec 32 := Scalar.subi v43 c1_i32_25
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_29 : BitVec 32 := 1#32
  ⟨c0_i32_27, v64, c1_i32_29⟩
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_mult1 (v1 : BitVec 32) (k0_t1 : Fin (k0_t1_loop v1).trips) : BitVec 32 :=
  let c2_i32_39 : BitVec 32 := 2#32
  let c0_i32_27 : BitVec 32 := 0#32
  let c1_i32_29 : BitVec 32 := 1#32
  let arg13 : BitVec 32 := Scf.iv c0_i32_27 c1_i32_29 k0_t1
  let v78 : BitVec 32 := Scalar.muli c2_i32_39 arg13
  let c256_i32 : BitVec 32 := 256#32
  let v79 : BitVec 32 := Scalar.muli v78 c256_i32
  v79
def k0_off2 (v1 : BitVec 32) (k0_t1 : Fin (k0_t1_loop v1).trips) : Fin 2 → Nat :=
  let c2_i32_39 : BitVec 32 := 2#32
  let c0_i32_27 : BitVec 32 := 0#32
  let c1_i32_29 : BitVec 32 := 1#32
  let arg13 : BitVec 32 := Scf.iv c0_i32_27 c1_i32_29 k0_t1
  let v78 : BitVec 32 := Scalar.muli c2_i32_39 arg13
  let c256_i32 : BitVec 32 := 256#32
  let v79 : BitVec 32 := Scalar.muli v78 c256_i32
  let v80 : BitVec 32 := v79
  let v81 : Index := Scalar.indexCast v80
  let c0_40 : Index := 0#32
  ![v81.toNat, 0]
def k0_mult2 (v1 : BitVec 32) (k0_t1 : Fin (k0_t1_loop v1).trips) : BitVec 32 :=
  let c2_i32_44 : BitVec 32 := 2#32
  let c0_i32_27 : BitVec 32 := 0#32
  let c1_i32_29 : BitVec 32 := 1#32
  let arg13 : BitVec 32 := Scf.iv c0_i32_27 c1_i32_29 k0_t1
  let v87 : BitVec 32 := Scalar.muli c2_i32_44 arg13
  let c1_i32_45 : BitVec 32 := 1#32
  let v88 : BitVec 32 := Scalar.addi v87 c1_i32_45
  let c256_i32_46 : BitVec 32 := 256#32
  let v89 : BitVec 32 := Scalar.muli v88 c256_i32_46
  v89
def k0_off3 (v1 : BitVec 32) (k0_t1 : Fin (k0_t1_loop v1).trips) : Fin 2 → Nat :=
  let c2_i32_44 : BitVec 32 := 2#32
  let c0_i32_27 : BitVec 32 := 0#32
  let c1_i32_29 : BitVec 32 := 1#32
  let arg13 : BitVec 32 := Scf.iv c0_i32_27 c1_i32_29 k0_t1
  let v87 : BitVec 32 := Scalar.muli c2_i32_44 arg13
  let c1_i32_45 : BitVec 32 := 1#32
  let v88 : BitVec 32 := Scalar.addi v87 c1_i32_45
  let c256_i32_46 : BitVec 32 := 256#32
  let v89 : BitVec 32 := Scalar.muli v88 c256_i32_46
  let v90 : BitVec 32 := v89
  let v91 : Index := Scalar.indexCast v90
  let c0_47 : Index := 0#32
  ![v91.toNat, 0]
def k0_mult3 (v1 : BitVec 32) (k0_t1 : Fin (k0_t1_loop v1).trips) : BitVec 32 :=
  let c2_i32_74 : BitVec 32 := 2#32
  let c0_i32_27 : BitVec 32 := 0#32
  let c1_i32_29 : BitVec 32 := 1#32
  let arg13 : BitVec 32 := Scf.iv c0_i32_27 c1_i32_29 k0_t1
  let v161 : BitVec 32 := Scalar.muli c2_i32_74 arg13
  let c256_i32_75 : BitVec 32 := 256#32
  let v162 : BitVec 32 := Scalar.muli v161 c256_i32_75
  v162
def k0_off4 (v1 : BitVec 32) (k0_t1 : Fin (k0_t1_loop v1).trips) : Fin 2 → Nat :=
  let c2_i32_74 : BitVec 32 := 2#32
  let c0_i32_27 : BitVec 32 := 0#32
  let c1_i32_29 : BitVec 32 := 1#32
  let arg13 : BitVec 32 := Scf.iv c0_i32_27 c1_i32_29 k0_t1
  let v161 : BitVec 32 := Scalar.muli c2_i32_74 arg13
  let c256_i32_75 : BitVec 32 := 256#32
  let v162 : BitVec 32 := Scalar.muli v161 c256_i32_75
  let v163 : BitVec 32 := v162
  let v164 : Index := Scalar.indexCast v163
  let c0_76 : Index := 0#32
  ![v164.toNat, 0]
def k0_off5 (v1 : BitVec 32) (k0_t1 : Fin (k0_t1_loop v1).trips) : Fin 2 → Nat :=
  let c2_i32_74 : BitVec 32 := 2#32
  let c0_i32_27 : BitVec 32 := 0#32
  let c1_i32_29 : BitVec 32 := 1#32
  let arg13 : BitVec 32 := Scf.iv c0_i32_27 c1_i32_29 k0_t1
  let v161 : BitVec 32 := Scalar.muli c2_i32_74 arg13
  let c256_i32_75 : BitVec 32 := 256#32
  let v162 : BitVec 32 := Scalar.muli v161 c256_i32_75
  let v163 : BitVec 32 := v162
  let v172 : Index := Scalar.indexCast v163
  let c256 : Index := 256#32
  ![v172.toNat, 256]
def k0_off6 (v1 : BitVec 32) (k0_t1 : Fin (k0_t1_loop v1).trips) : Fin 2 → Nat :=
  let c2_i32_74 : BitVec 32 := 2#32
  let c0_i32_27 : BitVec 32 := 0#32
  let c1_i32_29 : BitVec 32 := 1#32
  let arg13 : BitVec 32 := Scf.iv c0_i32_27 c1_i32_29 k0_t1
  let v161 : BitVec 32 := Scalar.muli c2_i32_74 arg13
  let c256_i32_75 : BitVec 32 := 256#32
  let v162 : BitVec 32 := Scalar.muli v161 c256_i32_75
  let v163 : BitVec 32 := v162
  let v180 : Index := Scalar.indexCast v163
  let c512 : Index := 512#32
  ![v180.toNat, 512]
def k0_off7 (v1 : BitVec 32) (k0_t1 : Fin (k0_t1_loop v1).trips) : Fin 2 → Nat :=
  let c2_i32_74 : BitVec 32 := 2#32
  let c0_i32_27 : BitVec 32 := 0#32
  let c1_i32_29 : BitVec 32 := 1#32
  let arg13 : BitVec 32 := Scf.iv c0_i32_27 c1_i32_29 k0_t1
  let v161 : BitVec 32 := Scalar.muli c2_i32_74 arg13
  let c256_i32_75 : BitVec 32 := 256#32
  let v162 : BitVec 32 := Scalar.muli v161 c256_i32_75
  let v163 : BitVec 32 := v162
  let v188 : Index := Scalar.indexCast v163
  let c768 : Index := 768#32
  ![v188.toNat, 768]
def k0_off8 (v1 : BitVec 32) (k0_t1 : Fin (k0_t1_loop v1).trips) : Fin 2 → Nat :=
  let c2_i32_74 : BitVec 32 := 2#32
  let c0_i32_27 : BitVec 32 := 0#32
  let c1_i32_29 : BitVec 32 := 1#32
  let arg13 : BitVec 32 := Scf.iv c0_i32_27 c1_i32_29 k0_t1
  let v161 : BitVec 32 := Scalar.muli c2_i32_74 arg13
  let c256_i32_75 : BitVec 32 := 256#32
  let v162 : BitVec 32 := Scalar.muli v161 c256_i32_75
  let v163 : BitVec 32 := v162
  let v196 : Index := Scalar.indexCast v163
  let c1024 : Index := 1024#32
  ![v196.toNat, 1024]
def k0_off9 (v1 : BitVec 32) (k0_t1 : Fin (k0_t1_loop v1).trips) : Fin 2 → Nat :=
  let c2_i32_74 : BitVec 32 := 2#32
  let c0_i32_27 : BitVec 32 := 0#32
  let c1_i32_29 : BitVec 32 := 1#32
  let arg13 : BitVec 32 := Scf.iv c0_i32_27 c1_i32_29 k0_t1
  let v161 : BitVec 32 := Scalar.muli c2_i32_74 arg13
  let c256_i32_75 : BitVec 32 := 256#32
  let v162 : BitVec 32 := Scalar.muli v161 c256_i32_75
  let v163 : BitVec 32 := v162
  let v204 : Index := Scalar.indexCast v163
  let c1280 : Index := 1280#32
  ![v204.toNat, 1280]
def k0_off10 (v1 : BitVec 32) (k0_t1 : Fin (k0_t1_loop v1).trips) : Fin 2 → Nat :=
  let c2_i32_74 : BitVec 32 := 2#32
  let c0_i32_27 : BitVec 32 := 0#32
  let c1_i32_29 : BitVec 32 := 1#32
  let arg13 : BitVec 32 := Scf.iv c0_i32_27 c1_i32_29 k0_t1
  let v161 : BitVec 32 := Scalar.muli c2_i32_74 arg13
  let c256_i32_75 : BitVec 32 := 256#32
  let v162 : BitVec 32 := Scalar.muli v161 c256_i32_75
  let v163 : BitVec 32 := v162
  let v212 : Index := Scalar.indexCast v163
  let c1536 : Index := 1536#32
  ![v212.toNat, 1536]
def k0_off11 (v1 : BitVec 32) (k0_t1 : Fin (k0_t1_loop v1).trips) : Fin 2 → Nat :=
  let c2_i32_74 : BitVec 32 := 2#32
  let c0_i32_27 : BitVec 32 := 0#32
  let c1_i32_29 : BitVec 32 := 1#32
  let arg13 : BitVec 32 := Scf.iv c0_i32_27 c1_i32_29 k0_t1
  let v161 : BitVec 32 := Scalar.muli c2_i32_74 arg13
  let c256_i32_75 : BitVec 32 := 256#32
  let v162 : BitVec 32 := Scalar.muli v161 c256_i32_75
  let v163 : BitVec 32 := v162
  let v220 : Index := Scalar.indexCast v163
  let c1792 : Index := 1792#32
  ![v220.toNat, 1792]
def k0_mult4 (v1 : BitVec 32) (k0_t1 : Fin (k0_t1_loop v1).trips) : BitVec 32 :=
  let c2_i32_109 : BitVec 32 := 2#32
  let c0_i32_27 : BitVec 32 := 0#32
  let c1_i32_29 : BitVec 32 := 1#32
  let arg13 : BitVec 32 := Scf.iv c0_i32_27 c1_i32_29 k0_t1
  let v228 : BitVec 32 := Scalar.muli c2_i32_109 arg13
  let c1_i32_110 : BitVec 32 := 1#32
  let v229 : BitVec 32 := Scalar.addi v228 c1_i32_110
  let c256_i32_111 : BitVec 32 := 256#32
  let v230 : BitVec 32 := Scalar.muli v229 c256_i32_111
  v230
def k0_off12 (v1 : BitVec 32) (k0_t1 : Fin (k0_t1_loop v1).trips) : Fin 2 → Nat :=
  let c2_i32_109 : BitVec 32 := 2#32
  let c0_i32_27 : BitVec 32 := 0#32
  let c1_i32_29 : BitVec 32 := 1#32
  let arg13 : BitVec 32 := Scf.iv c0_i32_27 c1_i32_29 k0_t1
  let v228 : BitVec 32 := Scalar.muli c2_i32_109 arg13
  let c1_i32_110 : BitVec 32 := 1#32
  let v229 : BitVec 32 := Scalar.addi v228 c1_i32_110
  let c256_i32_111 : BitVec 32 := 256#32
  let v230 : BitVec 32 := Scalar.muli v229 c256_i32_111
  let v231 : BitVec 32 := v230
  let v232 : Index := Scalar.indexCast v231
  let c0_112 : Index := 0#32
  ![v232.toNat, 0]
def k0_off13 (v1 : BitVec 32) (k0_t1 : Fin (k0_t1_loop v1).trips) : Fin 2 → Nat :=
  let c2_i32_109 : BitVec 32 := 2#32
  let c0_i32_27 : BitVec 32 := 0#32
  let c1_i32_29 : BitVec 32 := 1#32
  let arg13 : BitVec 32 := Scf.iv c0_i32_27 c1_i32_29 k0_t1
  let v228 : BitVec 32 := Scalar.muli c2_i32_109 arg13
  let c1_i32_110 : BitVec 32 := 1#32
  let v229 : BitVec 32 := Scalar.addi v228 c1_i32_110
  let c256_i32_111 : BitVec 32 := 256#32
  let v230 : BitVec 32 := Scalar.muli v229 c256_i32_111
  let v231 : BitVec 32 := v230
  let v240 : Index := Scalar.indexCast v231
  let c256_117 : Index := 256#32
  ![v240.toNat, 256]
def k0_off14 (v1 : BitVec 32) (k0_t1 : Fin (k0_t1_loop v1).trips) : Fin 2 → Nat :=
  let c2_i32_109 : BitVec 32 := 2#32
  let c0_i32_27 : BitVec 32 := 0#32
  let c1_i32_29 : BitVec 32 := 1#32
  let arg13 : BitVec 32 := Scf.iv c0_i32_27 c1_i32_29 k0_t1
  let v228 : BitVec 32 := Scalar.muli c2_i32_109 arg13
  let c1_i32_110 : BitVec 32 := 1#32
  let v229 : BitVec 32 := Scalar.addi v228 c1_i32_110
  let c256_i32_111 : BitVec 32 := 256#32
  let v230 : BitVec 32 := Scalar.muli v229 c256_i32_111
  let v231 : BitVec 32 := v230
  let v248 : Index := Scalar.indexCast v231
  let c512_122 : Index := 512#32
  ![v248.toNat, 512]
def k0_off15 (v1 : BitVec 32) (k0_t1 : Fin (k0_t1_loop v1).trips) : Fin 2 → Nat :=
  let c2_i32_109 : BitVec 32 := 2#32
  let c0_i32_27 : BitVec 32 := 0#32
  let c1_i32_29 : BitVec 32 := 1#32
  let arg13 : BitVec 32 := Scf.iv c0_i32_27 c1_i32_29 k0_t1
  let v228 : BitVec 32 := Scalar.muli c2_i32_109 arg13
  let c1_i32_110 : BitVec 32 := 1#32
  let v229 : BitVec 32 := Scalar.addi v228 c1_i32_110
  let c256_i32_111 : BitVec 32 := 256#32
  let v230 : BitVec 32 := Scalar.muli v229 c256_i32_111
  let v231 : BitVec 32 := v230
  let v256 : Index := Scalar.indexCast v231
  let c768_127 : Index := 768#32
  ![v256.toNat, 768]
def k0_off16 (v1 : BitVec 32) (k0_t1 : Fin (k0_t1_loop v1).trips) : Fin 2 → Nat :=
  let c2_i32_109 : BitVec 32 := 2#32
  let c0_i32_27 : BitVec 32 := 0#32
  let c1_i32_29 : BitVec 32 := 1#32
  let arg13 : BitVec 32 := Scf.iv c0_i32_27 c1_i32_29 k0_t1
  let v228 : BitVec 32 := Scalar.muli c2_i32_109 arg13
  let c1_i32_110 : BitVec 32 := 1#32
  let v229 : BitVec 32 := Scalar.addi v228 c1_i32_110
  let c256_i32_111 : BitVec 32 := 256#32
  let v230 : BitVec 32 := Scalar.muli v229 c256_i32_111
  let v231 : BitVec 32 := v230
  let v264 : Index := Scalar.indexCast v231
  let c1024_132 : Index := 1024#32
  ![v264.toNat, 1024]
def k0_off17 (v1 : BitVec 32) (k0_t1 : Fin (k0_t1_loop v1).trips) : Fin 2 → Nat :=
  let c2_i32_109 : BitVec 32 := 2#32
  let c0_i32_27 : BitVec 32 := 0#32
  let c1_i32_29 : BitVec 32 := 1#32
  let arg13 : BitVec 32 := Scf.iv c0_i32_27 c1_i32_29 k0_t1
  let v228 : BitVec 32 := Scalar.muli c2_i32_109 arg13
  let c1_i32_110 : BitVec 32 := 1#32
  let v229 : BitVec 32 := Scalar.addi v228 c1_i32_110
  let c256_i32_111 : BitVec 32 := 256#32
  let v230 : BitVec 32 := Scalar.muli v229 c256_i32_111
  let v231 : BitVec 32 := v230
  let v272 : Index := Scalar.indexCast v231
  let c1280_137 : Index := 1280#32
  ![v272.toNat, 1280]
def k0_off18 (v1 : BitVec 32) (k0_t1 : Fin (k0_t1_loop v1).trips) : Fin 2 → Nat :=
  let c2_i32_109 : BitVec 32 := 2#32
  let c0_i32_27 : BitVec 32 := 0#32
  let c1_i32_29 : BitVec 32 := 1#32
  let arg13 : BitVec 32 := Scf.iv c0_i32_27 c1_i32_29 k0_t1
  let v228 : BitVec 32 := Scalar.muli c2_i32_109 arg13
  let c1_i32_110 : BitVec 32 := 1#32
  let v229 : BitVec 32 := Scalar.addi v228 c1_i32_110
  let c256_i32_111 : BitVec 32 := 256#32
  let v230 : BitVec 32 := Scalar.muli v229 c256_i32_111
  let v231 : BitVec 32 := v230
  let v280 : Index := Scalar.indexCast v231
  let c1536_142 : Index := 1536#32
  ![v280.toNat, 1536]
def k0_off19 (v1 : BitVec 32) (k0_t1 : Fin (k0_t1_loop v1).trips) : Fin 2 → Nat :=
  let c2_i32_109 : BitVec 32 := 2#32
  let c0_i32_27 : BitVec 32 := 0#32
  let c1_i32_29 : BitVec 32 := 1#32
  let arg13 : BitVec 32 := Scf.iv c0_i32_27 c1_i32_29 k0_t1
  let v228 : BitVec 32 := Scalar.muli c2_i32_109 arg13
  let c1_i32_110 : BitVec 32 := 1#32
  let v229 : BitVec 32 := Scalar.addi v228 c1_i32_110
  let c256_i32_111 : BitVec 32 := 256#32
  let v230 : BitVec 32 := Scalar.muli v229 c256_i32_111
  let v231 : BitVec 32 := v230
  let v288 : Index := Scalar.indexCast v231
  let c1792_147 : Index := 1792#32
  ![v288.toNat, 1792]
@[reducible] def k0_t2_loop (v1 : BitVec 32) : Scf.Loop 32 :=
  let c0_i32_27 : BitVec 32 := 0#32
  let c0_i32_20 : BitVec 32 := 0#32
  let v44 : BitVec 1 := Scalar.cmpi .sgt v1 c0_i32_20
  let v45 : BitVec 32 := Scalar.extui v44
  let c0_i32_21 : BitVec 32 := 0#32
  let v46 : BitVec 1 := Scalar.cmpi .slt v1 c0_i32_21
  let v47 : BitVec 32 := Scalar.extui v46
  let v48 : BitVec 32 := Scalar.subi v45 v47
  let c2_i32 : BitVec 32 := 2#32
  let c0_i32_22 : BitVec 32 := 0#32
  let v49 : BitVec 1 := Scalar.cmpi .sgt c2_i32 c0_i32_22
  let v50 : BitVec 32 := Scalar.extui v49
  let c0_i32_23 : BitVec 32 := 0#32
  let v51 : BitVec 1 := Scalar.cmpi .slt c2_i32 c0_i32_23
  let v52 : BitVec 32 := Scalar.extui v51
  let v53 : BitVec 32 := Scalar.subi v50 v52
  let v54 : BitVec 1 := Scalar.cmpi .ne v48 v53
  let v55 : BitVec 32 := Scalar.remsi v1 c2_i32
  let c0_i32_24 : BitVec 32 := 0#32
  let v56 : BitVec 1 := Scalar.cmpi .ne v55 c0_i32_24
  let v57 : BitVec 1 := Scalar.andi v54 v56
  let v43 : BitVec 32 := Scalar.divsi v1 c2_i32
  let c1_i32_25 : BitVec 32 := 1#32
  let v58 : BitVec 32 := Scalar.subi v43 c1_i32_25
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let v61 : BitVec 32 := Scalar.addi c0_i32_27 v60
  let c1_i32_30 : BitVec 32 := 1#32
  ⟨v64, v61, c1_i32_30⟩
def k0_mult5 (v1 : BitVec 32) (k0_t2 : Fin (k0_t2_loop v1).trips) : BitVec 32 :=
  let c2_i32_39 : BitVec 32 := 2#32
  let c0_i32_27 : BitVec 32 := 0#32
  let c0_i32_20 : BitVec 32 := 0#32
  let v44 : BitVec 1 := Scalar.cmpi .sgt v1 c0_i32_20
  let v45 : BitVec 32 := Scalar.extui v44
  let c0_i32_21 : BitVec 32 := 0#32
  let v46 : BitVec 1 := Scalar.cmpi .slt v1 c0_i32_21
  let v47 : BitVec 32 := Scalar.extui v46
  let v48 : BitVec 32 := Scalar.subi v45 v47
  let c2_i32 : BitVec 32 := 2#32
  let c0_i32_22 : BitVec 32 := 0#32
  let v49 : BitVec 1 := Scalar.cmpi .sgt c2_i32 c0_i32_22
  let v50 : BitVec 32 := Scalar.extui v49
  let c0_i32_23 : BitVec 32 := 0#32
  let v51 : BitVec 1 := Scalar.cmpi .slt c2_i32 c0_i32_23
  let v52 : BitVec 32 := Scalar.extui v51
  let v53 : BitVec 32 := Scalar.subi v50 v52
  let v54 : BitVec 1 := Scalar.cmpi .ne v48 v53
  let v55 : BitVec 32 := Scalar.remsi v1 c2_i32
  let c0_i32_24 : BitVec 32 := 0#32
  let v56 : BitVec 1 := Scalar.cmpi .ne v55 c0_i32_24
  let v57 : BitVec 1 := Scalar.andi v54 v56
  let v43 : BitVec 32 := Scalar.divsi v1 c2_i32
  let c1_i32_25 : BitVec 32 := 1#32
  let v58 : BitVec 32 := Scalar.subi v43 c1_i32_25
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_30 : BitVec 32 := 1#32
  let arg13 : BitVec 32 := Scf.iv v64 c1_i32_30 k0_t2
  let v78 : BitVec 32 := Scalar.muli c2_i32_39 arg13
  let c256_i32 : BitVec 32 := 256#32
  let v79 : BitVec 32 := Scalar.muli v78 c256_i32
  v79
def k0_off20 (v1 : BitVec 32) (k0_t2 : Fin (k0_t2_loop v1).trips) : Fin 2 → Nat :=
  let c2_i32_39 : BitVec 32 := 2#32
  let c0_i32_27 : BitVec 32 := 0#32
  let c0_i32_20 : BitVec 32 := 0#32
  let v44 : BitVec 1 := Scalar.cmpi .sgt v1 c0_i32_20
  let v45 : BitVec 32 := Scalar.extui v44
  let c0_i32_21 : BitVec 32 := 0#32
  let v46 : BitVec 1 := Scalar.cmpi .slt v1 c0_i32_21
  let v47 : BitVec 32 := Scalar.extui v46
  let v48 : BitVec 32 := Scalar.subi v45 v47
  let c2_i32 : BitVec 32 := 2#32
  let c0_i32_22 : BitVec 32 := 0#32
  let v49 : BitVec 1 := Scalar.cmpi .sgt c2_i32 c0_i32_22
  let v50 : BitVec 32 := Scalar.extui v49
  let c0_i32_23 : BitVec 32 := 0#32
  let v51 : BitVec 1 := Scalar.cmpi .slt c2_i32 c0_i32_23
  let v52 : BitVec 32 := Scalar.extui v51
  let v53 : BitVec 32 := Scalar.subi v50 v52
  let v54 : BitVec 1 := Scalar.cmpi .ne v48 v53
  let v55 : BitVec 32 := Scalar.remsi v1 c2_i32
  let c0_i32_24 : BitVec 32 := 0#32
  let v56 : BitVec 1 := Scalar.cmpi .ne v55 c0_i32_24
  let v57 : BitVec 1 := Scalar.andi v54 v56
  let v43 : BitVec 32 := Scalar.divsi v1 c2_i32
  let c1_i32_25 : BitVec 32 := 1#32
  let v58 : BitVec 32 := Scalar.subi v43 c1_i32_25
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_30 : BitVec 32 := 1#32
  let arg13 : BitVec 32 := Scf.iv v64 c1_i32_30 k0_t2
  let v78 : BitVec 32 := Scalar.muli c2_i32_39 arg13
  let c256_i32 : BitVec 32 := 256#32
  let v79 : BitVec 32 := Scalar.muli v78 c256_i32
  let v80 : BitVec 32 := v79
  let v81 : Index := Scalar.indexCast v80
  let c0_40 : Index := 0#32
  ![v81.toNat, 0]
def k0_mult6 (v1 : BitVec 32) (k0_t2 : Fin (k0_t2_loop v1).trips) : BitVec 32 :=
  let c2_i32_44 : BitVec 32 := 2#32
  let c0_i32_27 : BitVec 32 := 0#32
  let c0_i32_20 : BitVec 32 := 0#32
  let v44 : BitVec 1 := Scalar.cmpi .sgt v1 c0_i32_20
  let v45 : BitVec 32 := Scalar.extui v44
  let c0_i32_21 : BitVec 32 := 0#32
  let v46 : BitVec 1 := Scalar.cmpi .slt v1 c0_i32_21
  let v47 : BitVec 32 := Scalar.extui v46
  let v48 : BitVec 32 := Scalar.subi v45 v47
  let c2_i32 : BitVec 32 := 2#32
  let c0_i32_22 : BitVec 32 := 0#32
  let v49 : BitVec 1 := Scalar.cmpi .sgt c2_i32 c0_i32_22
  let v50 : BitVec 32 := Scalar.extui v49
  let c0_i32_23 : BitVec 32 := 0#32
  let v51 : BitVec 1 := Scalar.cmpi .slt c2_i32 c0_i32_23
  let v52 : BitVec 32 := Scalar.extui v51
  let v53 : BitVec 32 := Scalar.subi v50 v52
  let v54 : BitVec 1 := Scalar.cmpi .ne v48 v53
  let v55 : BitVec 32 := Scalar.remsi v1 c2_i32
  let c0_i32_24 : BitVec 32 := 0#32
  let v56 : BitVec 1 := Scalar.cmpi .ne v55 c0_i32_24
  let v57 : BitVec 1 := Scalar.andi v54 v56
  let v43 : BitVec 32 := Scalar.divsi v1 c2_i32
  let c1_i32_25 : BitVec 32 := 1#32
  let v58 : BitVec 32 := Scalar.subi v43 c1_i32_25
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_30 : BitVec 32 := 1#32
  let arg13 : BitVec 32 := Scf.iv v64 c1_i32_30 k0_t2
  let v87 : BitVec 32 := Scalar.muli c2_i32_44 arg13
  let c1_i32_45 : BitVec 32 := 1#32
  let v88 : BitVec 32 := Scalar.addi v87 c1_i32_45
  let c256_i32_46 : BitVec 32 := 256#32
  let v89 : BitVec 32 := Scalar.muli v88 c256_i32_46
  v89
def k0_off21 (v1 : BitVec 32) (k0_t2 : Fin (k0_t2_loop v1).trips) : Fin 2 → Nat :=
  let c2_i32_44 : BitVec 32 := 2#32
  let c0_i32_27 : BitVec 32 := 0#32
  let c0_i32_20 : BitVec 32 := 0#32
  let v44 : BitVec 1 := Scalar.cmpi .sgt v1 c0_i32_20
  let v45 : BitVec 32 := Scalar.extui v44
  let c0_i32_21 : BitVec 32 := 0#32
  let v46 : BitVec 1 := Scalar.cmpi .slt v1 c0_i32_21
  let v47 : BitVec 32 := Scalar.extui v46
  let v48 : BitVec 32 := Scalar.subi v45 v47
  let c2_i32 : BitVec 32 := 2#32
  let c0_i32_22 : BitVec 32 := 0#32
  let v49 : BitVec 1 := Scalar.cmpi .sgt c2_i32 c0_i32_22
  let v50 : BitVec 32 := Scalar.extui v49
  let c0_i32_23 : BitVec 32 := 0#32
  let v51 : BitVec 1 := Scalar.cmpi .slt c2_i32 c0_i32_23
  let v52 : BitVec 32 := Scalar.extui v51
  let v53 : BitVec 32 := Scalar.subi v50 v52
  let v54 : BitVec 1 := Scalar.cmpi .ne v48 v53
  let v55 : BitVec 32 := Scalar.remsi v1 c2_i32
  let c0_i32_24 : BitVec 32 := 0#32
  let v56 : BitVec 1 := Scalar.cmpi .ne v55 c0_i32_24
  let v57 : BitVec 1 := Scalar.andi v54 v56
  let v43 : BitVec 32 := Scalar.divsi v1 c2_i32
  let c1_i32_25 : BitVec 32 := 1#32
  let v58 : BitVec 32 := Scalar.subi v43 c1_i32_25
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_30 : BitVec 32 := 1#32
  let arg13 : BitVec 32 := Scf.iv v64 c1_i32_30 k0_t2
  let v87 : BitVec 32 := Scalar.muli c2_i32_44 arg13
  let c1_i32_45 : BitVec 32 := 1#32
  let v88 : BitVec 32 := Scalar.addi v87 c1_i32_45
  let c256_i32_46 : BitVec 32 := 256#32
  let v89 : BitVec 32 := Scalar.muli v88 c256_i32_46
  let v90 : BitVec 32 := v89
  let v91 : Index := Scalar.indexCast v90
  let c0_47 : Index := 0#32
  ![v91.toNat, 0]
def k0_mult7 (v1 : BitVec 32) (k0_t2 : Fin (k0_t2_loop v1).trips) : BitVec 32 :=
  let c2_i32_74 : BitVec 32 := 2#32
  let c0_i32_27 : BitVec 32 := 0#32
  let c0_i32_20 : BitVec 32 := 0#32
  let v44 : BitVec 1 := Scalar.cmpi .sgt v1 c0_i32_20
  let v45 : BitVec 32 := Scalar.extui v44
  let c0_i32_21 : BitVec 32 := 0#32
  let v46 : BitVec 1 := Scalar.cmpi .slt v1 c0_i32_21
  let v47 : BitVec 32 := Scalar.extui v46
  let v48 : BitVec 32 := Scalar.subi v45 v47
  let c2_i32 : BitVec 32 := 2#32
  let c0_i32_22 : BitVec 32 := 0#32
  let v49 : BitVec 1 := Scalar.cmpi .sgt c2_i32 c0_i32_22
  let v50 : BitVec 32 := Scalar.extui v49
  let c0_i32_23 : BitVec 32 := 0#32
  let v51 : BitVec 1 := Scalar.cmpi .slt c2_i32 c0_i32_23
  let v52 : BitVec 32 := Scalar.extui v51
  let v53 : BitVec 32 := Scalar.subi v50 v52
  let v54 : BitVec 1 := Scalar.cmpi .ne v48 v53
  let v55 : BitVec 32 := Scalar.remsi v1 c2_i32
  let c0_i32_24 : BitVec 32 := 0#32
  let v56 : BitVec 1 := Scalar.cmpi .ne v55 c0_i32_24
  let v57 : BitVec 1 := Scalar.andi v54 v56
  let v43 : BitVec 32 := Scalar.divsi v1 c2_i32
  let c1_i32_25 : BitVec 32 := 1#32
  let v58 : BitVec 32 := Scalar.subi v43 c1_i32_25
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_30 : BitVec 32 := 1#32
  let arg13 : BitVec 32 := Scf.iv v64 c1_i32_30 k0_t2
  let v161 : BitVec 32 := Scalar.muli c2_i32_74 arg13
  let c256_i32_75 : BitVec 32 := 256#32
  let v162 : BitVec 32 := Scalar.muli v161 c256_i32_75
  v162
def k0_off22 (v1 : BitVec 32) (k0_t2 : Fin (k0_t2_loop v1).trips) : Fin 2 → Nat :=
  let c2_i32_74 : BitVec 32 := 2#32
  let c0_i32_27 : BitVec 32 := 0#32
  let c0_i32_20 : BitVec 32 := 0#32
  let v44 : BitVec 1 := Scalar.cmpi .sgt v1 c0_i32_20
  let v45 : BitVec 32 := Scalar.extui v44
  let c0_i32_21 : BitVec 32 := 0#32
  let v46 : BitVec 1 := Scalar.cmpi .slt v1 c0_i32_21
  let v47 : BitVec 32 := Scalar.extui v46
  let v48 : BitVec 32 := Scalar.subi v45 v47
  let c2_i32 : BitVec 32 := 2#32
  let c0_i32_22 : BitVec 32 := 0#32
  let v49 : BitVec 1 := Scalar.cmpi .sgt c2_i32 c0_i32_22
  let v50 : BitVec 32 := Scalar.extui v49
  let c0_i32_23 : BitVec 32 := 0#32
  let v51 : BitVec 1 := Scalar.cmpi .slt c2_i32 c0_i32_23
  let v52 : BitVec 32 := Scalar.extui v51
  let v53 : BitVec 32 := Scalar.subi v50 v52
  let v54 : BitVec 1 := Scalar.cmpi .ne v48 v53
  let v55 : BitVec 32 := Scalar.remsi v1 c2_i32
  let c0_i32_24 : BitVec 32 := 0#32
  let v56 : BitVec 1 := Scalar.cmpi .ne v55 c0_i32_24
  let v57 : BitVec 1 := Scalar.andi v54 v56
  let v43 : BitVec 32 := Scalar.divsi v1 c2_i32
  let c1_i32_25 : BitVec 32 := 1#32
  let v58 : BitVec 32 := Scalar.subi v43 c1_i32_25
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_30 : BitVec 32 := 1#32
  let arg13 : BitVec 32 := Scf.iv v64 c1_i32_30 k0_t2
  let v161 : BitVec 32 := Scalar.muli c2_i32_74 arg13
  let c256_i32_75 : BitVec 32 := 256#32
  let v162 : BitVec 32 := Scalar.muli v161 c256_i32_75
  let v163 : BitVec 32 := v162
  let v164 : Index := Scalar.indexCast v163
  let c0_76 : Index := 0#32
  ![v164.toNat, 0]
def k0_off23 (v1 : BitVec 32) (k0_t2 : Fin (k0_t2_loop v1).trips) : Fin 2 → Nat :=
  let c2_i32_74 : BitVec 32 := 2#32
  let c0_i32_27 : BitVec 32 := 0#32
  let c0_i32_20 : BitVec 32 := 0#32
  let v44 : BitVec 1 := Scalar.cmpi .sgt v1 c0_i32_20
  let v45 : BitVec 32 := Scalar.extui v44
  let c0_i32_21 : BitVec 32 := 0#32
  let v46 : BitVec 1 := Scalar.cmpi .slt v1 c0_i32_21
  let v47 : BitVec 32 := Scalar.extui v46
  let v48 : BitVec 32 := Scalar.subi v45 v47
  let c2_i32 : BitVec 32 := 2#32
  let c0_i32_22 : BitVec 32 := 0#32
  let v49 : BitVec 1 := Scalar.cmpi .sgt c2_i32 c0_i32_22
  let v50 : BitVec 32 := Scalar.extui v49
  let c0_i32_23 : BitVec 32 := 0#32
  let v51 : BitVec 1 := Scalar.cmpi .slt c2_i32 c0_i32_23
  let v52 : BitVec 32 := Scalar.extui v51
  let v53 : BitVec 32 := Scalar.subi v50 v52
  let v54 : BitVec 1 := Scalar.cmpi .ne v48 v53
  let v55 : BitVec 32 := Scalar.remsi v1 c2_i32
  let c0_i32_24 : BitVec 32 := 0#32
  let v56 : BitVec 1 := Scalar.cmpi .ne v55 c0_i32_24
  let v57 : BitVec 1 := Scalar.andi v54 v56
  let v43 : BitVec 32 := Scalar.divsi v1 c2_i32
  let c1_i32_25 : BitVec 32 := 1#32
  let v58 : BitVec 32 := Scalar.subi v43 c1_i32_25
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_30 : BitVec 32 := 1#32
  let arg13 : BitVec 32 := Scf.iv v64 c1_i32_30 k0_t2
  let v161 : BitVec 32 := Scalar.muli c2_i32_74 arg13
  let c256_i32_75 : BitVec 32 := 256#32
  let v162 : BitVec 32 := Scalar.muli v161 c256_i32_75
  let v163 : BitVec 32 := v162
  let v172 : Index := Scalar.indexCast v163
  let c256 : Index := 256#32
  ![v172.toNat, 256]
def k0_off24 (v1 : BitVec 32) (k0_t2 : Fin (k0_t2_loop v1).trips) : Fin 2 → Nat :=
  let c2_i32_74 : BitVec 32 := 2#32
  let c0_i32_27 : BitVec 32 := 0#32
  let c0_i32_20 : BitVec 32 := 0#32
  let v44 : BitVec 1 := Scalar.cmpi .sgt v1 c0_i32_20
  let v45 : BitVec 32 := Scalar.extui v44
  let c0_i32_21 : BitVec 32 := 0#32
  let v46 : BitVec 1 := Scalar.cmpi .slt v1 c0_i32_21
  let v47 : BitVec 32 := Scalar.extui v46
  let v48 : BitVec 32 := Scalar.subi v45 v47
  let c2_i32 : BitVec 32 := 2#32
  let c0_i32_22 : BitVec 32 := 0#32
  let v49 : BitVec 1 := Scalar.cmpi .sgt c2_i32 c0_i32_22
  let v50 : BitVec 32 := Scalar.extui v49
  let c0_i32_23 : BitVec 32 := 0#32
  let v51 : BitVec 1 := Scalar.cmpi .slt c2_i32 c0_i32_23
  let v52 : BitVec 32 := Scalar.extui v51
  let v53 : BitVec 32 := Scalar.subi v50 v52
  let v54 : BitVec 1 := Scalar.cmpi .ne v48 v53
  let v55 : BitVec 32 := Scalar.remsi v1 c2_i32
  let c0_i32_24 : BitVec 32 := 0#32
  let v56 : BitVec 1 := Scalar.cmpi .ne v55 c0_i32_24
  let v57 : BitVec 1 := Scalar.andi v54 v56
  let v43 : BitVec 32 := Scalar.divsi v1 c2_i32
  let c1_i32_25 : BitVec 32 := 1#32
  let v58 : BitVec 32 := Scalar.subi v43 c1_i32_25
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_30 : BitVec 32 := 1#32
  let arg13 : BitVec 32 := Scf.iv v64 c1_i32_30 k0_t2
  let v161 : BitVec 32 := Scalar.muli c2_i32_74 arg13
  let c256_i32_75 : BitVec 32 := 256#32
  let v162 : BitVec 32 := Scalar.muli v161 c256_i32_75
  let v163 : BitVec 32 := v162
  let v180 : Index := Scalar.indexCast v163
  let c512 : Index := 512#32
  ![v180.toNat, 512]
def k0_off25 (v1 : BitVec 32) (k0_t2 : Fin (k0_t2_loop v1).trips) : Fin 2 → Nat :=
  let c2_i32_74 : BitVec 32 := 2#32
  let c0_i32_27 : BitVec 32 := 0#32
  let c0_i32_20 : BitVec 32 := 0#32
  let v44 : BitVec 1 := Scalar.cmpi .sgt v1 c0_i32_20
  let v45 : BitVec 32 := Scalar.extui v44
  let c0_i32_21 : BitVec 32 := 0#32
  let v46 : BitVec 1 := Scalar.cmpi .slt v1 c0_i32_21
  let v47 : BitVec 32 := Scalar.extui v46
  let v48 : BitVec 32 := Scalar.subi v45 v47
  let c2_i32 : BitVec 32 := 2#32
  let c0_i32_22 : BitVec 32 := 0#32
  let v49 : BitVec 1 := Scalar.cmpi .sgt c2_i32 c0_i32_22
  let v50 : BitVec 32 := Scalar.extui v49
  let c0_i32_23 : BitVec 32 := 0#32
  let v51 : BitVec 1 := Scalar.cmpi .slt c2_i32 c0_i32_23
  let v52 : BitVec 32 := Scalar.extui v51
  let v53 : BitVec 32 := Scalar.subi v50 v52
  let v54 : BitVec 1 := Scalar.cmpi .ne v48 v53
  let v55 : BitVec 32 := Scalar.remsi v1 c2_i32
  let c0_i32_24 : BitVec 32 := 0#32
  let v56 : BitVec 1 := Scalar.cmpi .ne v55 c0_i32_24
  let v57 : BitVec 1 := Scalar.andi v54 v56
  let v43 : BitVec 32 := Scalar.divsi v1 c2_i32
  let c1_i32_25 : BitVec 32 := 1#32
  let v58 : BitVec 32 := Scalar.subi v43 c1_i32_25
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_30 : BitVec 32 := 1#32
  let arg13 : BitVec 32 := Scf.iv v64 c1_i32_30 k0_t2
  let v161 : BitVec 32 := Scalar.muli c2_i32_74 arg13
  let c256_i32_75 : BitVec 32 := 256#32
  let v162 : BitVec 32 := Scalar.muli v161 c256_i32_75
  let v163 : BitVec 32 := v162
  let v188 : Index := Scalar.indexCast v163
  let c768 : Index := 768#32
  ![v188.toNat, 768]
def k0_off26 (v1 : BitVec 32) (k0_t2 : Fin (k0_t2_loop v1).trips) : Fin 2 → Nat :=
  let c2_i32_74 : BitVec 32 := 2#32
  let c0_i32_27 : BitVec 32 := 0#32
  let c0_i32_20 : BitVec 32 := 0#32
  let v44 : BitVec 1 := Scalar.cmpi .sgt v1 c0_i32_20
  let v45 : BitVec 32 := Scalar.extui v44
  let c0_i32_21 : BitVec 32 := 0#32
  let v46 : BitVec 1 := Scalar.cmpi .slt v1 c0_i32_21
  let v47 : BitVec 32 := Scalar.extui v46
  let v48 : BitVec 32 := Scalar.subi v45 v47
  let c2_i32 : BitVec 32 := 2#32
  let c0_i32_22 : BitVec 32 := 0#32
  let v49 : BitVec 1 := Scalar.cmpi .sgt c2_i32 c0_i32_22
  let v50 : BitVec 32 := Scalar.extui v49
  let c0_i32_23 : BitVec 32 := 0#32
  let v51 : BitVec 1 := Scalar.cmpi .slt c2_i32 c0_i32_23
  let v52 : BitVec 32 := Scalar.extui v51
  let v53 : BitVec 32 := Scalar.subi v50 v52
  let v54 : BitVec 1 := Scalar.cmpi .ne v48 v53
  let v55 : BitVec 32 := Scalar.remsi v1 c2_i32
  let c0_i32_24 : BitVec 32 := 0#32
  let v56 : BitVec 1 := Scalar.cmpi .ne v55 c0_i32_24
  let v57 : BitVec 1 := Scalar.andi v54 v56
  let v43 : BitVec 32 := Scalar.divsi v1 c2_i32
  let c1_i32_25 : BitVec 32 := 1#32
  let v58 : BitVec 32 := Scalar.subi v43 c1_i32_25
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_30 : BitVec 32 := 1#32
  let arg13 : BitVec 32 := Scf.iv v64 c1_i32_30 k0_t2
  let v161 : BitVec 32 := Scalar.muli c2_i32_74 arg13
  let c256_i32_75 : BitVec 32 := 256#32
  let v162 : BitVec 32 := Scalar.muli v161 c256_i32_75
  let v163 : BitVec 32 := v162
  let v196 : Index := Scalar.indexCast v163
  let c1024 : Index := 1024#32
  ![v196.toNat, 1024]
def k0_off27 (v1 : BitVec 32) (k0_t2 : Fin (k0_t2_loop v1).trips) : Fin 2 → Nat :=
  let c2_i32_74 : BitVec 32 := 2#32
  let c0_i32_27 : BitVec 32 := 0#32
  let c0_i32_20 : BitVec 32 := 0#32
  let v44 : BitVec 1 := Scalar.cmpi .sgt v1 c0_i32_20
  let v45 : BitVec 32 := Scalar.extui v44
  let c0_i32_21 : BitVec 32 := 0#32
  let v46 : BitVec 1 := Scalar.cmpi .slt v1 c0_i32_21
  let v47 : BitVec 32 := Scalar.extui v46
  let v48 : BitVec 32 := Scalar.subi v45 v47
  let c2_i32 : BitVec 32 := 2#32
  let c0_i32_22 : BitVec 32 := 0#32
  let v49 : BitVec 1 := Scalar.cmpi .sgt c2_i32 c0_i32_22
  let v50 : BitVec 32 := Scalar.extui v49
  let c0_i32_23 : BitVec 32 := 0#32
  let v51 : BitVec 1 := Scalar.cmpi .slt c2_i32 c0_i32_23
  let v52 : BitVec 32 := Scalar.extui v51
  let v53 : BitVec 32 := Scalar.subi v50 v52
  let v54 : BitVec 1 := Scalar.cmpi .ne v48 v53
  let v55 : BitVec 32 := Scalar.remsi v1 c2_i32
  let c0_i32_24 : BitVec 32 := 0#32
  let v56 : BitVec 1 := Scalar.cmpi .ne v55 c0_i32_24
  let v57 : BitVec 1 := Scalar.andi v54 v56
  let v43 : BitVec 32 := Scalar.divsi v1 c2_i32
  let c1_i32_25 : BitVec 32 := 1#32
  let v58 : BitVec 32 := Scalar.subi v43 c1_i32_25
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_30 : BitVec 32 := 1#32
  let arg13 : BitVec 32 := Scf.iv v64 c1_i32_30 k0_t2
  let v161 : BitVec 32 := Scalar.muli c2_i32_74 arg13
  let c256_i32_75 : BitVec 32 := 256#32
  let v162 : BitVec 32 := Scalar.muli v161 c256_i32_75
  let v163 : BitVec 32 := v162
  let v204 : Index := Scalar.indexCast v163
  let c1280 : Index := 1280#32
  ![v204.toNat, 1280]
def k0_off28 (v1 : BitVec 32) (k0_t2 : Fin (k0_t2_loop v1).trips) : Fin 2 → Nat :=
  let c2_i32_74 : BitVec 32 := 2#32
  let c0_i32_27 : BitVec 32 := 0#32
  let c0_i32_20 : BitVec 32 := 0#32
  let v44 : BitVec 1 := Scalar.cmpi .sgt v1 c0_i32_20
  let v45 : BitVec 32 := Scalar.extui v44
  let c0_i32_21 : BitVec 32 := 0#32
  let v46 : BitVec 1 := Scalar.cmpi .slt v1 c0_i32_21
  let v47 : BitVec 32 := Scalar.extui v46
  let v48 : BitVec 32 := Scalar.subi v45 v47
  let c2_i32 : BitVec 32 := 2#32
  let c0_i32_22 : BitVec 32 := 0#32
  let v49 : BitVec 1 := Scalar.cmpi .sgt c2_i32 c0_i32_22
  let v50 : BitVec 32 := Scalar.extui v49
  let c0_i32_23 : BitVec 32 := 0#32
  let v51 : BitVec 1 := Scalar.cmpi .slt c2_i32 c0_i32_23
  let v52 : BitVec 32 := Scalar.extui v51
  let v53 : BitVec 32 := Scalar.subi v50 v52
  let v54 : BitVec 1 := Scalar.cmpi .ne v48 v53
  let v55 : BitVec 32 := Scalar.remsi v1 c2_i32
  let c0_i32_24 : BitVec 32 := 0#32
  let v56 : BitVec 1 := Scalar.cmpi .ne v55 c0_i32_24
  let v57 : BitVec 1 := Scalar.andi v54 v56
  let v43 : BitVec 32 := Scalar.divsi v1 c2_i32
  let c1_i32_25 : BitVec 32 := 1#32
  let v58 : BitVec 32 := Scalar.subi v43 c1_i32_25
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_30 : BitVec 32 := 1#32
  let arg13 : BitVec 32 := Scf.iv v64 c1_i32_30 k0_t2
  let v161 : BitVec 32 := Scalar.muli c2_i32_74 arg13
  let c256_i32_75 : BitVec 32 := 256#32
  let v162 : BitVec 32 := Scalar.muli v161 c256_i32_75
  let v163 : BitVec 32 := v162
  let v212 : Index := Scalar.indexCast v163
  let c1536 : Index := 1536#32
  ![v212.toNat, 1536]
def k0_off29 (v1 : BitVec 32) (k0_t2 : Fin (k0_t2_loop v1).trips) : Fin 2 → Nat :=
  let c2_i32_74 : BitVec 32 := 2#32
  let c0_i32_27 : BitVec 32 := 0#32
  let c0_i32_20 : BitVec 32 := 0#32
  let v44 : BitVec 1 := Scalar.cmpi .sgt v1 c0_i32_20
  let v45 : BitVec 32 := Scalar.extui v44
  let c0_i32_21 : BitVec 32 := 0#32
  let v46 : BitVec 1 := Scalar.cmpi .slt v1 c0_i32_21
  let v47 : BitVec 32 := Scalar.extui v46
  let v48 : BitVec 32 := Scalar.subi v45 v47
  let c2_i32 : BitVec 32 := 2#32
  let c0_i32_22 : BitVec 32 := 0#32
  let v49 : BitVec 1 := Scalar.cmpi .sgt c2_i32 c0_i32_22
  let v50 : BitVec 32 := Scalar.extui v49
  let c0_i32_23 : BitVec 32 := 0#32
  let v51 : BitVec 1 := Scalar.cmpi .slt c2_i32 c0_i32_23
  let v52 : BitVec 32 := Scalar.extui v51
  let v53 : BitVec 32 := Scalar.subi v50 v52
  let v54 : BitVec 1 := Scalar.cmpi .ne v48 v53
  let v55 : BitVec 32 := Scalar.remsi v1 c2_i32
  let c0_i32_24 : BitVec 32 := 0#32
  let v56 : BitVec 1 := Scalar.cmpi .ne v55 c0_i32_24
  let v57 : BitVec 1 := Scalar.andi v54 v56
  let v43 : BitVec 32 := Scalar.divsi v1 c2_i32
  let c1_i32_25 : BitVec 32 := 1#32
  let v58 : BitVec 32 := Scalar.subi v43 c1_i32_25
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_30 : BitVec 32 := 1#32
  let arg13 : BitVec 32 := Scf.iv v64 c1_i32_30 k0_t2
  let v161 : BitVec 32 := Scalar.muli c2_i32_74 arg13
  let c256_i32_75 : BitVec 32 := 256#32
  let v162 : BitVec 32 := Scalar.muli v161 c256_i32_75
  let v163 : BitVec 32 := v162
  let v220 : Index := Scalar.indexCast v163
  let c1792 : Index := 1792#32
  ![v220.toNat, 1792]
def k0_mult8 (v1 : BitVec 32) (k0_t2 : Fin (k0_t2_loop v1).trips) : BitVec 32 :=
  let c2_i32_109 : BitVec 32 := 2#32
  let c0_i32_27 : BitVec 32 := 0#32
  let c0_i32_20 : BitVec 32 := 0#32
  let v44 : BitVec 1 := Scalar.cmpi .sgt v1 c0_i32_20
  let v45 : BitVec 32 := Scalar.extui v44
  let c0_i32_21 : BitVec 32 := 0#32
  let v46 : BitVec 1 := Scalar.cmpi .slt v1 c0_i32_21
  let v47 : BitVec 32 := Scalar.extui v46
  let v48 : BitVec 32 := Scalar.subi v45 v47
  let c2_i32 : BitVec 32 := 2#32
  let c0_i32_22 : BitVec 32 := 0#32
  let v49 : BitVec 1 := Scalar.cmpi .sgt c2_i32 c0_i32_22
  let v50 : BitVec 32 := Scalar.extui v49
  let c0_i32_23 : BitVec 32 := 0#32
  let v51 : BitVec 1 := Scalar.cmpi .slt c2_i32 c0_i32_23
  let v52 : BitVec 32 := Scalar.extui v51
  let v53 : BitVec 32 := Scalar.subi v50 v52
  let v54 : BitVec 1 := Scalar.cmpi .ne v48 v53
  let v55 : BitVec 32 := Scalar.remsi v1 c2_i32
  let c0_i32_24 : BitVec 32 := 0#32
  let v56 : BitVec 1 := Scalar.cmpi .ne v55 c0_i32_24
  let v57 : BitVec 1 := Scalar.andi v54 v56
  let v43 : BitVec 32 := Scalar.divsi v1 c2_i32
  let c1_i32_25 : BitVec 32 := 1#32
  let v58 : BitVec 32 := Scalar.subi v43 c1_i32_25
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_30 : BitVec 32 := 1#32
  let arg13 : BitVec 32 := Scf.iv v64 c1_i32_30 k0_t2
  let v228 : BitVec 32 := Scalar.muli c2_i32_109 arg13
  let c1_i32_110 : BitVec 32 := 1#32
  let v229 : BitVec 32 := Scalar.addi v228 c1_i32_110
  let c256_i32_111 : BitVec 32 := 256#32
  let v230 : BitVec 32 := Scalar.muli v229 c256_i32_111
  v230
def k0_off30 (v1 : BitVec 32) (k0_t2 : Fin (k0_t2_loop v1).trips) : Fin 2 → Nat :=
  let c2_i32_109 : BitVec 32 := 2#32
  let c0_i32_27 : BitVec 32 := 0#32
  let c0_i32_20 : BitVec 32 := 0#32
  let v44 : BitVec 1 := Scalar.cmpi .sgt v1 c0_i32_20
  let v45 : BitVec 32 := Scalar.extui v44
  let c0_i32_21 : BitVec 32 := 0#32
  let v46 : BitVec 1 := Scalar.cmpi .slt v1 c0_i32_21
  let v47 : BitVec 32 := Scalar.extui v46
  let v48 : BitVec 32 := Scalar.subi v45 v47
  let c2_i32 : BitVec 32 := 2#32
  let c0_i32_22 : BitVec 32 := 0#32
  let v49 : BitVec 1 := Scalar.cmpi .sgt c2_i32 c0_i32_22
  let v50 : BitVec 32 := Scalar.extui v49
  let c0_i32_23 : BitVec 32 := 0#32
  let v51 : BitVec 1 := Scalar.cmpi .slt c2_i32 c0_i32_23
  let v52 : BitVec 32 := Scalar.extui v51
  let v53 : BitVec 32 := Scalar.subi v50 v52
  let v54 : BitVec 1 := Scalar.cmpi .ne v48 v53
  let v55 : BitVec 32 := Scalar.remsi v1 c2_i32
  let c0_i32_24 : BitVec 32 := 0#32
  let v56 : BitVec 1 := Scalar.cmpi .ne v55 c0_i32_24
  let v57 : BitVec 1 := Scalar.andi v54 v56
  let v43 : BitVec 32 := Scalar.divsi v1 c2_i32
  let c1_i32_25 : BitVec 32 := 1#32
  let v58 : BitVec 32 := Scalar.subi v43 c1_i32_25
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_30 : BitVec 32 := 1#32
  let arg13 : BitVec 32 := Scf.iv v64 c1_i32_30 k0_t2
  let v228 : BitVec 32 := Scalar.muli c2_i32_109 arg13
  let c1_i32_110 : BitVec 32 := 1#32
  let v229 : BitVec 32 := Scalar.addi v228 c1_i32_110
  let c256_i32_111 : BitVec 32 := 256#32
  let v230 : BitVec 32 := Scalar.muli v229 c256_i32_111
  let v231 : BitVec 32 := v230
  let v232 : Index := Scalar.indexCast v231
  let c0_112 : Index := 0#32
  ![v232.toNat, 0]
def k0_off31 (v1 : BitVec 32) (k0_t2 : Fin (k0_t2_loop v1).trips) : Fin 2 → Nat :=
  let c2_i32_109 : BitVec 32 := 2#32
  let c0_i32_27 : BitVec 32 := 0#32
  let c0_i32_20 : BitVec 32 := 0#32
  let v44 : BitVec 1 := Scalar.cmpi .sgt v1 c0_i32_20
  let v45 : BitVec 32 := Scalar.extui v44
  let c0_i32_21 : BitVec 32 := 0#32
  let v46 : BitVec 1 := Scalar.cmpi .slt v1 c0_i32_21
  let v47 : BitVec 32 := Scalar.extui v46
  let v48 : BitVec 32 := Scalar.subi v45 v47
  let c2_i32 : BitVec 32 := 2#32
  let c0_i32_22 : BitVec 32 := 0#32
  let v49 : BitVec 1 := Scalar.cmpi .sgt c2_i32 c0_i32_22
  let v50 : BitVec 32 := Scalar.extui v49
  let c0_i32_23 : BitVec 32 := 0#32
  let v51 : BitVec 1 := Scalar.cmpi .slt c2_i32 c0_i32_23
  let v52 : BitVec 32 := Scalar.extui v51
  let v53 : BitVec 32 := Scalar.subi v50 v52
  let v54 : BitVec 1 := Scalar.cmpi .ne v48 v53
  let v55 : BitVec 32 := Scalar.remsi v1 c2_i32
  let c0_i32_24 : BitVec 32 := 0#32
  let v56 : BitVec 1 := Scalar.cmpi .ne v55 c0_i32_24
  let v57 : BitVec 1 := Scalar.andi v54 v56
  let v43 : BitVec 32 := Scalar.divsi v1 c2_i32
  let c1_i32_25 : BitVec 32 := 1#32
  let v58 : BitVec 32 := Scalar.subi v43 c1_i32_25
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_30 : BitVec 32 := 1#32
  let arg13 : BitVec 32 := Scf.iv v64 c1_i32_30 k0_t2
  let v228 : BitVec 32 := Scalar.muli c2_i32_109 arg13
  let c1_i32_110 : BitVec 32 := 1#32
  let v229 : BitVec 32 := Scalar.addi v228 c1_i32_110
  let c256_i32_111 : BitVec 32 := 256#32
  let v230 : BitVec 32 := Scalar.muli v229 c256_i32_111
  let v231 : BitVec 32 := v230
  let v240 : Index := Scalar.indexCast v231
  let c256_117 : Index := 256#32
  ![v240.toNat, 256]
def k0_off32 (v1 : BitVec 32) (k0_t2 : Fin (k0_t2_loop v1).trips) : Fin 2 → Nat :=
  let c2_i32_109 : BitVec 32 := 2#32
  let c0_i32_27 : BitVec 32 := 0#32
  let c0_i32_20 : BitVec 32 := 0#32
  let v44 : BitVec 1 := Scalar.cmpi .sgt v1 c0_i32_20
  let v45 : BitVec 32 := Scalar.extui v44
  let c0_i32_21 : BitVec 32 := 0#32
  let v46 : BitVec 1 := Scalar.cmpi .slt v1 c0_i32_21
  let v47 : BitVec 32 := Scalar.extui v46
  let v48 : BitVec 32 := Scalar.subi v45 v47
  let c2_i32 : BitVec 32 := 2#32
  let c0_i32_22 : BitVec 32 := 0#32
  let v49 : BitVec 1 := Scalar.cmpi .sgt c2_i32 c0_i32_22
  let v50 : BitVec 32 := Scalar.extui v49
  let c0_i32_23 : BitVec 32 := 0#32
  let v51 : BitVec 1 := Scalar.cmpi .slt c2_i32 c0_i32_23
  let v52 : BitVec 32 := Scalar.extui v51
  let v53 : BitVec 32 := Scalar.subi v50 v52
  let v54 : BitVec 1 := Scalar.cmpi .ne v48 v53
  let v55 : BitVec 32 := Scalar.remsi v1 c2_i32
  let c0_i32_24 : BitVec 32 := 0#32
  let v56 : BitVec 1 := Scalar.cmpi .ne v55 c0_i32_24
  let v57 : BitVec 1 := Scalar.andi v54 v56
  let v43 : BitVec 32 := Scalar.divsi v1 c2_i32
  let c1_i32_25 : BitVec 32 := 1#32
  let v58 : BitVec 32 := Scalar.subi v43 c1_i32_25
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_30 : BitVec 32 := 1#32
  let arg13 : BitVec 32 := Scf.iv v64 c1_i32_30 k0_t2
  let v228 : BitVec 32 := Scalar.muli c2_i32_109 arg13
  let c1_i32_110 : BitVec 32 := 1#32
  let v229 : BitVec 32 := Scalar.addi v228 c1_i32_110
  let c256_i32_111 : BitVec 32 := 256#32
  let v230 : BitVec 32 := Scalar.muli v229 c256_i32_111
  let v231 : BitVec 32 := v230
  let v248 : Index := Scalar.indexCast v231
  let c512_122 : Index := 512#32
  ![v248.toNat, 512]
def k0_off33 (v1 : BitVec 32) (k0_t2 : Fin (k0_t2_loop v1).trips) : Fin 2 → Nat :=
  let c2_i32_109 : BitVec 32 := 2#32
  let c0_i32_27 : BitVec 32 := 0#32
  let c0_i32_20 : BitVec 32 := 0#32
  let v44 : BitVec 1 := Scalar.cmpi .sgt v1 c0_i32_20
  let v45 : BitVec 32 := Scalar.extui v44
  let c0_i32_21 : BitVec 32 := 0#32
  let v46 : BitVec 1 := Scalar.cmpi .slt v1 c0_i32_21
  let v47 : BitVec 32 := Scalar.extui v46
  let v48 : BitVec 32 := Scalar.subi v45 v47
  let c2_i32 : BitVec 32 := 2#32
  let c0_i32_22 : BitVec 32 := 0#32
  let v49 : BitVec 1 := Scalar.cmpi .sgt c2_i32 c0_i32_22
  let v50 : BitVec 32 := Scalar.extui v49
  let c0_i32_23 : BitVec 32 := 0#32
  let v51 : BitVec 1 := Scalar.cmpi .slt c2_i32 c0_i32_23
  let v52 : BitVec 32 := Scalar.extui v51
  let v53 : BitVec 32 := Scalar.subi v50 v52
  let v54 : BitVec 1 := Scalar.cmpi .ne v48 v53
  let v55 : BitVec 32 := Scalar.remsi v1 c2_i32
  let c0_i32_24 : BitVec 32 := 0#32
  let v56 : BitVec 1 := Scalar.cmpi .ne v55 c0_i32_24
  let v57 : BitVec 1 := Scalar.andi v54 v56
  let v43 : BitVec 32 := Scalar.divsi v1 c2_i32
  let c1_i32_25 : BitVec 32 := 1#32
  let v58 : BitVec 32 := Scalar.subi v43 c1_i32_25
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_30 : BitVec 32 := 1#32
  let arg13 : BitVec 32 := Scf.iv v64 c1_i32_30 k0_t2
  let v228 : BitVec 32 := Scalar.muli c2_i32_109 arg13
  let c1_i32_110 : BitVec 32 := 1#32
  let v229 : BitVec 32 := Scalar.addi v228 c1_i32_110
  let c256_i32_111 : BitVec 32 := 256#32
  let v230 : BitVec 32 := Scalar.muli v229 c256_i32_111
  let v231 : BitVec 32 := v230
  let v256 : Index := Scalar.indexCast v231
  let c768_127 : Index := 768#32
  ![v256.toNat, 768]
def k0_off34 (v1 : BitVec 32) (k0_t2 : Fin (k0_t2_loop v1).trips) : Fin 2 → Nat :=
  let c2_i32_109 : BitVec 32 := 2#32
  let c0_i32_27 : BitVec 32 := 0#32
  let c0_i32_20 : BitVec 32 := 0#32
  let v44 : BitVec 1 := Scalar.cmpi .sgt v1 c0_i32_20
  let v45 : BitVec 32 := Scalar.extui v44
  let c0_i32_21 : BitVec 32 := 0#32
  let v46 : BitVec 1 := Scalar.cmpi .slt v1 c0_i32_21
  let v47 : BitVec 32 := Scalar.extui v46
  let v48 : BitVec 32 := Scalar.subi v45 v47
  let c2_i32 : BitVec 32 := 2#32
  let c0_i32_22 : BitVec 32 := 0#32
  let v49 : BitVec 1 := Scalar.cmpi .sgt c2_i32 c0_i32_22
  let v50 : BitVec 32 := Scalar.extui v49
  let c0_i32_23 : BitVec 32 := 0#32
  let v51 : BitVec 1 := Scalar.cmpi .slt c2_i32 c0_i32_23
  let v52 : BitVec 32 := Scalar.extui v51
  let v53 : BitVec 32 := Scalar.subi v50 v52
  let v54 : BitVec 1 := Scalar.cmpi .ne v48 v53
  let v55 : BitVec 32 := Scalar.remsi v1 c2_i32
  let c0_i32_24 : BitVec 32 := 0#32
  let v56 : BitVec 1 := Scalar.cmpi .ne v55 c0_i32_24
  let v57 : BitVec 1 := Scalar.andi v54 v56
  let v43 : BitVec 32 := Scalar.divsi v1 c2_i32
  let c1_i32_25 : BitVec 32 := 1#32
  let v58 : BitVec 32 := Scalar.subi v43 c1_i32_25
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_30 : BitVec 32 := 1#32
  let arg13 : BitVec 32 := Scf.iv v64 c1_i32_30 k0_t2
  let v228 : BitVec 32 := Scalar.muli c2_i32_109 arg13
  let c1_i32_110 : BitVec 32 := 1#32
  let v229 : BitVec 32 := Scalar.addi v228 c1_i32_110
  let c256_i32_111 : BitVec 32 := 256#32
  let v230 : BitVec 32 := Scalar.muli v229 c256_i32_111
  let v231 : BitVec 32 := v230
  let v264 : Index := Scalar.indexCast v231
  let c1024_132 : Index := 1024#32
  ![v264.toNat, 1024]
def k0_off35 (v1 : BitVec 32) (k0_t2 : Fin (k0_t2_loop v1).trips) : Fin 2 → Nat :=
  let c2_i32_109 : BitVec 32 := 2#32
  let c0_i32_27 : BitVec 32 := 0#32
  let c0_i32_20 : BitVec 32 := 0#32
  let v44 : BitVec 1 := Scalar.cmpi .sgt v1 c0_i32_20
  let v45 : BitVec 32 := Scalar.extui v44
  let c0_i32_21 : BitVec 32 := 0#32
  let v46 : BitVec 1 := Scalar.cmpi .slt v1 c0_i32_21
  let v47 : BitVec 32 := Scalar.extui v46
  let v48 : BitVec 32 := Scalar.subi v45 v47
  let c2_i32 : BitVec 32 := 2#32
  let c0_i32_22 : BitVec 32 := 0#32
  let v49 : BitVec 1 := Scalar.cmpi .sgt c2_i32 c0_i32_22
  let v50 : BitVec 32 := Scalar.extui v49
  let c0_i32_23 : BitVec 32 := 0#32
  let v51 : BitVec 1 := Scalar.cmpi .slt c2_i32 c0_i32_23
  let v52 : BitVec 32 := Scalar.extui v51
  let v53 : BitVec 32 := Scalar.subi v50 v52
  let v54 : BitVec 1 := Scalar.cmpi .ne v48 v53
  let v55 : BitVec 32 := Scalar.remsi v1 c2_i32
  let c0_i32_24 : BitVec 32 := 0#32
  let v56 : BitVec 1 := Scalar.cmpi .ne v55 c0_i32_24
  let v57 : BitVec 1 := Scalar.andi v54 v56
  let v43 : BitVec 32 := Scalar.divsi v1 c2_i32
  let c1_i32_25 : BitVec 32 := 1#32
  let v58 : BitVec 32 := Scalar.subi v43 c1_i32_25
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_30 : BitVec 32 := 1#32
  let arg13 : BitVec 32 := Scf.iv v64 c1_i32_30 k0_t2
  let v228 : BitVec 32 := Scalar.muli c2_i32_109 arg13
  let c1_i32_110 : BitVec 32 := 1#32
  let v229 : BitVec 32 := Scalar.addi v228 c1_i32_110
  let c256_i32_111 : BitVec 32 := 256#32
  let v230 : BitVec 32 := Scalar.muli v229 c256_i32_111
  let v231 : BitVec 32 := v230
  let v272 : Index := Scalar.indexCast v231
  let c1280_137 : Index := 1280#32
  ![v272.toNat, 1280]
def k0_off36 (v1 : BitVec 32) (k0_t2 : Fin (k0_t2_loop v1).trips) : Fin 2 → Nat :=
  let c2_i32_109 : BitVec 32 := 2#32
  let c0_i32_27 : BitVec 32 := 0#32
  let c0_i32_20 : BitVec 32 := 0#32
  let v44 : BitVec 1 := Scalar.cmpi .sgt v1 c0_i32_20
  let v45 : BitVec 32 := Scalar.extui v44
  let c0_i32_21 : BitVec 32 := 0#32
  let v46 : BitVec 1 := Scalar.cmpi .slt v1 c0_i32_21
  let v47 : BitVec 32 := Scalar.extui v46
  let v48 : BitVec 32 := Scalar.subi v45 v47
  let c2_i32 : BitVec 32 := 2#32
  let c0_i32_22 : BitVec 32 := 0#32
  let v49 : BitVec 1 := Scalar.cmpi .sgt c2_i32 c0_i32_22
  let v50 : BitVec 32 := Scalar.extui v49
  let c0_i32_23 : BitVec 32 := 0#32
  let v51 : BitVec 1 := Scalar.cmpi .slt c2_i32 c0_i32_23
  let v52 : BitVec 32 := Scalar.extui v51
  let v53 : BitVec 32 := Scalar.subi v50 v52
  let v54 : BitVec 1 := Scalar.cmpi .ne v48 v53
  let v55 : BitVec 32 := Scalar.remsi v1 c2_i32
  let c0_i32_24 : BitVec 32 := 0#32
  let v56 : BitVec 1 := Scalar.cmpi .ne v55 c0_i32_24
  let v57 : BitVec 1 := Scalar.andi v54 v56
  let v43 : BitVec 32 := Scalar.divsi v1 c2_i32
  let c1_i32_25 : BitVec 32 := 1#32
  let v58 : BitVec 32 := Scalar.subi v43 c1_i32_25
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_30 : BitVec 32 := 1#32
  let arg13 : BitVec 32 := Scf.iv v64 c1_i32_30 k0_t2
  let v228 : BitVec 32 := Scalar.muli c2_i32_109 arg13
  let c1_i32_110 : BitVec 32 := 1#32
  let v229 : BitVec 32 := Scalar.addi v228 c1_i32_110
  let c256_i32_111 : BitVec 32 := 256#32
  let v230 : BitVec 32 := Scalar.muli v229 c256_i32_111
  let v231 : BitVec 32 := v230
  let v280 : Index := Scalar.indexCast v231
  let c1536_142 : Index := 1536#32
  ![v280.toNat, 1536]
def k0_off37 (v1 : BitVec 32) (k0_t2 : Fin (k0_t2_loop v1).trips) : Fin 2 → Nat :=
  let c2_i32_109 : BitVec 32 := 2#32
  let c0_i32_27 : BitVec 32 := 0#32
  let c0_i32_20 : BitVec 32 := 0#32
  let v44 : BitVec 1 := Scalar.cmpi .sgt v1 c0_i32_20
  let v45 : BitVec 32 := Scalar.extui v44
  let c0_i32_21 : BitVec 32 := 0#32
  let v46 : BitVec 1 := Scalar.cmpi .slt v1 c0_i32_21
  let v47 : BitVec 32 := Scalar.extui v46
  let v48 : BitVec 32 := Scalar.subi v45 v47
  let c2_i32 : BitVec 32 := 2#32
  let c0_i32_22 : BitVec 32 := 0#32
  let v49 : BitVec 1 := Scalar.cmpi .sgt c2_i32 c0_i32_22
  let v50 : BitVec 32 := Scalar.extui v49
  let c0_i32_23 : BitVec 32 := 0#32
  let v51 : BitVec 1 := Scalar.cmpi .slt c2_i32 c0_i32_23
  let v52 : BitVec 32 := Scalar.extui v51
  let v53 : BitVec 32 := Scalar.subi v50 v52
  let v54 : BitVec 1 := Scalar.cmpi .ne v48 v53
  let v55 : BitVec 32 := Scalar.remsi v1 c2_i32
  let c0_i32_24 : BitVec 32 := 0#32
  let v56 : BitVec 1 := Scalar.cmpi .ne v55 c0_i32_24
  let v57 : BitVec 1 := Scalar.andi v54 v56
  let v43 : BitVec 32 := Scalar.divsi v1 c2_i32
  let c1_i32_25 : BitVec 32 := 1#32
  let v58 : BitVec 32 := Scalar.subi v43 c1_i32_25
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_30 : BitVec 32 := 1#32
  let arg13 : BitVec 32 := Scf.iv v64 c1_i32_30 k0_t2
  let v228 : BitVec 32 := Scalar.muli c2_i32_109 arg13
  let c1_i32_110 : BitVec 32 := 1#32
  let v229 : BitVec 32 := Scalar.addi v228 c1_i32_110
  let c256_i32_111 : BitVec 32 := 256#32
  let v230 : BitVec 32 := Scalar.muli v229 c256_i32_111
  let v231 : BitVec 32 := v230
  let v288 : Index := Scalar.indexCast v231
  let c1792_147 : Index := 1792#32
  ![v288.toNat, 1792]
def k0_mult9 (v1 : BitVec 32) : BitVec 32 :=
  let c1_i32_40 : BitVec 32 := 1#32
  let v79 : BitVec 32 := Scalar.subi v1 c1_i32_40
  let c256_i32 : BitVec 32 := 256#32
  let v80 : BitVec 32 := Scalar.muli v79 c256_i32
  v80
def k0_cond3 (v1 : BitVec 32) : BitVec 1 :=
  let c2_i32_31 : BitVec 32 := 2#32
  let c0_i32_32 : BitVec 32 := 0#32
  let v65 : BitVec 1 := Scalar.cmpi .eq c2_i32_31 c0_i32_32
  let c1_i32_33 : BitVec 32 := 1#32
  let v66 : BitVec 32 := Scalar.select v65 c1_i32_33 c2_i32_31
  let v67 : BitVec 32 := Scalar.remsi v1 v66
  let c0_i32_35 : BitVec 32 := 0#32
  let v69 : BitVec 1 := Scalar.cmpi .slt v67 c0_i32_35
  let c0_i32_36 : BitVec 32 := 0#32
  let v70 : BitVec 1 := Scalar.cmpi .slt v66 c0_i32_36
  let v71 : BitVec 1 := Scalar.xori v69 v70
  let c0_i32_34 : BitVec 32 := 0#32
  let v68 : BitVec 1 := Scalar.cmpi .ne v67 c0_i32_34
  let v72 : BitVec 1 := Scalar.andi v71 v68
  let v73 : BitVec 32 := Scalar.addi v67 v66
  let v74 : BitVec 32 := Scalar.select v72 v73 v67
  let c1_i32_37 : BitVec 32 := 1#32
  let v75 : BitVec 1 := Scalar.cmpi .eq v74 c1_i32_37
  let v76 : BitVec 32 := Scalar.extui v75
  let c0_i32_38 : BitVec 32 := 0#32
  let v77 : BitVec 1 := Scalar.cmpi .ne v76 c0_i32_38
  v77

def k0_off38 (v1 : BitVec 32) : Fin 2 → Nat :=
  let c1_i32_40 : BitVec 32 := 1#32
  let v79 : BitVec 32 := Scalar.subi v1 c1_i32_40
  let c256_i32 : BitVec 32 := 256#32
  let v80 : BitVec 32 := Scalar.muli v79 c256_i32
  let v81 : BitVec 32 := v80
  let v82 : Index := Scalar.indexCast v81
  let c0_41 : Index := 0#32
  ![v82.toNat, 0]
def k0_mult10 (v1 : BitVec 32) : BitVec 32 :=
  let c1_i32_39 : BitVec 32 := 1#32
  let v78 : BitVec 32 := Scalar.subi v1 c1_i32_39
  let c256_i32_56 : BitVec 32 := 256#32
  let v120 : BitVec 32 := Scalar.muli v78 c256_i32_56
  v120
def k0_off39 (v1 : BitVec 32) : Fin 2 → Nat :=
  let c1_i32_39 : BitVec 32 := 1#32
  let v78 : BitVec 32 := Scalar.subi v1 c1_i32_39
  let c256_i32_56 : BitVec 32 := 256#32
  let v120 : BitVec 32 := Scalar.muli v78 c256_i32_56
  let v121 : BitVec 32 := v120
  let v122 : Index := Scalar.indexCast v121
  let c0_57 : Index := 0#32
  ![v122.toNat, 0]
def k0_off40 (v1 : BitVec 32) : Fin 2 → Nat :=
  let c1_i32_39 : BitVec 32 := 1#32
  let v78 : BitVec 32 := Scalar.subi v1 c1_i32_39
  let c256_i32_56 : BitVec 32 := 256#32
  let v120 : BitVec 32 := Scalar.muli v78 c256_i32_56
  let v121 : BitVec 32 := v120
  let v130 : Index := Scalar.indexCast v121
  let c256 : Index := 256#32
  ![v130.toNat, 256]
def k0_off41 (v1 : BitVec 32) : Fin 2 → Nat :=
  let c1_i32_39 : BitVec 32 := 1#32
  let v78 : BitVec 32 := Scalar.subi v1 c1_i32_39
  let c256_i32_56 : BitVec 32 := 256#32
  let v120 : BitVec 32 := Scalar.muli v78 c256_i32_56
  let v121 : BitVec 32 := v120
  let v138 : Index := Scalar.indexCast v121
  let c512 : Index := 512#32
  ![v138.toNat, 512]
def k0_off42 (v1 : BitVec 32) : Fin 2 → Nat :=
  let c1_i32_39 : BitVec 32 := 1#32
  let v78 : BitVec 32 := Scalar.subi v1 c1_i32_39
  let c256_i32_56 : BitVec 32 := 256#32
  let v120 : BitVec 32 := Scalar.muli v78 c256_i32_56
  let v121 : BitVec 32 := v120
  let v146 : Index := Scalar.indexCast v121
  let c768 : Index := 768#32
  ![v146.toNat, 768]
def k0_off43 (v1 : BitVec 32) : Fin 2 → Nat :=
  let c1_i32_39 : BitVec 32 := 1#32
  let v78 : BitVec 32 := Scalar.subi v1 c1_i32_39
  let c256_i32_56 : BitVec 32 := 256#32
  let v120 : BitVec 32 := Scalar.muli v78 c256_i32_56
  let v121 : BitVec 32 := v120
  let v154 : Index := Scalar.indexCast v121
  let c1024 : Index := 1024#32
  ![v154.toNat, 1024]
def k0_off44 (v1 : BitVec 32) : Fin 2 → Nat :=
  let c1_i32_39 : BitVec 32 := 1#32
  let v78 : BitVec 32 := Scalar.subi v1 c1_i32_39
  let c256_i32_56 : BitVec 32 := 256#32
  let v120 : BitVec 32 := Scalar.muli v78 c256_i32_56
  let v121 : BitVec 32 := v120
  let v162 : Index := Scalar.indexCast v121
  let c1280 : Index := 1280#32
  ![v162.toNat, 1280]
def k0_off45 (v1 : BitVec 32) : Fin 2 → Nat :=
  let c1_i32_39 : BitVec 32 := 1#32
  let v78 : BitVec 32 := Scalar.subi v1 c1_i32_39
  let c256_i32_56 : BitVec 32 := 256#32
  let v120 : BitVec 32 := Scalar.muli v78 c256_i32_56
  let v121 : BitVec 32 := v120
  let v170 : Index := Scalar.indexCast v121
  let c1536 : Index := 1536#32
  ![v170.toNat, 1536]
def k0_off46 (v1 : BitVec 32) : Fin 2 → Nat :=
  let c1_i32_39 : BitVec 32 := 1#32
  let v78 : BitVec 32 := Scalar.subi v1 c1_i32_39
  let c256_i32_56 : BitVec 32 := 256#32
  let v120 : BitVec 32 := Scalar.muli v78 c256_i32_56
  let v121 : BitVec 32 := v120
  let v178 : Index := Scalar.indexCast v121
  let c1792 : Index := 1792#32
  ![v178.toNat, 1792]

def k0_chk1_0 (v1 : BitVec 32) : Prop :=
  (∀ (k0_h1 : k0_cond1 v1 = 1#1), (k0_t1_loop v1).OK) ∧
  (∀ k0_t1 : Fin (k0_t1_loop v1).trips, ∀ (k0_h1 : k0_cond1 v1 = 1#1), 256 ∣ (k0_mult1 v1 k0_t1).toNat) ∧
  (∀ k0_t1 : Fin (k0_t1_loop v1).trips, ∀ (k0_h1 : k0_cond1 v1 = 1#1), ∀ a, (k0_off2 v1 k0_t1) a + S256x2048.size a ≤ S1280x2048.size a) ∧
  (∀ k0_t1 : Fin (k0_t1_loop v1).trips, ∀ (k0_h1 : k0_cond1 v1 = 1#1), 256 ∣ (k0_mult2 v1 k0_t1).toNat) ∧
  (∀ k0_t1 : Fin (k0_t1_loop v1).trips, ∀ (k0_h1 : k0_cond1 v1 = 1#1), ∀ a, (k0_off3 v1 k0_t1) a + S256x2048.size a ≤ S1280x2048.size a) ∧
  (∀ k0_t1 : Fin (k0_t1_loop v1).trips, ∀ (k0_h1 : k0_cond1 v1 = 1#1), 256 ∣ (k0_mult3 v1 k0_t1).toNat) ∧
  (∀ k0_t1 : Fin (k0_t1_loop v1).trips, ∀ (k0_h1 : k0_cond1 v1 = 1#1), ∀ a, (k0_off4 v1 k0_t1) a + S256x256.size a ≤ S1280x2048.size a) ∧
  (∀ k0_t1 : Fin (k0_t1_loop v1).trips, ∀ (k0_h1 : k0_cond1 v1 = 1#1), ∀ a, (k0_off5 v1 k0_t1) a + S256x256.size a ≤ S1280x2048.size a) ∧
  (∀ k0_t1 : Fin (k0_t1_loop v1).trips, ∀ (k0_h1 : k0_cond1 v1 = 1#1), ∀ a, (k0_off6 v1 k0_t1) a + S256x256.size a ≤ S1280x2048.size a) ∧
  (∀ k0_t1 : Fin (k0_t1_loop v1).trips, ∀ (k0_h1 : k0_cond1 v1 = 1#1), ∀ a, (k0_off7 v1 k0_t1) a + S256x256.size a ≤ S1280x2048.size a) ∧
  (∀ k0_t1 : Fin (k0_t1_loop v1).trips, ∀ (k0_h1 : k0_cond1 v1 = 1#1), ∀ a, (k0_off8 v1 k0_t1) a + S256x256.size a ≤ S1280x2048.size a) ∧
  (∀ k0_t1 : Fin (k0_t1_loop v1).trips, ∀ (k0_h1 : k0_cond1 v1 = 1#1), ∀ a, (k0_off9 v1 k0_t1) a + S256x256.size a ≤ S1280x2048.size a) ∧
  (∀ k0_t1 : Fin (k0_t1_loop v1).trips, ∀ (k0_h1 : k0_cond1 v1 = 1#1), ∀ a, (k0_off10 v1 k0_t1) a + S256x256.size a ≤ S1280x2048.size a) ∧
  (∀ k0_t1 : Fin (k0_t1_loop v1).trips, ∀ (k0_h1 : k0_cond1 v1 = 1#1), ∀ a, (k0_off11 v1 k0_t1) a + S256x256.size a ≤ S1280x2048.size a) ∧
  (∀ k0_t1 : Fin (k0_t1_loop v1).trips, ∀ (k0_h1 : k0_cond1 v1 = 1#1), 256 ∣ (k0_mult4 v1 k0_t1).toNat) ∧
  (∀ k0_t1 : Fin (k0_t1_loop v1).trips, ∀ (k0_h1 : k0_cond1 v1 = 1#1), ∀ a, (k0_off12 v1 k0_t1) a + S256x256.size a ≤ S1280x2048.size a) ∧
  (∀ k0_t1 : Fin (k0_t1_loop v1).trips, ∀ (k0_h1 : k0_cond1 v1 = 1#1), ∀ a, (k0_off13 v1 k0_t1) a + S256x256.size a ≤ S1280x2048.size a) ∧
  (∀ k0_t1 : Fin (k0_t1_loop v1).trips, ∀ (k0_h1 : k0_cond1 v1 = 1#1), ∀ a, (k0_off14 v1 k0_t1) a + S256x256.size a ≤ S1280x2048.size a) ∧
  (∀ k0_t1 : Fin (k0_t1_loop v1).trips, ∀ (k0_h1 : k0_cond1 v1 = 1#1), ∀ a, (k0_off15 v1 k0_t1) a + S256x256.size a ≤ S1280x2048.size a) ∧
  (∀ k0_t1 : Fin (k0_t1_loop v1).trips, ∀ (k0_h1 : k0_cond1 v1 = 1#1), ∀ a, (k0_off16 v1 k0_t1) a + S256x256.size a ≤ S1280x2048.size a) ∧
  (∀ k0_t1 : Fin (k0_t1_loop v1).trips, ∀ (k0_h1 : k0_cond1 v1 = 1#1), ∀ a, (k0_off17 v1 k0_t1) a + S256x256.size a ≤ S1280x2048.size a) ∧
  (∀ k0_t1 : Fin (k0_t1_loop v1).trips, ∀ (k0_h1 : k0_cond1 v1 = 1#1), ∀ a, (k0_off18 v1 k0_t1) a + S256x256.size a ≤ S1280x2048.size a) ∧
  (∀ k0_t1 : Fin (k0_t1_loop v1).trips, ∀ (k0_h1 : k0_cond1 v1 = 1#1), ∀ a, (k0_off19 v1 k0_t1) a + S256x256.size a ≤ S1280x2048.size a) ∧
  (∀ (k0_h1 : k0_cond1 v1 = 1#1), (k0_t2_loop v1).OK) ∧
  (∀ k0_t2 : Fin (k0_t2_loop v1).trips, ∀ (k0_h1 : k0_cond1 v1 = 1#1), 256 ∣ (k0_mult5 v1 k0_t2).toNat) ∧
  (∀ k0_t2 : Fin (k0_t2_loop v1).trips, ∀ (k0_h1 : k0_cond1 v1 = 1#1), ∀ a, (k0_off20 v1 k0_t2) a + S256x2048.size a ≤ S1280x2048.size a) ∧
  (∀ k0_t2 : Fin (k0_t2_loop v1).trips, ∀ (k0_h1 : k0_cond1 v1 = 1#1), 256 ∣ (k0_mult6 v1 k0_t2).toNat) ∧
  (∀ k0_t2 : Fin (k0_t2_loop v1).trips, ∀ (k0_h1 : k0_cond1 v1 = 1#1), ∀ a, (k0_off21 v1 k0_t2) a + S256x2048.size a ≤ S1280x2048.size a) ∧
  (∀ k0_t2 : Fin (k0_t2_loop v1).trips, ∀ (k0_h1 : k0_cond1 v1 = 1#1), 256 ∣ (k0_mult7 v1 k0_t2).toNat) ∧
  (∀ k0_t2 : Fin (k0_t2_loop v1).trips, ∀ (k0_h1 : k0_cond1 v1 = 1#1), ∀ a, (k0_off22 v1 k0_t2) a + S256x256.size a ≤ S1280x2048.size a) ∧
  (∀ k0_t2 : Fin (k0_t2_loop v1).trips, ∀ (k0_h1 : k0_cond1 v1 = 1#1), ∀ a, (k0_off23 v1 k0_t2) a + S256x256.size a ≤ S1280x2048.size a) ∧
  (∀ k0_t2 : Fin (k0_t2_loop v1).trips, ∀ (k0_h1 : k0_cond1 v1 = 1#1), ∀ a, (k0_off24 v1 k0_t2) a + S256x256.size a ≤ S1280x2048.size a)
def k0_chk1_1 (v1 : BitVec 32) : Prop :=
  (∀ k0_t2 : Fin (k0_t2_loop v1).trips, ∀ (k0_h1 : k0_cond1 v1 = 1#1), ∀ a, (k0_off25 v1 k0_t2) a + S256x256.size a ≤ S1280x2048.size a) ∧
  (∀ k0_t2 : Fin (k0_t2_loop v1).trips, ∀ (k0_h1 : k0_cond1 v1 = 1#1), ∀ a, (k0_off26 v1 k0_t2) a + S256x256.size a ≤ S1280x2048.size a) ∧
  (∀ k0_t2 : Fin (k0_t2_loop v1).trips, ∀ (k0_h1 : k0_cond1 v1 = 1#1), ∀ a, (k0_off27 v1 k0_t2) a + S256x256.size a ≤ S1280x2048.size a) ∧
  (∀ k0_t2 : Fin (k0_t2_loop v1).trips, ∀ (k0_h1 : k0_cond1 v1 = 1#1), ∀ a, (k0_off28 v1 k0_t2) a + S256x256.size a ≤ S1280x2048.size a) ∧
  (∀ k0_t2 : Fin (k0_t2_loop v1).trips, ∀ (k0_h1 : k0_cond1 v1 = 1#1), ∀ a, (k0_off29 v1 k0_t2) a + S256x256.size a ≤ S1280x2048.size a) ∧
  (∀ k0_t2 : Fin (k0_t2_loop v1).trips, ∀ (k0_h1 : k0_cond1 v1 = 1#1), 256 ∣ (k0_mult8 v1 k0_t2).toNat) ∧
  (∀ k0_t2 : Fin (k0_t2_loop v1).trips, ∀ (k0_h1 : k0_cond1 v1 = 1#1), ∀ a, (k0_off30 v1 k0_t2) a + S256x256.size a ≤ S1280x2048.size a) ∧
  (∀ k0_t2 : Fin (k0_t2_loop v1).trips, ∀ (k0_h1 : k0_cond1 v1 = 1#1), ∀ a, (k0_off31 v1 k0_t2) a + S256x256.size a ≤ S1280x2048.size a) ∧
  (∀ k0_t2 : Fin (k0_t2_loop v1).trips, ∀ (k0_h1 : k0_cond1 v1 = 1#1), ∀ a, (k0_off32 v1 k0_t2) a + S256x256.size a ≤ S1280x2048.size a) ∧
  (∀ k0_t2 : Fin (k0_t2_loop v1).trips, ∀ (k0_h1 : k0_cond1 v1 = 1#1), ∀ a, (k0_off33 v1 k0_t2) a + S256x256.size a ≤ S1280x2048.size a) ∧
  (∀ k0_t2 : Fin (k0_t2_loop v1).trips, ∀ (k0_h1 : k0_cond1 v1 = 1#1), ∀ a, (k0_off34 v1 k0_t2) a + S256x256.size a ≤ S1280x2048.size a) ∧
  (∀ k0_t2 : Fin (k0_t2_loop v1).trips, ∀ (k0_h1 : k0_cond1 v1 = 1#1), ∀ a, (k0_off35 v1 k0_t2) a + S256x256.size a ≤ S1280x2048.size a) ∧
  (∀ k0_t2 : Fin (k0_t2_loop v1).trips, ∀ (k0_h1 : k0_cond1 v1 = 1#1), ∀ a, (k0_off36 v1 k0_t2) a + S256x256.size a ≤ S1280x2048.size a) ∧
  (∀ k0_t2 : Fin (k0_t2_loop v1).trips, ∀ (k0_h1 : k0_cond1 v1 = 1#1), ∀ a, (k0_off37 v1 k0_t2) a + S256x256.size a ≤ S1280x2048.size a) ∧
  (∀ (k0_h1 : k0_cond1 v1 = 1#1), ∀ (k0_h3 : k0_cond3 v1 = 1#1), 256 ∣ (k0_mult9 v1).toNat) ∧
  (∀ (k0_h1 : k0_cond1 v1 = 1#1), ∀ (k0_h3 : k0_cond3 v1 = 1#1), ∀ a, (k0_off38 v1) a + S256x2048.size a ≤ S1280x2048.size a) ∧
  (∀ (k0_h1 : k0_cond1 v1 = 1#1), ∀ (k0_h3 : k0_cond3 v1 = 1#1), 256 ∣ (k0_mult10 v1).toNat) ∧
  (∀ (k0_h1 : k0_cond1 v1 = 1#1), ∀ (k0_h3 : k0_cond3 v1 = 1#1), ∀ a, (k0_off39 v1) a + S256x256.size a ≤ S1280x2048.size a) ∧
  (∀ (k0_h1 : k0_cond1 v1 = 1#1), ∀ (k0_h3 : k0_cond3 v1 = 1#1), ∀ a, (k0_off40 v1) a + S256x256.size a ≤ S1280x2048.size a) ∧
  (∀ (k0_h1 : k0_cond1 v1 = 1#1), ∀ (k0_h3 : k0_cond3 v1 = 1#1), ∀ a, (k0_off41 v1) a + S256x256.size a ≤ S1280x2048.size a) ∧
  (∀ (k0_h1 : k0_cond1 v1 = 1#1), ∀ (k0_h3 : k0_cond3 v1 = 1#1), ∀ a, (k0_off42 v1) a + S256x256.size a ≤ S1280x2048.size a) ∧
  (∀ (k0_h1 : k0_cond1 v1 = 1#1), ∀ (k0_h3 : k0_cond3 v1 = 1#1), ∀ a, (k0_off43 v1) a + S256x256.size a ≤ S1280x2048.size a) ∧
  (∀ (k0_h1 : k0_cond1 v1 = 1#1), ∀ (k0_h3 : k0_cond3 v1 = 1#1), ∀ a, (k0_off44 v1) a + S256x256.size a ≤ S1280x2048.size a) ∧
  (∀ (k0_h1 : k0_cond1 v1 = 1#1), ∀ (k0_h3 : k0_cond3 v1 = 1#1), ∀ a, (k0_off45 v1) a + S256x256.size a ≤ S1280x2048.size a) ∧
  (∀ (k0_h1 : k0_cond1 v1 = 1#1), ∀ (k0_h3 : k0_cond3 v1 = 1#1), ∀ a, (k0_off46 v1) a + S256x256.size a ≤ S1280x2048.size a)
def k0_chk1 (v1 : BitVec 32) : Prop :=
  k0_chk1_0 v1 ∧
  k0_chk1_1 v1
theorem k0_t1_ok : ∀ (v1 : BitVec 32) (k0_hw1 : k0_chk1 v1), ∀ (k0_h1 : k0_cond1 v1 = 1#1), (k0_t1_loop v1).OK := fun v1 k0_hw1 k0_h1 => k0_hw1.1.1 k0_h1
theorem k0_mult1_dvd : ∀ (v1 : BitVec 32) (k0_hw1 : k0_chk1 v1) (k0_t1 : Fin (k0_t1_loop v1).trips), ∀ (k0_h1 : k0_cond1 v1 = 1#1), 256 ∣ (k0_mult1 v1 k0_t1).toNat := fun v1 k0_hw1 k0_t1 k0_h1 => k0_hw1.1.2.1 k0_t1 k0_h1
theorem k0_off2_inb : ∀ (v1 : BitVec 32) (k0_hw1 : k0_chk1 v1) (k0_t1 : Fin (k0_t1_loop v1).trips), ∀ (k0_h1 : k0_cond1 v1 = 1#1), ∀ a, (k0_off2 v1 k0_t1) a + S256x2048.size a ≤ S1280x2048.size a := fun v1 k0_hw1 k0_t1 k0_h1 => k0_hw1.1.2.2.1 k0_t1 k0_h1
theorem k0_mult2_dvd : ∀ (v1 : BitVec 32) (k0_hw1 : k0_chk1 v1) (k0_t1 : Fin (k0_t1_loop v1).trips), ∀ (k0_h1 : k0_cond1 v1 = 1#1), 256 ∣ (k0_mult2 v1 k0_t1).toNat := fun v1 k0_hw1 k0_t1 k0_h1 => k0_hw1.1.2.2.2.1 k0_t1 k0_h1
theorem k0_off3_inb : ∀ (v1 : BitVec 32) (k0_hw1 : k0_chk1 v1) (k0_t1 : Fin (k0_t1_loop v1).trips), ∀ (k0_h1 : k0_cond1 v1 = 1#1), ∀ a, (k0_off3 v1 k0_t1) a + S256x2048.size a ≤ S1280x2048.size a := fun v1 k0_hw1 k0_t1 k0_h1 => k0_hw1.1.2.2.2.2.1 k0_t1 k0_h1
theorem k0_mult3_dvd : ∀ (v1 : BitVec 32) (k0_hw1 : k0_chk1 v1) (k0_t1 : Fin (k0_t1_loop v1).trips), ∀ (k0_h1 : k0_cond1 v1 = 1#1), 256 ∣ (k0_mult3 v1 k0_t1).toNat := fun v1 k0_hw1 k0_t1 k0_h1 => k0_hw1.1.2.2.2.2.2.1 k0_t1 k0_h1
theorem k0_off4_inb : ∀ (v1 : BitVec 32) (k0_hw1 : k0_chk1 v1) (k0_t1 : Fin (k0_t1_loop v1).trips), ∀ (k0_h1 : k0_cond1 v1 = 1#1), ∀ a, (k0_off4 v1 k0_t1) a + S256x256.size a ≤ S1280x2048.size a := fun v1 k0_hw1 k0_t1 k0_h1 => k0_hw1.1.2.2.2.2.2.2.1 k0_t1 k0_h1
theorem k0_off5_inb : ∀ (v1 : BitVec 32) (k0_hw1 : k0_chk1 v1) (k0_t1 : Fin (k0_t1_loop v1).trips), ∀ (k0_h1 : k0_cond1 v1 = 1#1), ∀ a, (k0_off5 v1 k0_t1) a + S256x256.size a ≤ S1280x2048.size a := fun v1 k0_hw1 k0_t1 k0_h1 => k0_hw1.1.2.2.2.2.2.2.2.1 k0_t1 k0_h1
theorem k0_off6_inb : ∀ (v1 : BitVec 32) (k0_hw1 : k0_chk1 v1) (k0_t1 : Fin (k0_t1_loop v1).trips), ∀ (k0_h1 : k0_cond1 v1 = 1#1), ∀ a, (k0_off6 v1 k0_t1) a + S256x256.size a ≤ S1280x2048.size a := fun v1 k0_hw1 k0_t1 k0_h1 => k0_hw1.1.2.2.2.2.2.2.2.2.1 k0_t1 k0_h1
theorem k0_off7_inb : ∀ (v1 : BitVec 32) (k0_hw1 : k0_chk1 v1) (k0_t1 : Fin (k0_t1_loop v1).trips), ∀ (k0_h1 : k0_cond1 v1 = 1#1), ∀ a, (k0_off7 v1 k0_t1) a + S256x256.size a ≤ S1280x2048.size a := fun v1 k0_hw1 k0_t1 k0_h1 => k0_hw1.1.2.2.2.2.2.2.2.2.2.1 k0_t1 k0_h1
theorem k0_off8_inb : ∀ (v1 : BitVec 32) (k0_hw1 : k0_chk1 v1) (k0_t1 : Fin (k0_t1_loop v1).trips), ∀ (k0_h1 : k0_cond1 v1 = 1#1), ∀ a, (k0_off8 v1 k0_t1) a + S256x256.size a ≤ S1280x2048.size a := fun v1 k0_hw1 k0_t1 k0_h1 => k0_hw1.1.2.2.2.2.2.2.2.2.2.2.1 k0_t1 k0_h1
theorem k0_off9_inb : ∀ (v1 : BitVec 32) (k0_hw1 : k0_chk1 v1) (k0_t1 : Fin (k0_t1_loop v1).trips), ∀ (k0_h1 : k0_cond1 v1 = 1#1), ∀ a, (k0_off9 v1 k0_t1) a + S256x256.size a ≤ S1280x2048.size a := fun v1 k0_hw1 k0_t1 k0_h1 => k0_hw1.1.2.2.2.2.2.2.2.2.2.2.2.1 k0_t1 k0_h1
theorem k0_off10_inb : ∀ (v1 : BitVec 32) (k0_hw1 : k0_chk1 v1) (k0_t1 : Fin (k0_t1_loop v1).trips), ∀ (k0_h1 : k0_cond1 v1 = 1#1), ∀ a, (k0_off10 v1 k0_t1) a + S256x256.size a ≤ S1280x2048.size a := fun v1 k0_hw1 k0_t1 k0_h1 => k0_hw1.1.2.2.2.2.2.2.2.2.2.2.2.2.1 k0_t1 k0_h1
theorem k0_off11_inb : ∀ (v1 : BitVec 32) (k0_hw1 : k0_chk1 v1) (k0_t1 : Fin (k0_t1_loop v1).trips), ∀ (k0_h1 : k0_cond1 v1 = 1#1), ∀ a, (k0_off11 v1 k0_t1) a + S256x256.size a ≤ S1280x2048.size a := fun v1 k0_hw1 k0_t1 k0_h1 => k0_hw1.1.2.2.2.2.2.2.2.2.2.2.2.2.2.1 k0_t1 k0_h1
theorem k0_mult4_dvd : ∀ (v1 : BitVec 32) (k0_hw1 : k0_chk1 v1) (k0_t1 : Fin (k0_t1_loop v1).trips), ∀ (k0_h1 : k0_cond1 v1 = 1#1), 256 ∣ (k0_mult4 v1 k0_t1).toNat := fun v1 k0_hw1 k0_t1 k0_h1 => k0_hw1.1.2.2.2.2.2.2.2.2.2.2.2.2.2.2.1 k0_t1 k0_h1
theorem k0_off12_inb : ∀ (v1 : BitVec 32) (k0_hw1 : k0_chk1 v1) (k0_t1 : Fin (k0_t1_loop v1).trips), ∀ (k0_h1 : k0_cond1 v1 = 1#1), ∀ a, (k0_off12 v1 k0_t1) a + S256x256.size a ≤ S1280x2048.size a := fun v1 k0_hw1 k0_t1 k0_h1 => k0_hw1.1.2.2.2.2.2.2.2.2.2.2.2.2.2.2.2.1 k0_t1 k0_h1
theorem k0_off13_inb : ∀ (v1 : BitVec 32) (k0_hw1 : k0_chk1 v1) (k0_t1 : Fin (k0_t1_loop v1).trips), ∀ (k0_h1 : k0_cond1 v1 = 1#1), ∀ a, (k0_off13 v1 k0_t1) a + S256x256.size a ≤ S1280x2048.size a := fun v1 k0_hw1 k0_t1 k0_h1 => k0_hw1.1.2.2.2.2.2.2.2.2.2.2.2.2.2.2.2.2.1 k0_t1 k0_h1
theorem k0_off14_inb : ∀ (v1 : BitVec 32) (k0_hw1 : k0_chk1 v1) (k0_t1 : Fin (k0_t1_loop v1).trips), ∀ (k0_h1 : k0_cond1 v1 = 1#1), ∀ a, (k0_off14 v1 k0_t1) a + S256x256.size a ≤ S1280x2048.size a := fun v1 k0_hw1 k0_t1 k0_h1 => k0_hw1.1.2.2.2.2.2.2.2.2.2.2.2.2.2.2.2.2.2.1 k0_t1 k0_h1
theorem k0_off15_inb : ∀ (v1 : BitVec 32) (k0_hw1 : k0_chk1 v1) (k0_t1 : Fin (k0_t1_loop v1).trips), ∀ (k0_h1 : k0_cond1 v1 = 1#1), ∀ a, (k0_off15 v1 k0_t1) a + S256x256.size a ≤ S1280x2048.size a := fun v1 k0_hw1 k0_t1 k0_h1 => k0_hw1.1.2.2.2.2.2.2.2.2.2.2.2.2.2.2.2.2.2.2.1 k0_t1 k0_h1
theorem k0_off16_inb : ∀ (v1 : BitVec 32) (k0_hw1 : k0_chk1 v1) (k0_t1 : Fin (k0_t1_loop v1).trips), ∀ (k0_h1 : k0_cond1 v1 = 1#1), ∀ a, (k0_off16 v1 k0_t1) a + S256x256.size a ≤ S1280x2048.size a := fun v1 k0_hw1 k0_t1 k0_h1 => k0_hw1.1.2.2.2.2.2.2.2.2.2.2.2.2.2.2.2.2.2.2.2.1 k0_t1 k0_h1
theorem k0_off17_inb : ∀ (v1 : BitVec 32) (k0_hw1 : k0_chk1 v1) (k0_t1 : Fin (k0_t1_loop v1).trips), ∀ (k0_h1 : k0_cond1 v1 = 1#1), ∀ a, (k0_off17 v1 k0_t1) a + S256x256.size a ≤ S1280x2048.size a := fun v1 k0_hw1 k0_t1 k0_h1 => k0_hw1.1.2.2.2.2.2.2.2.2.2.2.2.2.2.2.2.2.2.2.2.2.1 k0_t1 k0_h1
theorem k0_off18_inb : ∀ (v1 : BitVec 32) (k0_hw1 : k0_chk1 v1) (k0_t1 : Fin (k0_t1_loop v1).trips), ∀ (k0_h1 : k0_cond1 v1 = 1#1), ∀ a, (k0_off18 v1 k0_t1) a + S256x256.size a ≤ S1280x2048.size a := fun v1 k0_hw1 k0_t1 k0_h1 => k0_hw1.1.2.2.2.2.2.2.2.2.2.2.2.2.2.2.2.2.2.2.2.2.2.1 k0_t1 k0_h1
theorem k0_off19_inb : ∀ (v1 : BitVec 32) (k0_hw1 : k0_chk1 v1) (k0_t1 : Fin (k0_t1_loop v1).trips), ∀ (k0_h1 : k0_cond1 v1 = 1#1), ∀ a, (k0_off19 v1 k0_t1) a + S256x256.size a ≤ S1280x2048.size a := fun v1 k0_hw1 k0_t1 k0_h1 => k0_hw1.1.2.2.2.2.2.2.2.2.2.2.2.2.2.2.2.2.2.2.2.2.2.2.1 k0_t1 k0_h1
theorem k0_t2_ok : ∀ (v1 : BitVec 32) (k0_hw1 : k0_chk1 v1), ∀ (k0_h1 : k0_cond1 v1 = 1#1), (k0_t2_loop v1).OK := fun v1 k0_hw1 k0_h1 => k0_hw1.1.2.2.2.2.2.2.2.2.2.2.2.2.2.2.2.2.2.2.2.2.2.2.2.1 k0_h1
theorem k0_mult5_dvd : ∀ (v1 : BitVec 32) (k0_hw1 : k0_chk1 v1) (k0_t2 : Fin (k0_t2_loop v1).trips), ∀ (k0_h1 : k0_cond1 v1 = 1#1), 256 ∣ (k0_mult5 v1 k0_t2).toNat := fun v1 k0_hw1 k0_t2 k0_h1 => k0_hw1.1.2.2.2.2.2.2.2.2.2.2.2.2.2.2.2.2.2.2.2.2.2.2.2.2.1 k0_t2 k0_h1
theorem k0_off20_inb : ∀ (v1 : BitVec 32) (k0_hw1 : k0_chk1 v1) (k0_t2 : Fin (k0_t2_loop v1).trips), ∀ (k0_h1 : k0_cond1 v1 = 1#1), ∀ a, (k0_off20 v1 k0_t2) a + S256x2048.size a ≤ S1280x2048.size a := fun v1 k0_hw1 k0_t2 k0_h1 => k0_hw1.1.2.2.2.2.2.2.2.2.2.2.2.2.2.2.2.2.2.2.2.2.2.2.2.2.2.1 k0_t2 k0_h1
theorem k0_mult6_dvd : ∀ (v1 : BitVec 32) (k0_hw1 : k0_chk1 v1) (k0_t2 : Fin (k0_t2_loop v1).trips), ∀ (k0_h1 : k0_cond1 v1 = 1#1), 256 ∣ (k0_mult6 v1 k0_t2).toNat := fun v1 k0_hw1 k0_t2 k0_h1 => k0_hw1.1.2.2.2.2.2.2.2.2.2.2.2.2.2.2.2.2.2.2.2.2.2.2.2.2.2.2.1 k0_t2 k0_h1
theorem k0_off21_inb : ∀ (v1 : BitVec 32) (k0_hw1 : k0_chk1 v1) (k0_t2 : Fin (k0_t2_loop v1).trips), ∀ (k0_h1 : k0_cond1 v1 = 1#1), ∀ a, (k0_off21 v1 k0_t2) a + S256x2048.size a ≤ S1280x2048.size a := fun v1 k0_hw1 k0_t2 k0_h1 => k0_hw1.1.2.2.2.2.2.2.2.2.2.2.2.2.2.2.2.2.2.2.2.2.2.2.2.2.2.2.2.1 k0_t2 k0_h1
theorem k0_mult7_dvd : ∀ (v1 : BitVec 32) (k0_hw1 : k0_chk1 v1) (k0_t2 : Fin (k0_t2_loop v1).trips), ∀ (k0_h1 : k0_cond1 v1 = 1#1), 256 ∣ (k0_mult7 v1 k0_t2).toNat := fun v1 k0_hw1 k0_t2 k0_h1 => k0_hw1.1.2.2.2.2.2.2.2.2.2.2.2.2.2.2.2.2.2.2.2.2.2.2.2.2.2.2.2.2.1 k0_t2 k0_h1
theorem k0_off22_inb : ∀ (v1 : BitVec 32) (k0_hw1 : k0_chk1 v1) (k0_t2 : Fin (k0_t2_loop v1).trips), ∀ (k0_h1 : k0_cond1 v1 = 1#1), ∀ a, (k0_off22 v1 k0_t2) a + S256x256.size a ≤ S1280x2048.size a := fun v1 k0_hw1 k0_t2 k0_h1 => k0_hw1.1.2.2.2.2.2.2.2.2.2.2.2.2.2.2.2.2.2.2.2.2.2.2.2.2.2.2.2.2.2.1 k0_t2 k0_h1
theorem k0_off23_inb : ∀ (v1 : BitVec 32) (k0_hw1 : k0_chk1 v1) (k0_t2 : Fin (k0_t2_loop v1).trips), ∀ (k0_h1 : k0_cond1 v1 = 1#1), ∀ a, (k0_off23 v1 k0_t2) a + S256x256.size a ≤ S1280x2048.size a := fun v1 k0_hw1 k0_t2 k0_h1 => k0_hw1.1.2.2.2.2.2.2.2.2.2.2.2.2.2.2.2.2.2.2.2.2.2.2.2.2.2.2.2.2.2.2.1 k0_t2 k0_h1
theorem k0_off24_inb : ∀ (v1 : BitVec 32) (k0_hw1 : k0_chk1 v1) (k0_t2 : Fin (k0_t2_loop v1).trips), ∀ (k0_h1 : k0_cond1 v1 = 1#1), ∀ a, (k0_off24 v1 k0_t2) a + S256x256.size a ≤ S1280x2048.size a := fun v1 k0_hw1 k0_t2 k0_h1 => k0_hw1.1.2.2.2.2.2.2.2.2.2.2.2.2.2.2.2.2.2.2.2.2.2.2.2.2.2.2.2.2.2.2.2 k0_t2 k0_h1
theorem k0_off25_inb : ∀ (v1 : BitVec 32) (k0_hw1 : k0_chk1 v1) (k0_t2 : Fin (k0_t2_loop v1).trips), ∀ (k0_h1 : k0_cond1 v1 = 1#1), ∀ a, (k0_off25 v1 k0_t2) a + S256x256.size a ≤ S1280x2048.size a := fun v1 k0_hw1 k0_t2 k0_h1 => k0_hw1.2.1 k0_t2 k0_h1
theorem k0_off26_inb : ∀ (v1 : BitVec 32) (k0_hw1 : k0_chk1 v1) (k0_t2 : Fin (k0_t2_loop v1).trips), ∀ (k0_h1 : k0_cond1 v1 = 1#1), ∀ a, (k0_off26 v1 k0_t2) a + S256x256.size a ≤ S1280x2048.size a := fun v1 k0_hw1 k0_t2 k0_h1 => k0_hw1.2.2.1 k0_t2 k0_h1
theorem k0_off27_inb : ∀ (v1 : BitVec 32) (k0_hw1 : k0_chk1 v1) (k0_t2 : Fin (k0_t2_loop v1).trips), ∀ (k0_h1 : k0_cond1 v1 = 1#1), ∀ a, (k0_off27 v1 k0_t2) a + S256x256.size a ≤ S1280x2048.size a := fun v1 k0_hw1 k0_t2 k0_h1 => k0_hw1.2.2.2.1 k0_t2 k0_h1
theorem k0_off28_inb : ∀ (v1 : BitVec 32) (k0_hw1 : k0_chk1 v1) (k0_t2 : Fin (k0_t2_loop v1).trips), ∀ (k0_h1 : k0_cond1 v1 = 1#1), ∀ a, (k0_off28 v1 k0_t2) a + S256x256.size a ≤ S1280x2048.size a := fun v1 k0_hw1 k0_t2 k0_h1 => k0_hw1.2.2.2.2.1 k0_t2 k0_h1
theorem k0_off29_inb : ∀ (v1 : BitVec 32) (k0_hw1 : k0_chk1 v1) (k0_t2 : Fin (k0_t2_loop v1).trips), ∀ (k0_h1 : k0_cond1 v1 = 1#1), ∀ a, (k0_off29 v1 k0_t2) a + S256x256.size a ≤ S1280x2048.size a := fun v1 k0_hw1 k0_t2 k0_h1 => k0_hw1.2.2.2.2.2.1 k0_t2 k0_h1
theorem k0_mult8_dvd : ∀ (v1 : BitVec 32) (k0_hw1 : k0_chk1 v1) (k0_t2 : Fin (k0_t2_loop v1).trips), ∀ (k0_h1 : k0_cond1 v1 = 1#1), 256 ∣ (k0_mult8 v1 k0_t2).toNat := fun v1 k0_hw1 k0_t2 k0_h1 => k0_hw1.2.2.2.2.2.2.1 k0_t2 k0_h1
theorem k0_off30_inb : ∀ (v1 : BitVec 32) (k0_hw1 : k0_chk1 v1) (k0_t2 : Fin (k0_t2_loop v1).trips), ∀ (k0_h1 : k0_cond1 v1 = 1#1), ∀ a, (k0_off30 v1 k0_t2) a + S256x256.size a ≤ S1280x2048.size a := fun v1 k0_hw1 k0_t2 k0_h1 => k0_hw1.2.2.2.2.2.2.2.1 k0_t2 k0_h1
theorem k0_off31_inb : ∀ (v1 : BitVec 32) (k0_hw1 : k0_chk1 v1) (k0_t2 : Fin (k0_t2_loop v1).trips), ∀ (k0_h1 : k0_cond1 v1 = 1#1), ∀ a, (k0_off31 v1 k0_t2) a + S256x256.size a ≤ S1280x2048.size a := fun v1 k0_hw1 k0_t2 k0_h1 => k0_hw1.2.2.2.2.2.2.2.2.1 k0_t2 k0_h1
theorem k0_off32_inb : ∀ (v1 : BitVec 32) (k0_hw1 : k0_chk1 v1) (k0_t2 : Fin (k0_t2_loop v1).trips), ∀ (k0_h1 : k0_cond1 v1 = 1#1), ∀ a, (k0_off32 v1 k0_t2) a + S256x256.size a ≤ S1280x2048.size a := fun v1 k0_hw1 k0_t2 k0_h1 => k0_hw1.2.2.2.2.2.2.2.2.2.1 k0_t2 k0_h1
theorem k0_off33_inb : ∀ (v1 : BitVec 32) (k0_hw1 : k0_chk1 v1) (k0_t2 : Fin (k0_t2_loop v1).trips), ∀ (k0_h1 : k0_cond1 v1 = 1#1), ∀ a, (k0_off33 v1 k0_t2) a + S256x256.size a ≤ S1280x2048.size a := fun v1 k0_hw1 k0_t2 k0_h1 => k0_hw1.2.2.2.2.2.2.2.2.2.2.1 k0_t2 k0_h1
theorem k0_off34_inb : ∀ (v1 : BitVec 32) (k0_hw1 : k0_chk1 v1) (k0_t2 : Fin (k0_t2_loop v1).trips), ∀ (k0_h1 : k0_cond1 v1 = 1#1), ∀ a, (k0_off34 v1 k0_t2) a + S256x256.size a ≤ S1280x2048.size a := fun v1 k0_hw1 k0_t2 k0_h1 => k0_hw1.2.2.2.2.2.2.2.2.2.2.2.1 k0_t2 k0_h1
theorem k0_off35_inb : ∀ (v1 : BitVec 32) (k0_hw1 : k0_chk1 v1) (k0_t2 : Fin (k0_t2_loop v1).trips), ∀ (k0_h1 : k0_cond1 v1 = 1#1), ∀ a, (k0_off35 v1 k0_t2) a + S256x256.size a ≤ S1280x2048.size a := fun v1 k0_hw1 k0_t2 k0_h1 => k0_hw1.2.2.2.2.2.2.2.2.2.2.2.2.1 k0_t2 k0_h1
theorem k0_off36_inb : ∀ (v1 : BitVec 32) (k0_hw1 : k0_chk1 v1) (k0_t2 : Fin (k0_t2_loop v1).trips), ∀ (k0_h1 : k0_cond1 v1 = 1#1), ∀ a, (k0_off36 v1 k0_t2) a + S256x256.size a ≤ S1280x2048.size a := fun v1 k0_hw1 k0_t2 k0_h1 => k0_hw1.2.2.2.2.2.2.2.2.2.2.2.2.2.1 k0_t2 k0_h1
theorem k0_off37_inb : ∀ (v1 : BitVec 32) (k0_hw1 : k0_chk1 v1) (k0_t2 : Fin (k0_t2_loop v1).trips), ∀ (k0_h1 : k0_cond1 v1 = 1#1), ∀ a, (k0_off37 v1 k0_t2) a + S256x256.size a ≤ S1280x2048.size a := fun v1 k0_hw1 k0_t2 k0_h1 => k0_hw1.2.2.2.2.2.2.2.2.2.2.2.2.2.2.1 k0_t2 k0_h1
theorem k0_mult9_dvd : ∀ (v1 : BitVec 32) (k0_hw1 : k0_chk1 v1), ∀ (k0_h1 : k0_cond1 v1 = 1#1), ∀ (k0_h3 : k0_cond3 v1 = 1#1), 256 ∣ (k0_mult9 v1).toNat := fun v1 k0_hw1 k0_h1 k0_h3 => k0_hw1.2.2.2.2.2.2.2.2.2.2.2.2.2.2.2.1 k0_h1 k0_h3
theorem k0_off38_inb : ∀ (v1 : BitVec 32) (k0_hw1 : k0_chk1 v1), ∀ (k0_h1 : k0_cond1 v1 = 1#1), ∀ (k0_h3 : k0_cond3 v1 = 1#1), ∀ a, (k0_off38 v1) a + S256x2048.size a ≤ S1280x2048.size a := fun v1 k0_hw1 k0_h1 k0_h3 => k0_hw1.2.2.2.2.2.2.2.2.2.2.2.2.2.2.2.2.1 k0_h1 k0_h3
theorem k0_mult10_dvd : ∀ (v1 : BitVec 32) (k0_hw1 : k0_chk1 v1), ∀ (k0_h1 : k0_cond1 v1 = 1#1), ∀ (k0_h3 : k0_cond3 v1 = 1#1), 256 ∣ (k0_mult10 v1).toNat := fun v1 k0_hw1 k0_h1 k0_h3 => k0_hw1.2.2.2.2.2.2.2.2.2.2.2.2.2.2.2.2.2.1 k0_h1 k0_h3
theorem k0_off39_inb : ∀ (v1 : BitVec 32) (k0_hw1 : k0_chk1 v1), ∀ (k0_h1 : k0_cond1 v1 = 1#1), ∀ (k0_h3 : k0_cond3 v1 = 1#1), ∀ a, (k0_off39 v1) a + S256x256.size a ≤ S1280x2048.size a := fun v1 k0_hw1 k0_h1 k0_h3 => k0_hw1.2.2.2.2.2.2.2.2.2.2.2.2.2.2.2.2.2.2.1 k0_h1 k0_h3
theorem k0_off40_inb : ∀ (v1 : BitVec 32) (k0_hw1 : k0_chk1 v1), ∀ (k0_h1 : k0_cond1 v1 = 1#1), ∀ (k0_h3 : k0_cond3 v1 = 1#1), ∀ a, (k0_off40 v1) a + S256x256.size a ≤ S1280x2048.size a := fun v1 k0_hw1 k0_h1 k0_h3 => k0_hw1.2.2.2.2.2.2.2.2.2.2.2.2.2.2.2.2.2.2.2.1 k0_h1 k0_h3
theorem k0_off41_inb : ∀ (v1 : BitVec 32) (k0_hw1 : k0_chk1 v1), ∀ (k0_h1 : k0_cond1 v1 = 1#1), ∀ (k0_h3 : k0_cond3 v1 = 1#1), ∀ a, (k0_off41 v1) a + S256x256.size a ≤ S1280x2048.size a := fun v1 k0_hw1 k0_h1 k0_h3 => k0_hw1.2.2.2.2.2.2.2.2.2.2.2.2.2.2.2.2.2.2.2.2.1 k0_h1 k0_h3
theorem k0_off42_inb : ∀ (v1 : BitVec 32) (k0_hw1 : k0_chk1 v1), ∀ (k0_h1 : k0_cond1 v1 = 1#1), ∀ (k0_h3 : k0_cond3 v1 = 1#1), ∀ a, (k0_off42 v1) a + S256x256.size a ≤ S1280x2048.size a := fun v1 k0_hw1 k0_h1 k0_h3 => k0_hw1.2.2.2.2.2.2.2.2.2.2.2.2.2.2.2.2.2.2.2.2.2.1 k0_h1 k0_h3
theorem k0_off43_inb : ∀ (v1 : BitVec 32) (k0_hw1 : k0_chk1 v1), ∀ (k0_h1 : k0_cond1 v1 = 1#1), ∀ (k0_h3 : k0_cond3 v1 = 1#1), ∀ a, (k0_off43 v1) a + S256x256.size a ≤ S1280x2048.size a := fun v1 k0_hw1 k0_h1 k0_h3 => k0_hw1.2.2.2.2.2.2.2.2.2.2.2.2.2.2.2.2.2.2.2.2.2.2.1 k0_h1 k0_h3
theorem k0_off44_inb : ∀ (v1 : BitVec 32) (k0_hw1 : k0_chk1 v1), ∀ (k0_h1 : k0_cond1 v1 = 1#1), ∀ (k0_h3 : k0_cond3 v1 = 1#1), ∀ a, (k0_off44 v1) a + S256x256.size a ≤ S1280x2048.size a := fun v1 k0_hw1 k0_h1 k0_h3 => k0_hw1.2.2.2.2.2.2.2.2.2.2.2.2.2.2.2.2.2.2.2.2.2.2.2.1 k0_h1 k0_h3
theorem k0_off45_inb : ∀ (v1 : BitVec 32) (k0_hw1 : k0_chk1 v1), ∀ (k0_h1 : k0_cond1 v1 = 1#1), ∀ (k0_h3 : k0_cond3 v1 = 1#1), ∀ a, (k0_off45 v1) a + S256x256.size a ≤ S1280x2048.size a := fun v1 k0_hw1 k0_h1 k0_h3 => k0_hw1.2.2.2.2.2.2.2.2.2.2.2.2.2.2.2.2.2.2.2.2.2.2.2.2.1 k0_h1 k0_h3
theorem k0_off46_inb : ∀ (v1 : BitVec 32) (k0_hw1 : k0_chk1 v1), ∀ (k0_h1 : k0_cond1 v1 = 1#1), ∀ (k0_h3 : k0_cond3 v1 = 1#1), ∀ a, (k0_off46 v1) a + S256x256.size a ≤ S1280x2048.size a := fun v1 k0_hw1 k0_h1 k0_h3 => k0_hw1.2.2.2.2.2.2.2.2.2.2.2.2.2.2.2.2.2.2.2.2.2.2.2.2.2 k0_h1 k0_h3

def k0_cond2 (i : grid0.Coords) : BitVec 1 :=
  let arg1 : BitVec 32 := BitVec.ofNat 32 (i 1).val
  let c0_i32_13 : BitVec 32 := 0#32
  let v33 : BitVec 1 := Scalar.cmpi .eq arg1 c0_i32_13
  let v34 : BitVec 32 := Scalar.extui v33
  let c0_i32_14 : BitVec 32 := 0#32
  let v35 : BitVec 1 := Scalar.cmpi .ne v34 c0_i32_14
  v35

def cc0_transform_0 (k0_off1_inb : ∀ i : grid0.Coords, ∀ a, (k0_off1 i) a + S1.size a ≤ S58.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S58) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S58.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S58) ![v0.toNat] S1.size (k0_off1_inb i)) numel1_S1
  let v2 : Index := Scalar.indexCast arg0
  let v3 : BitVec 32 := pf.at 1 (Rect.unit (s := S58) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S58.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S58) ![v0.toNat] S1.size (k0_off1_inb i)) numel1_S1
  let v2 : Index := Scalar.indexCast arg0
  let v3 : BitVec 32 := pf.at 1 (Rect.unit (s := S58) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S58.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S58) ![v0.toNat] S1.size (k0_off1_inb i)) numel1_S1
  let v2 : Index := Scalar.indexCast arg0
  let v3 : BitVec 32 := pf.at 1 (Rect.unit (s := S58) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c0_i32_0 : BitVec 32 := 0#32
  let c0_i32_1 : BitVec 32 := 0#32
  ![v1.toNat, v5.toNat, c0_i32_0.toNat]

def cc0_transform_4 (k0_off1_inb : ∀ i : grid0.Coords, ∀ a, (k0_off1 i) a + S1.size a ≤ S58.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S58) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S58.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S58) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1280x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceMoeIdeal.lean ====
abbrev S58 : Shape := ⟨1, ![58]⟩
abbrev S74240x2048 : Shape := ⟨2, ![74240, 2048]⟩
abbrev S32x2048x4096 : Shape := ⟨3, ![32, 2048, 4096]⟩
abbrev S32x1x4096 : Shape := ⟨3, ![32, 1, 4096]⟩
abbrev S32x2048x2048 : Shape := ⟨3, ![32, 2048, 2048]⟩
abbrev S32x1x2048 : Shape := ⟨3, ![32, 1, 2048]⟩
abbrev S58x1 : Shape := ⟨2, ![58, 1]⟩
abbrev S58x1280 : Shape := ⟨2, ![58, 1280]⟩
abbrev S74240 : Shape := ⟨1, ![74240]⟩
abbrev S32 : Shape := ⟨1, ![32]⟩
abbrev S32x1 : Shape := ⟨2, ![32, 1]⟩
abbrev S1x74240 : Shape := ⟨2, ![1, 74240]⟩
abbrev S32x74240 : Shape := ⟨2, ![32, 74240]⟩
abbrev S32x4096x74240 : Shape := ⟨3, ![32, 4096, 74240]⟩
abbrev S32x74240x4096 : Shape := ⟨3, ![32, 74240, 4096]⟩
abbrev S32x74240x2048 : Shape := ⟨3, ![32, 74240, 2048]⟩
abbrev S_ : Shape := ⟨0, ![]⟩
abbrev S32x74240x1 : Shape := ⟨3, ![32, 74240, 1]⟩

abbrev nBuf : Space → Nat
  | .hbm => 60
  | .vmem => 0
  | .smem => 0
  | _ => 0

abbrev bufTy : (tb : Table) → Fin (tcTables nBuf tb) → BufTy
  | .hbm, ⟨0, _⟩ => ⟨S58, .i32⟩
  | .hbm, ⟨1, _⟩ => ⟨S58, .i32⟩
  | .hbm, ⟨2, _⟩ => ⟨S58, .i32⟩
  | .hbm, ⟨3, _⟩ => ⟨S74240x2048, .bf16⟩
  | .hbm, ⟨4, _⟩ => ⟨S32x2048x4096, .f32⟩
  | .hbm, ⟨5, _⟩ => ⟨S32x1x4096, .f32⟩
  | .hbm, ⟨6, _⟩ => ⟨S32x2048x2048, .f32⟩
  | .hbm, ⟨7, _⟩ => ⟨S32x1x2048, .f32⟩
  | .hbm, ⟨8, _⟩ => ⟨S74240x2048, .f32⟩
  | .hbm, ⟨9, _⟩ => ⟨S58x1, .i32⟩
  | .hbm, ⟨10, _⟩ => ⟨S58x1280, .i32⟩
  | .hbm, ⟨11, _⟩ => ⟨S74240, .i32⟩
  | .hbm, ⟨12, _⟩ => ⟨S32, .i32⟩
  | .hbm, ⟨13, _⟩ => ⟨S32x1, .i32⟩
  | .hbm, ⟨14, _⟩ => ⟨S1x74240, .i32⟩
  | .hbm, ⟨15, _⟩ => ⟨S32x74240, .i32⟩
  | .hbm, ⟨16, _⟩ => ⟨S32x74240, .i32⟩
  | .hbm, ⟨17, _⟩ => ⟨S32x74240, .i1⟩
  | .hbm, ⟨18, _⟩ => ⟨S32x74240, .f32⟩
  | .hbm, ⟨19, _⟩ => ⟨S32x4096x74240, .f32⟩
  | .hbm, ⟨20, _⟩ => ⟨S32x74240x4096, .f32⟩
  | .hbm, ⟨21, _⟩ => ⟨S32x74240x4096, .f32⟩
  | .hbm, ⟨22, _⟩ => ⟨S32x74240x4096, .f32⟩
  | .hbm, ⟨23, _⟩ => ⟨S32x74240x2048, .f32⟩
  | .hbm, ⟨24, _⟩ => ⟨S32x74240x2048, .f32⟩
  | .hbm, ⟨25, _⟩ => ⟨S_, .f32⟩
  | .hbm, ⟨26, _⟩ => ⟨S32x74240x2048, .f32⟩
  | .hbm, ⟨27, _⟩ => ⟨S32x74240x2048, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S32x74240x2048, .f32⟩
  | .hbm, ⟨32, _⟩ => ⟨S32x74240x2048, .f32⟩
  | .hbm, ⟨33, _⟩ => ⟨S_, .f32⟩
  | .hbm, ⟨34, _⟩ => ⟨S32x74240x2048, .f32⟩
  | .hbm, ⟨35, _⟩ => ⟨S32x74240x2048, .f32⟩
  | .hbm, ⟨36, _⟩ => ⟨S_, .f32⟩
  | .hbm, ⟨37, _⟩ => ⟨S32x74240x2048, .f32⟩
  | .hbm, ⟨38, _⟩ => ⟨S32x74240x2048, .f32⟩
  | .hbm, ⟨39, _⟩ => ⟨S32x74240x2048, .f32⟩
  | .hbm, ⟨40, _⟩ => ⟨S32x74240x2048, .f32⟩
  | .hbm, ⟨41, _⟩ => ⟨S_, .f32⟩
  | .hbm, ⟨42, _⟩ => ⟨S32x74240x2048, .f32⟩
  | .hbm, ⟨43, _⟩ => ⟨S32x74240x2048, .f32⟩
  | .hbm, ⟨44, _⟩ => ⟨S_, .f32⟩
  | .hbm, ⟨45, _⟩ => ⟨S32x74240x2048, .f32⟩
  | .hbm, ⟨46, _⟩ => ⟨S32x74240x2048, .f32⟩
  | .hbm, ⟨47, _⟩ => ⟨S32x74240x2048, .f32⟩
  | .hbm, ⟨48, _⟩ => ⟨S_, .f32⟩
  | .hbm, ⟨49, _⟩ => ⟨S32x74240x2048, .f32⟩
  | .hbm, ⟨50, _⟩ => ⟨S32x74240x2048, .f32⟩
  | .hbm, ⟨51, _⟩ => ⟨S32x74240x2048, .f32⟩
  | .hbm, ⟨52, _⟩ => ⟨S32x74240x2048, .f32⟩
  | .hbm, ⟨53, _⟩ => ⟨S32x74240x2048, .f32⟩
  | .hbm, ⟨54, _⟩ => ⟨S32x74240x2048, .f32⟩
  | .hbm, ⟨55, _⟩ => ⟨S32x74240x1, .f32⟩
  | .hbm, ⟨56, _⟩ => ⟨S32x74240x2048, .f32⟩
  | .hbm, ⟨57, _⟩ => ⟨S32x74240x2048, .f32⟩
  | .hbm, ⟨58, _⟩ => ⟨S_, .f32⟩
  | .hbm, ⟨59, _⟩ => ⟨S74240x2048, .f32⟩
  | _, _ => ⟨S58, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Proof.Moe.Tables.lean ====
module

public import proofs.«01_k».proof.Proof.Gen.KernelMoeIdeal
public import proofs.«01_k».proof.Proof.Gen.KernelMoeIdeal.Skeleton
public import proofs.«01_k».proof.Proof.Gen.KernelMoeIdeal.Launch
public import proofs.«01_k».proof.Proof.Gen.KernelMoeIdeal.Loops
public import proofs.«01_k».proof.Proof.Gen.Pre_items_are_packed
public import Idealize.ShloMosaic.Lib.Exec
public import Idealize.ShloMosaic.Lib.Tactic
public import Idealize.ShloMosaic.Lib.Affine
public import Idealize.ShloMosaic.Lib.Pipeline.Value

@[expose] public section

set_option maxRecDepth 16384

noncomputable section

namespace Cert.KernelMoeIdeal.Hand

open Cert.KernelMoeIdeal Cert.KernelMoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The index of the tables at a number. -/
def at58 (k : Fin 58) : S58.Idx := fun a => ⟨k.val, by obtain rfl : a = 0 := Subsingleton.elim _ _; exact k.isLt⟩

/-- What the kernel needs of its tables: experts in range, at most five pieces, an item with work at its own
    block, an item without at the block of the item before it. -/
structure Packed (e ns blk : S58.Idx → BitVec 32) : Prop where
  expert : ∀ k, (e (at58 k)).toNat < 32
  pieces : ∀ k, (ns (at58 k)).toNat ≤ 5
  own : ∀ k, ns (at58 k) ≠ 0#32 → (blk (at58 k)).toNat = k.val
  first : ns (at58 0) ≠ 0#32
  prev : ∀ k : Fin 58, ∀ h : k.val ≠ 0, ns (at58 k) = 0#32 → blk (at58 k) = blk (at58 ⟨k.val - 1, by omega⟩)

theorem Packed.block {e ns blk : S58.Idx → BitVec 32} (h : Packed e ns blk) (k : Fin 58) : (blk (at58 k)).toNat ≤ k.val := by
  obtain ⟨k, hk⟩ := k
  induction k with
  | zero => exact (h.own _ h.first).le
  | succ k ih =>
    by_cases h0 : ns (at58 ⟨k + 1, hk⟩) = 0#32
    · rw [h.prev ⟨k + 1, hk⟩ (Nat.succ_ne_zero k) h0]
      exact (ih (by omega)).trans (Nat.le_succ k)
    · exact (h.own _ h0).le

/-- The precondition says so. -/
theorem packed_of_pre (e ns blk : Cert.Pre_items_are_packed.S58.Idx → BitVec 32) (a3 a4 a5 a6 a7)
    (h : Cert.Pre_items_are_packed.fn (F := F) e ns blk a3 a4 a5 a6 a7 = fun _ => 1#1) : Packed e ns blk := by
  have andi_one (a b : BitVec 1) : IntOp.andi a b = 1#1 ↔ a = 1#1 ∧ b = 1#1 := by revert a b; decide
  have ori_one (a b : BitVec 1) : IntOp.ori a b = 1#1 ↔ a = 1#1 ∨ b = 1#1 := by revert a b; decide
  have of_ofBool (b : Bool) : BitVec.ofBool b = 1#1 ↔ b = true := by revert b; decide
  have pre := fun k => congrFun h (at58 k)
  simp only [Cert.Pre_items_are_packed.fn, Cert.Pre_items_are_packed.fn_part1, Cert.Pre_items_are_packed.fn_where, constantI, broadcastInDim, cmpi, andi, ori, select, andi_one, ori_one, iotaInDim, IntOp.cmpi, of_ofBool] at pre
  have sle (a b : BitVec 32) (h : a.sle b = true) : a.toInt ≤ b.toInt := of_decide_eq_true h
  have slt (a b : BitVec 32) (h : a.slt b = true) : a.toInt < b.toInt := of_decide_eq_true h
  have k0 (k : Fin 58) : ((at58 k) 0).val = k.val := rfl
  have toI (v : BitVec 32) (h1 : (0#32).toInt ≤ v.toInt) : v.toInt = v.toNat := by
    simp only [BitVec.toInt_eq_toNat_cond] at *
    have := v.isLt
    split at h1 <;> simp at * <;> omega
  have tn (v : BitVec 32) (n : ℕ) (hn : n < 58) (h1 : (0#32).toInt ≤ v.toInt) (h2 : v.toInt < (n : ℤ)) : v.toNat < n := by
    have := toI v h1; omega
  have ofN (k : Fin 58) : (BitVec.ofNat 32 k.val).toNat = k.val := by
    rw [BitVec.toNat_ofNat]; have := k.isLt; omega
  have pos (k : Fin 58) (hn : ns (at58 k) ≠ 0#32) : (0#32).slt (ns (at58 k)) = true := by
    have h1 := sle _ _ (pre k).1.1.1.2
    have h2 := toI _ h1
    have h3 : (ns (at58 k)).toNat ≠ 0 := fun h => hn (BitVec.eq_of_toNat_eq (h.trans rfl))
    refine decide_eq_true ?_
    rw [h2]; show (0 : ℤ) < _; omega
  refine ⟨fun k => ?_, fun k => ?_, fun k hn => ?_, fun hn => ?_, fun k hk hn => ?_⟩
  · have h1 := (pre k).1.1.1.1
    exact tn _ 32 (by omega) (sle _ _ h1.1) (slt _ _ h1.2)
  · have h1 := (pre k).1.1
    have h2 := toI _ (sle _ _ h1.1.2)
    have h3 : (ns (at58 k)).toInt ≤ 5 := sle _ _ h1.2
    omega
  · have h1 := (pre k).1.2
    rw [beq_iff_eq] at h1
    rw [h1, pos k hn]
    exact ofN k
  · have h1 := (pre 0).2
    rw [hn] at h1
    exact absurd h1 (by decide)
  · have h1 := (pre k).1.2
    rw [beq_iff_eq, hn] at h1
    rw [h1]
    refine Eq.trans (concatenate_pair_apply_right (t := Cert.Pre_items_are_packed.S58) (s₁ := Cert.Pre_items_are_packed.S1) (s₂ := Cert.Pre_items_are_packed.S57) 0 _ _ Cert.Pre_items_are_packed.Gen.concatenates_S1_S57_S58_d0 (at58 k) rfl rfl (fun a => ⟨k.val - 1, by obtain rfl : a = 0 := Subsingleton.elim _ _; show k.val - 1 < 57; omega⟩) (fun b hb => absurd (Subsingleton.elim (α := Fin 1) _ _) hb) ?_) ?_
    · show k.val - 1 + 1 = k.val; omega
    · exact congrArg blk (funext fun a => by obtain rfl : a = 0 := Subsingleton.elim _ _; exact Fin.ext (Nat.zero_add _))

theorem six (v : BitVec 32) (h : v.toNat ≤ 5) : v = 0#32 ∨ v = 1#32 ∨ v = 2#32 ∨ v = 3#32 ∨ v = 4#32 ∨ v = 5#32 := by
  have h' : v.toNat = 0 ∨ v.toNat = 1 ∨ v.toNat = 2 ∨ v.toNat = 3 ∨ v.toNat = 4 ∨ v.toNat = 5 := by omega
  rcases h' with h | h | h | h | h | h
  · exact .inl (BitVec.eq_of_toNat_eq h)
  · exact .inr (.inl (BitVec.eq_of_toNat_eq h))
  · exact .inr (.inr (.inl (BitVec.eq_of_toNat_eq h)))
  · exact .inr (.inr (.inr (.inl (BitVec.eq_of_toNat_eq h))))
  · exact .inr (.inr (.inr (.inr (.inl (BitVec.eq_of_toNat_eq h)))))
  · exact .inr (.inr (.inr (.inr (.inr (BitVec.eq_of_toNat_eq h)))))

theorem idx58 (a b : S58.Idx) (h : (a 0).val = (b 0).val) : a = b := by
  funext x; obtain rfl : x = 0 := Subsingleton.elim _ _; exact Fin.ext h

/-- Every number of pieces an item may have passes the kernel's own check. -/
theorem chk_ok (v : BitVec 32) (h : v.toNat ≤ 5) : k0_chk1 v := by
  have := six v h
  rcases this with rfl | rfl | rfl | rfl | rfl | rfl <;> decide +kernel

theorem off1_val (i : grid0.Coords) : k0_off1 i = ![(i 0).val] := by
  have h : (i 0).val < 58 := (i 0).isLt
  unfold k0_off1
  show ![_] = _
  congr 1
  show (BitVec.ofNat 32 (i 0).val).toNat = _
  rw [BitVec.toNat_ofNat]; omega

/-- The block's number on the second axis of the weights. -/
def sel (n : BitVec 32) (i : grid0.Coords) : ℕ := if n = 0#32 then 7 else (i 1).val

theorem pf_at (pf : pre0.Contents (Elt F)) (k : Fin 3) (i : grid0.Coords) (r : Fin 1 → ℕ) (hr : r = ![(i 0).val]) (h) (h1) :
    (match k with | 0 => pf.at 0 (Rect.unit (s := S58) r S1.size h) h1 | 1 => pf.at 1 (Rect.unit (s := S58) r S1.size h) h1 | 2 => pf.at 2 (Rect.unit (s := S58) r S1.size h) h1)
      = (match k with | 0 => pf 0 (at58 (i 0)) | 1 => pf 1 (at58 (i 0)) | 2 => pf 2 (at58 (i 0)) : BitVec 32) := by
  subst hr
  match k with
  | 0 => exact congrArg (pf 0) (idx58 _ _ rfl)
  | 1 => exact congrArg (pf 1) (idx58 _ _ rfl)
  | 2 => exact congrArg (pf 2) (idx58 _ _ rfl)

theorem pf_atD (pf : pre0.Contents (Elt F)) (i : grid0.Coords) : (pf.atD 1 (k0_off1 i) : BitVec 32) = pf 1 (at58 (i 0)) := by
  rw [off1_val]
  have h : ∀ a, ![(i 0).val] a + 1 ≤ (pre0.ref 1).ty.shape.size a := by
    intro a; obtain rfl : a = (0 : Fin 1) := Subsingleton.elim (α := Fin 1) _ _; exact (i 0).isLt
  refine (dif_pos h).trans (congrArg (pf 1) (idx58 _ _ rfl))

theorem tr0 (pf : pre0.Contents (Elt F)) (i : grid0.Coords) : cc0_transform_0 k0_off1_inb numel1_S1 pf i = ![(pf 2 (at58 (i 0)) : BitVec 32).toNat, 0] := by
  unfold cc0_transform_0
  exact congrArg (fun v : BitVec 32 => ![v.toNat, 0]) (pf_at pf 2 i _ (off1_val i) (k0_off1_inb i) numel1_S1)
theorem tr5 (pf : pre0.Contents (Elt F)) (i : grid0.Coords) : cc0_transform_5 k0_off1_inb numel1_S1 pf i = ![(pf 2 (at58 (i 0)) : BitVec 32).toNat, 0] := by
  unfold cc0_transform_5
  exact congrArg (fun v : BitVec 32 => ![v.toNat, 0]) (pf_at pf 2 i _ (off1_val i) (k0_off1_inb i) numel1_S1)
theorem tr4 (pf : pre0.Contents (Elt F)) (i : grid0.Coords) : cc0_transform_4 k0_off1_inb numel1_S1 pf i = ![(pf 0 (at58 (i 0)) : BitVec 32).toNat, 0, 0] := by
  unfold cc0_transform_4
  exact congrArg (fun v : BitVec 32 => ![v.toNat, 0, 0]) (pf_at pf 0 i _ (off1_val i) (k0_off1_inb i) numel1_S1)

theorem sel_eq (n : BitVec 32) (hn : n.toNat ≤ 5) (i : grid0.Coords) :
    (Scalar.select (Scalar.cmpi .sgt n 0#32) (BitVec.ofNat 32 (i 1).val) 7#32 : BitVec 32).toNat = sel n i := by
  have hi : (i 1).val < 8 := (i 1).isLt
  have := six n hn
  unfold sel
  rcases this with rfl | rfl | rfl | rfl | rfl | rfl
  · rfl
  all_goals
    rw [if_neg (by decide)]
    show (BitVec.ofNat 32 (i 1).val).toNat = _
    rw [BitVec.toNat_ofNat]; omega

theorem tr1 (pf : pre0.Contents (Elt F)) (i : grid0.Coords) (hn : (pf 1 (at58 (i 0)) : BitVec 32).toNat ≤ 5) :
    cc0_transform_1 k0_off1_inb numel1_S1 pf i = ![(pf 0 (at58 (i 0)) : BitVec 32).toNat, 0, sel (pf 1 (at58 (i 0))) i] := by
  rw [← sel_eq _ hn]
  unfold cc0_transform_1
  exact congrArg₂ (fun v w : BitVec 32 => ![v.toNat, 0, (Scalar.select (Scalar.cmpi .sgt w 0#32) (BitVec.ofNat 32 (i 1).val) 7#32 : BitVec 32).toNat]) (pf_at pf 0 i _ (off1_val i) (k0_off1_inb i) numel1_S1) (pf_at pf 1 i _ (off1_val i) (k0_off1_inb i) numel1_S1)
theorem tr2 (pf : pre0.Contents (Elt F)) (i : grid0.Coords) (hn : (pf 1 (at58 (i 0)) : BitVec 32).toNat ≤ 5) :
    cc0_transform_2 k0_off1_inb numel1_S1 pf i = ![(pf 0 (at58 (i 0)) : BitVec 32).toNat, 0, sel (pf 1 (at58 (i 0))) i] := by
  rw [← sel_eq _ hn]
  unfold cc0_transform_2
  exact congrArg₂ (fun v w : BitVec 32 => ![v.toNat, 0, (Scalar.select (Scalar.cmpi .sgt w 0#32) (BitVec.ofNat 32 (i 1).val) 7#32 : BitVec 32).toNat]) (pf_at pf 0 i _ (off1_val i) (k0_off1_inb i) numel1_S1) (pf_at pf 1 i _ (off1_val i) (k0_off1_inb i) numel1_S1)
theorem tr3 (pf : pre0.Contents (Elt F)) (i : grid0.Coords) (hn : (pf 1 (at58 (i 0)) : BitVec 32).toNat ≤ 5) :
    cc0_transform_3 k0_off1_inb numel1_S1 pf i = ![(pf 0 (at58 (i 0)) : BitVec 32).toNat, sel (pf 1 (at58 (i 0))) i, 0] := by
  rw [← sel_eq _ hn]
  unfold cc0_transform_3
  exact congrArg₂ (fun v w : BitVec 32 => ![v.toNat, (Scalar.select (Scalar.cmpi .sgt w 0#32) (BitVec.ofNat 32 (i 1).val) 7#32 : BitVec 32).toNat, 0]) (pf_at pf 0 i _ (off1_val i) (k0_off1_inb i) numel1_S1) (pf_at pf 1 i _ (off1_val i) (k0_off1_inb i) numel1_S1)

theorem sel_lt (n : BitVec 32) (i : grid0.Coords) : sel n i < 8 := by
  unfold sel; split
  · omega
  · exact (i 1).isLt

/-- Packed tables keep every block inside its array. -/
theorem ok_of_packed (pf : pre0.Contents (Elt F)) (h : Packed (pf 0) (pf 1) (pf 2)) : ok0 pf := by
  refine ⟨fun i => ?_, fun i => ?_, fun i => ?_, fun i => ?_, fun i => ?_, fun i => ?_⟩
  · have hb := h.block (i 0)
    have h58 : (i 0).val < 58 := (i 0).isLt
    refine ⟨?_, .inr (.inl (.inr ⟨by decide, rfl, .inl ⟨?_, ⟨640, rfl⟩⟩⟩))⟩
    · rw [tr0]
      refine Fin.forall_fin_two.2 ⟨?_, ?_⟩
      · show ((pf 2 (at58 (i 0)) : BitVec 32).toNat + 1) * 1280 ≤ 74240; omega
      · show (0 + 1) * 2048 ≤ 2048; omega
    · show 2 ∣ cc0_transform_0 k0_off1_inb numel1_S1 pf i 0 * 1280
      exact Dvd.dvd.mul_left (by decide) _
  · have he := h.expert (i 0)
    have hs := sel_lt (pf 1 (at58 (i 0))) i
    refine ⟨?_, .inl rfl⟩
    rw [tr1 pf i (h.pieces _)]
    intro a
    match a with
    | 0 => show ((pf 0 (at58 (i 0)) : BitVec 32).toNat + 1) * 1 ≤ 32; omega
    | 1 => show (0 + 1) * 2048 ≤ 2048; omega
    | 2 => show (sel (pf 1 (at58 (i 0))) i + 1) * 512 ≤ 4096; omega
  · have he := h.expert (i 0)
    have hs := sel_lt (pf 1 (at58 (i 0))) i
    refine ⟨?_, .inl rfl⟩
    rw [tr2 pf i (h.pieces _)]
    intro a
    match a with
    | 0 => show ((pf 0 (at58 (i 0)) : BitVec 32).toNat + 1) * 1 ≤ 32; omega
    | 1 => show (0 + 1) * 1 ≤ 1; omega
    | 2 => show (sel (pf 1 (at58 (i 0))) i + 1) * 512 ≤ 4096; omega
  · have he := h.expert (i 0)
    have hs := sel_lt (pf 1 (at58 (i 0))) i
    refine ⟨?_, .inl rfl⟩
    rw [tr3 pf i (h.pieces _)]
    intro a
    match a with
    | 0 => show ((pf 0 (at58 (i 0)) : BitVec 32).toNat + 1) * 1 ≤ 32; omega
    | 1 => show (sel (pf 1 (at58 (i 0))) i + 1) * 256 ≤ 2048; omega
    | 2 => show (0 + 1) * 2048 ≤ 2048; omega
  · have he := h.expert (i 0)
    refine ⟨?_, .inl rfl⟩
    rw [tr4]
    intro a
    match a with
    | 0 => show ((pf 0 (at58 (i 0)) : BitVec 32).toNat + 1) * 1 ≤ 32; omega
    | 1 => show (0 + 1) * 1 ≤ 1; omega
    | 2 => show (0 + 1) * 2048 ≤ 2048; omega
  · have hb := h.block (i 0)
    have h58 : (i 0).val < 58 := (i 0).isLt
    refine ⟨?_, .inl rfl⟩
    rw [tr5]
    refine Fin.forall_fin_two.2 ⟨?_, ?_⟩
    · show ((pf 2 (at58 (i 0)) : BitVec 32).toNat + 1) * 1280 ≤ 74240; omega
    · show (0 + 1) * 2048 ≤ 2048; omega

end Cert.KernelMoeIdeal.Hand
-- ==== Proof.Moe.Put.lean ====
module

public import proofs.«01_k».proof.Proof.Moe.Tables
public import Idealize.ShloMosaic.Lib.WritesUnit
public import Idealize.ShloMosaic.Lib.Pipeline.ValueKit.Acc

@[expose] public section

set_option maxRecDepth 16384

noncomputable section

namespace Cert.KernelMoeIdeal.Hand

open Cert.KernelMoeIdeal Cert.KernelMoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- An index of a table of rows and columns at two numbers, each taken within its bound. -/
def rc (d : Fin 2 → ℕ) (pos : ∀ a, 0 < d a) (i j : ℕ) : (⟨2, d⟩ : Shape).Idx := fun a => ⟨(![i, j] : Fin 2 → ℕ) a % d a, Nat.mod_lt _ (pos a)⟩

/-- Rows `256 n` to `256 n + 255` and columns `256 b` to `256 b + 255` of the output block. -/
def blkO (o : Vec F S1280x2048 .f32) (n b : ℕ) : Vec F S256x256 .f32 :=
  fun z => o (rc ![1280, 2048] (by decide) (256 * n + (z (0 : Fin 2)).val) (256 * b + (z (1 : Fin 2)).val))

/-- Columns `256 b` to `256 b + 255` of the second weights' block. -/
def blkW (w : Vec F S256x2048 .bf16) (b : ℕ) : Vec F S256x256 .bf16 :=
  fun z => w (rc ![256, 2048] (by decide) (z (0 : Fin 2)).val (256 * b + (z (1 : Fin 2)).val))

/-- Rows `256 n` to `256 n + 255` of the block of inputs. -/
def blkX (x : Vec F S1280x2048 .bf16) (n : ℕ) : Vec F S256x2048 .bf16 :=
  fun z => x (rc ![1280, 2048] (by decide) (256 * n + (z (0 : Fin 2)).val) (z (1 : Fin 2)).val)

/-- The output block after the product of `act` with columns `256 b` on has been added to rows `256 n` on. -/
def put (o : Vec F S1280x2048 .f32) (act : FVec F S256x256 .bf16) (w2 : Vec F S256x2048 .bf16) (n b : ℕ) : Vec F S1280x2048 .f32 :=
  fun y => if h : ∀ a : Fin 2, (![256 * n, 256 * b] : Fin 2 → ℕ) a ≤ (y a).val ∧ (y a).val < (![256 * n, 256 * b] : Fin 2 → ℕ) a + S256x256.size a then
    k0_pay14 act (blkO o n b) (blkW w2 b) (Rect.unitLocal (s := S1280x2048) (off := ![256 * n, 256 * b]) (size := S256x256.size) y h)
  else o y

/-- The same for the first `b` of the blocks of columns. -/
def puts (o : Vec F S1280x2048 .f32) (act : FVec F S256x256 .bf16) (w2 : Vec F S256x2048 .bf16) (n : ℕ) : ℕ → Vec F S1280x2048 .f32
  | 0 => o
  | b + 1 => put (puts o act w2 n b) act w2 n b

/-- The activation of one piece of rows. -/
def actv (v37 : FVec F S1x512 .f32) (v38 v39 : IVec S256x256 32) (x : Vec F S1280x2048 .bf16) (w1 : Vec F S2048x512 .bf16) (n : ℕ) : FVec F S256x256 .bf16 :=
  k0_pay56 (k0_pay55 v37 (k0_pay66 v38 v39) (blkX x n) w1)

/-- The output block after one piece of rows. -/
def piece (v37 : FVec F S1x512 .f32) (v38 v39 : IVec S256x256 32) (x : Vec F S1280x2048 .bf16) (w1 : Vec F S2048x512 .bf16) (w2 : Vec F S256x2048 .bf16)
    (o : Vec F S1280x2048 .f32) (n : ℕ) : Vec F S1280x2048 .f32 := puts o (actv v37 v38 v39 x w1 n) w2 n 8

/-- The output block after the first `n` pieces of rows. -/
def pieces (v37 : FVec F S1x512 .f32) (v38 v39 : IVec S256x256 32) (x : Vec F S1280x2048 .bf16) (w1 : Vec F S2048x512 .bf16) (w2 : Vec F S256x2048 .bf16)
    (o : Vec F S1280x2048 .f32) : ℕ → Vec F S1280x2048 .f32
  | 0 => o
  | n + 1 => piece v37 v38 v39 x w1 w2 (pieces v37 v38 v39 x w1 w2 o n) n

theorem readO (arg10 : Memref sig .tc .vmem S1280x2048 .f32) (harg10 : arg10.IsWhole) (o : Vec F S1280x2048 .f32) (n b : ℕ) (hn : n < 5) (hb : b < 8)
    (off : Fin 2 → ℕ) (inb : ∀ a, off a + S256x256.size a ≤ S1280x2048.size a) (heq : off = ![256 * n, 256 * b]) :
    View.readAt (Elt F) arg10.view (Rect.unit (s := S1280x2048) off S256x256.size inb).toLoadRect (harg10.unread o) = blkO o n b := by
  subst heq
  rw [View.readAt_eq_ld, harg10.read_unread]
  funext z
  unfold blkO
  refine congrArg o (funext fun a => Fin.ext ?_)
  have h0 : (z (0 : Fin 2)).val < 256 := (z (0 : Fin 2)).isLt
  have h1 : (z (1 : Fin 2)).val < 256 := (z (1 : Fin 2)).isLt
  revert a
  refine Fin.forall_fin_two.mpr ⟨?_, ?_⟩
  · show 256 * n + 1 * (z (0 : Fin 2)).val = (256 * n + (z (0 : Fin 2)).val) % 1280
    omega
  · show 256 * b + 1 * (z (1 : Fin 2)).val = (256 * b + (z (1 : Fin 2)).val) % 2048
    omega

theorem readW (arg12 : Memref sig .tc .vmem S256x2048 .bf16) (harg12 : arg12.IsWhole) (w2 : Vec F S256x2048 .bf16) (b : ℕ) (hb : b < 8)
    (off : Fin 2 → ℕ) (inb : ∀ a, off a + S256x256.size a ≤ S256x2048.size a) (heq : off = ![0, 256 * b]) :
    View.readAt (Elt F) arg12.view (Rect.unit (s := S256x2048) off S256x256.size inb).toLoadRect (harg12.unread w2) = blkW w2 b := by
  subst heq
  rw [View.readAt_eq_ld, harg12.read_unread]
  funext z
  unfold blkW
  refine congrArg w2 (funext fun a => Fin.ext ?_)
  have h0 : (z (0 : Fin 2)).val < 256 := (z (0 : Fin 2)).isLt
  have h1 : (z (1 : Fin 2)).val < 256 := (z (1 : Fin 2)).isLt
  revert a
  refine Fin.forall_fin_two.mpr ⟨?_, ?_⟩
  · show 0 + 1 * (z (0 : Fin 2)).val = ((z (0 : Fin 2)).val) % 256
    omega
  · show 256 * b + 1 * (z (1 : Fin 2)).val = (256 * b + (z (1 : Fin 2)).val) % 2048
    omega

theorem readX (arg5 : Memref sig .tc .vmem S1280x2048 .bf16) (harg5 : arg5.IsWhole) (x : Vec F S1280x2048 .bf16) (n : ℕ) (hn : n < 5)
    (off : Fin 2 → ℕ) (inb : ∀ a, off a + S256x2048.size a ≤ S1280x2048.size a) (heq : off = ![256 * n, 0]) :
    View.readAt (Elt F) arg5.view (Rect.unit (s := S1280x2048) off S256x2048.size inb).toLoadRect (harg5.unread x) = blkX x n := by
  subst heq
  rw [View.readAt_eq_ld, harg5.read_unread]
  funext z
  unfold blkX
  refine congrArg x (funext fun a => Fin.ext ?_)
  have h0 : (z (0 : Fin 2)).val < 256 := (z (0 : Fin 2)).isLt
  have h1 : (z (1 : Fin 2)).val < 2048 := (z (1 : Fin 2)).isLt
  revert a
  refine Fin.forall_fin_two.mpr ⟨?_, ?_⟩
  · show 256 * n + 1 * (z (0 : Fin 2)).val = (256 * n + (z (0 : Fin 2)).val) % 1280
    omega
  · show 0 + 1 * (z (1 : Fin 2)).val = ((z (1 : Fin 2)).val) % 2048
    omega

theorem read1 (arg11 : Memref sig .tc .vmem S2048x512 .bf16) (harg11 : arg11.IsWhole) (w1 : Vec F S2048x512 .bf16)
    (inb : ∀ a, (![0, 0] : Fin 2 → ℕ) a + S2048x512.size a ≤ S2048x512.size a) :
    View.readAt (Elt F) arg11.view (Rect.unit (s := S2048x512) ![0, 0] S2048x512.size inb).toLoadRect (harg11.unread w1) = w1 := by
  rw [View.readAt_eq_ld, harg11.read_unread, View.ld_unit_lit' _ _ (by decide)]

/-- One of the stores. -/
theorem put_step (arg10 : Memref sig .tc .vmem S1280x2048 .f32) (harg10 : arg10.IsWhole) (arg12 : Memref sig .tc .vmem S256x2048 .bf16) (harg12 : arg12.IsWhole)
    (f : arg10.view.ty.Contents (Elt F)) (L : List (View.Piece (Elt F) S1280x2048 .f32)) (o : Vec F S1280x2048 .f32) (act : FVec F S256x256 .bf16) (w2 : Vec F S256x2048 .bf16)
    (n b : ℕ) (hn : n < 5) (hb : b < 8) (off : Fin 2 → ℕ) (inb : ∀ a, off a + S256x256.size a ≤ S1280x2048.size a) (off' : Fin 2 → ℕ) (inb' : ∀ a, off' a + S256x256.size a ≤ S256x2048.size a)
    (hG : arg10.view.writes (Elt F) f L = harg10.unread (puts o act w2 n b)) (heq : off = ![256 * n, 256 * b]) (heq' : off' = ![0, 256 * b]) :
    arg10.view.writes (Elt F) f ((⟨Rect.unit (s := S1280x2048) off S256x256.size inb,
        k0_pay14 act (View.readAt (Elt F) arg10.view (Rect.unit (s := S1280x2048) off S256x256.size inb).toLoadRect (arg10.view.writes (Elt F) f L))
          (View.readAt (Elt F) arg12.view (Rect.unit (s := S256x2048) off' S256x256.size inb').toLoadRect (harg12.unread w2))⟩ : View.Piece (Elt F) S1280x2048 .f32) :: L)
      = harg10.unread (puts o act w2 n (b + 1)) := by
  refine harg10.eq_unread (funext fun y => ?_)
  rw [View.read_writes_cons_unit _ _ inb _ _ y heq, hG, harg10.read_unread, readO arg10 harg10 _ n b hn hb off inb heq, readW arg12 harg12 _ b hb off' inb' heq']
  rfl

theorem w_even (k : ℕ) (hk : k < 3) : (Scalar.indexCast (Scalar.muli (Scalar.muli 2#32 (Scf.iv 0#32 1#32 k)) 256#32)).toNat = 256 * (2 * k) := by
  obtain rfl | rfl | rfl : k = 0 ∨ k = 1 ∨ k = 2 := by omega
  · decide +kernel
  · decide +kernel
  · decide +kernel

theorem w_odd (k : ℕ) (hk : k < 3) : (Scalar.indexCast (Scalar.muli (Scalar.addi (Scalar.muli 2#32 (Scf.iv 0#32 1#32 k)) 1#32) 256#32)).toNat = 256 * (2 * k + 1) := by
  obtain rfl | rfl | rfl : k = 0 ∨ k = 1 ∨ k = 2 := by omega
  · decide +kernel
  · decide +kernel
  · decide +kernel

theorem off2_val (v1 : BitVec 32) (k : Fin (k0_t1_loop v1).trips) (hk : k.val < 3) : k0_off2 v1 k = ![256 * (2 * k.val), 0] := by
  unfold k0_off2
  exact congrArg (fun r : ℕ => (![r, 0] : Fin 2 → ℕ)) (w_even k.val hk)

theorem off3_val (v1 : BitVec 32) (k : Fin (k0_t1_loop v1).trips) (hk : k.val < 3) : k0_off3 v1 k = ![256 * (2 * k.val + 1), 0] := by
  unfold k0_off3
  exact congrArg (fun r : ℕ => (![r, 0] : Fin 2 → ℕ)) (w_odd k.val hk)

theorem off4_val (v1 : BitVec 32) (k : Fin (k0_t1_loop v1).trips) (hk : k.val < 3) : k0_off4 v1 k = ![256 * (2 * k.val), 256 * 0] := by
  unfold k0_off4
  exact congrArg (fun r : ℕ => (![r, 256 * 0] : Fin 2 → ℕ)) (w_even k.val hk)

theorem off5_val (v1 : BitVec 32) (k : Fin (k0_t1_loop v1).trips) (hk : k.val < 3) : k0_off5 v1 k = ![256 * (2 * k.val), 256 * 1] := by
  unfold k0_off5
  exact congrArg (fun r : ℕ => (![r, 256 * 1] : Fin 2 → ℕ)) (w_even k.val hk)

theorem off6_val (v1 : BitVec 32) (k : Fin (k0_t1_loop v1).trips) (hk : k.val < 3) : k0_off6 v1 k = ![256 * (2 * k.val), 256 * 2] := by
  unfold k0_off6
  exact congrArg (fun r : ℕ => (![r, 256 * 2] : Fin 2 → ℕ)) (w_even k.val hk)

theorem off7_val (v1 : BitVec 32) (k : Fin (k0_t1_loop v1).trips) (hk : k.val < 3) : k0_off7 v1 k = ![256 * (2 * k.val), 256 * 3] := by
  unfold k0_off7
  exact congrArg (fun r : ℕ => (![r, 256 * 3] : Fin 2 → ℕ)) (w_even k.val hk)

theorem off8_val (v1 : BitVec 32) (k : Fin (k0_t1_loop v1).trips) (hk : k.val < 3) : k0_off8 v1 k = ![256 * (2 * k.val), 256 * 4] := by
  unfold k0_off8
  exact congrArg (fun r : ℕ => (![r, 256 * 4] : Fin 2 → ℕ)) (w_even k.val hk)

theorem off9_val (v1 : BitVec 32) (k : Fin (k0_t1_loop v1).trips) (hk : k.val < 3) : k0_off9 v1 k = ![256 * (2 * k.val), 256 * 5] := by
  unfold k0_off9
  exact congrArg (fun r : ℕ => (![r, 256 * 5] : Fin 2 → ℕ)) (w_even k.val hk)

theorem off10_val (v1 : BitVec 32) (k : Fin (k0_t1_loop v1).trips) (hk : k.val < 3) : k0_off10 v1 k = ![256 * (2 * k.val), 256 * 6] := by
  unfold k0_off10
  exact congrArg (fun r : ℕ => (![r, 256 * 6] : Fin 2 → ℕ)) (w_even k.val hk)

theorem off11_val (v1 : BitVec 32) (k : Fin (k0_t1_loop v1).trips) (hk : k.val < 3) : k0_off11 v1 k = ![256 * (2 * k.val), 256 * 7] := by
  unfold k0_off11
  exact congrArg (fun r : ℕ => (![r, 256 * 7] : Fin 2 → ℕ)) (w_even k.val hk)

theorem off12_val (v1 : BitVec 32) (k : Fin (k0_t1_loop v1).trips) (hk : k.val < 3) : k0_off12 v1 k = ![256 * (2 * k.val + 1), 256 * 0] := by
  unfold k0_off12
  exact congrArg (fun r : ℕ => (![r, 256 * 0] : Fin 2 → ℕ)) (w_odd k.val hk)

theorem off13_val (v1 : BitVec 32) (k : Fin (k0_t1_loop v1).trips) (hk : k.val < 3) : k0_off13 v1 k = ![256 * (2 * k.val + 1), 256 * 1] := by
  unfold k0_off13
  exact congrArg (fun r : ℕ => (![r, 256 * 1] : Fin 2 → ℕ)) (w_odd k.val hk)

theorem off14_val (v1 : BitVec 32) (k : Fin (k0_t1_loop v1).trips) (hk : k.val < 3) : k0_off14 v1 k = ![256 * (2 * k.val + 1), 256 * 2] := by
  unfold k0_off14
  exact congrArg (fun r : ℕ => (![r, 256 * 2] : Fin 2 → ℕ)) (w_odd k.val hk)

theorem off15_val (v1 : BitVec 32) (k : Fin (k0_t1_loop v1).trips) (hk : k.val < 3) : k0_off15 v1 k = ![256 * (2 * k.val + 1), 256 * 3] := by
  unfold k0_off15
  exact congrArg (fun r : ℕ => (![r, 256 * 3] : Fin 2 → ℕ)) (w_odd k.val hk)

theorem off16_val (v1 : BitVec 32) (k : Fin (k0_t1_loop v1).trips) (hk : k.val < 3) : k0_off16 v1 k = ![256 * (2 * k.val + 1), 256 * 4] := by
  unfold k0_off16
  exact congrArg (fun r : ℕ => (![r, 256 * 4] : Fin 2 → ℕ)) (w_odd k.val hk)

theorem off17_val (v1 : BitVec 32) (k : Fin (k0_t1_loop v1).trips) (hk : k.val < 3) : k0_off17 v1 k = ![256 * (2 * k.val + 1), 256 * 5] := by
  unfold k0_off17
  exact congrArg (fun r : ℕ => (![r, 256 * 5] : Fin 2 → ℕ)) (w_odd k.val hk)

theorem off18_val (v1 : BitVec 32) (k : Fin (k0_t1_loop v1).trips) (hk : k.val < 3) : k0_off18 v1 k = ![256 * (2 * k.val + 1), 256 * 6] := by
  unfold k0_off18
  exact congrArg (fun r : ℕ => (![r, 256 * 6] : Fin 2 → ℕ)) (w_odd k.val hk)

theorem off19_val (v1 : BitVec 32) (k : Fin (k0_t1_loop v1).trips) (hk : k.val < 3) : k0_off19 v1 k = ![256 * (2 * k.val + 1), 256 * 7] := by
  unfold k0_off19
  exact congrArg (fun r : ℕ => (![r, 256 * 7] : Fin 2 → ℕ)) (w_odd k.val hk)

end Cert.KernelMoeIdeal.Hand
-- ==== Proof.Moe.Trip.lean ====
module

public import proofs.«01_k».proof.Proof.Moe.Put

@[expose] public section

set_option maxRecDepth 16384

noncomputable section

namespace Cert.KernelMoeIdeal.Hand

open Cert.KernelMoeIdeal Cert.KernelMoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .smem S58 .i32) (harg2 : arg2.IsWhole) (arg3 : Memref sig .tc .smem S58 .i32) (harg3 : arg3.IsWhole) (arg4 : Memref sig .tc .smem S58 .i32) (harg4 : arg4.IsWhole) (arg5 : Memref sig .tc .vmem S1280x2048 .bf16) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x256x2048 .f32) (harg8 : arg8.IsWhole) (arg9 : Memref sig .tc .vmem S1x1x2048 .f32) (harg9 : arg9.IsWhole) (arg10 : Memref sig .tc .vmem S1280x2048 .f32) (harg10 : arg10.IsWhole) (arg11 : Memref sig .tc .vmem S2048x512 .bf16) (harg11 : arg11.IsWhole) (arg12 : Memref sig .tc .vmem S256x2048 .bf16) (harg12 : arg12.IsWhole)

set_option maxHeartbeats 4000000 in
/-- One trip of the loop. -/
theorem trip1 (v1 : Elt F .i32) (k0_hw1 : k0_chk1 v1) (k0_h1 : k0_cond1 v1 = 1#1) (v37 : FVec F S1x512 .f32) (v38 v39 : IVec S256x256 32)
    (x : Vec F S1280x2048 .bf16) (w1 : Vec F S2048x512 .bf16) (w2 : Vec F S256x2048 .bf16) (o : Vec F S1280x2048 .f32) (E : Set ℕ) (k : Fin (k0_t1_loop v1).trips) (hk : k.val < 2) :
    (iprop((arg5.view.loc (c : Thread nD τ) ↦[arg5.view.set]{fullShare} harg5.unread x) ∗ (arg11.view.loc (c : Thread nD τ) ↦[arg11.view.set]{fullShare} harg11.unread w1) ∗ (arg12.view.loc (c : Thread nD τ) ↦[arg12.view.set]{fullShare} harg12.unread w2) ∗ (arg10.view.loc (c : Thread nD τ) ↦[arg10.view.set]{fullShare} harg10.unread o)) : sProp 𝕄)
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 v1 k0_hw1 k0_h1 v37 v38 v39 k PUnit.unit)
        (fun _ => iprop((arg5.view.loc (c : Thread nD τ) ↦[arg5.view.set]{fullShare} harg5.unread x) ∗ (arg11.view.loc (c : Thread nD τ) ↦[arg11.view.set]{fullShare} harg11.unread w1) ∗ (arg12.view.loc (c : Thread nD τ) ↦[arg12.view.set]{fullShare} harg12.unread w2) ∗ (arg10.view.loc (c : Thread nD τ) ↦[arg10.view.set]{fullShare} harg10.unread (piece v37 v38 v39 x w1 w2 (piece v37 v38 v39 x w1 w2 o (2 * k.val)) (2 * k.val + 1))))) := by
  unfold k0_t1_body
  iintro ⟨H5, H11, H12, H10⟩
  sl_exec
  sl_step
  have eX := readX arg5 harg5 x (2 * k.val) (by omega) (k0_off2 v1 k) (k0_off2_inb v1 k0_hw1 k k0_h1) (off2_val v1 k (by omega))
  have eX' := readX arg5 harg5 x (2 * k.val + 1) (by omega) (k0_off3 v1 k) (k0_off3_inb v1 k0_hw1 k k0_h1) (off3_val v1 k (by omega))
  have eW := read1 arg11 harg11 w1 inb_S2048x512_S2048x512_0_0
  have eA : actv v37 v38 v39 x w1 (2 * k.val) = k0_pay11 (k0_pay66 v38 v39)
      (k0_pay7 v37 (View.readAt (Elt F) arg5.view (Rect.unit (s := S1280x2048) (k0_off2 v1 k) S256x2048.size (k0_off2_inb v1 k0_hw1 k k0_h1)).toLoadRect (harg5.unread x))
        (View.readAt (Elt F) arg11.view (Rect.unit (s := S2048x512) ![0, 0] S2048x512.size inb_S2048x512_S2048x512_0_0).toLoadRect (harg11.unread w1)))
      (k0_pay8 v37 (View.readAt (Elt F) arg5.view (Rect.unit (s := S1280x2048) (k0_off2 v1 k) S256x2048.size (k0_off2_inb v1 k0_hw1 k k0_h1)).toLoadRect (harg5.unread x))
        (View.readAt (Elt F) arg11.view (Rect.unit (s := S2048x512) ![0, 0] S2048x512.size inb_S2048x512_S2048x512_0_0).toLoadRect (harg11.unread w1)))
      (k0_pay9 v37 (View.readAt (Elt F) arg5.view (Rect.unit (s := S1280x2048) (k0_off2 v1 k) S256x2048.size (k0_off2_inb v1 k0_hw1 k k0_h1)).toLoadRect (harg5.unread x))
        (View.readAt (Elt F) arg11.view (Rect.unit (s := S2048x512) ![0, 0] S2048x512.size inb_S2048x512_S2048x512_0_0).toLoadRect (harg11.unread w1)))
      k0_pay10 := by rw [eX, eW]; rfl
  have eB : actv v37 v38 v39 x w1 (2 * k.val + 1) = k0_pay13 (k0_pay12 (k0_pay66 v38 v39)
      (k0_pay6 v37 (View.readAt (Elt F) arg5.view (Rect.unit (s := S1280x2048) (k0_off3 v1 k) S256x2048.size (k0_off3_inb v1 k0_hw1 k k0_h1)).toLoadRect (harg5.unread x))
        (View.readAt (Elt F) arg11.view (Rect.unit (s := S2048x512) ![0, 0] S2048x512.size inb_S2048x512_S2048x512_0_0).toLoadRect (harg11.unread w1)))) := by rw [eX', eW]; rfl
  have e : arg10.view.writes (Elt F) (harg10.unread o)
      (⟨Rect.unit (s := S1280x2048) (k0_off19 v1 k) S256x256.size (k0_off19_inb v1 k0_hw1 k k0_h1),
          trip1.sl.r_9 arg5 harg5 arg10 harg10 arg11 harg11 arg12 harg12 v1 k0_hw1 k0_h1 v37 v38 v39 x w1 w2 o k⟩ ::
        trip1.sl.H10_15 arg5 harg5 arg10 harg10 arg11 harg11 arg12 harg12 v1 k0_hw1 k0_h1 v37 v38 v39 x w1 w2 o k)
      = harg10.unread (piece v37 v38 v39 x w1 w2 (piece v37 v38 v39 x w1 w2 o (2 * k.val)) (2 * k.val + 1)) := by
    unfold piece
    rw [eA, eB]
    refine put_step arg10 harg10 arg12 harg12 _ _ _ _ w2 (2 * k.val + 1) 7 (by omega) (by decide) _ _ _ inb_S256x2048_S256x256_0_1792 ?_ (off19_val v1 k (by omega)) rfl
    refine put_step arg10 harg10 arg12 harg12 _ _ _ _ w2 (2 * k.val + 1) 6 (by omega) (by decide) _ _ _ inb_S256x2048_S256x256_0_1536 ?_ (off18_val v1 k (by omega)) rfl
    refine put_step arg10 harg10 arg12 harg12 _ _ _ _ w2 (2 * k.val + 1) 5 (by omega) (by decide) _ _ _ inb_S256x2048_S256x256_0_1280 ?_ (off17_val v1 k (by omega)) rfl
    refine put_step arg10 harg10 arg12 harg12 _ _ _ _ w2 (2 * k.val + 1) 4 (by omega) (by decide) _ _ _ inb_S256x2048_S256x256_0_1024 ?_ (off16_val v1 k (by omega)) rfl
    refine put_step arg10 harg10 arg12 harg12 _ _ _ _ w2 (2 * k.val + 1) 3 (by omega) (by decide) _ _ _ inb_S256x2048_S256x256_0_768 ?_ (off15_val v1 k (by omega)) rfl
    refine put_step arg10 harg10 arg12 harg12 _ _ _ _ w2 (2 * k.val + 1) 2 (by omega) (by decide) _ _ _ inb_S256x2048_S256x256_0_512 ?_ (off14_val v1 k (by omega)) rfl
    refine put_step arg10 harg10 arg12 harg12 _ _ _ _ w2 (2 * k.val + 1) 1 (by omega) (by decide) _ _ _ inb_S256x2048_S256x256_0_256 ?_ (off13_val v1 k (by omega)) rfl
    refine put_step arg10 harg10 arg12 harg12 _ _ _ _ w2 (2 * k.val + 1) 0 (by omega) (by decide) _ _ _ inb_S256x2048_S256x256_0_0 ?_ (off12_val v1 k (by omega)) rfl
    refine put_step arg10 harg10 arg12 harg12 _ _ _ _ w2 (2 * k.val) 7 (by omega) (by decide) _ _ _ inb_S256x2048_S256x256_0_1792 ?_ (off11_val v1 k (by omega)) rfl
    refine put_step arg10 harg10 arg12 harg12 _ _ _ _ w2 (2 * k.val) 6 (by omega) (by decide) _ _ _ inb_S256x2048_S256x256_0_1536 ?_ (off10_val v1 k (by omega)) rfl
    refine put_step arg10 harg10 arg12 harg12 _ _ _ _ w2 (2 * k.val) 5 (by omega) (by decide) _ _ _ inb_S256x2048_S256x256_0_1280 ?_ (off9_val v1 k (by omega)) rfl
    refine put_step arg10 harg10 arg12 harg12 _ _ _ _ w2 (2 * k.val) 4 (by omega) (by decide) _ _ _ inb_S256x2048_S256x256_0_1024 ?_ (off8_val v1 k (by omega)) rfl
    refine put_step arg10 harg10 arg12 harg12 _ _ _ _ w2 (2 * k.val) 3 (by omega) (by decide) _ _ _ inb_S256x2048_S256x256_0_768 ?_ (off7_val v1 k (by omega)) rfl
    refine put_step arg10 harg10 arg12 harg12 _ _ _ _ w2 (2 * k.val) 2 (by omega) (by decide) _ _ _ inb_S256x2048_S256x256_0_512 ?_ (off6_val v1 k (by omega)) rfl
    refine put_step arg10 harg10 arg12 harg12 _ _ _ _ w2 (2 * k.val) 1 (by omega) (by decide) _ _ _ inb_S256x2048_S256x256_0_256 ?_ (off5_val v1 k (by omega)) rfl
    refine put_step arg10 harg10 arg12 harg12 _ _ _ _ w2 (2 * k.val) 0 (by omega) (by decide) _ _ _ inb_S256x2048_S256x256_0_0 ?_ (off4_val v1 k (by omega)) rfl
    rfl
  rw [e]
  sl_close

end Cert.KernelMoeIdeal.Hand
-- ==== Proof.Moe.Body.lean ====
module

public import proofs.«01_k».proof.Proof.Moe.Trip

@[expose] public section

set_option maxRecDepth 16384

noncomputable section

namespace Cert.KernelMoeIdeal.Hand

open Cert.KernelMoeIdeal Cert.KernelMoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the output block holds when the pieces of rows begin. -/
def start (i : grid0.Coords) (x9 : Vec F S1x1x2048 .f32) (o : Vec F S1280x2048 .f32) : Vec F S1280x2048 .f32 := if k0_cond2 i = 1#1 then k0_pay63 x9 else o

/-- The columns' numbers. -/
def cols : IVec S256x256 32 := iota .tc S256x256 32 [1] iota_S256x256_d1_w32

theorem writes_whole {s : Shape} {e : EltTy} (b : Memref sig .tc .vmem s e) (hb : b.IsWhole) (f : b.view.ty.Contents (Elt F))
    {off : Fin s.rank → ℕ} (inb : ∀ a, off a + s.size a ≤ s.size a) (w : s.Idx → Elt F e) (h : ∀ a, off a = 0) :
    b.view.writes (Elt F) f [⟨Rect.unit off s.size inb, w⟩] = hb.unread w :=
  hb.eq_unread (funext fun y => View.read_writes_cons_unit_of_mem (off' := fun _ => 0) _ _ inb w [] y y (funext h) fun a => (Nat.zero_add _).symm)

theorem read_whole {s : Shape} {e : EltTy} (b : Memref sig .tc .vmem s e) (hb : b.IsWhole) (x : s.Idx → Elt F e)
    {off : Fin s.rank → ℕ} (inb : ∀ a, off a + s.size a ≤ s.size a) (h : ∀ a, off a = 0) :
    View.readAt (Elt F) b.view (Rect.unit off s.size inb).toLoadRect (hb.unread x) = x := by
  rw [View.readAt_eq_ld, hb.read_unread, View.ld_unit_lit' _ _ h]

theorem trips1 (v1 : BitVec 32) (h : v1.toNat ≤ 5) : (k0_t1_loop v1).trips = v1.toNat / 2 := by
  rcases six v1 h with rfl | rfl | rfl | rfl | rfl | rfl <;> decide +kernel

theorem trips2 (v1 : BitVec 32) (h : v1.toNat ≤ 5) : (k0_t2_loop v1).trips = 0 := by
  rcases six v1 h with rfl | rfl | rfl | rfl | rfl | rfl <;> decide +kernel

theorem cond1_iff (v1 : BitVec 32) (h : v1.toNat ≤ 5) : k0_cond1 v1 = 1#1 ↔ v1 ≠ 0#32 := by
  rcases six v1 h with rfl | rfl | rfl | rfl | rfl | rfl <;> decide +kernel

theorem cond3_iff (v1 : BitVec 32) (h : v1.toNat ≤ 5) : k0_cond3 v1 = 1#1 ↔ v1.toNat % 2 = 1 := by
  rcases six v1 h with rfl | rfl | rfl | rfl | rfl | rfl <;> decide +kernel

variable (c : Dev nD) (i : grid0.Coords)
  (arg2 : Memref sig .tc .smem S58 .i32) (harg2 : arg2.IsWhole) (arg3 : Memref sig .tc .smem S58 .i32) (harg3 : arg3.IsWhole) (arg4 : Memref sig .tc .smem S58 .i32) (harg4 : arg4.IsWhole) (arg5 : Memref sig .tc .vmem S1280x2048 .bf16) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x256x2048 .f32) (harg8 : arg8.IsWhole) (arg9 : Memref sig .tc .vmem S1x1x2048 .f32) (harg9 : arg9.IsWhole) (arg10 : Memref sig .tc .vmem S1280x2048 .f32) (harg10 : arg10.IsWhole) (arg11 : Memref sig .tc .vmem S2048x512 .bf16) (harg11 : arg11.IsWhole) (arg12 : Memref sig .tc .vmem S256x2048 .bf16) (harg12 : arg12.IsWhole)

set_option maxHeartbeats 4000000 in
theorem part15_exact (x6 : Vec F S1x2048x512 .f32) (x7 : Vec F S1x1x512 .f32) (x8 : Vec F S1x256x2048 .f32) (x9 : Vec F S1x1x2048 .f32) (o : Vec F S1280x2048 .f32) (f11 : arg11.view.ty.Contents (Elt F)) (f12 : arg12.view.ty.Contents (Elt F)) (E : Set ℕ) (a1 : BitVec 32) (v1 : Elt F .i32) (k0_hw1 : k0_chk1 v1) (k0_h1 : k0_cond1 v1 = 1#1) :
    (iprop((arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread o) ∗ (arg11.view.loc (c : Thread nD τ) ↦[arg11.view.set]{fullShare} f11) ∗ (arg12.view.loc (c : Thread nD τ) ↦[arg12.view.set]{fullShare} f12)) : sProp 𝕄)
      ⊢ wp frame (wpE (defs₀ (F := F)) Variants.none (c : Thread nD τ) none) E (k0_part15 i arg2 harg2 arg3 harg3 arg4 harg4 arg5 harg5 arg6 harg6 arg7 harg7 arg8 harg8 arg9 harg9 arg10 harg10 arg11 harg11 arg12 harg12 a1)
        (fun r => iprop((arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread (start i x9 o)) ∗ (arg11.view.loc (c : Thread nD τ) ↦[arg11.view.set]{fullShare} harg11.unread (k0_pay61 x6)) ∗ (arg12.view.loc (c : Thread nD τ) ↦[arg12.view.set]{fullShare} harg12.unread (k0_pay62 x8)) ∗ ⌜r = ⟨k0_pay64 x7, cols, k0_pay65⟩⌝)) := by
  simp only [k0_part15_eq_skeleton]; unfold k0_part15_skel
  iintro ⟨H6, H7, H8, H9, H10, H11, H12⟩
  by_cases hc : k0_cond2 i = 1#1
  · rw [show start i x9 o = k0_pay63 x9 from if_pos hc]
    sl_exec (disch := first | sl_exact hc)
    sl_step
    rw [writes_whole arg10 harg10 _ _ _ (by decide), writes_whole arg11 harg11 _ _ _ (by decide), writes_whole arg12 harg12 _ _ _ (by decide),
      read_whole arg6 harg6 _ _ (by decide), read_whole arg7 harg7 _ _ (by decide), read_whole arg8 harg8 _ _ (by decide), read_whole arg9 harg9 _ _ (by decide)]
    sl_close
  · rw [show start i x9 o = o from if_neg hc]
    sl_exec (disch := first | sl_exact hc)
    sl_step
    rw [writes_whole arg11 harg11 _ _ _ (by decide), writes_whole arg12 harg12 _ _ _ (by decide),
      read_whole arg6 harg6 _ _ (by decide), read_whole arg7 harg7 _ _ (by decide), read_whole arg8 harg8 _ _ (by decide)]
    sl_close

set_option warn.classDefReducibility false in
/-- The loop's invariant: after `k` trips the first `2 k` pieces are done. -/
def loopExact (v1 : Elt F .i32) (h5 : BitVec.toNat v1 ≤ 5) (E : Set ℕ) (k0_hw1 : k0_chk1 v1) (k0_h1 : k0_cond1 v1 = 1#1) (v37 : FVec F S1x512 .f32) (v38 v39 : IVec S256x256 32) (x5 : Vec F S1280x2048 .bf16) (w1 : Vec F S2048x512 .bf16) (w2 : Vec F S256x2048 .bf16) (o : Vec F S1280x2048 .f32) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 v1 k0_hw1 k0_h1 v37 v38 v39 where
  inv k _ := iprop((arg5.view.loc (c : Thread nD τ) ↦[arg5.view.set]{fullShare} harg5.unread x5) ∗ (arg11.view.loc (c : Thread nD τ) ↦[arg11.view.set]{fullShare} harg11.unread w1) ∗ (arg12.view.loc (c : Thread nD τ) ↦[arg12.view.set]{fullShare} harg12.unread w2) ∗ (arg10.view.loc (c : Thread nD τ) ↦[arg10.view.set]{fullShare} harg10.unread (pieces v37 v38 v39 x5 w1 w2 o (2 * k))))
  step k acc := by
    have hk : k.val < 2 := by
      have h1 : k.val < (k0_t1_loop v1).trips := k.isLt
      have h2 := trips1 v1 h5
      omega
    exact trip1 c i arg2 harg2 arg3 harg3 arg4 harg4 arg5 harg5 arg6 harg6 arg7 harg7 arg8 harg8 arg9 harg9 arg10 harg10 arg11 harg11 arg12 harg12 v1 k0_hw1 k0_h1 v37 v38 v39 x5 w1 w2 (pieces v37 v38 v39 x5 w1 w2 o (2 * k.val)) E k hk

set_option maxHeartbeats 4000000 in
theorem part16_exact (v1 : Elt F .i32) (h5 : BitVec.toNat v1 ≤ 5) (E : Set ℕ) (k0_hw1 : k0_chk1 v1) (k0_h1 : k0_cond1 v1 = 1#1) (v37 : FVec F S1x512 .f32) (v38 v39 : IVec S256x256 32) (x5 : Vec F S1280x2048 .bf16) (w1 : Vec F S2048x512 .bf16) (w2 : Vec F S256x2048 .bf16) (o : Vec F S1280x2048 .f32) :
    (iprop((arg5.view.loc (c : Thread nD τ) ↦[arg5.view.set]{fullShare} harg5.unread x5) ∗ (arg11.view.loc (c : Thread nD τ) ↦[arg11.view.set]{fullShare} harg11.unread w1) ∗ (arg12.view.loc (c : Thread nD τ) ↦[arg12.view.set]{fullShare} harg12.unread w2) ∗ (arg10.view.loc (c : Thread nD τ) ↦[arg10.view.set]{fullShare} harg10.unread o)) : sProp 𝕄)
      ⊢ wp frame (wpE (defs₀ (F := F)) Variants.none (c : Thread nD τ) none) E (k0_part16 i arg2 harg2 arg3 harg3 arg4 harg4 arg5 harg5 arg6 harg6 arg7 harg7 arg8 harg8 arg9 harg9 arg10 harg10 arg11 harg11 arg12 harg12 v1 k0_hw1 k0_h1 v37 v38 v39)
        (fun r => iprop((arg5.view.loc (c : Thread nD τ) ↦[arg5.view.set]{fullShare} harg5.unread x5) ∗ (arg11.view.loc (c : Thread nD τ) ↦[arg11.view.set]{fullShare} harg11.unread w1) ∗ (arg12.view.loc (c : Thread nD τ) ↦[arg12.view.set]{fullShare} harg12.unread w2) ∗ (arg10.view.loc (c : Thread nD τ) ↦[arg10.view.set]{fullShare} harg10.unread (pieces v37 v38 v39 x5 w1 w2 o (2 * (BitVec.toNat v1 / 2)))) ∗ ⌜r.1 = k0_pay66 v38 v39⌝)) := by
  simp only [k0_part16_eq_skeleton]; unfold k0_part16_skel
  iintro ⟨H5, H11, H12, H10⟩
  let L := loopExact (F := F) c i arg2 harg2 arg3 harg3 arg4 harg4 arg5 harg5 arg6 harg6 arg7 harg7 arg8 harg8 arg9 harg9 arg10 harg10 arg11 harg11 arg12 harg12 v1 h5 E k0_hw1 k0_h1 v37 v38 v39 x5 w1 w2 o
  have htr := trips2 v1 h5
  have ht1 := trips1 v1 h5
  sl_exec
  sl_step
  have e1 : Scf.trips (k0_t1_loop v1).lb (k0_t1_loop v1).ub (k0_t1_loop v1).st = BitVec.toNat v1 / 2 := ht1
  have e2 : Scf.trips (k0_t2_loop v1).lb (k0_t2_loop v1).ub (k0_t2_loop v1).st = 0 := htr
  rw [e1, e2]
  sl_close

end Cert.KernelMoeIdeal.Hand
-- ==== Proof.Moe.Whole.lean ====
module

public import proofs.«01_k».proof.Proof.Moe.Body

@[expose] public section

set_option maxRecDepth 16384

noncomputable section

namespace Cert.KernelMoeIdeal.Hand

open Cert.KernelMoeIdeal Cert.KernelMoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev tbM0_0 : Memref sig .tc .smem S58 .i32 := Memref.whole main_arg0
abbrev tbM0_1 : Memref sig .tc .smem S58 .i32 := Memref.whole main_arg1
abbrev tbM0_2 : Memref sig .tc .smem S58 .i32 := Memref.whole main_arg2
/-- A table's array, held for reading. -/
abbrev tbPt0 (c : Dev nD) (M : Memref sig .tc .smem S58 .i32) (f : M.view.ty.Contents (Elt F)) : sProp 𝕄 := M.view.loc (c : Thread nD τ) ↦{fullShare.right} f

variable (c : Dev nD) (i : grid0.Coords)
  (arg5 : Memref sig .tc .vmem S1280x2048 .bf16) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x256x2048 .f32) (harg8 : arg8.IsWhole) (arg9 : Memref sig .tc .vmem S1x1x2048 .f32) (harg9 : arg9.IsWhole) (arg10 : Memref sig .tc .vmem S1280x2048 .f32) (harg10 : arg10.IsWhole) (arg11 : Memref sig .tc .vmem S2048x512 .bf16) (harg11 : arg11.IsWhole) (arg12 : Memref sig .tc .vmem S256x2048 .bf16) (harg12 : arg12.IsWhole)

theorem w_last (v : BitVec 32) (h : v.toNat ≤ 5) (h0 : v ≠ 0#32) : (Scalar.indexCast (Scalar.muli (Scalar.subi v 1#32) 256#32)).toNat = 256 * (v.toNat - 1) := by
  rcases six v h with rfl | rfl | rfl | rfl | rfl | rfl
  · exact absurd rfl h0
  all_goals decide +kernel

theorem off38_val (v1 : BitVec 32) (h : v1.toNat ≤ 5) (h0 : v1 ≠ 0#32) : k0_off38 v1 = ![256 * (v1.toNat - 1), 0] := by
  unfold k0_off38
  exact congrArg (fun r : ℕ => (![r, 0] : Fin 2 → ℕ)) (w_last v1 h h0)

theorem off39_val (v1 : BitVec 32) (h : v1.toNat ≤ 5) (h0 : v1 ≠ 0#32) : k0_off39 v1 = ![256 * (v1.toNat - 1), 256 * 0] := by
  unfold k0_off39
  exact congrArg (fun r : ℕ => (![r, 256 * 0] : Fin 2 → ℕ)) (w_last v1 h h0)

theorem off40_val (v1 : BitVec 32) (h : v1.toNat ≤ 5) (h0 : v1 ≠ 0#32) : k0_off40 v1 = ![256 * (v1.toNat - 1), 256 * 1] := by
  unfold k0_off40
  exact congrArg (fun r : ℕ => (![r, 256 * 1] : Fin 2 → ℕ)) (w_last v1 h h0)

theorem off41_val (v1 : BitVec 32) (h : v1.toNat ≤ 5) (h0 : v1 ≠ 0#32) : k0_off41 v1 = ![256 * (v1.toNat - 1), 256 * 2] := by
  unfold k0_off41
  exact congrArg (fun r : ℕ => (![r, 256 * 2] : Fin 2 → ℕ)) (w_last v1 h h0)

theorem off42_val (v1 : BitVec 32) (h : v1.toNat ≤ 5) (h0 : v1 ≠ 0#32) : k0_off42 v1 = ![256 * (v1.toNat - 1), 256 * 3] := by
  unfold k0_off42
  exact congrArg (fun r : ℕ => (![r, 256 * 3] : Fin 2 → ℕ)) (w_last v1 h h0)

theorem off43_val (v1 : BitVec 32) (h : v1.toNat ≤ 5) (h0 : v1 ≠ 0#32) : k0_off43 v1 = ![256 * (v1.toNat - 1), 256 * 4] := by
  unfold k0_off43
  exact congrArg (fun r : ℕ => (![r, 256 * 4] : Fin 2 → ℕ)) (w_last v1 h h0)

theorem off44_val (v1 : BitVec 32) (h : v1.toNat ≤ 5) (h0 : v1 ≠ 0#32) : k0_off44 v1 = ![256 * (v1.toNat - 1), 256 * 5] := by
  unfold k0_off44
  exact congrArg (fun r : ℕ => (![r, 256 * 5] : Fin 2 → ℕ)) (w_last v1 h h0)

theorem off45_val (v1 : BitVec 32) (h : v1.toNat ≤ 5) (h0 : v1 ≠ 0#32) : k0_off45 v1 = ![256 * (v1.toNat - 1), 256 * 6] := by
  unfold k0_off45
  exact congrArg (fun r : ℕ => (![r, 256 * 6] : Fin 2 → ℕ)) (w_last v1 h h0)

theorem off46_val (v1 : BitVec 32) (h : v1.toNat ≤ 5) (h0 : v1 ≠ 0#32) : k0_off46 v1 = ![256 * (v1.toNat - 1), 256 * 7] := by
  unfold k0_off46
  exact congrArg (fun r : ℕ => (![r, 256 * 7] : Fin 2 → ℕ)) (w_last v1 h h0)

/-- The output block after an item's step. -/
def stepOut (i : grid0.Coords) (n : ℕ) (x5 : Vec F S1280x2048 .bf16) (x6 : Vec F S1x2048x512 .f32) (x7 : Vec F S1x1x512 .f32) (x8 : Vec F S1x256x2048 .f32) (x9 : Vec F S1x1x2048 .f32) (o : Vec F S1280x2048 .f32) : Vec F S1280x2048 .f32 :=
  pieces (k0_pay64 x7) cols k0_pay65 x5 (k0_pay61 x6) (k0_pay62 x8) (start i x9 o) n

set_option maxHeartbeats 4000000 in
theorem body_idle (pf : pre0.Contents (Elt F)) (x5 : Vec F S1280x2048 .bf16) (x6 : Vec F S1x2048x512 .f32) (x7 : Vec F S1x1x512 .f32) (x8 : Vec F S1x256x2048 .f32) (x9 : Vec F S1x1x2048 .f32) (o : Vec F S1280x2048 .f32) (f11 : arg11.view.ty.Contents (Elt F)) (f12 : arg12.view.ty.Contents (Elt F)) (E : Set ℕ) (h0 : pf 1 (at58 (i 0)) = 0#32) (K : PUnit → sProp 𝕄) :
    (iprop(tbPt0 c tbM0_1 (pf 1) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread o) ∗ (arg11.view.loc (c : Thread nD τ) ↦[arg11.view.set]{fullShare} f11) ∗ (arg12.view.loc (c : Thread nD τ) ↦[arg12.view.set]{fullShare} f12) ∗ (iprop(tbPt0 c tbM0_1 (pf 1) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread o) ∗ (arg11.view.loc (c : Thread nD τ) ↦[arg11.view.set]{fullShare} f11) ∗ (arg12.view.loc (c : Thread nD τ) ↦[arg12.view.set]{fullShare} f12)) -∗ K ⟨⟩)) : sProp 𝕄)
      ⊢ wp frame (wpE (defs₀ (F := F)) Variants.none (c : Thread nD τ) none) E (cc0__moe_kernel i tbM0_0 (Memref.isWhole_whole _) tbM0_1 (Memref.isWhole_whole _) tbM0_2 (Memref.isWhole_whole _) arg5 harg5 arg6 harg6 arg7 harg7 arg8 harg8 arg9 harg9 arg10 harg10 arg11 harg11 arg12 harg12) K := by
  simp only [cc0__moe_kernel_eq_skeleton]; unfold cc0__moe_kernel_skel
  iintro ⟨HT, H5, H6, H7, H8, H9, H10, H11, H12, Hk⟩
  sl_exec
  generalize hv : body_idle.sl.r i pf = v1
  obtain rfl : v1 = pf 1 (at58 (i 0)) := hv.symm.trans (pf_at pf 1 i _ (off1_val i) (k0_off1_inb i) numel1_S1)
  have hchk : k0_chk1 (pf 1 (at58 (i 0))) := by rw [h0]; exact chk_ok _ (by decide)
  have hc1 : ¬ k0_cond1 (pf 1 (at58 (i 0))) = 1#1 := by rw [h0]; decide +kernel
  sl_exec (disch := first | sl_exact hchk | sl_exact hc1)
  sl_step
  iapply Hk
  sl_close

set_option maxHeartbeats 4000000 in
theorem body_even (pf : pre0.Contents (Elt F)) (x5 : Vec F S1280x2048 .bf16) (x6 : Vec F S1x2048x512 .f32) (x7 : Vec F S1x1x512 .f32) (x8 : Vec F S1x256x2048 .f32) (x9 : Vec F S1x1x2048 .f32) (o : Vec F S1280x2048 .f32) (f11 : arg11.view.ty.Contents (Elt F)) (f12 : arg12.view.ty.Contents (Elt F)) (E : Set ℕ) (h5 : BitVec.toNat (pf 1 (at58 (i 0))) ≤ 5) (h0 : pf 1 (at58 (i 0)) ≠ 0#32) (hodd : ¬ BitVec.toNat (pf 1 (at58 (i 0))) % 2 = 1) (K : PUnit → sProp 𝕄) :
    (iprop(tbPt0 c tbM0_1 (pf 1) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread o) ∗ (arg11.view.loc (c : Thread nD τ) ↦[arg11.view.set]{fullShare} f11) ∗ (arg12.view.loc (c : Thread nD τ) ↦[arg12.view.set]{fullShare} f12) ∗ (iprop(tbPt0 c tbM0_1 (pf 1) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread (stepOut i (BitVec.toNat (pf 1 (at58 (i 0)))) x5 x6 x7 x8 x9 o)) ∗ (arg11.view.loc (c : Thread nD τ) ↦[arg11.view.set]{fullShare} harg11.unread (k0_pay61 x6)) ∗ (arg12.view.loc (c : Thread nD τ) ↦[arg12.view.set]{fullShare} harg12.unread (k0_pay62 x8))) -∗ K ⟨⟩)) : sProp 𝕄)
      ⊢ wp frame (wpE (defs₀ (F := F)) Variants.none (c : Thread nD τ) none) E (cc0__moe_kernel i tbM0_0 (Memref.isWhole_whole _) tbM0_1 (Memref.isWhole_whole _) tbM0_2 (Memref.isWhole_whole _) arg5 harg5 arg6 harg6 arg7 harg7 arg8 harg8 arg9 harg9 arg10 harg10 arg11 harg11 arg12 harg12) K := by
  simp only [cc0__moe_kernel_eq_skeleton]; unfold cc0__moe_kernel_skel
  iintro ⟨HT, H5, H6, H7, H8, H9, H10, H11, H12, Hk⟩
  sl_exec
  generalize hv : body_even.sl.r i pf = v1
  obtain rfl : v1 = pf 1 (at58 (i 0)) := hv.symm.trans (pf_at pf 1 i _ (off1_val i) (k0_off1_inb i) numel1_S1)
  clear hv
  generalize (pf 1 (at58 (i 0)) : BitVec 32) = v1 at *
  have hchk : k0_chk1 v1 := chk_ok _ h5
  have hc1 : k0_cond1 v1 = 1#1 := (cond1_iff _ h5).mpr h0
  have hc3 : ¬ k0_cond3 v1 = 1#1 := fun h => hodd ((cond3_iff _ h5).mp h)
  have hcut15 := fun a1 => part15_exact (F := F) c i tbM0_0 (Memref.isWhole_whole _) tbM0_1 (Memref.isWhole_whole _) tbM0_2 (Memref.isWhole_whole _) arg5 harg5 arg6 harg6 arg7 harg7 arg8 harg8 arg9 harg9 arg10 harg10 arg11 harg11 arg12 harg12 x6 x7 x8 x9 o f11 f12 E a1 v1 hchk hc1
  have hcut16 := fun v37 v38 v39 => part16_exact (F := F) c i tbM0_0 (Memref.isWhole_whole _) tbM0_1 (Memref.isWhole_whole _) tbM0_2 (Memref.isWhole_whole _) arg5 harg5 arg6 harg6 arg7 harg7 arg8 harg8 arg9 harg9 arg10 harg10 arg11 harg11 arg12 harg12 v1 h5 E hchk hc1 v37 v38 v39 x5 (k0_pay61 x6) (k0_pay62 x8) (start i x9 o)
  sl_exec (disch := first | sl_exact hchk | sl_exact hc1 | sl_exact hc3)
  sl_step
  cases hk0_part15_7
  rw [show 2 * (BitVec.toNat v1 / 2) = BitVec.toNat v1 from by omega]
  iapply Hk
  isplitl [HT]; · iexact HT
  isplitl [Hk0_part16_0]; · iexact Hk0_part16_0
  isplitl [Hk0_part15_0]; · iexact Hk0_part15_0
  isplitl [Hk0_part15_1]; · iexact Hk0_part15_1
  isplitl [Hk0_part15_2]; · iexact Hk0_part15_2
  isplitl [Hk0_part15_3]; · iexact Hk0_part15_3
  isplitl [Hk0_part16_3]; · iexact Hk0_part16_3
  isplitl [Hk0_part16_1]; · iexact Hk0_part16_1
  iexact Hk0_part16_2

set_option maxHeartbeats 4000000 in
theorem body_odd (pf : pre0.Contents (Elt F)) (x5 : Vec F S1280x2048 .bf16) (x6 : Vec F S1x2048x512 .f32) (x7 : Vec F S1x1x512 .f32) (x8 : Vec F S1x256x2048 .f32) (x9 : Vec F S1x1x2048 .f32) (o : Vec F S1280x2048 .f32) (f11 : arg11.view.ty.Contents (Elt F)) (f12 : arg12.view.ty.Contents (Elt F)) (E : Set ℕ) (h5 : BitVec.toNat (pf 1 (at58 (i 0))) ≤ 5) (h0 : pf 1 (at58 (i 0)) ≠ 0#32) (hodd : BitVec.toNat (pf 1 (at58 (i 0))) % 2 = 1) (K : PUnit → sProp 𝕄) :
    (iprop(tbPt0 c tbM0_1 (pf 1) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread o) ∗ (arg11.view.loc (c : Thread nD τ) ↦[arg11.view.set]{fullShare} f11) ∗ (arg12.view.loc (c : Thread nD τ) ↦[arg12.view.set]{fullShare} f12) ∗ (iprop(tbPt0 c tbM0_1 (pf 1) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread (stepOut i (BitVec.toNat (pf 1 (at58 (i 0)))) x5 x6 x7 x8 x9 o)) ∗ (arg11.view.loc (c : Thread nD τ) ↦[arg11.view.set]{fullShare} harg11.unread (k0_pay61 x6)) ∗ (arg12.view.loc (c : Thread nD τ) ↦[arg12.view.set]{fullShare} harg12.unread (k0_pay62 x8))) -∗ K ⟨⟩)) : sProp 𝕄)
      ⊢ wp frame (wpE (defs₀ (F := F)) Variants.none (c : Thread nD τ) none) E (cc0__moe_kernel i tbM0_0 (Memref.isWhole_whole _) tbM0_1 (Memref.isWhole_whole _) tbM0_2 (Memref.isWhole_whole _) arg5 harg5 arg6 harg6 arg7 harg7 arg8 harg8 arg9 harg9 arg10 harg10 arg11 harg11 arg12 harg12) K := by
  simp only [cc0__moe_kernel_eq_skeleton]; unfold cc0__moe_kernel_skel
  iintro ⟨HT, H5, H6, H7, H8, H9, H10, H11, H12, Hk⟩
  sl_exec
  generalize hv : body_odd.sl.r i pf = v1
  obtain rfl : v1 = pf 1 (at58 (i 0)) := hv.symm.trans (pf_at pf 1 i _ (off1_val i) (k0_off1_inb i) numel1_S1)
  clear hv
  generalize (pf 1 (at58 (i 0)) : BitVec 32) = v1 at *
  have hchk : k0_chk1 v1 := chk_ok _ h5
  have hc1 : k0_cond1 v1 = 1#1 := (cond1_iff _ h5).mpr h0
  have hc3 : k0_cond3 v1 = 1#1 := (cond3_iff _ h5).mpr hodd
  have hcut15 := fun a1 => part15_exact (F := F) c i tbM0_0 (Memref.isWhole_whole _) tbM0_1 (Memref.isWhole_whole _) tbM0_2 (Memref.isWhole_whole _) arg5 harg5 arg6 harg6 arg7 harg7 arg8 harg8 arg9 harg9 arg10 harg10 arg11 harg11 arg12 harg12 x6 x7 x8 x9 o f11 f12 E a1 v1 hchk hc1
  have hcut16 := fun v37 v38 v39 => part16_exact (F := F) c i tbM0_0 (Memref.isWhole_whole _) tbM0_1 (Memref.isWhole_whole _) tbM0_2 (Memref.isWhole_whole _) arg5 harg5 arg6 harg6 arg7 harg7 arg8 harg8 arg9 harg9 arg10 harg10 arg11 harg11 arg12 harg12 v1 h5 E hchk hc1 v37 v38 v39 x5 (k0_pay61 x6) (k0_pay62 x8) (start i x9 o)
  sl_exec (disch := first | sl_exact hchk | sl_exact hc1 | sl_exact hc3)
  sl_step
  cases hk0_part15_7
  obtain rfl : v42 = k0_pay66 cols k0_pay65 := hk0_part16_4
  have hn : BitVec.toNat v1 - 1 = 2 * (BitVec.toNat v1 / 2) := by omega
  have eX := readX arg5 harg5 x5 (BitVec.toNat v1 - 1) (by omega) (k0_off38 v1) (k0_off38_inb v1 hchk hc1 hc3) (off38_val v1 h5 h0)
  have eW := read1 arg11 harg11 (k0_pay61 x6) inb_S2048x512_S2048x512_0_0
  have eA : actv (k0_pay64 x7) cols k0_pay65 x5 (k0_pay61 x6) (BitVec.toNat v1 - 1) = k0_pay56 (k0_pay55 (k0_pay64 x7) (k0_pay66 cols k0_pay65)
      (View.readAt (Elt F) arg5.view (Rect.unit (s := S1280x2048) (k0_off38 v1) S256x2048.size (k0_off38_inb v1 hchk hc1 hc3)).toLoadRect (harg5.unread x5))
      (View.readAt (Elt F) arg11.view (Rect.unit (s := S2048x512) ![0, 0] S2048x512.size inb_S2048x512_S2048x512_0_0).toLoadRect (harg11.unread (k0_pay61 x6)))) := by rw [eX, eW]; rfl
  have hs : stepOut i (BitVec.toNat v1) x5 x6 x7 x8 x9 o
      = puts (pieces (k0_pay64 x7) cols k0_pay65 x5 (k0_pay61 x6) (k0_pay62 x8) (start i x9 o) (BitVec.toNat v1 - 1)) (actv (k0_pay64 x7) cols k0_pay65 x5 (k0_pay61 x6) (BitVec.toNat v1 - 1)) (k0_pay62 x8) (BitVec.toNat v1 - 1) 8 := by
    unfold stepOut
    obtain ⟨m, hm⟩ : ∃ m, BitVec.toNat v1 = m + 1 := ⟨BitVec.toNat v1 - 1, by omega⟩
    rw [hm]; rfl
  iapply Hk
  isplitl [HT]; · iexact HT
  isplitl [Hk0_part16_0]; · iexact Hk0_part16_0
  isplitl [Hk0_part15_0]; · iexact Hk0_part15_0
  isplitl [Hk0_part15_1]; · iexact Hk0_part15_1
  isplitl [Hk0_part15_2]; · iexact Hk0_part15_2
  isplitl [Hk0_part15_3]; · iexact Hk0_part15_3
  isplitl [Hk0_part16_3]
  · refine BIBase.Entails.of_eq (congrArg (fun f => (arg10.view.loc (c : Thread nD τ) ↦[arg10.view.set]{fullShare} f : sProp 𝕄)) ?_)
    rw [hs, eA]
    refine put_step arg10 harg10 arg12 harg12 _ _ _ _ (k0_pay62 x8) (BitVec.toNat v1 - 1) 7 (by omega) (by decide) _ _ _ inb_S256x2048_S256x256_0_1792 ?_ (off46_val v1 h5 h0) rfl
    refine put_step arg10 harg10 arg12 harg12 _ _ _ _ (k0_pay62 x8) (BitVec.toNat v1 - 1) 6 (by omega) (by decide) _ _ _ inb_S256x2048_S256x256_0_1536 ?_ (off45_val v1 h5 h0) rfl
    refine put_step arg10 harg10 arg12 harg12 _ _ _ _ (k0_pay62 x8) (BitVec.toNat v1 - 1) 5 (by omega) (by decide) _ _ _ inb_S256x2048_S256x256_0_1280 ?_ (off44_val v1 h5 h0) rfl
    refine put_step arg10 harg10 arg12 harg12 _ _ _ _ (k0_pay62 x8) (BitVec.toNat v1 - 1) 4 (by omega) (by decide) _ _ _ inb_S256x2048_S256x256_0_1024 ?_ (off43_val v1 h5 h0) rfl
    refine put_step arg10 harg10 arg12 harg12 _ _ _ _ (k0_pay62 x8) (BitVec.toNat v1 - 1) 3 (by omega) (by decide) _ _ _ inb_S256x2048_S256x256_0_768 ?_ (off42_val v1 h5 h0) rfl
    refine put_step arg10 harg10 arg12 harg12 _ _ _ _ (k0_pay62 x8) (BitVec.toNat v1 - 1) 2 (by omega) (by decide) _ _ _ inb_S256x2048_S256x256_0_512 ?_ (off41_val v1 h5 h0) rfl
    refine put_step arg10 harg10 arg12 harg12 _ _ _ _ (k0_pay62 x8) (BitVec.toNat v1 - 1) 1 (by omega) (by decide) _ _ _ inb_S256x2048_S256x256_0_256 ?_ (off40_val v1 h5 h0) rfl
    refine put_step arg10 harg10 arg12 harg12 _ _ _ _ (k0_pay62 x8) (BitVec.toNat v1 - 1) 0 (by omega) (by decide) _ _ _ inb_S256x2048_S256x256_0_0 ?_ (off39_val v1 h5 h0) rfl
    rw [hn]; rfl
  isplitl [Hk0_part16_1]; · iexact Hk0_part16_1
  iexact Hk0_part16_2

end Cert.KernelMoeIdeal.Hand
-- ==== Proof.Moe.Next.lean ====
module

public import proofs.«01_k».proof.Proof.Moe.Whole

@[expose] public section

set_option maxRecDepth 16384

noncomputable section

namespace Cert.KernelMoeIdeal.Hand

open Cert.KernelMoeIdeal Cert.KernelMoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a point leaves in the output's buffer, given what it found there. -/
def next (i : grid0.Coords) (n : BitVec 32) (x5 : Vec F S1280x2048 .bf16) (x6 : Vec F S1x2048x512 .f32) (x7 : Vec F S1x1x512 .f32) (x8 : Vec F S1x256x2048 .f32) (x9 : Vec F S1x1x2048 .f32) (o : Vec F S1280x2048 .f32) : Vec F S1280x2048 .f32 :=
  if n = 0#32 then o else stepOut i n.toNat x5 x6 x7 x8 x9 o

/-- The body at any number of pieces. -/
theorem body_next (c : Dev nD) (i : grid0.Coords) (arg5 : Memref sig .tc .vmem S1280x2048 .bf16) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x256x2048 .f32) (harg8 : arg8.IsWhole) (arg9 : Memref sig .tc .vmem S1x1x2048 .f32) (harg9 : arg9.IsWhole) (arg10 : Memref sig .tc .vmem S1280x2048 .f32) (harg10 : arg10.IsWhole) (arg11 : Memref sig .tc .vmem S2048x512 .bf16) (harg11 : arg11.IsWhole) (arg12 : Memref sig .tc .vmem S256x2048 .bf16) (harg12 : arg12.IsWhole) (pf : pre0.Contents (Elt F)) (x5 : Vec F S1280x2048 .bf16) (x6 : Vec F S1x2048x512 .f32) (x7 : Vec F S1x1x512 .f32) (x8 : Vec F S1x256x2048 .f32) (x9 : Vec F S1x1x2048 .f32) (o : Vec F S1280x2048 .f32) (E : Set ℕ) (h5 : BitVec.toNat (pf 1 (at58 (i 0))) ≤ 5) (K : PUnit → sProp 𝕄) :
    (iprop(tbPt0 c tbM0_1 (pf 1) ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare o ∗ (∃ d, owns (c : Thread nD τ) arg11 fullShare d) ∗ (∃ d, owns (c : Thread nD τ) arg12 fullShare d) ∗ (iprop(tbPt0 c tbM0_1 (pf 1) ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (next i (pf 1 (at58 (i 0))) x5 x6 x7 x8 x9 o) ∗ (∃ d, owns (c : Thread nD τ) arg11 fullShare d) ∗ (∃ d, owns (c : Thread nD τ) arg12 fullShare d)) -∗ K ⟨⟩)) : sProp 𝕄)
      ⊢ wp frame (wpE (defs₀ (F := F)) Variants.none (c : Thread nD τ) none) E (cc0__moe_kernel i tbM0_0 (Memref.isWhole_whole _) tbM0_1 (Memref.isWhole_whole _) tbM0_2 (Memref.isWhole_whole _) arg5 harg5 arg6 harg6 arg7 harg7 arg8 harg8 arg9 harg9 arg10 harg10 arg11 harg11 arg12 harg12) K := by
  unfold owns
  iintro ⟨HT, ⟨%f5, ⟨%e5, H5⟩⟩, ⟨%f6, ⟨%e6, H6⟩⟩, ⟨%f7, ⟨%e7, H7⟩⟩, ⟨%f8, ⟨%e8, H8⟩⟩, ⟨%f9, ⟨%e9, H9⟩⟩, ⟨%f10, ⟨%e10, H10⟩⟩, ⟨%d11, ⟨%f11, ⟨%e11, H11⟩⟩⟩, ⟨%d12, ⟨%f12, ⟨%e12, H12⟩⟩⟩, Hk⟩
  obtain rfl := harg5.eq_unread e5
  obtain rfl := harg6.eq_unread e6
  obtain rfl := harg7.eq_unread e7
  obtain rfl := harg8.eq_unread e8
  obtain rfl := harg9.eq_unread e9
  obtain rfl := harg10.eq_unread e10
  by_cases h0 : pf 1 (at58 (i 0)) = 0#32
  · rw [show next i (pf 1 (at58 (i 0))) x5 x6 x7 x8 x9 o = o from if_pos h0]
    iapply (body_idle c i arg5 harg5 arg6 harg6 arg7 harg7 arg8 harg8 arg9 harg9 arg10 harg10 arg11 harg11 arg12 harg12 pf x5 x6 x7 x8 x9 o _ _ E h0 K)
    isplitl [HT]; · iexact HT
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨HT, H5, H6, H7, H8, H9, H10, H11, H12⟩
    iapply Hk
    isplitl [HT]; · iexact HT
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H10]
    · iexists _; isplitr; swap; · iexact H10
      ipureintro; exact harg10.read_unread _
    isplitl [H11]
    · iexists _; iexists _; isplitr; swap; · iexact H11
      ipureintro; exact rfl
    iexists _; iexists _; isplitr; swap; · iexact H12
    ipureintro; exact rfl

  rw [show next i (pf 1 (at58 (i 0))) x5 x6 x7 x8 x9 o = stepOut i (BitVec.toNat (pf 1 (at58 (i 0)))) x5 x6 x7 x8 x9 o from if_neg h0]
  by_cases hodd : BitVec.toNat (pf 1 (at58 (i 0))) % 2 = 1
  · skip
    iapply (body_odd c i arg5 harg5 arg6 harg6 arg7 harg7 arg8 harg8 arg9 harg9 arg10 harg10 arg11 harg11 arg12 harg12 pf x5 x6 x7 x8 x9 o _ _ E h5 h0 hodd K)
    isplitl [HT]; · iexact HT
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨HT, H5, H6, H7, H8, H9, H10, H11, H12⟩
    iapply Hk
    isplitl [HT]; · iexact HT
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H10]
    · iexists _; isplitr; swap; · iexact H10
      ipureintro; exact harg10.read_unread _
    isplitl [H11]
    · iexists _; iexists _; isplitr; swap; · iexact H11
      ipureintro; exact harg11.read_unread _
    iexists _; iexists _; isplitr; swap; · iexact H12
    ipureintro; exact harg12.read_unread _

  · skip
    iapply (body_even c i arg5 harg5 arg6 harg6 arg7 harg7 arg8 harg8 arg9 harg9 arg10 harg10 arg11 harg11 arg12 harg12 pf x5 x6 x7 x8 x9 o _ _ E h5 h0 hodd K)
    isplitl [HT]; · iexact HT
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨HT, H5, H6, H7, H8, H9, H10, H11, H12⟩
    iapply Hk
    isplitl [HT]; · iexact HT
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H10]
    · iexists _; isplitr; swap; · iexact H10
      ipureintro; exact harg10.read_unread _
    isplitl [H11]
    · iexists _; iexists _; isplitr; swap; · iexact H11
      ipureintro; exact harg11.read_unread _
    iexists _; iexists _; isplitr; swap; · iexact H12
    ipureintro; exact harg12.read_unread _

end Cert.KernelMoeIdeal.Hand
-- ==== Proof.Moe.Pay.lean ====
module

public import proofs.«01_k».proof.Proof.Moe.Next
public import Idealize.ShloMosaic.Lib.MatmulPlain
public import Idealize.ShloMosaic.Lib.Pointwise

@[expose] public section

set_option maxRecDepth 16384

noncomputable section

namespace Cert.KernelMoeIdeal.Hand

open Cert.KernelMoeIdeal Cert.KernelMoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The gated activation of a gate and a linear value. -/
def sw (g l : EReal) : EReal :=
  (min g (Ideal.ofBits .f32 0x40E00000#32) * Ideal.logistic (Ideal.ofBits .f32 0x3FD9DB23#32 * min g (Ideal.ofBits .f32 0x40E00000#32)))
    * (min (Ideal.ofBits .f32 0x40E00000#32) (max (Ideal.ofBits .f32 0xC0E00000#32) l) + 1)

/-- The first product of a row, with its bias, at one of the block's columns. -/
def lin (v37 : FVec Ideal S1x512 .f32) (x : Fin 2048 → EReal) (w : Vec Ideal S2048x512 .bf16) (f : Fin 512) : EReal :=
  (∑ d : Fin 2048, x d * w (ix2 d f) : EReal) + v37 (ix2 (0 : Fin 1) f)

theorem par_word : ∀ l : Fin 256, IntOp.cmpi .eq (IntOp.andi (BitVec.ofNat 32 l.val) 1#32) 0#32 = 1#1 ↔ l.val % 2 = 0 := by decide +kernel

theorem par_at (r l : Fin 256) : (k0_pay66 cols k0_pay65 (ix2 r l) = 1#1) ↔ l.val % 2 = 0 := by
  have e : k0_pay66 cols k0_pay65 (ix2 r l) = IntOp.cmpi .eq (IntOp.andi (BitVec.ofNat 32 l.val) 1#32) 0#32 := by
    pointwise [k0_pay66, cols, k0_pay65]
  rw [e]
  exact par_word l

theorem pay55_at (v37 : FVec Ideal S1x512 .f32) (v42 : IVec S256x256 1) (x : Vec Ideal S256x2048 .bf16) (w : Vec Ideal S2048x512 .bf16) (r l : Fin 256) :
    k0_pay55 v37 v42 x w (ix2 r l) = if v42 (ix2 r l) = 1#1
      then sw (lin v37 (fun d => x (ix2 r d)) w (⟨l.val, by omega⟩ : Fin 512)) (lin v37 (fun d => x (ix2 r d)) w (⟨(l.val + 256 - 255) % 256, by omega⟩ : Fin 512))
      else sw (lin v37 (fun d => x (ix2 r d)) w (⟨256 + (l.val + 256 - 1) % 256, by omega⟩ : Fin 512)) (lin v37 (fun d => x (ix2 r d)) w (⟨256 + l.val, by omega⟩ : Fin 512)) := by
  pointwise [k0_pay55, dot_S256x2048_S2048x512_S256x512_1_0_0_1_n_n]
  rfl

/-- Where the kernel's permutation takes an activation's column. -/
def perm (l : Fin 256) : Fin 256 := ⟨l.val / 2 + 128 * (l.val % 2), by omega⟩

theorem perm_bij : Function.Bijective perm := by
  refine (Fintype.bijective_iff_injective_and_card _).mpr ⟨fun a b h => ?_, rfl⟩
  have := congrArg Fin.val h
  unfold perm at this
  dsimp only at this
  exact Fin.ext (by omega)

theorem act_at (v37 : FVec Ideal S1x512 .f32) (x : Vec Ideal S256x2048 .bf16) (w : Vec Ideal S2048x512 .bf16) (r l : Fin 256) :
    k0_pay55 v37 (k0_pay66 cols k0_pay65) x w (ix2 r l)
      = sw (lin v37 (fun d => x (ix2 r d)) w ⟨2 * (perm l).val, by omega⟩) (lin v37 (fun d => x (ix2 r d)) w ⟨2 * (perm l).val + 1, by omega⟩) := by
  rw [pay55_at]
  have hl := l.isLt
  by_cases h : l.val % 2 = 0
  · rw [if_pos ((par_at r l).mpr h)]
    refine congrArg₂ sw (congrArg _ (Fin.ext ?_)) (congrArg _ (Fin.ext ?_)) <;> unfold perm <;> dsimp only <;> omega
  · rw [if_neg (fun hc => h ((par_at r l).mp hc))]
    refine congrArg₂ sw (congrArg _ (Fin.ext ?_)) (congrArg _ (Fin.ext ?_)) <;> unfold perm <;> dsimp only <;> omega

theorem pay14_at (act : FVec Ideal S256x256 .bf16) (o : Vec Ideal S256x256 .f32) (w : Vec Ideal S256x256 .bf16) (r l : Fin 256) :
    k0_pay14 act o w (ix2 r l) = (o (ix2 r l) + ∑ k : Fin 256, act (ix2 r k) * w (ix2 k l) : EReal) := by
  pointwise [k0_pay14, dot_S256x256_S256x256_S256x256_1_0_0_1_n_n]

theorem pay61_at (x : Vec Ideal S1x2048x512 .f32) (d : Fin 2048) (f : Fin 512) :
    k0_pay61 x (ix2 d f) = x (ix3 (0 : Fin 1) d f) := by
  pointwise [k0_pay61]

theorem pay63_at (x : Vec Ideal S1x1x2048 .f32) (r : Fin 1280) (f : Fin 2048) :
    k0_pay63 x (ix2 r f) = x (ix3 (0 : Fin 1) (0 : Fin 1) f) := by
  pointwise [k0_pay63]

theorem pay64_at (x : Vec Ideal S1x1x512 .f32) (f : Fin 512) :
    k0_pay64 x (ix2 (0 : Fin 1) f) = x (ix3 (0 : Fin 1) (0 : Fin 1) f) := by
  pointwise [k0_pay64]

theorem perm_word (l : Fin 256) : IntOp.addi (IntOp.shrsi ArithUnit.vector (BitVec.ofNat 32 l.val) 1#32) (IntOp.muli (128#32) (IntOp.andi (BitVec.ofNat 32 l.val) 1#32)) = BitVec.ofNat 32 (perm l).val := by
  revert l
  decide +kernel

theorem pay62_at (x : Vec Ideal S1x256x2048 .f32) (l : Fin 256) (f : Fin 2048) :
    k0_pay62 x (ix2 l f) = x (ix3 (0 : Fin 1) (perm l) f) := by
  pointwise [k0_pay62, dot_S256x256_S256x2048_S256x2048_1_0_0_1_n_n]
  rw [perm_word]
  refine (Finset.sum_eq_single (perm l) (fun k _ hk => ?_) (fun h => absurd (Finset.mem_univ _) h)).trans ?_
  · refine if_neg (fun hc => hk (Fin.ext ?_))
    have h1 : BitVec.ofNat 32 k.val = BitVec.ofNat 32 (perm l).val := by
      have : ∀ b : Bool, BitVec.ofBool b = 1#1 → b = true := by decide
      exact eq_of_beq (this _ hc)
    have h2 := congrArg BitVec.toNat h1
    rw [BitVec.toNat_ofNat, BitVec.toNat_ofNat] at h2
    have := k.isLt
    have := (perm l).isLt
    omega
  · refine if_pos ?_
    show BitVec.ofBool (BitVec.ofNat 32 (perm l).val == BitVec.ofNat 32 (perm l).val) = 1#1
    rw [beq_self_eq_true]; rfl

/-- What one activation contributes to a column: the sum over the block of the second weights, in its own order. -/
theorem step_sum (v37 : FVec Ideal S1x512 .f32) (x : Vec Ideal S256x2048 .bf16) (w : Vec Ideal S2048x512 .bf16) (w2 : Vec Ideal S1x256x2048 .f32) (r : Fin 256) (f : Fin 2048) :
    (∑ l : Fin 256, k0_pay55 v37 (k0_pay66 cols k0_pay65) x w (ix2 r l) * k0_pay62 w2 (ix2 l f) : EReal)
      = ∑ q : Fin 256, sw (lin v37 (fun d => x (ix2 r d)) w ⟨2 * q.val, by omega⟩) (lin v37 (fun d => x (ix2 r d)) w ⟨2 * q.val + 1, by omega⟩) * w2 (ix3 (0 : Fin 1) q f) := by
  refine Fintype.sum_bijective perm perm_bij _ _ fun l => ?_
  rw [act_at, pay62_at]

/-! ## The pieces of rows -/

theorem put_at (o : Vec Ideal S1280x2048 .f32) (act : FVec Ideal S256x256 .bf16) (w2 : Vec Ideal S256x2048 .bf16) (n b : ℕ) (hn : n < 5) (hb : b < 8) (R : Fin 1280) (f : Fin 2048) :
    put o act w2 n b (ix2 R f) = if R.val / 256 = n ∧ f.val / 256 = b
      then (o (ix2 R f) + ∑ k : Fin 256, act (ix2 (⟨R.val % 256, by omega⟩ : Fin 256) k) * w2 (ix2 k f) : EReal) else o (ix2 R f) := by
  have hR := R.isLt
  have hf := f.isLt
  unfold put
  by_cases h : R.val / 256 = n ∧ f.val / 256 = b
  · obtain ⟨h1, h2⟩ := h
    have hin : ∀ a : Fin 2, (![256 * n, 256 * b] : Fin 2 → ℕ) a ≤ ((ix2 R f : S1280x2048.Idx) a).val ∧ ((ix2 R f : S1280x2048.Idx) a).val < (![256 * n, 256 * b] : Fin 2 → ℕ) a + S256x256.size a := by
      refine Fin.forall_fin_two.mpr ⟨?_, ?_⟩
      · show 256 * n ≤ R.val ∧ R.val < 256 * n + 256; omega
      · show 256 * b ≤ f.val ∧ f.val < 256 * b + 256; omega
    rw [dif_pos hin, if_pos ⟨h1, h2⟩]
    have e : Rect.unitLocal (s := S1280x2048) (off := ![256 * n, 256 * b]) (size := S256x256.size) (ix2 R f) hin = ix2 (⟨R.val % 256, by omega⟩ : Fin 256) (⟨f.val % 256, by omega⟩ : Fin 256) := by
      funext a
      revert a
      refine Fin.forall_fin_two.mpr ⟨Fin.ext ?_, Fin.ext ?_⟩
      · show R.val - 256 * n = R.val % 256; omega
      · show f.val - 256 * b = f.val % 256; omega
    rw [e, pay14_at]
    refine congrArg₂ (fun a b : EReal => a + b) ?_ (Finset.sum_congr rfl fun k _ => congrArg _ ?_)
    · refine congrArg o ?_
      funext a
      revert a
      refine Fin.forall_fin_two.mpr ⟨Fin.ext ?_, Fin.ext ?_⟩
      · show (256 * n + R.val % 256) % 1280 = R.val; omega
      · show (256 * b + f.val % 256) % 2048 = f.val; omega
    · refine congrArg w2 ?_
      have hk := k.isLt
      funext a
      revert a
      refine Fin.forall_fin_two.mpr ⟨Fin.ext ?_, Fin.ext ?_⟩
      · show k.val % 256 = k.val; omega
      · show (256 * b + f.val % 256) % 2048 = f.val; omega
  · rw [if_neg h, dif_neg]
    intro hin
    have h0 : 256 * n ≤ R.val ∧ R.val < 256 * n + 256 := hin 0
    have h1 : 256 * b ≤ f.val ∧ f.val < 256 * b + 256 := hin 1
    exact h (by omega)

theorem puts_at (o : Vec Ideal S1280x2048 .f32) (act : FVec Ideal S256x256 .bf16) (w2 : Vec Ideal S256x2048 .bf16) (n : ℕ) (hn : n < 5) (R : Fin 1280) (f : Fin 2048) (b : ℕ) (hb : b ≤ 8) :
    puts o act w2 n b (ix2 R f) = if R.val / 256 = n ∧ f.val / 256 < b
      then (o (ix2 R f) + ∑ k : Fin 256, act (ix2 (⟨R.val % 256, by omega⟩ : Fin 256) k) * w2 (ix2 k f) : EReal) else o (ix2 R f) := by
  induction b with
  | zero => exact (if_neg (by omega)).symm
  | succ b ih =>
    have ih := ih (by omega)
    show put (puts o act w2 n b) act w2 n b (ix2 R f) = _
    rw [put_at _ _ _ n b hn (by omega), ih]
    by_cases h1 : R.val / 256 = n
    · by_cases h2 : f.val / 256 = b
      · rw [if_pos ⟨h1, h2⟩, if_neg (by omega), if_pos ⟨h1, by omega⟩]
      · rw [if_neg (by omega)]
        exact if_congr (by omega) rfl rfl
    · rw [if_neg (by omega), if_neg (by omega), if_neg (by omega)]

theorem pieces_at (v37 : FVec Ideal S1x512 .f32) (x : Vec Ideal S1280x2048 .bf16) (w : Vec Ideal S2048x512 .bf16) (w2 : Vec Ideal S1x256x2048 .f32) (o : Vec Ideal S1280x2048 .f32) (R : Fin 1280) (f : Fin 2048) (n : ℕ) (hn : n ≤ 5) :
    pieces v37 cols k0_pay65 x w (k0_pay62 w2) o n (ix2 R f) = if R.val / 256 < n
      then (o (ix2 R f) + ∑ q : Fin 256, sw (lin v37 (fun d => x (ix2 R d)) w ⟨2 * q.val, by omega⟩) (lin v37 (fun d => x (ix2 R d)) w ⟨2 * q.val + 1, by omega⟩) * w2 (ix3 (0 : Fin 1) q f) : EReal) else o (ix2 R f) := by
  induction n with
  | zero => exact (if_neg (by omega)).symm
  | succ n ih =>
    have ih := ih (by omega)
    show puts (pieces v37 cols k0_pay65 x w (k0_pay62 w2) o n) (actv v37 cols k0_pay65 x w n) (k0_pay62 w2) n 8 (ix2 R f) = _
    have hf := f.isLt
    have hR := R.isLt
    rw [puts_at _ _ _ n (by omega) R f 8 le_rfl, ih]
    by_cases h1 : R.val / 256 = n
    · rw [if_pos ⟨h1, by omega⟩, if_neg (by omega), if_pos (by omega)]
      refine congrArg (fun a : EReal => (o (ix2 R f) + a : EReal)) ?_
      refine (step_sum v37 (blkX x n) w w2 ⟨R.val % 256, by omega⟩ f).trans ?_
      have e : (fun d : Fin 2048 => blkX x n (ix2 (⟨R.val % 256, by omega⟩ : Fin 256) d)) = fun d => x (ix2 R d) := by
        funext d
        have hd := d.isLt
        refine congrArg x ?_
        funext a
        revert a
        refine Fin.forall_fin_two.mpr ⟨Fin.ext ?_, Fin.ext ?_⟩
        · show (256 * n + R.val % 256) % 1280 = R.val; omega
        · show d.val % 2048 = d.val; omega
      rw [e]
    · rw [if_neg (by omega)]
      exact if_congr (by omega) rfl rfl

/-- One step of an item, at a row that its pieces take in. -/
theorem stepOut_at (i : grid0.Coords) (n : ℕ) (hn : n ≤ 5) (x5 : Vec Ideal S1280x2048 .bf16) (x6 : Vec Ideal S1x2048x512 .f32) (x7 : Vec Ideal S1x1x512 .f32) (x8 : Vec Ideal S1x256x2048 .f32) (x9 : Vec Ideal S1x1x2048 .f32) (o : Vec Ideal S1280x2048 .f32)
    (R : Fin 1280) (f : Fin 2048) (h : R.val / 256 < n) :
    stepOut i n x5 x6 x7 x8 x9 o (ix2 R f) = (start i x9 o (ix2 R f) + ∑ q : Fin 256,
      sw ((∑ d : Fin 2048, x5 (ix2 R d) * x6 (ix3 (0 : Fin 1) d (⟨2 * q.val, by omega⟩ : Fin 512)) : EReal) + x7 (ix3 (0 : Fin 1) (0 : Fin 1) (⟨2 * q.val, by omega⟩ : Fin 512)))
        ((∑ d : Fin 2048, x5 (ix2 R d) * x6 (ix3 (0 : Fin 1) d (⟨2 * q.val + 1, by omega⟩ : Fin 512)) : EReal) + x7 (ix3 (0 : Fin 1) (0 : Fin 1) (⟨2 * q.val + 1, by omega⟩ : Fin 512)))
        * x8 (ix3 (0 : Fin 1) q f) : EReal) := by
  unfold stepOut
  rw [pieces_at _ _ _ _ _ R f n hn, if_pos h]
  unfold lin
  simp only [pay61_at, pay64_at]

end Cert.KernelMoeIdeal.Hand
-- ==== Proof.Moe.Frame.lean ====
module

public import proofs.«01_k».proof.Proof.Moe.Next
public import Idealize.ShloMosaic.Lib.Pipeline.TableIdle

@[expose] public section

set_option maxRecDepth 16384

noncomputable section

namespace Cert.KernelMoeIdeal.Hand

open Cert.KernelMoeIdeal Cert.KernelMoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents where the region is entered. -/
def V (c : Dev nD) (b : Ref sig .tc) : Buf (Elt F) ((c : Thread nD τ).loc b) := m ((c.tc : Thread nD τ).loc b)

/-- The tables as launched. -/
def tbl : pre0.Contents (Elt F) := fun j => m (((0 : Dev nD) : Thread nD τ).loc (pre0.ref j))

theorem V_pre (c : Dev nD) (j : Fin 3) : V m c (pre0.ref j) = tbl m j := by
  obtain rfl : c = 0 := Subsingleton.elim _ _; rfl

/-- The tables are packed. -/
abbrev Ok : Prop := Packed (tbl m 0) (tbl m 1) (tbl m 2)

variable (hO : Ok m)

abbrev adm : (pcfg0 (F := F)).Adm := ⟨tbl m, ok_of_packed (tbl m) hO⟩
abbrev cfgM : Cfg sig Λ₀ := cfg0 (adm m hO)

abbrev ms0 (t : Fin (cfgM m hO).N) : Memref sig .tc .vmem S1280x2048 .bf16 := spec0_0.stage ((cfgM m hO).slots t 0)
abbrev hs0 (t : Fin (cfgM m hO).N) : (ms0 m hO t).IsWhole := hstage0_0 (((cfgM m hO).slots t 0).cast nbuf0_0)
abbrev ms1 (t : Fin (cfgM m hO).N) : Memref sig .tc .vmem S1x2048x512 .f32 := spec0_1.stage ((cfgM m hO).slots t 1)
abbrev hs1 (t : Fin (cfgM m hO).N) : (ms1 m hO t).IsWhole := hstage0_1 (((cfgM m hO).slots t 1).cast nbuf0_1)
abbrev ms2 (t : Fin (cfgM m hO).N) : Memref sig .tc .vmem S1x1x512 .f32 := spec0_2.stage ((cfgM m hO).slots t 2)
abbrev hs2 (t : Fin (cfgM m hO).N) : (ms2 m hO t).IsWhole := hstage0_2 (((cfgM m hO).slots t 2).cast nbuf0_2)
abbrev ms3 (t : Fin (cfgM m hO).N) : Memref sig .tc .vmem S1x256x2048 .f32 := spec0_3.stage ((cfgM m hO).slots t 3)
abbrev hs3 (t : Fin (cfgM m hO).N) : (ms3 m hO t).IsWhole := hstage0_3 (((cfgM m hO).slots t 3).cast nbuf0_3)
abbrev ms4 (t : Fin (cfgM m hO).N) : Memref sig .tc .vmem S1x1x2048 .f32 := spec0_4.stage ((cfgM m hO).slots t 4)
abbrev hs4 (t : Fin (cfgM m hO).N) : (ms4 m hO t).IsWhole := hstage0_4 (((cfgM m hO).slots t 4).cast nbuf0_4)
abbrev ms5 (t : Fin (cfgM m hO).N) : Memref sig .tc .vmem S1280x2048 .f32 := spec0_5.stage ((cfgM m hO).slots t 5)
abbrev hs5 (t : Fin (cfgM m hO).N) : (ms5 m hO t).IsWhole := hstage0_5 (((cfgM m hO).slots t 5).cast nbuf0_5)

/-- The body at point `t`. -/
def bodyAt0 (t : Fin (cfgM m hO).N) : Prog (TpuEff nD τ sig (Elt F) Λ₀ .tc) PUnit :=
  cc0__moe_kernel (grid0.coords t) tbM0_0 (Memref.isWhole_whole _) tbM0_1 (Memref.isWhole_whole _) tbM0_2 (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (Memref.whole cc0_scratch0) (Memref.isWhole_whole _) (Memref.whole cc0_scratch1) (Memref.isWhole_whole _)

theorem defs_row (t : Fin (cfgM m hO).N) :
    defs₀ (F := F) .tc (cfgM m hO).body ((cfgM m hO).bodyArgs t ((cfgM m hO).slots t)) = bodyAt0 m hO t := by
  unfold defs₀; rw [Defs.onTc_tc]; rfl

/-- A window's block at a point. -/
def iblk (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- What a point makes of the output's buffer. -/
def stepT (c : Dev nD) (n : ℕ) (o : Vec F S1280x2048 .f32) : Vec F S1280x2048 .f32 :=
  if h : n < (cfgM m hO).N then
    next (grid0.coords ⟨n, h⟩) (tbl m 1 (at58 (grid0.coords ⟨n, h⟩ 0))) (iblk m hO c 0 ⟨n, h⟩) (iblk m hO c 1 ⟨n, h⟩) (iblk m hO c 2 ⟨n, h⟩) (iblk m hO c 3 ⟨n, h⟩) (iblk m hO c 4 ⟨n, h⟩) o
  else o

/-- What the output's buffer holds after the first `n` points. -/
def outT (c : Dev nD) (n : ℕ) : Vec F S1280x2048 .f32 :=
  Nat.rec (k0_pay63 (iblk m hO c 4 ⟨0, by show 0 < 464; omega⟩)) (fun n o => stepT m hO c n o) n

theorem outT_succ (c : Dev nD) (t : Fin (cfgM m hO).N) : outT m hO c (t.val + 1)
    = next (grid0.coords t) (tbl m 1 (at58 (grid0.coords t 0))) (iblk m hO c 0 t) (iblk m hO c 1 t) (iblk m hO c 2 t) (iblk m hO c 3 t) (iblk m hO c 4 t) (outT m hO c t.val) := by
  exact dif_pos t.isLt

/-- The proof data: inputs at their blocks, the output at what the points so far leave. -/
def datsM (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, h⟩ => outT m hO c (t.val + 1)
  Φ _ := iprop(Pipeline.ΦA spec0 c ∗ Pipeline.ΦT pre0 (tbl m) c)
  q w := Pipeline.shareOf spec0 w
  owed _ := 0

theorem datA (c : Dev nD) (w : Fin (cfgM m hO).W) : (datsM m hO 0 c).A w = V m c (Pipeline.arrRef spec0 w) := by
  dsimp only [datsM]
theorem after0 (c : Dev nD) (t : Fin (cfgM m hO).N) : (datsM m hO 0 c).after 0 t = iblk m hO c 0 t := rfl
theorem after1 (c : Dev nD) (t : Fin (cfgM m hO).N) : (datsM m hO 0 c).after 1 t = iblk m hO c 1 t := rfl
theorem after2 (c : Dev nD) (t : Fin (cfgM m hO).N) : (datsM m hO 0 c).after 2 t = iblk m hO c 2 t := rfl
theorem after3 (c : Dev nD) (t : Fin (cfgM m hO).N) : (datsM m hO 0 c).after 3 t = iblk m hO c 3 t := rfl
theorem after4 (c : Dev nD) (t : Fin (cfgM m hO).N) : (datsM m hO 0 c).after 4 t = iblk m hO c 4 t := rfl
theorem after5 (c : Dev nD) (t : Fin (cfgM m hO).N) : (datsM m hO 0 c).after 5 t = outT m hO c (t.val + 1) := rfl
theorem before0 (c : Dev nD) (t : Fin (cfgM m hO).N) (d) : (datsM m hO 0 c).before 0 t d = iblk m hO c 0 t :=
  ((datsM m hO 0 c).before_in_eq_fetched 0 rfl (fun _ => rfl) (fun _ _ _ => rfl) (fun t => by rw [after0]; unfold Dat.blockOf iblk; rw [datA]; try rfl) t d).trans
    (by unfold Dat.fetched Dat.blockOf iblk; rw [datA]; try rfl)
theorem before1 (c : Dev nD) (t : Fin (cfgM m hO).N) (d) : (datsM m hO 0 c).before 1 t d = iblk m hO c 1 t :=
  ((datsM m hO 0 c).before_in_eq_fetched 1 rfl (fun _ => rfl) (fun _ _ _ => rfl) (fun t => by rw [after1]; unfold Dat.blockOf iblk; rw [datA]; try rfl) t d).trans
    (by unfold Dat.fetched Dat.blockOf iblk; rw [datA]; try rfl)
theorem before2 (c : Dev nD) (t : Fin (cfgM m hO).N) (d) : (datsM m hO 0 c).before 2 t d = iblk m hO c 2 t :=
  ((datsM m hO 0 c).before_in_eq_fetched 2 rfl (fun _ => rfl) (fun _ _ _ => rfl) (fun t => by rw [after2]; unfold Dat.blockOf iblk; rw [datA]; try rfl) t d).trans
    (by unfold Dat.fetched Dat.blockOf iblk; rw [datA]; try rfl)
theorem before3 (c : Dev nD) (t : Fin (cfgM m hO).N) (d) : (datsM m hO 0 c).before 3 t d = iblk m hO c 3 t :=
  ((datsM m hO 0 c).before_in_eq_fetched 3 rfl (fun _ => rfl) (fun _ _ _ => rfl) (fun t => by rw [after3]; unfold Dat.blockOf iblk; rw [datA]; try rfl) t d).trans
    (by unfold Dat.fetched Dat.blockOf iblk; rw [datA]; try rfl)
theorem before4 (c : Dev nD) (t : Fin (cfgM m hO).N) (d) : (datsM m hO 0 c).before 4 t d = iblk m hO c 4 t :=
  ((datsM m hO 0 c).before_in_eq_fetched 4 rfl (fun _ => rfl) (fun _ _ _ => rfl) (fun t => by rw [after4]; unfold Dat.blockOf iblk; rw [datA]; try rfl) t d).trans
    (by unfold Dat.fetched Dat.blockOf iblk; rw [datA]; try rfl)

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert 0 (insert 1 {2}) from by decide, bigSep_insert (by decide), bigSep_insert (by decide), bigSep_singleton]; rfl

theorem rest_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-! ## Where the output's buffer is fresh -/

theorem t0 (t : Fin grid0.N) : (grid0.coords t 0).val = t.val / 8 := by
  rw [Pipeline.Grid.coords_val t 0 (by decide : _ = 8) rfl]
  have h1 : t.val < 464 := t.isLt
  show t.val / 8 % 58 = t.val / 8; omega
theorem t1 (t : Fin grid0.N) : (grid0.coords t 1).val = t.val % 8 := by
  rw [Pipeline.Grid.coords_val t 1 (by decide : _ = 1) rfl]
  show t.val / 1 % 8 = t.val % 8; omega

/-- A point's item. -/
abbrev it (t : Fin grid0.N) : S58.Idx := at58 (grid0.coords t 0)

theorem idle_iff (t : Fin (cfgM m hO).N) : (cfgM m hO).idle 5 (grid0.coords t) = true ↔ tbl m 1 (it t) = 0#32 := by
  have h5 := hO.pieces (grid0.coords t 0)
  show (!(k0_cond1 ((tbl m).atD 1 (k0_off1 (grid0.coords t))) == 1#1 && k0_cond2 (grid0.coords t) == 1#1) && !(k0_cond1 ((tbl m).atD 1 (k0_off1 (grid0.coords t))) == 1#1) && !(k0_cond1 ((tbl m).atD 1 (k0_off1 (grid0.coords t))) == 1#1 && k0_cond3 ((tbl m).atD 1 (k0_off1 (grid0.coords t))) == 1#1)) = true ↔ _
  rw [pf_atD]
  have hc := cond1_iff _ h5
  by_cases h : tbl m 1 (it t) = 0#32
  · have : ¬ k0_cond1 (tbl m 1 (it t)) = 1#1 := fun h' => (hc.mp h') h
    rw [h] at this ⊢
    simp [this]
    rfl
  · have : k0_cond1 (tbl m 1 (it t)) = 1#1 := hc.mpr h
    simp [h, this]

theorem flush_iff (t : Fin (cfgM m hO).N) : ((cfgM m hO).win 5).flush t = true ↔
    t.val + 1 = 464 ∨ ∃ h : t.val + 1 < 464, (tbl m 2 (it ⟨t.val + 1, h⟩)).toNat ≠ (tbl m 2 (it t)).toNat := by
  unfold Window.flush
  have hix (t : Fin grid0.N) : ((cfgM m hO).win 5).index t = ![(tbl m 2 (it t)).toNat, 0] := tr5 (tbl m) (grid0.coords t)
  simp only [hix, Bool.and_eq_true, Bool.or_eq_true, decide_eq_true_eq]
  constructor
  · rintro ⟨-, h | ⟨h, h'⟩⟩
    · exact .inl h
    · exact .inr ⟨h, fun e => h' (by rw [e])⟩
  · rintro (h | ⟨h, h'⟩)
    · exact ⟨rfl, .inl h⟩
    · exact ⟨rfl, .inr ⟨h, fun e => h' (congrFun e 0)⟩⟩

/-- A point that is not the first of an item with work stays on the block of the point before it. -/
theorem flush_before (n : ℕ) (h : n + 1 < 464) (hk : (n + 1) % 8 ≠ 0 ∨ tbl m 1 (it ⟨n + 1, h⟩) = 0#32) :
    ((cfgM m hO).win 5).flush ⟨n, by show n < 464; omega⟩ = false := by
  rw [← Bool.not_eq_true, flush_iff]
  rintro (h' | ⟨h', hne⟩)
  · exact absurd h' (by show n + 1 ≠ 464; omega)
  · apply hne
    by_cases hm : (n + 1) % 8 = 0
    · have h0 := hk.resolve_left (fun h => h hm)
      have := hO.prev (grid0.coords ⟨n + 1, h⟩ 0) (by rw [t0]; show (n + 1) / 8 ≠ 0; omega) h0
      have e : it ⟨n, by show n < 464; omega⟩ = at58 ⟨(grid0.coords ⟨n + 1, h⟩ 0).val - 1, by have h8 : (grid0.coords ⟨n + 1, h⟩ 0).val < 58 := (grid0.coords ⟨n + 1, h⟩ 0).isLt; omega⟩ := by
        apply idx58
        show (grid0.coords _ 0).val = (grid0.coords _ 0).val - 1
        rw [t0, t0]; show n / 8 = (n + 1) / 8 - 1; omega
      rw [e]; exact congrArg BitVec.toNat this
    · have e : it ⟨n + 1, h⟩ = it ⟨n, by show n < 464; omega⟩ := by
        apply idx58
        show (grid0.coords _ 0).val = (grid0.coords _ 0).val
        rw [t0, t0]; show (n + 1) / 8 = n / 8; omega
      exact congrArg (fun i => (tbl m 2 i).toNat) e

theorem fresh_of (n : ℕ) (h : n < 464) (hk : n % 8 ≠ 0 ∨ tbl m 1 (it ⟨n, h⟩) = 0#32) : (cfgM m hO).fresh 5 n = false := by
  induction n with
  | zero =>
    have h0 := hk.resolve_left (fun h => h rfl)
    have e : it ⟨0, h⟩ = at58 0 := by
      apply idx58
      show (grid0.coords _ 0).val = 0
      exact (t0 _).trans (by show (0 : ℕ) / 8 = 0; omega)
    exact absurd (e ▸ h0) hO.first
  | succ n ih =>
    rw [Cfg.fresh_succ (cfgM m hO) 5 n (by show n < 464; omega), flush_before m hO n h hk, Bool.false_or, Bool.and_eq_false_iff]
    by_cases hi : tbl m 1 (it ⟨n, by show n < 464; omega⟩) = 0#32
    · exact .inr (ih (by omega) (.inr hi))
    · exact .inl (by rw [← Bool.not_eq_true]; exact fun h => hi ((idle_iff m hO _).mp h))

theorem before5 (c : Dev nD) (t : Fin (cfgM m hO).N) (d) (hf : (cfgM m hO).fresh 5 t.val = false) :
    (datsM m hO 0 c).before 5 t d = outT m hO c t.val := by
  have ht : t.val ≠ 0 := fun h => by
    rw [h] at hf; exact Bool.false_ne_true hf.symm
  have e : outT m hO c (t.val - 1 + 1) = outT m hO c t.val := congrArg (outT m hO c) (by omega)
  refine Eq.trans ((datsM m hO 0 c).before_out_traj 5 rfl (fun _ _ => rfl) (fun t ht hi hf => ?_) t.val t rfl d) ?_
  · have e : outT m hO c (t.val - 1 + 1) = outT m hO c t.val := congrArg (outT m hO c) (by omega)
    refine (after5 m hO c t).trans (((outT_succ m hO c t).trans ?_).trans (e.symm.trans (after5 m hO c ⟨t.val - 1, by omega⟩).symm))
    exact if_pos ((idle_iff m hO t).mp hi)
  · refine (if_neg (by rw [hf]; exact Bool.false_ne_true)).trans ((after5 m hO c ⟨t.val - 1, by omega⟩).trans e)

/-- At the first point of an item with work what the buffer held is not read. -/
theorem next_any (c : Dev nD) (t : Fin (cfgM m hO).N) (hk : ¬ (t.val % 8 ≠ 0 ∨ tbl m 1 (it t) = 0#32)) (o o' : Vec F S1280x2048 .f32) :
    next (grid0.coords t) (tbl m 1 (at58 (grid0.coords t 0))) (iblk m hO c 0 t) (iblk m hO c 1 t) (iblk m hO c 2 t) (iblk m hO c 3 t) (iblk m hO c 4 t) o = next (grid0.coords t) (tbl m 1 (at58 (grid0.coords t 0))) (iblk m hO c 0 t) (iblk m hO c 1 t) (iblk m hO c 2 t) (iblk m hO c 3 t) (iblk m hO c 4 t) o' := by
  have hk1 : t.val % 8 = 0 := by by_contra h; exact hk (.inl h)
  have hk2 : tbl m 1 (it t) ≠ 0#32 := fun h => hk (.inr h)
  have h2 : k0_cond2 (grid0.coords t) = 1#1 := by
    have e1 := (t1 t).trans hk1
    simp only [k0_cond2, e1]; decide
  refine (if_neg hk2).trans (Eq.trans ?_ (if_neg hk2).symm)
  have hs : start (grid0.coords t) (iblk m hO c 4 t) o = start (grid0.coords t) (iblk m hO c 4 t) o' := (if_pos h2).trans (if_pos h2).symm
  exact congrArg (fun s => pieces (k0_pay64 (iblk m hO c 2 t)) cols k0_pay65 (iblk m hO c 0 t) (k0_pay61 (iblk m hO c 1 t)) (k0_pay62 (iblk m hO c 3 t)) s (BitVec.toNat (tbl m 1 (at58 (grid0.coords t 0))))) hs

/-- The point's own result, from what it finds. -/
theorem next_before (c : Dev nD) (t : Fin (cfgM m hO).N) (d) :
    next (grid0.coords t) (tbl m 1 (at58 (grid0.coords t 0))) (iblk m hO c 0 t) (iblk m hO c 1 t) (iblk m hO c 2 t) (iblk m hO c 3 t) (iblk m hO c 4 t) ((datsM m hO 0 c).before 5 t d) = outT m hO c (t.val + 1) := by
  refine Eq.trans ?_ (outT_succ m hO c t).symm
  by_cases hk : t.val % 8 ≠ 0 ∨ tbl m 1 (it t) = 0#32
  · exact congrArg (fun o => next (grid0.coords t) (tbl m 1 (at58 (grid0.coords t 0))) (iblk m hO c 0 t) (iblk m hO c 1 t) (iblk m hO c 2 t) (iblk m hO c 3 t) (iblk m hO c 4 t) o) (before5 m hO c t d (fresh_of m hO t.val t.isLt hk))
  · exact next_any m hO c t hk _ _

/-! ## The body obligation -/

def preM (c : Dev nD) (t : Fin (cfgM m hO).N) : sProp 𝕄 :=
  iprop((datsM m hO 0 c).Φ t.castSucc ∗ (datsM m hO 0 c).owesAt () t.castSucc
    ∗ (∃ d, owns (c : Thread nD τ) (ms0 m hO t) fullShare ((datsM m hO 0 c).before 0 t d))
    ∗ (∃ d, owns (c : Thread nD τ) (ms1 m hO t) fullShare ((datsM m hO 0 c).before 1 t d))
    ∗ (∃ d, owns (c : Thread nD τ) (ms2 m hO t) fullShare ((datsM m hO 0 c).before 2 t d))
    ∗ (∃ d, owns (c : Thread nD τ) (ms3 m hO t) fullShare ((datsM m hO 0 c).before 3 t d))
    ∗ (∃ d, owns (c : Thread nD τ) (ms4 m hO t) fullShare ((datsM m hO 0 c).before 4 t d))
    ∗ (∃ d, owns (c : Thread nD τ) (ms5 m hO t) fullShare ((datsM m hO 0 c).before 5 t d)))

/-- What the body leaves in the output's buffer. -/
def out5 (c : Dev nD) (t : Fin (cfgM m hO).N) : sProp 𝕄 :=
  match (cfgM m hO).idle 5 (grid0.coords t) with
  | true => match ((cfgM m hO).win 5).flush t with
    | false => iprop(∃ d, owns (c : Thread nD τ) (ms5 m hO t) fullShare ((datsM m hO 0 c).before 5 t d))
    | true => owns (c : Thread nD τ) (ms5 m hO t) fullShare ((datsM m hO 0 c).after 5 t)
  | false => owns (c : Thread nD τ) (ms5 m hO t) fullShare ((datsM m hO 0 c).after 5 t)

def postM (c : Dev nD) (t : Fin (cfgM m hO).N) : sProp 𝕄 :=
  iprop((datsM m hO 0 c).Φ t.succ ∗ (datsM m hO 0 c).owesAt () t.succ
    ∗ owns (c : Thread nD τ) (ms0 m hO t) fullShare ((datsM m hO 0 c).after 0 t)
    ∗ owns (c : Thread nD τ) (ms1 m hO t) fullShare ((datsM m hO 0 c).after 1 t)
    ∗ owns (c : Thread nD τ) (ms2 m hO t) fullShare ((datsM m hO 0 c).after 2 t)
    ∗ owns (c : Thread nD τ) (ms3 m hO t) fullShare ((datsM m hO 0 c).after 3 t)
    ∗ owns (c : Thread nD τ) (ms4 m hO t) fullShare ((datsM m hO 0 c).after 4 t)
    ∗ out5 m hO c t)

theorem out5_of (c : Dev nD) (t : Fin (cfgM m hO).N) (d) :
    owns (c : Thread nD τ) (ms5 m hO t) fullShare (next (grid0.coords t) (tbl m 1 (at58 (grid0.coords t 0))) (iblk m hO c 0 t) (iblk m hO c 1 t) (iblk m hO c 2 t) (iblk m hO c 3 t) (iblk m hO c 4 t) ((datsM m hO 0 c).before 5 t d)) ⊢ out5 m hO c t := by
  unfold out5
  split
  · rename_i hi
    split
    · rw [show next (grid0.coords t) (tbl m 1 (at58 (grid0.coords t 0))) (iblk m hO c 0 t) (iblk m hO c 1 t) (iblk m hO c 2 t) (iblk m hO c 3 t) (iblk m hO c 4 t) ((datsM m hO 0 c).before 5 t d) = (datsM m hO 0 c).before 5 t d from if_pos ((idle_iff m hO t).mp hi)]
      iintro H; iexists d; iexact H
    · rw [next_before, after5]
  · rw [next_before, after5]

set_option maxHeartbeats 3200000 in
theorem soundM (c : Dev nD) (t : Fin (cfgM m hO).N) :
    preM m hO c t ⊢ wp frame (wpE (defs₀ (F := F)) Variants.none c none) Set.univ (bodyAt0 m hO t) (fun _ => postM m hO c t) := by
  unfold preM postM bodyAt0
  simp only [before0, before1, before2, before3, before4]
  rw [show (datsM m hO 0 c).owesAt () t.succ = (datsM m hO 0 c).owesAt () t.castSucc from rfl,
    after0, after1, after2, after3, after4]
  rw [show (datsM m hO 0 c).Φ t.succ = iprop(Pipeline.ΦA spec0 c ∗ Pipeline.ΦT pre0 (tbl m) c) from rfl, show (datsM m hO 0 c).Φ t.castSucc = iprop(Pipeline.ΦA spec0 c ∗ Pipeline.ΦT pre0 (tbl m) c) from rfl, rest_eq, PhiT0_eq]
  iintro ⟨⟨⟨⟨HS0, HS1⟩, Hg⟩, HT0, HT1, HT2⟩, Ho, ⟨%d0, H0⟩, ⟨%d1, H1⟩, ⟨%d2, H2⟩, ⟨%d3, H3⟩, ⟨%d4, H4⟩, ⟨%d5, H5⟩⟩
  iapply (body_next c (grid0.coords t) _ (hs0 m hO t) _ (hs1 m hO t) _ (hs2 m hO t) _ (hs3 m hO t) _ (hs4 m hO t) _ (hs5 m hO t) _ (Memref.isWhole_whole _) _ (Memref.isWhole_whole _) (tbl m) (iblk m hO c 0 t) (iblk m hO c 1 t) (iblk m hO c 2 t) (iblk m hO c 3 t) (iblk m hO c 4 t) ((datsM m hO 0 c).before 5 t d5) Set.univ (hO.pieces _) _)
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨HT1, H0, H1, H2, H3, H4, H5, HS0, HS1⟩
  isplitl [HS0 HS1 Hg HT0 HT1 HT2]
  · isplitl [HS0 HS1 Hg]
    · isplitl [HS0 HS1]
      · isplitl [HS0]; · iexact HS0
        iexact HS1
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  iapply (out5_of m hO c t d5)
  iexact H5

/-- The body obligation at every point. -/
theorem bodyM (c : Dev nD) : BodyObligation (datsM (F := F) m hO 0 c) (defs₀ (F := F)) Variants.none () Set.univ := fun t => by
  rw [bigSep_W0, bigSep_W0, defs_row]
  exact triple_restated (soundM m hO c t) rfl .rfl fun _ => .rfl

theorem hmainM (𝒱 : Variants) : Pipeline.HMainP (Ix := Unit) (Name := ℕ) (U := UR sig nD τ) (Lvl := ℕ) (pcfgs (F := F)) 0 defs₀ 𝒱 m main (V m) :=
  Pipeline.hmainP_region pcfgs 0 defs₀ 𝒱 m main (fun c => main_chain c)

/-- The launch's kit. -/
abbrev admAll : (p : Fin 1) → (pcfgs (F := F) p).Adm := fun _ => adm m hO

set_option backward.isDefEq.respectTransparency.types false in
/-- The launch: every fair execution ends, every array as the points leave it, and every counter at zero. -/
theorem runM : θ_run defs (onTc (τ := τ) (main (F := F))) (s₀ m ρ) (fun r => (Pipeline.FramePost (Pipeline.pin pcfgs (admAll m hO)) (datsM m hO) 0 (V m)) r ∧ r.2.sem = fun _ => 0) :=
  Pipeline.θ_run_frameP (Q' := _) pcfgs (admAll m hO) (datsM m hO) (0 : Fin 1) launch0 defs₀ Variants.none m ρ main
    (hbody := fun c => (bodyM m hO c).loose) (hshare := fun c w => by fin_cases w <;> rfl)
    (howed := fun _ _ => rfl) (V := V m) (hmain := hmainM m Variants.none) (hA := datA m hO) (hpf := V_pre m) (hΦ := fun _ _ => rfl)

theorem rest0 : main_arg0 ∈ Pipeline.restRefs sig spec0 := by decide
theorem rest1 : main_arg1 ∈ Pipeline.restRefs sig spec0 := by decide
theorem rest2 : main_arg2 ∈ Pipeline.restRefs sig spec0 := by decide

/-- Every argument ends as it began. -/
theorem args_kept (r) (h : Pipeline.FramePost (Pipeline.pin pcfgs (admAll m hO)) (datsM m hO) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(h c).2 main_arg0 rest0, (h c).2 main_arg1 rest1, (h c).2 main_arg2 rest2,
      ((h c).1 0).trans ((datsM m hO 0 c).arrAt_in 0 rfl _), ((h c).1 1).trans ((datsM m hO 0 c).arrAt_in 1 rfl _), ((h c).1 2).trans ((datsM m hO 0 c).arrAt_in 2 rfl _),
      ((h c).1 3).trans ((datsM m hO 0 c).arrAt_in 3 rfl _), ((h c).1 4).trans ((datsM m hO 0 c).arrAt_in 4 rfl _)⟩

include hO in
/-- The frame: every argument ends unchanged and every counter at zero. -/
theorem frameM : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨fun c => args_kept m hO r h.1 c, h.2⟩) (runM m ρ hO)

end Cert.KernelMoeIdeal.Hand
-- ==== Proof.Moe.Traj.lean ====
module

public import proofs.«01_k».proof.Proof.Moe.Pay
public import proofs.«01_k».proof.Proof.Moe.Frame
public import Idealize.ShloMosaic.Lib.Pipeline.ValueKit

@[expose] public section

set_option maxRecDepth 16384

noncomputable section

namespace Cert.KernelMoeIdeal.Hand

open Cert.KernelMoeIdeal Cert.KernelMoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (hO : Ok m)

theorem emb_at (w : Fin (cfgM m hO).W) (hk : ((cfgM m hO).win w).kind = .blocked) (t : Fin grid0.N) (ix : Fin ((cfgM m hO).win w).shape.rank → ℕ) (e : ((cfgM m hO).win w).index t = ix) (y) (a) :
    ((((cfgM m hO).win w).rect t).emb y a : ℕ) = ix a * ((cfgM m hO).win w).size a + y a :=
  (Pipeline.Window.rect_emb_val ((cfgM m hO).win w) t y a hk).trans (by rw [e])

theorem blk0 (c : Dev nD) (t : Fin grid0.N) (R : Fin 1280) (d : Fin 2048) (r : Fin 74240) (h : r.val = 1280 * (tbl m 2 (it t)).toNat + R.val) :
    iblk m hO c 0 t (ix2 R d) = m ((c : Thread nD τ).loc main_arg3) (ix2 r d) := by
  refine congrArg (m ((c : Thread nD τ).loc main_arg3)) (funext fun a => Fin.ext ?_)
  refine (emb_at m hO 0 rfl t _ (tr0 (tbl m) (grid0.coords t)) (ix2 R d) a).trans ?_
  revert a
  refine Fin.forall_fin_two.mpr ⟨?_, ?_⟩
  · show (tbl m 2 (it t)).toNat * 1280 + R.val = r.val; omega
  · show 0 * 2048 + d.val = d.val; omega

theorem blk1 (c : Dev nD) (t : Fin grid0.N) (e : Fin 32) (h0 : (tbl m 0 (it t)).toNat = e.val) (d : Fin 2048) (f : Fin 512) (f' : Fin 4096) (hw : tbl m 1 (it t) ≠ 0#32) (h : f'.val = 512 * (t.val % 8) + f.val) :
    iblk m hO c 1 t (ix3 (0 : Fin 1) d f) = m ((c : Thread nD τ).loc main_arg4) (ix3 e d f') := by
  refine congrArg (m ((c : Thread nD τ).loc main_arg4)) (funext fun a => Fin.ext ?_)
  refine (emb_at m hO 1 rfl t _ (tr1 (tbl m) (grid0.coords t) (hO.pieces _)) (ix3 (0 : Fin 1) d f) a).trans ?_
  have hs : sel (tbl m 1 (it t)) (grid0.coords t) = t.val % 8 := (if_neg hw).trans (t1 t)
  match a with
  | ⟨0, _⟩ => show (tbl m 0 (it t)).toNat * 1 + 0 = e.val; omega
  | ⟨1, _⟩ => show 0 * 2048 + d.val = d.val; omega
  | ⟨2, _⟩ => show sel (tbl m 1 (it t)) (grid0.coords t) * 512 + f.val = f'.val; omega

theorem blk2 (c : Dev nD) (t : Fin grid0.N) (e : Fin 32) (h0 : (tbl m 0 (it t)).toNat = e.val) (d : Fin 1) (f : Fin 512) (f' : Fin 4096) (hw : tbl m 1 (it t) ≠ 0#32) (h : f'.val = 512 * (t.val % 8) + f.val) :
    iblk m hO c 2 t (ix3 (0 : Fin 1) d f) = m ((c : Thread nD τ).loc main_arg5) (ix3 e d f') := by
  refine congrArg (m ((c : Thread nD τ).loc main_arg5)) (funext fun a => Fin.ext ?_)
  refine (emb_at m hO 2 rfl t _ (tr2 (tbl m) (grid0.coords t) (hO.pieces _)) (ix3 (0 : Fin 1) d f) a).trans ?_
  have hs : sel (tbl m 1 (it t)) (grid0.coords t) = t.val % 8 := (if_neg hw).trans (t1 t)
  match a with
  | ⟨0, _⟩ => show (tbl m 0 (it t)).toNat * 1 + 0 = e.val; omega
  | ⟨1, _⟩ => show 0 * 1 + d.val = d.val; omega
  | ⟨2, _⟩ => show sel (tbl m 1 (it t)) (grid0.coords t) * 512 + f.val = f'.val; omega

theorem blk3 (c : Dev nD) (t : Fin grid0.N) (e : Fin 32) (h0 : (tbl m 0 (it t)).toNat = e.val) (d : Fin 256) (d' : Fin 2048) (f : Fin 2048) (hw : tbl m 1 (it t) ≠ 0#32) (h : d'.val = 256 * (t.val % 8) + d.val) :
    iblk m hO c 3 t (ix3 (0 : Fin 1) d f) = m ((c : Thread nD τ).loc main_arg6) (ix3 e d' f) := by
  refine congrArg (m ((c : Thread nD τ).loc main_arg6)) (funext fun a => Fin.ext ?_)
  refine (emb_at m hO 3 rfl t _ (tr3 (tbl m) (grid0.coords t) (hO.pieces _)) (ix3 (0 : Fin 1) d f) a).trans ?_
  have hs : sel (tbl m 1 (it t)) (grid0.coords t) = t.val % 8 := (if_neg hw).trans (t1 t)
  match a with
  | ⟨0, _⟩ => show (tbl m 0 (it t)).toNat * 1 + 0 = e.val; omega
  | ⟨1, _⟩ => show sel (tbl m 1 (it t)) (grid0.coords t) * 256 + d.val = d'.val; omega
  | ⟨2, _⟩ => show 0 * 2048 + f.val = f.val; omega

theorem blk4 (c : Dev nD) (t : Fin grid0.N) (e : Fin 32) (h0 : (tbl m 0 (it t)).toNat = e.val) (d : Fin 1) (f : Fin 2048)  :
    iblk m hO c 4 t (ix3 (0 : Fin 1) d f) = m ((c : Thread nD τ).loc main_arg7) (ix3 e d f) := by
  refine congrArg (m ((c : Thread nD τ).loc main_arg7)) (funext fun a => Fin.ext ?_)
  refine (emb_at m hO 4 rfl t _ (tr4 (tbl m) (grid0.coords t)) (ix3 (0 : Fin 1) d f) a).trans ?_
  match a with
  | ⟨0, _⟩ => show (tbl m 0 (it t)).toNat * 1 + 0 = e.val; omega
  | ⟨1, _⟩ => show 0 * 1 + d.val = d.val; omega
  | ⟨2, _⟩ => show 0 * 2048 + f.val = f.val; omega

theorem emb5 (t : Fin grid0.N) (y : S1280x2048.Idx) : ((((((cfgM m hO).win 5).blk t).view.emb y) (0 : Fin 2) : ℕ) = 1280 * (tbl m 2 (it t)).toNat + (y (0 : Fin 2)).val)
    ∧ ((((((cfgM m hO).win 5).blk t).view.emb y) (1 : Fin 2) : ℕ) = (y (1 : Fin 2)).val) := by
  refine ⟨(emb_at m hO 5 rfl t _ (tr5 (tbl m) (grid0.coords t)) y (0 : Fin 2)).trans ?_, (emb_at m hO 5 rfl t _ (tr5 (tbl m) (grid0.coords t)) y (1 : Fin 2)).trans ?_⟩
  · show (tbl m 2 (it t)).toNat * 1280 + (y (0 : Fin 2)).val = 1280 * (tbl m 2 (it t)).toNat + (y (0 : Fin 2)).val; omega
  · show 0 * 2048 + (y (1 : Fin 2)).val = (y (1 : Fin 2)).val; omega

/-! ## The value of a row -/

/-- An expert's first product of a row, with its bias. -/
def hid (X : S74240x2048.Idx → EReal) (W : S32x2048x4096.Idx → EReal) (B : S32x1x4096.Idx → EReal) (e : Fin 32) (r : Fin 74240) (f : Fin 4096) : EReal :=
  (∑ d : Fin 2048, X (ix2 r d) * W (ix3 e d f) : EReal) + B (ix3 e (0 : Fin 1) f)

/-- The same of a block's row. -/
def hidB (x5 : Vec Ideal S1280x2048 .bf16) (x6 : Vec Ideal S1x2048x512 .f32) (x7 : Vec Ideal S1x1x512 .f32) (R : Fin 1280) (g : Fin 512) : EReal :=
  (∑ d : Fin 2048, x5 (ix2 R d) * x6 (ix3 (0 : Fin 1) d g) : EReal) + x7 (ix3 (0 : Fin 1) (0 : Fin 1) g)

/-- What one activation of a row adds to a column. -/
def share (X : S74240x2048.Idx → EReal) (W : S32x2048x4096.Idx → EReal) (B : S32x1x4096.Idx → EReal) (U : S32x2048x2048.Idx → EReal) (e : Fin 32) (r : Fin 74240) (f : Fin 2048) (h : Fin 2048) : EReal :=
  sw (hid X W B e r ⟨2 * h.val, by omega⟩) (hid X W B e r ⟨2 * h.val + 1, by omega⟩) * U (ix3 e h f)

/-- The column with the first `n` activations added. -/
def upto (X : S74240x2048.Idx → EReal) (W : S32x2048x4096.Idx → EReal) (B : S32x1x4096.Idx → EReal) (U : S32x2048x2048.Idx → EReal) (D : S32x1x2048.Idx → EReal) (e : Fin 32) (r : Fin 74240) (f : Fin 2048) (n : ℕ) : EReal :=
  D (ix3 e (0 : Fin 1) f) + ∑ h ∈ Finset.range n, (if hh : h < 2048 then share X W B U e r f ⟨h, hh⟩ else 0 : EReal)

/-- A row's column under its expert. -/
def moe (X : S74240x2048.Idx → EReal) (W : S32x2048x4096.Idx → EReal) (B : S32x1x4096.Idx → EReal) (U : S32x2048x2048.Idx → EReal) (D : S32x1x2048.Idx → EReal) (e : Fin 32) (r : Fin 74240) (f : Fin 2048) : EReal :=
  D (ix3 e (0 : Fin 1) f) + ∑ h : Fin 2048, share X W B U e r f h

theorem upto_all (X W B U D e r f) : upto X W B U D e r f 2048 = moe X W B U D e r f := by
  unfold upto moe
  refine congrArg (fun a : EReal => (D (ix3 e (0 : Fin 1) f) + a : EReal)) ?_
  rw [Finset.sum_range]
  exact Finset.sum_congr rfl fun h _ => dif_pos h.isLt

theorem upto_step (X W B U D e r f) (n k : ℕ) : upto X W B U D e r f (n + k) = (upto X W B U D e r f n + ∑ h : Fin k, (if hh : n + h.val < 2048 then share X W B U e r f ⟨n + h.val, hh⟩ else 0 : EReal) : EReal) := by
  unfold upto
  rw [Finset.sum_range_add, add_assoc, Finset.sum_range (n := k)]

/-- The value of a row under an expert, from the arrays as launched. -/
abbrev uptoM (c : Dev nD) (e : Fin 32) (r : Fin 74240) (f : Fin 2048) (n : ℕ) : EReal :=
  upto (m ((c : Thread nD τ).loc main_arg3)) (m ((c : Thread nD τ).loc main_arg4)) (m ((c : Thread nD τ).loc main_arg5)) (m ((c : Thread nD τ).loc main_arg6)) (m ((c : Thread nD τ).loc main_arg7)) e r f n

/-- One point of an item with work, at a row that its pieces take in. -/
theorem point (c : Dev nD) (t : Fin grid0.N) (e : Fin 32) (h0 : (tbl m 0 (it t)).toNat = e.val) (hw : tbl m 1 (it t) ≠ 0#32)
    (R : Fin 1280) (r : Fin 74240) (hr : r.val = 1280 * (t.val / 8) + R.val) (f : Fin 2048) (hR : R.val / 256 < (tbl m 1 (it t)).toNat) :
    outT m hO c (t.val + 1) (ix2 R f) = (start (grid0.coords t) (iblk m hO c 4 t) (outT m hO c t.val) (ix2 R f)
      + ∑ q : Fin 256, (if hh : 256 * (t.val % 8) + q.val < 2048 then share (m ((c : Thread nD τ).loc main_arg3)) (m ((c : Thread nD τ).loc main_arg4)) (m ((c : Thread nD τ).loc main_arg5)) (m ((c : Thread nD τ).loc main_arg6)) e r f ⟨256 * (t.val % 8) + q.val, hh⟩ else 0 : EReal) : EReal) := by
  have hb : (tbl m 2 (it t)).toNat = t.val / 8 := (hO.own _ hw).trans (t0 t)
  refine (congrFun ((outT_succ m hO c t).trans (if_neg hw)) (ix2 R f)).trans ?_
  refine (stepOut_at (grid0.coords t) _ (hO.pieces _) _ _ _ _ _ _ R f hR).trans ?_
  refine congrArg (fun a : EReal => (start (grid0.coords t) (iblk m hO c 4 t) (outT m hO c t.val) (ix2 R f) + a : EReal)) (Finset.sum_congr rfl fun q _ => ?_)
  have hq := q.isLt
  rw [dif_pos (by omega)]
  have hl : ∀ (g : Fin 512) (g' : Fin 4096), g'.val = 512 * (t.val % 8) + g.val →
      hidB (iblk m hO c 0 t) (iblk m hO c 1 t) (iblk m hO c 2 t) R g
        = hid (m ((c : Thread nD τ).loc main_arg3)) (m ((c : Thread nD τ).loc main_arg4)) (m ((c : Thread nD τ).loc main_arg5)) e r g' := fun g g' hg => by
    unfold hid hidB
    refine congrArg₂ (fun a b : EReal => (a + b : EReal)) (Finset.sum_congr rfl fun d _ => congrArg₂ (fun a b : EReal => (a * b : EReal)) ?_ ?_) ?_
    · exact blk0 m hO c t R d r (by omega)
    · exact blk1 m hO c t e h0 d g g' hw hg
    · exact blk2 m hO c t e h0 0 g g' hw hg
  unfold share
  refine congrArg₂ (fun a b : EReal => (a * b : EReal)) (congrArg₂ sw (hl _ _ ?_) (hl _ _ ?_)) (blk3 m hO c t e h0 q _ f hw rfl)
  · show 2 * (256 * (t.val % 8) + q.val) = 512 * (t.val % 8) + 2 * q.val; omega
  · show 2 * (256 * (t.val % 8) + q.val) + 1 = 512 * (t.val % 8) + (2 * q.val + 1); omega

theorem cond2_iff (t : Fin grid0.N) : k0_cond2 (grid0.coords t) = 1#1 ↔ t.val % 8 = 0 := by
  have e1 := t1 t
  have h8 : t.val % 8 < 8 := Nat.mod_lt _ (by decide)
  simp only [k0_cond2, e1]
  generalize t.val % 8 = n at h8
  revert n
  decide

/-- An item with work, after `j + 1` of its points. -/
theorem traj (c : Dev nD) (k : Fin 58) (e : Fin 32) (h0 : (tbl m 0 (at58 k)).toNat = e.val) (hw : tbl m 1 (at58 k) ≠ 0#32)
    (R : Fin 1280) (r : Fin 74240) (hr : r.val = 1280 * k.val + R.val) (f : Fin 2048) (hR : R.val / 256 < (tbl m 1 (at58 k)).toNat) (j : ℕ) (hj : j < 8) :
    outT m hO c (8 * k.val + j + 1) (ix2 R f) = uptoM m c e r f (256 * (j + 1)) := by
  have hk := k.isLt
  have hi : ∀ j (hj : j < 8), it ⟨8 * k.val + j, by show 8 * k.val + j < 464; omega⟩ = at58 k := fun j hj =>
    idx58 _ _ ((t0 _).trans (by show (8 * k.val + j) / 8 = k.val; omega))
  have hp := fun j (hj : j < 8) => point m hO c ⟨8 * k.val + j, by show 8 * k.val + j < 464; omega⟩ e (by rw [hi j hj]; exact h0) (by rw [hi j hj]; exact hw) R r (by show r.val = 1280 * ((8 * k.val + j) / 8) + R.val; rw [show (8 * k.val + j) / 8 = k.val from by omega]; exact hr) f (by rw [hi j hj]; exact hR)
  have hm : ∀ j, j < 8 → (8 * k.val + j) % 8 = j := fun j hj => by omega
  induction j with
  | zero =>
    refine (hp 0 (by omega)).trans (Eq.trans ?_ (upto_step _ _ _ _ _ e r f (256 * 0) 256).symm)
    refine congrArg₂ (fun a b : EReal => (a + b : EReal)) ?_ ?_
    · refine (congrFun (if_pos ((cond2_iff _).mpr (hm 0 (by omega)))) (ix2 R f)).trans ((pay63_at _ R f).trans ?_)
      refine (blk4 m hO c _ e (by rw [hi 0 (by omega)]; exact h0) 0 f).trans ?_
      unfold upto
      rw [Nat.mul_zero, Finset.sum_range_zero, add_zero]
    · exact congrArg (fun n : ℕ => (∑ q : Fin 256, (if hh : 256 * n + q.val < 2048 then share (m ((c : Thread nD τ).loc main_arg3)) (m ((c : Thread nD τ).loc main_arg4)) (m ((c : Thread nD τ).loc main_arg5)) (m ((c : Thread nD τ).loc main_arg6)) e r f ⟨256 * n + q.val, hh⟩ else 0 : EReal) : EReal)) (hm 0 (by omega))
  | succ j ih =>
    have ih := ih (by omega) hi hp
    refine (hp (j + 1) hj).trans (Eq.trans ?_ (upto_step _ _ _ _ _ e r f (256 * (j + 1)) 256).symm)
    refine congrArg₂ (fun a b : EReal => (a + b : EReal)) ?_ ?_
    · refine (congrFun (if_neg (fun hc => ?_)) (ix2 R f)).trans ih
      have := ((cond2_iff _).mp hc).symm.trans (hm (j + 1) hj)
      omega
    · exact congrArg (fun n : ℕ => (∑ q : Fin 256, (if hh : 256 * n + q.val < 2048 then share (m ((c : Thread nD τ).loc main_arg3)) (m ((c : Thread nD τ).loc main_arg4)) (m ((c : Thread nD τ).loc main_arg5)) (m ((c : Thread nD τ).loc main_arg6)) e r f ⟨256 * n + q.val, hh⟩ else 0 : EReal) : EReal)) (hm (j + 1) hj)

/-- An item without work leaves the buffer as it was. -/
theorem rest (c : Dev nD) (k : Fin 58) (hw : tbl m 1 (at58 k) = 0#32) (j : ℕ) (hj : j ≤ 8) : outT m hO c (8 * k.val + j) = outT m hO c (8 * k.val) := by
  have hk := k.isLt
  induction j with
  | zero => rfl
  | succ j ih =>
    have hi : it ⟨8 * k.val + j, by show 8 * k.val + j < 464; omega⟩ = at58 k :=
      idx58 _ _ ((t0 _).trans (by show (8 * k.val + j) / 8 = k.val; omega))
    refine ((outT_succ m hO c ⟨8 * k.val + j, by show 8 * k.val + j < 464; omega⟩).trans (if_pos ?_)).trans (ih (by omega))
    exact (congrArg (tbl m 1) hi).trans hw

/-- After any item the buffer holds what the item of its block left. -/
theorem kept (c : Dev nD) (k : ℕ) (hk : k < 58) : ∃ K : Fin 58, (tbl m 2 (at58 ⟨k, hk⟩)).toNat = K.val ∧ tbl m 1 (at58 K) ≠ 0#32 ∧ outT m hO c (8 * k + 8) = outT m hO c (8 * K.val + 8) := by
  induction k with
  | zero => exact ⟨0, hO.own _ hO.first, hO.first, rfl⟩
  | succ k ih =>
    by_cases hw : tbl m 1 (at58 ⟨k + 1, hk⟩) = 0#32
    · obtain ⟨K, h1, h2, h3⟩ := ih (by omega)
      refine ⟨K, (congrArg BitVec.toNat (hO.prev ⟨k + 1, hk⟩ (Nat.succ_ne_zero k) hw)).trans h1, h2, ?_⟩
      exact (rest m hO c ⟨k + 1, hk⟩ hw 8 le_rfl).trans h3
    · exact ⟨⟨k + 1, hk⟩, hO.own _ hw, hw, rfl⟩

end Cert.KernelMoeIdeal.Hand
-- ==== Proof.Moe.Final.lean ====
module

public import proofs.«01_k».proof.Proof.Moe.Traj

@[expose] public section

set_option maxRecDepth 16384

noncomputable section

namespace Cert.KernelMoeIdeal.Hand

open Cert.KernelMoeIdeal Cert.KernelMoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (hO : Ok m)

/-- A point that writes back is an item's last. -/
theorem flush_last (t : Fin (cfgM m hO).N) (hf : ((cfgM m hO).win 5).flush t = true) : t.val % 8 = 7 := by
  by_contra h
  have ht : t.val < 464 := t.isLt
  have := flush_before m hO t.val (by omega) (.inl (by omega))
  exact Bool.false_ne_true (this.symm.trans hf)

/-- The last item of a block ends with a point that writes back. -/
theorem last_flush (k : Fin 58) (hb : (tbl m 2 (at58 k)).toNat = k.val) :
    ∃ t : Fin (cfgM m hO).N, ((cfgM m hO).win 5).flush t = true ∧ (tbl m 2 (it t)).toNat = k.val := by
  classical
  let P : ℕ → Prop := fun i => ∃ h : i < 58, (tbl m 2 (at58 ⟨i, h⟩)).toNat = k.val
  have hk : P k.val := ⟨k.isLt, hb⟩
  have hle : k.val ≤ 57 := by have := k.isLt; omega
  obtain ⟨hi, hI⟩ : P (Nat.findGreatest P 57) := Nat.findGreatest_spec hle hk
  have hg : ∀ j, Nat.findGreatest P 57 < j → j ≤ 57 → ¬ P j := fun j h1 h2 => Nat.findGreatest_is_greatest h1 h2
  generalize Nat.findGreatest P 57 = I at hi hI hg
  have e : it ⟨8 * I + 7, by show 8 * I + 7 < 464; omega⟩ = at58 ⟨I, hi⟩ := idx58 _ _ ((t0 _).trans (by show (8 * I + 7) / 8 = I; omega))
  refine ⟨⟨8 * I + 7, by show 8 * I + 7 < 464; omega⟩, (flush_iff m hO _).mpr ?_, (congrArg (fun i => (tbl m 2 i).toNat) e).trans hI⟩
  by_cases h57 : I = 57
  · exact .inl (by show 8 * I + 7 + 1 = 464; omega)
  · refine .inr ⟨by show 8 * I + 7 + 1 < 464; omega, fun hc => hg (I + 1) (by omega) (by omega) ⟨by omega, ?_⟩⟩
    have e' : it ⟨8 * I + 7 + 1, by show 8 * I + 7 + 1 < 464; omega⟩ = at58 ⟨I + 1, by omega⟩ := idx58 _ _ ((t0 _).trans (by show (8 * I + 7 + 1) / 8 = I + 1; omega))
    exact (congrArg (fun i => (tbl m 2 i).toNat) e').symm.trans (hc.trans ((congrArg (fun i => (tbl m 2 i).toNat) e).trans hI))

theorem arr (c : Dev nD) (k : Fin 58) (e : Fin 32) (h0 : (tbl m 0 (at58 k)).toNat = e.val)
    (R : Fin 1280) (r : Fin 74240) (hr : r.val = 1280 * k.val + R.val) (f : Fin 2048) (hR : R.val / 256 < (tbl m 1 (at58 k)).toNat) :
    (datsM m hO 0 c).arrAt 5 (cfgM m hO).N (ix2 r f : S74240x2048.Idx)
      = moe (m ((c : Thread nD τ).loc main_arg3)) (m ((c : Thread nD τ).loc main_arg4)) (m ((c : Thread nD τ).loc main_arg5)) (m ((c : Thread nD τ).loc main_arg6)) (m ((c : Thread nD τ).loc main_arg7)) e r f := by
  have hw : tbl m 1 (at58 k) ≠ 0#32 := fun h => by rw [h] at hR; exact absurd hR (Nat.not_lt_zero _)
  obtain ⟨t, hf, hb⟩ := last_flush m hO k (hO.own k hw)
  have hmem : (ix2 r f : S74240x2048.Idx) ∈ (((cfgM m hO).win 5).blk t).view.set := by
    refine Finset.mem_map.mpr ⟨(ix2 R f : S1280x2048.Idx), Finset.mem_univ _, ?_⟩
    have h5 := emb5 m hO t (ix2 R f : S1280x2048.Idx)
    funext a
    revert a
    refine Fin.forall_fin_two.mpr ⟨Fin.ext (h5.1.trans ?_), Fin.ext h5.2⟩
    show 1280 * (tbl m 2 (it t)).toNat + R.val = r.val; omega
  refine (datsM m hO 0 c).arrAt_forall_of_flushed 5 (fun i v => i = (ix2 r f : S74240x2048.Idx) → v = moe (m ((c : Thread nD τ).loc main_arg3)) (m ((c : Thread nD τ).loc main_arg4)) (m ((c : Thread nD τ).loc main_arg5)) (m ((c : Thread nD τ).loc main_arg6)) (m ((c : Thread nD τ).loc main_arg7)) e r f)
    (fun t hf y he => ?_) (cfgM m hO).N t _ t.isLt hf hmem rfl
  have h7 := flush_last m hO t hf
  have ht : t.val < 464 := t.isLt
  have h5 := emb5 m hO t y
  have hy0 : (y (0 : Fin 2)).val < 1280 := (y (0 : Fin 2)).isLt
  have e0 : 1280 * (tbl m 2 (it t)).toNat + (y (0 : Fin 2)).val = r.val := h5.1.symm.trans (congrArg Fin.val (congrFun he (0 : Fin 2)))
  have e1 : (y (1 : Fin 2)).val = f.val := h5.2.symm.trans (congrArg Fin.val (congrFun he (1 : Fin 2)))
  have hR' := R.isLt
  have hbk : (tbl m 2 (it t)).toNat = k.val := by omega
  have hy : y = (ix2 R f : S1280x2048.Idx) := by
    funext a
    revert a
    refine Fin.forall_fin_two.mpr ⟨Fin.ext ?_, Fin.ext e1⟩
    show (y (0 : Fin 2)).val = R.val; omega
  obtain ⟨K, k1, k2, k3⟩ := kept m hO c (t.val / 8) (by omega)
  have ei : it t = at58 ⟨t.val / 8, by omega⟩ := idx58 _ _ (t0 t)
  have hK : K = k := Fin.ext (k1.symm.trans ((congrArg (fun i => (tbl m 2 i).toNat) ei).symm.trans hbk))
  have e8 : outT m hO c (t.val + 1) = outT m hO c (8 * k.val + 7 + 1) := by
    rw [show t.val + 1 = 8 * (t.val / 8) + 8 from by omega, k3, hK]
  rw [hy]
  refine (congrFun e8 (ix2 R f)).trans ((traj m hO c k e h0 hw R r hr f hR 7 (by omega)).trans ?_)
  exact upto_all _ _ _ _ _ _ _ _

end Cert.KernelMoeIdeal.Hand
-- ==== Proof.Moe.Ref.lean ====
module

public import proofs.«01_k».proof.Proof.Moe.Traj
public import Idealize.ShloMosaic.Lib.WordCmp
public import proofs.«01_k».proof.Proof.Gen.ReferenceMoeIdeal.Run

@[expose] public section

set_option maxRecDepth 16384

noncomputable section

namespace Cert.ReferenceMoeIdeal.Hand

open Cert.ReferenceMoeIdeal Cert.ReferenceMoeIdeal.Gen
open Cert.KernelMoeIdeal.Hand (moe share hid sw)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Every expert's gate and up columns for every row, biased. -/
abbrev LIN (X : FVec Ideal S74240x2048 .bf16) (W : FVec Ideal S32x2048x4096 .f32) (B : FVec Ideal S32x1x4096 .f32) : FVec Ideal S32x74240x4096 .f32 :=
  (addf (transpose S32x74240x4096 [0, 2, 1] (Host.dotGeneral dot_S32x2048x4096_S74240x2048_S32x4096x74240_1_1_02_0_n_n none W (extf .f32 X bitsLt_bf16_f32)) transposes_S32x4096x74240_S32x74240x4096_0_2_1) (broadcastInDim S32x74240x4096 ![0, 1, 2] bcast_S32x1x4096_S32x74240x4096_0_1_2 B))

/-- Every expert's activation of every row. -/
abbrev ACT (X : FVec Ideal S74240x2048 .bf16) (W : FVec Ideal S32x2048x4096 .f32) (B : FVec Ideal S32x1x4096 .f32) : FVec Ideal S32x74240x2048 .f32 :=
  (mulf (mulf (minimumf (Host.slice S32x74240x2048 ![0, 0, 0] ![1, 1, 2] (LIN X W B) slicesBy_S32x74240x4096_S32x74240x2048_0s1_0s1_0s2) (broadcastInDim S32x74240x2048 ![] bcast_S_S32x74240x2048 (constant S_ .f32 0x40E00000#32))) (Host.divf (broadcastInDim S32x74240x2048 ![] bcast_S_S32x74240x2048 (constant S_ .f32 0x3F800000#32)) (addf (broadcastInDim S32x74240x2048 ![] bcast_S_S32x74240x2048 (constant S_ .f32 0x3F800000#32)) (Host.exp (Host.negf (mulf (broadcastInDim S32x74240x2048 ![] bcast_S_S32x74240x2048 (constant S_ .f32 0x3FD9DB23#32)) (minimumf (Host.slice S32x74240x2048 ![0, 0, 0] ![1, 1, 2] (LIN X W B) slicesBy_S32x74240x4096_S32x74240x2048_0s1_0s1_0s2) (broadcastInDim S32x74240x2048 ![] bcast_S_S32x74240x2048 (constant S_ .f32 0x40E00000#32))))))))) (addf (minimumf (broadcastInDim S32x74240x2048 ![] bcast_S_S32x74240x2048 (id (constant S_ .f32 0x40E00000#32))) (maximumf (broadcastInDim S32x74240x2048 ![] bcast_S_S32x74240x2048 (id (constant S_ .f32 0xC0E00000#32))) (Host.slice S32x74240x2048 ![0, 0, 1] ![1, 1, 2] (LIN X W B) slicesBy_S32x74240x4096_S32x74240x2048_0s1_0s1_1s2))) (broadcastInDim S32x74240x2048 ![] bcast_S_S32x74240x2048 (constant S_ .f32 0x3F800000#32))))

/-- One where the row's item is the expert's, zero elsewhere. -/
abbrev COM (E : IVec S58 32) : FVec Ideal S32x74240x2048 .f32 :=
  (broadcastInDim S32x74240x2048 ![0, 1, 2] bcast_S32x74240x1_S32x74240x2048_0_1_2 (broadcastInDim S32x74240x1 ![0, 1] bcast_S32x74240_S32x74240x1_0_1 (uitofp .f32 (cmpi .eq (broadcastInDim S32x74240 ![0, 1] bcast_S32x1_S32x74240_0_1 (broadcastInDim S32x1 ![0] bcast_S32_S32x1_0 (iotaInDim S32 32 0))) (broadcastInDim S32x74240 ![0, 1] bcast_S1x74240_S32x74240_0_1 (broadcastInDim S1x74240 ![1] bcast_S74240_S1x74240_1 (shapeCast _ (broadcastInDim S58x1280 ![0, 1] bcast_S58x1_S58x1280_0_1 (broadcastInDim S58x1 ![0] bcast_S58_S58x1_0 E)) shapeCasts_S58x1280_S74240)))))))

/-- The reference's term over the argument arrays. -/
abbrev REF (E : IVec S58 32) (X : FVec Ideal S74240x2048 .bf16) (W : FVec Ideal S32x2048x4096 .f32) (B : FVec Ideal S32x1x4096 .f32) (U : FVec Ideal S32x2048x2048 .f32) (D : FVec Ideal S32x1x2048 .f32) : FVec Ideal S74240x2048 .f32 :=
  Host.reduceAdd (mulf (COM E) (addf (Host.dotGeneral dot_S32x74240x2048_S32x2048x2048_S32x74240x2048_2_1_1_2_0_0 none (ACT X W B) U) (broadcastInDim S32x74240x2048 ![0, 1, 2] bcast_S32x1x2048_S32x74240x2048_0_1_2 D))) (constant S_ .f32 0x00000000#32) reducesTo_S32x74240x2048_S74240x2048_d0 h_S_

theorem act_at (X : FVec Ideal S74240x2048 .bf16) (W : FVec Ideal S32x2048x4096 .f32) (B : FVec Ideal S32x1x4096 .f32) (e : Fin 32) (r : Fin 74240) (h : Fin 2048) : ACT X W B (ix3 e r h)
    = sw (hid X W B e r ⟨2 * h.val, by omega⟩) (hid X W B e r ⟨2 * h.val + 1, by omega⟩) := by
  have hc : ∀ g : Fin 4096, (∑ x : Fin 2048, W (ix3 e x g) * X (ix2 r x) : EReal) = ∑ x : Fin 2048, X (ix2 r x) * W (ix3 e x g) :=
    fun g => Finset.sum_congr rfl fun x _ => mul_comm _ _
  have h1 : (⟨1 + 2 * h.val, by omega⟩ : Fin 4096) = ⟨2 * h.val + 1, by omega⟩ := Fin.ext (Nat.add_comm _ _)
  have k7 : (id (constant (F := Ideal) S_ .f32 0x40E00000#32)) ix0 = Ideal.ofBits FTy.f32 0x40E00000#32 := rfl
  have km7 : (id (constant (F := Ideal) S_ .f32 0xC0E00000#32)) ix0 = Ideal.ofBits FTy.f32 0xC0E00000#32 := rfl
  pointwise [ACT, sw, hid, dot_S32x2048x4096_S74240x2048_S32x4096x74240_1_1_02_0_n_n]
  rw [Ideal.logistic, hc, hc, h1, k7, km7]

theorem com_at (E : IVec S58 32) (e : Fin 32) (r : Fin 74240) (f : Fin 2048) (k : Fin 58) (hk : r.val / 1280 = k.val) :
    COM E (ix3 e r f) = if E (ix1 k) = BitVec.ofNat 32 e.val then (1 : EReal) else 0 := by
  have hkk : (⟨r.val / 1280, by omega⟩ : Fin 58) = k := Fin.ext hk
  pointwise [COM]
  rw [hkk]
  by_cases h : E (ix1 k) = BitVec.ofNat 32 e.val
  · rw [if_pos h, h, show IntOp.cmpi .eq (BitVec.ofNat 32 e.val) (BitVec.ofNat 32 e.val) = 1#1 from by rw [WordCmp.cmpi_eq_eq]; simp]
    show (((1#1 : BitVec 1).toNat : ℕ) : EReal) = 1
    norm_num
  · rw [if_neg h, show IntOp.cmpi .eq (BitVec.ofNat 32 e.val) (E (ix1 k)) = 0#1 from by rw [WordCmp.cmpi_eq_eq, decide_eq_false (fun hh => h hh.symm)]; rfl]
    show (((0#1 : BitVec 1).toNat : ℕ) : EReal) = 0
    norm_num

theorem ref_at (E : IVec S58 32) (X : FVec Ideal S74240x2048 .bf16) (W : FVec Ideal S32x2048x4096 .f32) (B : FVec Ideal S32x1x4096 .f32) (U : FVec Ideal S32x2048x2048 .f32) (D : FVec Ideal S32x1x2048 .f32) (r : Fin 74240) (f : Fin 2048) :
    REF E X W B U D (ix2 r f) = ∑ e : Fin 32, COM E (ix3 e r f) * ((∑ h : Fin 2048, ACT X W B (ix3 e r h) * U (ix3 e h f)) + D (ix3 e 0 f)) := by
  generalize hA : ACT X W B = A
  generalize hC : COM E = C
  pointwise [REF, hA, hC, dot_S32x74240x2048_S32x2048x2048_S32x74240x2048_2_1_1_2_0_0]

/-- The reference at a row is its item's expert's value. -/
theorem ref_moe (E : IVec S58 32) (X : FVec Ideal S74240x2048 .bf16) (W : FVec Ideal S32x2048x4096 .f32) (B : FVec Ideal S32x1x4096 .f32) (U : FVec Ideal S32x2048x2048 .f32) (D : FVec Ideal S32x1x2048 .f32) (r : Fin 74240) (f : Fin 2048)
    (k : Fin 58) (hk : r.val / 1280 = k.val) (e : Fin 32) (he : (E (ix1 k)).toNat = e.val) :
    REF E X W B U D (ix2 r f) = moe X W B U D e r f := by
  have hE : E (ix1 k) = BitVec.ofNat 32 e.val := by rw [← he, BitVec.ofNat_toNat, BitVec.setWidth_eq]
  refine (ref_at E X W B U D r f).trans ?_
  refine (Finset.sum_eq_single e (fun d _ hd => ?_) (fun h => absurd (Finset.mem_univ _) h)).trans ?_
  · rw [com_at E d r f k hk, if_neg (fun hh => hd (Fin.ext ?_)), zero_mul]
    have := he.symm.trans (congrArg BitVec.toNat hh)
    rw [BitVec.toNat_ofNat] at this
    have := d.isLt
    omega
  · rw [com_at E e r f k hk, if_pos hE, one_mul, add_comm]
    exact congrArg (D (ix3 e 0 f) + ·) (Finset.sum_congr rfl fun h _ => congrArg (· * U (ix3 e h f)) (act_at X W B e r h))

end Cert.ReferenceMoeIdeal.Hand
-- ==== Proof.Moe.Mask.lean ====
module

public import proofs.«01_k».proof.Proof.Moe.Pay
public import Idealize.ShloMosaic.Lib.WordCmp
public import proofs.«01_k».proof.Proof.Gen.On_rows_with_work

@[expose] public section

set_option maxRecDepth 16384

noncomputable section

namespace Cert.KernelMoeIdeal.Hand

open Cert.KernelMoeIdeal Cert.KernelMoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The mask is set only in pieces that the row's item has. -/
theorem mask_at (E ns blk : IVec Cert.On_rows_with_work.S58 32) (X W B U D) (r : Fin 74240) (f : Fin 2048) (k : Fin 58) (hk : r.val / 1280 = k.val)
    (hn : (ns (ix1 k)).toNat ≤ 5) (h : Cert.On_rows_with_work.fn (F := Ideal) E ns blk X W B U D (ix2 r f) = 1#1) :
    (r.val % 1280) / 256 < (ns (ix1 k)).toNat := by
  have e : Cert.On_rows_with_work.fn (F := Ideal) E ns blk X W B U D (ix2 r f) = IntOp.cmpi .slt (BitVec.ofNat 32 ((r.val % 1280) / 256)) (ns (ix1 k)) := by
    have hkk : (⟨r.val / 1280, by omega⟩ : Fin 58) = k := Fin.ext hk
    pointwise [Cert.On_rows_with_work.fn]
    rw [hkk, show r.val / 256 % 5 = (r.val % 1280) / 256 from by omega]
  have h1 := e.symm.trans h
  rw [WordCmp.cmpi_slt_of_lt (by rw [BitVec.toNat_ofNat]; omega) (by omega)] at h1
  have h2 : (BitVec.ofNat 32 ((r.val % 1280) / 256)).toNat < (ns (ix1 k)).toNat := by
    by_contra hh
    rw [decide_eq_false hh] at h1
    exact absurd h1 (by decide)
  rw [BitVec.toNat_ofNat] at h2
  omega

end Cert.KernelMoeIdeal.Hand
-- ==== Proof.Moe.Equal.lean ====
module

public import proofs.«01_k».proof.Proof.Moe.Final
public import proofs.«01_k».proof.Proof.Moe.Ref
public import proofs.«01_k».proof.Proof.Moe.Mask

@[expose] public section

set_option maxRecDepth 16384

noncomputable section

namespace Cert.KernelMoeIdeal.Hand

open Cert.KernelMoeIdeal Cert.KernelMoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (hO : Ok m)

theorem at58_ix1 (k : Fin 58) : at58 k = (ix1 k : S58.Idx) := by
  funext a
  obtain rfl : a = 0 := Subsingleton.elim _ _
  rfl

/-- Where the mask is set, the kernel's array after the run is the reference's term of the arguments. -/
theorem on_mask (c : Dev nD) (i : S74240x2048.Idx)
    (h : Cert.On_rows_with_work.fn (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (m ((c : Thread nD τ).loc main_arg7)) i = 1#1) :
    (datsM m hO 0 c).arrAt 5 (cfgM m hO).N i
      = Cert.ReferenceMoeIdeal.Hand.REF (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) i := by
  obtain rfl : c = 0 := Subsingleton.elim _ _
  obtain ⟨r, f, rfl⟩ : ∃ (r : Fin 74240) (f : Fin 2048), i = (ix2 r f : S74240x2048.Idx) :=
    ⟨i (0 : Fin 2), i (1 : Fin 2), funext fun a => by revert a; exact Fin.forall_fin_two.mpr ⟨rfl, rfl⟩⟩
  have hr := r.isLt
  have hk : r.val / 1280 < 58 := by omega
  have hE : (tbl m 0 (at58 ⟨r.val / 1280, hk⟩)).toNat < 32 := hO.expert _
  have hN : (tbl m 1 (at58 ⟨r.val / 1280, hk⟩)).toNat ≤ 5 := hO.pieces _
  have hw : (r.val % 1280) / 256 < (tbl m 1 (at58 ⟨r.val / 1280, hk⟩)).toNat := by
    rw [at58_ix1] at hN ⊢
    exact mask_at _ _ _ _ _ _ _ _ r f ⟨r.val / 1280, hk⟩ rfl hN h
  refine (arr m hO 0 ⟨r.val / 1280, hk⟩ ⟨_, hE⟩ rfl ⟨r.val % 1280, by omega⟩ r (by show r.val = 1280 * (r.val / 1280) + r.val % 1280; omega) f hw).trans ?_
  refine (Cert.ReferenceMoeIdeal.Hand.ref_moe _ _ _ _ _ _ r f ⟨r.val / 1280, hk⟩ rfl ⟨_, hE⟩ ?_).symm
  exact congrArg (fun i => (tbl m 0 i).toNat) (at58_ix1 ⟨r.val / 1280, hk⟩).symm

end Cert.KernelMoeIdeal.Hand
-- ==== Proof.Calls.Qkv.lean ====
/- The projection to queries, keys and values: the kernel's array is the reference's term. -/
module

public import proofs.«01_k».proof.Proof.Gen.KernelQkvIdeal.Value
public import proofs.«01_k».proof.Proof.Gen.ReferenceQkvIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelQkvIdeal.Hand

open Cert.KernelQkvIdeal Cert.KernelQkvIdeal.Gen

variable (m : (ℓ : Loc nD τ sig) → Buf (Elt Ideal) ℓ)

/-- The reference's term over the argument arrays. -/
abbrev REF (H : FVec Ideal S8192x2048 .bf16) (W : FVec Ideal S2048x9216 .f32) : FVec Ideal S8192x3072 .bf16 :=
  truncf .bf16 (Host.dotGeneral Cert.ReferenceQkvIdeal.dot_S8192x2048_S2048x3072_S8192x3072_1_0_0_1_n_n none
    (extf .f32 H Cert.ReferenceQkvIdeal.Gen.bitsLt_bf16_f32)
    (extractStridedSlice Cert.ReferenceQkvIdeal.S2048x3072 ![0, 0] W Cert.ReferenceQkvIdeal.Gen.slices_S2048x9216_S2048x3072_0_0))
    Cert.ReferenceQkvIdeal.Gen.bitsLt_bf16_f32

theorem idx : ∀ t : Fin cfg0.N, win0_0.index t = ![t.val % 16, 0] ∧ win0_1.index t = ![0, t.val / 16]
    ∧ win0_3.index t = ![t.val % 16, t.val / 16] :=
  (by decide +kernel : ∀ t : Fin grid0.N, _)

/-- The block of the weights is the same at two points of one run. -/
theorem wblk (c : Dev nD) (t u : Fin cfg0.N) (h : t.val / 16 = u.val / 16) : iblk m c 1 t = iblk m c 1 u := by
  funext y
  blk_ext [iblk, V, idx t, idx u]

/-- A point that does not start a run finds what the point before left in the scratch. -/
theorem kept (c : Dev nD) (t : Fin cfg0.N) (h0 : ¬t.val % 16 = 0) :
    (outsAt0 m c t.val t.isLt).2 = (outsAt0 m c (t.val - 1) (Nat.lt_of_le_of_lt (Nat.sub_le _ _) t.isLt)).2 := by
  rw [outsAt0_B m c t h0]; rfl

theorem loaded (c : Dev nD) (t : Fin cfg0.N) (h0 : t.val % 16 = 0) :
    (outsAt0 m c t.val t.isLt).2 = k0_pay1 (F := Ideal) (iblk m c 1 t) := by
  rw [outsAt0_A m c t h0]; frame_out

/-- The carried scratch holds the weights' block, cast. -/
theorem carried (c : Dev nD) (n : ℕ) : ∀ h : n < cfg0.N, (outsAt0 m c n h).2 = k0_pay1 (F := Ideal) (iblk m c 1 ⟨n, h⟩) := by
  induction n with
  | zero => intro h; exact loaded m c ⟨0, h⟩ rfl
  | succ n ih =>
    intro h
    by_cases h0 : (n + 1) % 16 = 0
    · exact loaded m c ⟨n + 1, h⟩ h0
    · refine (kept m c ⟨n + 1, h⟩ h0).trans ((ih (Nat.lt_of_succ_lt h)).trans ?_)
      exact congrArg k0_pay1 (wblk m c _ _ (by show n / 16 = (n + 1) / 16; omega))

theorem left (c : Dev nD) (t : Fin cfg0.N) :
    (outsAt0 m c t.val t.isLt).1 = k0_pay2 (F := Ideal) (iblk m c 0 t) (k0_pay1 (F := Ideal) (iblk m c 1 t)) := by
  by_cases h0 : t.val % 16 = 0
  · rw [outsAt0_A m c t h0]; frame_out
  · rw [outsAt0_B m c t h0, ← kept m c t h0, carried m c t.val t.isLt]; frame_out
    rw [read_unread_whole]

theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t _ y => ?_
  blk_simp
  rw [after0_3, left m c t]
  pointwise [k0_pay2, k0_pay1, REF]
  blk_point [iblk, V, idx t]

end Cert.KernelQkvIdeal.Hand

end
-- ==== Proof.Calls.Uv.lean ====
/- The projection to the spatial gating unit's inputs: the kernel's array is the reference's term. -/
module

public import proofs.«01_k».proof.Proof.Gen.KernelUvIdeal.Value
public import proofs.«01_k».proof.Proof.Gen.ReferenceUvIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelUvIdeal.Hand

open Cert.KernelUvIdeal Cert.KernelUvIdeal.Gen

variable (m : (ℓ : Loc nD τ sig) → Buf (Elt Ideal) ℓ)

/-- The reference's term over the argument arrays. -/
abbrev REF (H : FVec Ideal S8192x2048 .bf16) (W : FVec Ideal S2048x9216 .f32) : FVec Ideal S8192x2048 .bf16 :=
  let P := Host.dotGeneral Cert.ReferenceUvIdeal.dot_S8192x2048_S2048x2048_S8192x2048_1_0_0_1_n_n none
    (extf .f32 H Cert.ReferenceUvIdeal.Gen.bitsLt_bf16_f32)
    (extractStridedSlice Cert.ReferenceUvIdeal.S2048x2048 ![0, 3072] W Cert.ReferenceUvIdeal.Gen.slices_S2048x9216_S2048x2048_0_3072)
  truncf .bf16 (mulf (mulf (broadcastInDim Cert.ReferenceUvIdeal.S8192x2048 ![] Cert.ReferenceUvIdeal.Gen.bcast_S_S8192x2048 (constant Cert.ReferenceUvIdeal.S_ .f32 0x3F000000#32)) P)
    (Host.erfc (mulf (Host.negf P) (broadcastInDim Cert.ReferenceUvIdeal.S8192x2048 ![] Cert.ReferenceUvIdeal.Gen.bcast_S_S8192x2048 (constant Cert.ReferenceUvIdeal.S_ .f32 0x3F3504F3#32)))))
    Cert.ReferenceUvIdeal.Gen.bitsLt_bf16_f32

/-- The error function is odd. -/
theorem erf_neg (x : EReal) : Ideal.erf (-x) = -Ideal.erf x := by
  induction x with
  | bot => rw [EReal.neg_bot, Ideal.erf_bot, Ideal.erf_top, neg_neg]
  | top => rw [EReal.neg_top, Ideal.erf_bot, Ideal.erf_top]
  | coe r =>
    rw [← EReal.coe_neg, Ideal.erf_coe, Ideal.erf_coe, ← EReal.coe_neg]
    congr 1
    have h := intervalIntegral.integral_comp_neg (a := 0) (b := r) (fun t : ℝ => Real.exp (-(t ^ 2)))
    simp only [neg_sq, neg_zero] at h
    rw [h, intervalIntegral.integral_symm, mul_neg]

/-- The kernel's `1 + erf` is the reference's `erfc` of the negated argument. -/
theorem erfc_neg (x c : EReal) : Ideal.erfc (-x * c) = 1 + FloatOps.erf (F := Ideal) (φ := .f32) (x * c) := by
  rw [show FloatOps.erf (F := Ideal) (φ := .f32) (x * c) = Ideal.erf (x * c) from rfl, Ideal.erfc, EReal.neg_mul, erf_neg, sub_eq_add_neg, neg_neg]

theorem idx : ∀ t : Fin cfg0.N, win0_0.index t = ![t.val % 16, 0] ∧ win0_1.index t = ![0, 3 + t.val / 16]
    ∧ win0_3.index t = ![t.val % 16, t.val / 16] :=
  (by decide +kernel : ∀ t : Fin grid0.N, _)

/-- The block of the weights is the same at two points of one run. -/
theorem wblk (c : Dev nD) (t u : Fin cfg0.N) (h : t.val / 16 = u.val / 16) : iblk m c 1 t = iblk m c 1 u := by
  funext y
  blk_ext [iblk, V, idx t, idx u]

/-- A point that does not start a run finds what the point before left in the scratch. -/
theorem kept (c : Dev nD) (t : Fin cfg0.N) (h0 : ¬t.val % 16 = 0) :
    (outsAt0 m c t.val t.isLt).2 = (outsAt0 m c (t.val - 1) (Nat.lt_of_le_of_lt (Nat.sub_le _ _) t.isLt)).2 := by
  rw [outsAt0_B m c t h0]; rfl

theorem loaded (c : Dev nD) (t : Fin cfg0.N) (h0 : t.val % 16 = 0) :
    (outsAt0 m c t.val t.isLt).2 = k0_pay1 (F := Ideal) (iblk m c 1 t) := by
  rw [outsAt0_A m c t h0]; frame_out

/-- The carried scratch holds the weights' block, cast. -/
theorem carried (c : Dev nD) (n : ℕ) : ∀ h : n < cfg0.N, (outsAt0 m c n h).2 = k0_pay1 (F := Ideal) (iblk m c 1 ⟨n, h⟩) := by
  induction n with
  | zero => intro h; exact loaded m c ⟨0, h⟩ rfl
  | succ n ih =>
    intro h
    by_cases h0 : (n + 1) % 16 = 0
    · exact loaded m c ⟨n + 1, h⟩ h0
    · refine (kept m c ⟨n + 1, h⟩ h0).trans ((ih (Nat.lt_of_succ_lt h)).trans ?_)
      exact congrArg k0_pay1 (wblk m c _ _ (by show n / 16 = (n + 1) / 16; omega))

theorem left (c : Dev nD) (t : Fin cfg0.N) :
    (outsAt0 m c t.val t.isLt).1 = k0_pay2 (F := Ideal) (iblk m c 0 t) (k0_pay1 (F := Ideal) (iblk m c 1 t)) := by
  by_cases h0 : t.val % 16 = 0
  · rw [outsAt0_A m c t h0]; frame_out
  · rw [outsAt0_B m c t h0, ← kept m c t h0, carried m c t.val t.isLt]; frame_out
    rw [read_unread_whole]

theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t _ y => ?_
  blk_simp
  rw [after0_3, left m c t]
  pointwise [k0_pay2, k0_pay1, REF]
  rw [erfc_neg]
  blk_point [iblk, V, idx t]

end Cert.KernelUvIdeal.Hand

end
-- ==== Proof.Calls.Gates.lean ====
/- The projection to the gates: the kernel's array is the reference's term. -/
module

public import proofs.«01_k».proof.Proof.Gen.KernelGatesIdeal.Value
public import proofs.«01_k».proof.Proof.Gen.ReferenceGatesIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelGatesIdeal.Hand

open Cert.KernelGatesIdeal Cert.KernelGatesIdeal.Gen

variable (m : (ℓ : Loc nD τ sig) → Buf (Elt Ideal) ℓ)

/-- The reference's term over the argument arrays. -/
abbrev REF (H : FVec Ideal S8192x2048 .bf16) (W : FVec Ideal S2048x9216 .f32) (B : FVec Ideal S4096 .f32) : FVec Ideal S8192x4096 .bf16 :=
  truncf .bf16 (Host.divf (broadcastInDim Cert.ReferenceGatesIdeal.S8192x4096 ![] Cert.ReferenceGatesIdeal.Gen.bcast_S_S8192x4096 (constant Cert.ReferenceGatesIdeal.S_ .f32 0x3F800000#32))
    (addf (broadcastInDim Cert.ReferenceGatesIdeal.S8192x4096 ![] Cert.ReferenceGatesIdeal.Gen.bcast_S_S8192x4096 (constant Cert.ReferenceGatesIdeal.S_ .f32 0x3F800000#32))
      (Host.exp (Host.negf (addf
        (Host.dotGeneral Cert.ReferenceGatesIdeal.dot_S8192x2048_S2048x4096_S8192x4096_1_0_0_1_n_n none (extf .f32 H Cert.ReferenceGatesIdeal.Gen.bitsLt_bf16_f32)
          (extractStridedSlice Cert.ReferenceGatesIdeal.S2048x4096 ![0, 5120] W Cert.ReferenceGatesIdeal.Gen.slices_S2048x9216_S2048x4096_0_5120))
        (broadcastInDim Cert.ReferenceGatesIdeal.S8192x4096 ![0, 1] Cert.ReferenceGatesIdeal.Gen.bcast_S1x4096_S8192x4096_0_1
          (broadcastInDim Cert.ReferenceGatesIdeal.S1x4096 ![1] Cert.ReferenceGatesIdeal.Gen.bcast_S4096_S1x4096_1 B)))))))
    Cert.ReferenceGatesIdeal.Gen.bitsLt_bf16_f32

theorem idx : ∀ t : Fin cfg0.N, win0_0.index t = ![t.val % 16, 0] ∧ win0_1.index t = ![0, 5 + t.val / 16] ∧ win0_2.index t = ![0, t.val / 16]
    ∧ win0_3.index t = ![t.val % 16, t.val / 16] :=
  (by decide +kernel : ∀ t : Fin grid0.N, _)

/-- The block of the weights is the same at two points of one run. -/
theorem wblk (c : Dev nD) (t u : Fin cfg0.N) (h : t.val / 16 = u.val / 16) : iblk m c 1 t = iblk m c 1 u := by
  funext y
  blk_ext [iblk, V, idx t, idx u]

/-- A point that does not start a run finds what the point before left in the scratch. -/
theorem kept (c : Dev nD) (t : Fin cfg0.N) (h0 : ¬t.val % 16 = 0) :
    (outsAt0 m c t.val t.isLt).2 = (outsAt0 m c (t.val - 1) (Nat.lt_of_le_of_lt (Nat.sub_le _ _) t.isLt)).2 := by
  rw [outsAt0_B m c t h0]; rfl

theorem loaded (c : Dev nD) (t : Fin cfg0.N) (h0 : t.val % 16 = 0) :
    (outsAt0 m c t.val t.isLt).2 = k0_pay1 (F := Ideal) (iblk m c 1 t) := by
  rw [outsAt0_A m c t h0]; frame_out

/-- The carried scratch holds the weights' block, cast. -/
theorem carried (c : Dev nD) (n : ℕ) : ∀ h : n < cfg0.N, (outsAt0 m c n h).2 = k0_pay1 (F := Ideal) (iblk m c 1 ⟨n, h⟩) := by
  induction n with
  | zero => intro h; exact loaded m c ⟨0, h⟩ rfl
  | succ n ih =>
    intro h
    by_cases h0 : (n + 1) % 16 = 0
    · exact loaded m c ⟨n + 1, h⟩ h0
    · refine (kept m c ⟨n + 1, h⟩ h0).trans ((ih (Nat.lt_of_succ_lt h)).trans ?_)
      exact congrArg k0_pay1 (wblk m c _ _ (by show n / 16 = (n + 1) / 16; omega))

theorem left (c : Dev nD) (t : Fin cfg0.N) :
    (outsAt0 m c t.val t.isLt).1 = k0_pay2 (F := Ideal) (iblk m c 0 t) (k0_pay1 (F := Ideal) (iblk m c 1 t)) (iblk m c 2 t) := by
  by_cases h0 : t.val % 16 = 0
  · rw [outsAt0_A m c t h0]; frame_out
  · rw [outsAt0_B m c t h0, ← kept m c t h0, carried m c t.val t.isLt]; frame_out
    rw [read_unread_whole]

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, left m c t]
  pointwise [k0_pay2, k0_pay1, REF]
  have hb : iblk m c 2 t (ix2 0 (y 1)) = m ((c : Thread nD τ).loc main_arg2) (ix1 (((cfg0.win 3).blk t).view.emb y 1)) := by
    blk_simp [iblk]
    entry_read
    pointwise
    blk_ext [idx t]
  rw [hb, Ideal.logistic]
  blk_point [iblk, V_main_arg0, V_main_arg1, idx t]

end Cert.KernelGatesIdeal.Hand

end
-- ==== Proof.Calls.Merge.lean ====
/- The merge of the two branches with the output projection: the kernel's array is the reference's term. -/
module

public import proofs.«01_k».proof.Proof.Gen.KernelMergeIdeal.Value
public import proofs.«01_k».proof.Proof.Gen.ReferenceMergeIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelMergeIdeal.Hand

open Cert.KernelMergeIdeal Cert.KernelMergeIdeal.Gen

variable (m : (ℓ : Loc nD τ sig) → Buf (Elt Ideal) ℓ)

/-- The reference's term over the argument arrays. -/
abbrev REF (OA OB : FVec Ideal S8192x1024 .bf16) (G : FVec Ideal S8192x4096 .bf16) (X : FVec Ideal S8192x2048 .f32)
    (WA WB : FVec Ideal S1024x2048 .f32) (WO : FVec Ideal S2048x2048 .f32) : FVec Ideal S8192x2048 .f32 :=
  addf X (Host.dotGeneral Cert.ReferenceMergeIdeal.dot_S8192x2048_S2048x2048_S8192x2048_1_0_0_1_n_n none
    (addf
      (mulf (extractStridedSlice S8192x2048 ![0, 0] (extf .f32 G Cert.ReferenceMergeIdeal.Gen.bitsLt_bf16_f32) Cert.ReferenceMergeIdeal.Gen.slices_S8192x4096_S8192x2048_0_0)
        (Host.dotGeneral Cert.ReferenceMergeIdeal.dot_S8192x1024_S1024x2048_S8192x2048_1_0_0_1_n_n none (extf .f32 OA Cert.ReferenceMergeIdeal.Gen.bitsLt_bf16_f32) WA))
      (mulf (extractStridedSlice S8192x2048 ![0, 2048] (extf .f32 G Cert.ReferenceMergeIdeal.Gen.bitsLt_bf16_f32) Cert.ReferenceMergeIdeal.Gen.slices_S8192x4096_S8192x2048_0_2048)
        (Host.dotGeneral Cert.ReferenceMergeIdeal.dot_S8192x1024_S1024x2048_S8192x2048_1_0_0_1_n_n none (extf .f32 OB Cert.ReferenceMergeIdeal.Gen.bitsLt_bf16_f32) WB))) WO)

theorem idx (t : Fin cfg0.N) : win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] := by
  revert t; decide +kernel

/-- The kernel's array after the run is the reference's term of the arguments. -/
theorem final (c : Dev nD) : (dats m 0 c).arrAt 7 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 7 _ (by decide +kernel) fun t _ y => ?_
  blk_simp
  rw [after0_7]
  frame_out
  pointwise [k0_pay1, REF]
  blk_point [iblk, V_main_arg0, V_main_arg1, V_main_arg2, V_main_arg3, idx t]

end Cert.KernelMergeIdeal.Hand

end
-- ==== Proof.Ideal.Split.lean ====
module

public import proofs.«01_k».proof.Proof.Gen.KernelIdeal.Frame
public import Idealize.ShloMosaic.Lib.Pointwise
public import Idealize.ShloMosaic.Lib.WholeRead
public import Idealize.ShloMosaic.Lib.WritesUnit
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The keys (or the values) of four heads split by head: stream `y 0`, block of 128 keys `y 1`; the first 128 of the 256
    rows keep the lanes of the stream's first head and hold zero on the others, the last 128 rows the other way round. -/
def splitHeads (v2 : IVec S1x128 1) (x : Vec F S4096x256 .bf16) : Vec F S2x32x256x128 .bf16 := fun y =>
  if (y 2 : ℕ) < 128 then
    Scalar.select (v2 (ix2 0 ⟨(y 3 : ℕ), (y 3).isLt⟩))
      (x (ix2 ⟨128 * (y 1 : ℕ) + (y 2 : ℕ) % 128, by
          have h1 : (y 1 : ℕ) < 32 := (y 1).isLt
          show _ < 4096; omega⟩ ⟨128 * (y 0 : ℕ) + (y 3 : ℕ), by
          have h0 : (y 0 : ℕ) < 2 := (y 0).isLt
          have h3 : (y 3 : ℕ) < 128 := (y 3).isLt
          show _ < 256; omega⟩))
      (FloatOps.ofBits .bf16 0#16)
  else
    Scalar.select (v2 (ix2 0 ⟨(y 3 : ℕ), (y 3).isLt⟩))
      (FloatOps.ofBits .bf16 0#16)
      (x (ix2 ⟨128 * (y 1 : ℕ) + (y 2 : ℕ) % 128, by
          have h1 : (y 1 : ℕ) < 32 := (y 1).isLt
          show _ < 4096; omega⟩ ⟨128 * (y 0 : ℕ) + (y 3 : ℕ), by
          have h0 : (y 0 : ℕ) < 2 := (y 0).isLt
          have h3 : (y 3 : ℕ) < 128 := (y 3).isLt
          show _ < 256; omega⟩))

variable (a : Memref sig .tc .vmem S4096x256 .bf16) (ha : a.IsWhole)

/-- One stored piece of the first head's rows agrees with `splitHeads`. -/
theorem piece_first (v2 : IVec S1x128 1) (x : Vec F S4096x256 .bf16) (s j r l : ℕ) (hr : r = 128 * j) (hl : l = 128 * s)
    (hin : ∀ k, (![s, j, 0, 0] : Fin 4 → ℕ) k + (![1, 1, 128, 128] : Fin 4 → ℕ) k ≤ S2x32x256x128.size k)
    (hld : ∀ k, (![r, l] : Fin 2 → ℕ) k + S128x128.size k ≤ S4096x256.size k) (h1 h2 h3)
    (y : (Rect.unit (s := S2x32x256x128) ![s, j, 0, 0] ![1, 1, 128, 128] hin).shape.Idx) :
    shapeCast S1x1x128x128 (select (broadcastTo S128x128 (shapeCast S1x128 v2 h1) h2)
        (View.readAt (Elt F) a.view (Rect.unit (s := S4096x256) ![r, l] S128x128.size hld).toLoadRect (ha.unread x))
        (broadcast S128x128 (FloatOps.ofBits (F := F) FTy.bf16 0#16))) h3 y
      = splitHeads v2 x ((Rect.unit (s := S2x32x256x128) ![s, j, 0, 0] ![1, 1, 128, 128] hin).emb y) := by
  subst hr hl
  idx_vars y;
  have hs : s < 2 := by have h := hin 0; simp only [S2x32x256x128, Matrix.cons_val_zero] at h; omega
  have hj : j < 32 := by have h := hin 1; simp only [S2x32x256x128, Matrix.cons_val_one] at h; simp at h; omega
  have e : (Rect.unit (s := S2x32x256x128) ![s, j, 0, 0] ![1, 1, 128, 128] hin).emb (ix4 y0 y1 y2 y3)
      = ix4 (n0 := 2) (n1 := 32) (n2 := 256) (n3 := 128) ⟨s, hs⟩ ⟨j, hj⟩ ⟨0 + y2.val, by omega⟩ ⟨y3.val, by omega⟩ := by
    funext k
    refine Fin.ext ?_
    rw [Rect.emb_apply]
    fin_cases k <;> simp [Rect.unit, ix4]
  rw [e]
  pointwise [splitHeads, Memref.IsWhole.readAt_unread]
  have hy : y2.val < 128 := y2.isLt
  simp [hy, Nat.mod_eq_of_lt hy]

/-- One stored piece of the second head's rows agrees with `splitHeads`. -/
theorem piece_second (v2 : IVec S1x128 1) (x : Vec F S4096x256 .bf16) (s j r l : ℕ) (hr : r = 128 * j) (hl : l = 128 * s)
    (hin : ∀ k, (![s, j, 128, 0] : Fin 4 → ℕ) k + (![1, 1, 128, 128] : Fin 4 → ℕ) k ≤ S2x32x256x128.size k)
    (hld : ∀ k, (![r, l] : Fin 2 → ℕ) k + S128x128.size k ≤ S4096x256.size k) (h1 h2 h3)
    (y : (Rect.unit (s := S2x32x256x128) ![s, j, 128, 0] ![1, 1, 128, 128] hin).shape.Idx) :
    shapeCast S1x1x128x128 (select (broadcastTo S128x128 (shapeCast S1x128 v2 h1) h2)
        (broadcast S128x128 (FloatOps.ofBits (F := F) FTy.bf16 0#16))
        (View.readAt (Elt F) a.view (Rect.unit (s := S4096x256) ![r, l] S128x128.size hld).toLoadRect (ha.unread x))) h3 y
      = splitHeads v2 x ((Rect.unit (s := S2x32x256x128) ![s, j, 128, 0] ![1, 1, 128, 128] hin).emb y) := by
  subst hr hl
  idx_vars y;
  have hs : s < 2 := by have h := hin 0; simp only [S2x32x256x128, Matrix.cons_val_zero] at h; omega
  have hj : j < 32 := by have h := hin 1; simp only [S2x32x256x128, Matrix.cons_val_one] at h; simp at h; omega
  have e : (Rect.unit (s := S2x32x256x128) ![s, j, 128, 0] ![1, 1, 128, 128] hin).emb (ix4 y0 y1 y2 y3)
      = ix4 (n0 := 2) (n1 := 32) (n2 := 256) (n3 := 128) ⟨s, hs⟩ ⟨j, hj⟩ ⟨128 + y2.val, by omega⟩ ⟨y3.val, by omega⟩ := by
    funext k
    refine Fin.ext ?_
    rw [Rect.emb_apply]
    fin_cases k <;> simp [Rect.unit, ix4]
  rw [e]
  pointwise [splitHeads, Memref.IsWhole.readAt_unread]
  have hy : y2.val < 128 := y2.isLt
  simp [Nat.mod_eq_of_lt hy]

/-- A store of the whole array leaves the array at what was stored. -/
theorem writes_whole {s : Shape} {e : EltTy} (b : Memref sig .tc .vmem s e) (hb : b.IsWhole) (f : b.view.ty.Contents (Elt F))
    {off : Fin s.rank → ℕ} (inb : ∀ a, off a + s.size a ≤ s.size a) (w : s.Idx → Elt F e) (h : ∀ a, off a = 0) :
    b.view.writes (Elt F) f [⟨Rect.unit off s.size inb, w⟩] = hb.unread w :=
  hb.eq_unread (funext fun y => View.read_writes_cons_unit_of_mem (off' := fun _ => 0) _ _ inb w [] y y (funext h) fun a => (Nat.zero_add _).symm)

end Cert.KernelIdeal.Hand
-- ==== Proof.Ideal.FillRun.lean ====
module

public import proofs.«01_k».proof.Proof.Ideal.Split
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg3 : Memref sig .tc .vmem S256x256 .bf16) (harg3 : arg3.IsWhole)
  (arg4 : Memref sig .tc .vmem S4096x256 .bf16) (harg4 : arg4.IsWhole)
  (arg5 : Memref sig .tc .vmem S4096x256 .bf16) (harg5 : arg5.IsWhole)
  (arg6 : Memref sig .tc .vmem S256x512 .bf16) (harg6 : arg6.IsWhole)
  (arg7 : Memref sig .tc .vmem S256x256 .bf16) (harg7 : arg7.IsWhole)
  (arg8 : Memref sig .tc .vmem S2x32x256x128 .bf16) (harg8 : arg8.IsWhole)
  (arg9 : Memref sig .tc .vmem S2x32x256x128 .bf16) (harg9 : arg9.IsWhole)
  (arg10 : Memref sig .tc .vmem S2x256x128 .f32) (harg10 : arg10.IsWhole)
  (arg11 : Memref sig .tc .vmem S2x256x256 .f32) (harg11 : arg11.IsWhole)
  (arg12 : Memref sig .tc .vmem S2x2x256x256 .f32) (harg12 : arg12.IsWhole)
  (arg13 : Memref sig .tc .vmem S2x2x256x256 .bf16) (harg13 : arg13.IsWhole)

set_option maxHeartbeats 4000000 in
/-- The part of the first block that splits the keys and the values by head, all but its last three stores: the pieces it
    leaves in the two scratch arrays and the values it hands on. -/
noncomputable def runFill (x4 x5 : Vec F S4096x256 .bf16) (v2 : IVec S1x128 1) :
    { L : List (View.Piece (Elt F) S2x32x256x128 .bf16) × List (View.Piece (Elt F) S2x32x256x128 .bf16) × (Σ' (_ : Vec F S128x128 .bf16) (_ : FVec F S128x128 .bf16), FVec F S1x1x128x128 .bf16) //
      ∀ (E : Set ℕ) (f8 : arg8.view.ty.Contents (Elt F)) (f9 : arg9.view.ty.Contents (Elt F)) (K : _ → sProp 𝕄),
        iprop((arg4.view.loc (c : Thread nD τ) ↦[arg4.view.set]{fullShare} harg4.unread x4) ∗ (arg5.view.loc (c : Thread nD τ) ↦[arg5.view.set]{fullShare} harg5.unread x5)
          ∗ (arg8.view.loc (c : Thread nD τ) ↦[arg8.view.set]{fullShare} f8) ∗ (arg9.view.loc (c : Thread nD τ) ↦[arg9.view.set]{fullShare} f9)
          ∗ (iprop((arg4.view.loc (c : Thread nD τ) ↦[arg4.view.set]{fullShare} harg4.unread x4) ∗ (arg5.view.loc (c : Thread nD τ) ↦[arg5.view.set]{fullShare} harg5.unread x5)
              ∗ (arg8.view.loc (c : Thread nD τ) ↦[arg8.view.set]{fullShare} arg8.view.writes (Elt F) f8 L.1)
              ∗ (arg9.view.loc (c : Thread nD τ) ↦[arg9.view.set]{fullShare} arg9.view.writes (Elt F) f9 L.2.1)) -∗ K L.2.2))
          ⊢ wp frame (wpE (defs₀ (F := F)) Variants.none c none) E (k0_part56 i arg3 harg3 arg4 harg4 arg5 harg5 arg6 harg6 arg7 harg7 arg8 harg8 arg9 harg9 arg10 harg10 arg11 harg11 arg12 harg12 arg13 harg13 v2) K } := by
  refine ⟨⟨?_, ?_, ?_⟩, fun E f8 f9 K => ?run⟩
  case run =>
    simp only [k0_part56_eq_skeleton]; unfold k0_part56_skel
    iintro ⟨H4, H5, H8, H9, Hk⟩
    sl_exec
    sl_step
    iapply Hk
    isplitl [H4]; iexact H4
    isplitl [H5]; iexact H5
    isplitl [H8]; iexact H8
    iexact H9

end Cert.KernelIdeal.Hand
-- ==== Proof.Ideal.Fill.lean ====
module

public import proofs.«01_k».proof.Proof.Ideal.FillRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg3 : Memref sig .tc .vmem S256x256 .bf16) (harg3 : arg3.IsWhole)
  (arg4 : Memref sig .tc .vmem S4096x256 .bf16) (harg4 : arg4.IsWhole)
  (arg5 : Memref sig .tc .vmem S4096x256 .bf16) (harg5 : arg5.IsWhole)
  (arg6 : Memref sig .tc .vmem S256x512 .bf16) (harg6 : arg6.IsWhole)
  (arg7 : Memref sig .tc .vmem S256x256 .bf16) (harg7 : arg7.IsWhole)
  (arg8 : Memref sig .tc .vmem S2x32x256x128 .bf16) (harg8 : arg8.IsWhole)
  (arg9 : Memref sig .tc .vmem S2x32x256x128 .bf16) (harg9 : arg9.IsWhole)
  (arg10 : Memref sig .tc .vmem S2x256x128 .f32) (harg10 : arg10.IsWhole)
  (arg11 : Memref sig .tc .vmem S2x256x256 .f32) (harg11 : arg11.IsWhole)
  (arg12 : Memref sig .tc .vmem S2x2x256x256 .f32) (harg12 : arg12.IsWhole)
  (arg13 : Memref sig .tc .vmem S2x2x256x256 .bf16) (harg13 : arg13.IsWhole)

set_option maxHeartbeats 4000000 in
/-- Each piece left among the keys agrees with the keys split by head. -/
theorem fill_pieces8 (x4 x5 : Vec F S4096x256 .bf16) (v2 : IVec S1x128 1) :
    ∀ p ∈ (runFill (F := F) c i arg3 harg3 arg4 harg4 arg5 harg5 arg6 harg6 arg7 harg7 arg8 harg8 arg9 harg9 arg10 harg10 arg11 harg11 arg12 harg12 arg13 harg13 x4 x5 v2).1.1, ∀ x : p.1.shape.Idx, p.2 x = splitHeads v2 x4 (p.1.emb x) := by
  unfold runFill
  dsimp only
  simp only [List.forall_mem_cons]
  repeat' apply And.intro
  all_goals first
    | exact fun x => piece_first arg4 harg4 v2 x4 _ _ _ _ (by rfl) (by rfl) _ _ _ _ _ x
    | exact fun x => piece_second arg4 harg4 v2 x4 _ _ _ _ (by rfl) (by rfl) _ _ _ _ _ x
    | exact fun p hp => absurd hp List.not_mem_nil

set_option maxHeartbeats 4000000 in
/-- Each piece left among the values agrees with the values split by head. -/
theorem fill_pieces9 (x4 x5 : Vec F S4096x256 .bf16) (v2 : IVec S1x128 1) :
    ∀ p ∈ (runFill (F := F) c i arg3 harg3 arg4 harg4 arg5 harg5 arg6 harg6 arg7 harg7 arg8 harg8 arg9 harg9 arg10 harg10 arg11 harg11 arg12 harg12 arg13 harg13 x4 x5 v2).1.2.1, ∀ x : p.1.shape.Idx, p.2 x = splitHeads v2 x5 (p.1.emb x) := by
  unfold runFill
  dsimp only
  simp only [List.forall_mem_cons]
  repeat' apply And.intro
  all_goals first
    | exact fun x => piece_first arg5 harg5 v2 x5 _ _ _ _ (by rfl) (by rfl) _ _ _ _ _ x
    | exact fun x => piece_second arg5 harg5 v2 x5 _ _ _ _ (by rfl) (by rfl) _ _ _ _ _ x
    | exact fun p hp => absurd hp List.not_mem_nil

set_option maxHeartbeats 4000000 in
/-- The pieces cover the keys' scratch array. -/
theorem fill_cover8 (x4 x5 : Vec F S4096x256 .bf16) (v2 : IVec S1x128 1) (w : Vec F S1x1x128x128 .bf16) (h) :
    ∀ y : S2x32x256x128.Idx, ∃ p ∈ (⟨Rect.unit ![1, 31, 128, 0] S1x1x128x128.size h, w⟩ :: (runFill (F := F) c i arg3 harg3 arg4 harg4 arg5 harg5 arg6 harg6 arg7 harg7 arg8 harg8 arg9 harg9 arg10 harg10 arg11 harg11 arg12 harg12 arg13 harg13 x4 x5 v2).1.1 : List (View.Piece (Elt F) S2x32x256x128 .bf16)), y ∈ p.1.set := by
  refine View.cover_of_tiledL _ ![1, 1, 128, 128] ?_
  unfold runFill
  sl_kernel_rfl

set_option maxHeartbeats 4000000 in
/-- The pieces cover the values' scratch array. -/
theorem fill_cover9 (x4 x5 : Vec F S4096x256 .bf16) (v2 : IVec S1x128 1) (w w' : Vec F S1x1x128x128 .bf16) (h h') :
    ∀ y : S2x32x256x128.Idx, ∃ p ∈ (⟨Rect.unit ![1, 31, 128, 0] S1x1x128x128.size h, w⟩ :: ⟨Rect.unit ![1, 31, 0, 0] S1x1x128x128.size h', w'⟩ :: (runFill (F := F) c i arg3 harg3 arg4 harg4 arg5 harg5 arg6 harg6 arg7 harg7 arg8 harg8 arg9 harg9 arg10 harg10 arg11 harg11 arg12 harg12 arg13 harg13 x4 x5 v2).1.2.1 : List (View.Piece (Elt F) S2x32x256x128 .bf16)), y ∈ p.1.set := by
  refine View.cover_of_tiledL _ ![1, 1, 128, 128] ?_
  unfold runFill
  sl_kernel_rfl

/-- The last stored piece of the keys. -/
theorem fill_last8 (x4 x5 : Vec F S4096x256 .bf16) (v2 : IVec S1x128 1) (h)
    (y : (Rect.unit (s := S2x32x256x128) ![1, 31, 128, 0] S1x1x128x128.size h).shape.Idx) :
    (runFill (F := F) c i arg3 harg3 arg4 harg4 arg5 harg5 arg6 harg6 arg7 harg7 arg8 harg8 arg9 harg9 arg10 harg10 arg11 harg11 arg12 harg12 arg13 harg13 x4 x5 v2).1.2.2.2.2 y = splitHeads v2 x4 ((Rect.unit (s := S2x32x256x128) ![1, 31, 128, 0] S1x1x128x128.size h).emb y) := by
  unfold runFill
  exact piece_second arg4 harg4 v2 x4 _ _ _ _ (by rfl) (by rfl) _ _ _ _ _ y

/-- The last stored piece of the values. -/
theorem fill_last9 (x4 x5 : Vec F S4096x256 .bf16) (v2 : IVec S1x128 1) (hv : v2 = k0_pay440) (h)
    (y : (Rect.unit (s := S2x32x256x128) ![1, 31, 128, 0] S1x1x128x128.size h).shape.Idx) :
    k0_pay442 (runFill (F := F) c i arg3 harg3 arg4 harg4 arg5 harg5 arg6 harg6 arg7 harg7 arg8 harg8 arg9 harg9 arg10 harg10 arg11 harg11 arg12 harg12 arg13 harg13 x4 x5 v2).1.2.2.1 (runFill (F := F) c i arg3 harg3 arg4 harg4 arg5 harg5 arg6 harg6 arg7 harg7 arg8 harg8 arg9 harg9 arg10 harg10 arg11 harg11 arg12 harg12 arg13 harg13 x4 x5 v2).1.2.2.2.1 y = splitHeads v2 x5 ((Rect.unit (s := S2x32x256x128) ![1, 31, 128, 0] S1x1x128x128.size h).emb y) := by
  subst hv
  unfold runFill k0_pay442
  exact piece_second arg5 harg5 k0_pay440 x5 _ _ _ _ (by rfl) (by rfl) _ _ _ _ _ y

/-- The last stored piece but one of the values. -/
theorem fill_last9' (x4 x5 : Vec F S4096x256 .bf16) (v2 : IVec S1x128 1) (hv : v2 = k0_pay440) (h)
    (y : (Rect.unit (s := S2x32x256x128) ![1, 31, 0, 0] S1x1x128x128.size h).shape.Idx) :
    k0_pay441 (runFill (F := F) c i arg3 harg3 arg4 harg4 arg5 harg5 arg6 harg6 arg7 harg7 arg8 harg8 arg9 harg9 arg10 harg10 arg11 harg11 arg12 harg12 arg13 harg13 x4 x5 v2).1.2.2.1 (runFill (F := F) c i arg3 harg3 arg4 harg4 arg5 harg5 arg6 harg6 arg7 harg7 arg8 harg8 arg9 harg9 arg10 harg10 arg11 harg11 arg12 harg12 arg13 harg13 x4 x5 v2).1.2.2.2.1 y = splitHeads v2 x5 ((Rect.unit (s := S2x32x256x128) ![1, 31, 0, 0] S1x1x128x128.size h).emb y) := by
  subst hv
  unfold runFill k0_pay441
  exact piece_first arg5 harg5 k0_pay440 x5 _ _ _ _ (by rfl) (by rfl) _ _ _ _ _ y

/-- After every store of the first block the keys' scratch array holds the keys split by head. -/
theorem fill_read8 (x4 x5 : Vec F S4096x256 .bf16) (v2 : IVec S1x128 1) (h) (g : arg8.view.ty.Contents (Elt F)) :
    arg8.view.writes (Elt F) g (⟨Rect.unit ![1, 31, 128, 0] S1x1x128x128.size h, (runFill (F := F) c i arg3 harg3 arg4 harg4 arg5 harg5 arg6 harg6 arg7 harg7 arg8 harg8 arg9 harg9 arg10 harg10 arg11 harg11 arg12 harg12 arg13 harg13 x4 x5 v2).1.2.2.2.2⟩ :: (runFill (F := F) c i arg3 harg3 arg4 harg4 arg5 harg5 arg6 harg6 arg7 harg7 arg8 harg8 arg9 harg9 arg10 harg10 arg11 harg11 arg12 harg12 arg13 harg13 x4 x5 v2).1.1)
      = harg8.unread (splitHeads v2 x4) := by
  refine harg8.eq_unread (funext fun y => View.read_writes_apply_of_pieces _ _ _ _ ?_ y (fill_cover8 c i arg3 harg3 arg4 harg4 arg5 harg5 arg6 harg6 arg7 harg7 arg8 harg8 arg9 harg9 arg10 harg10 arg11 harg11 arg12 harg12 arg13 harg13 x4 x5 v2 _ h y))
  intro p hp
  rcases List.mem_cons.mp hp with rfl | hp
  · exact fill_last8 c i arg3 harg3 arg4 harg4 arg5 harg5 arg6 harg6 arg7 harg7 arg8 harg8 arg9 harg9 arg10 harg10 arg11 harg11 arg12 harg12 arg13 harg13 x4 x5 v2 h
  · exact fill_pieces8 c i arg3 harg3 arg4 harg4 arg5 harg5 arg6 harg6 arg7 harg7 arg8 harg8 arg9 harg9 arg10 harg10 arg11 harg11 arg12 harg12 arg13 harg13 x4 x5 v2 p hp

/-- After every store of the first block the values' scratch array holds the values split by head. -/
theorem fill_read9 (x4 x5 : Vec F S4096x256 .bf16) (h h') (g : arg9.view.ty.Contents (Elt F)) :
    arg9.view.writes (Elt F) g (⟨Rect.unit ![1, 31, 128, 0] S1x1x128x128.size h, k0_pay442 (runFill (F := F) c i arg3 harg3 arg4 harg4 arg5 harg5 arg6 harg6 arg7 harg7 arg8 harg8 arg9 harg9 arg10 harg10 arg11 harg11 arg12 harg12 arg13 harg13 x4 x5 k0_pay440).1.2.2.1 (runFill (F := F) c i arg3 harg3 arg4 harg4 arg5 harg5 arg6 harg6 arg7 harg7 arg8 harg8 arg9 harg9 arg10 harg10 arg11 harg11 arg12 harg12 arg13 harg13 x4 x5 k0_pay440).1.2.2.2.1⟩ ::
        ⟨Rect.unit ![1, 31, 0, 0] S1x1x128x128.size h', k0_pay441 (runFill (F := F) c i arg3 harg3 arg4 harg4 arg5 harg5 arg6 harg6 arg7 harg7 arg8 harg8 arg9 harg9 arg10 harg10 arg11 harg11 arg12 harg12 arg13 harg13 x4 x5 k0_pay440).1.2.2.1 (runFill (F := F) c i arg3 harg3 arg4 harg4 arg5 harg5 arg6 harg6 arg7 harg7 arg8 harg8 arg9 harg9 arg10 harg10 arg11 harg11 arg12 harg12 arg13 harg13 x4 x5 k0_pay440).1.2.2.2.1⟩ :: (runFill (F := F) c i arg3 harg3 arg4 harg4 arg5 harg5 arg6 harg6 arg7 harg7 arg8 harg8 arg9 harg9 arg10 harg10 arg11 harg11 arg12 harg12 arg13 harg13 x4 x5 k0_pay440).1.2.1)
      = harg9.unread (splitHeads k0_pay440 x5) := by
  refine harg9.eq_unread (funext fun y => View.read_writes_apply_of_pieces _ _ _ _ ?_ y (fill_cover9 c i arg3 harg3 arg4 harg4 arg5 harg5 arg6 harg6 arg7 harg7 arg8 harg8 arg9 harg9 arg10 harg10 arg11 harg11 arg12 harg12 arg13 harg13 x4 x5 k0_pay440 _ _ h h' y))
  intro p hp
  rcases List.mem_cons.mp hp with rfl | hp
  · exact fill_last9 c i arg3 harg3 arg4 harg4 arg5 harg5 arg6 harg6 arg7 harg7 arg8 harg8 arg9 harg9 arg10 harg10 arg11 harg11 arg12 harg12 arg13 harg13 x4 x5 _ rfl h
  rcases List.mem_cons.mp hp with rfl | hp
  · exact fill_last9' c i arg3 harg3 arg4 harg4 arg5 harg5 arg6 harg6 arg7 harg7 arg8 harg8 arg9 harg9 arg10 harg10 arg11 harg11 arg12 harg12 arg13 harg13 x4 x5 _ rfl h'
  · exact fill_pieces9 c i arg3 harg3 arg4 harg4 arg5 harg5 arg6 harg6 arg7 harg7 arg8 harg8 arg9 harg9 arg10 harg10 arg11 harg11 arg12 harg12 arg13 harg13 x4 x5 _ p hp

/-- The filling part's run and what its pieces, with the three stores after it, leave: the pieces themselves are not named. -/
theorem fill_spec (x4 x5 : Vec F S4096x256 .bf16) :
    ∃ (L8 L9 : List (View.Piece (Elt F) S2x32x256x128 .bf16)) (r : (Σ' (_ : Vec F S128x128 .bf16) (_ : FVec F S128x128 .bf16), FVec F S1x1x128x128 .bf16)),
      (∀ (E : Set ℕ) (f8 : arg8.view.ty.Contents (Elt F)) (f9 : arg9.view.ty.Contents (Elt F)),
        (iprop((arg4.view.loc (c : Thread nD τ) ↦[arg4.view.set]{fullShare} harg4.unread x4) ∗ (arg5.view.loc (c : Thread nD τ) ↦[arg5.view.set]{fullShare} harg5.unread x5) ∗ (arg8.view.loc (c : Thread nD τ) ↦[arg8.view.set]{fullShare} f8) ∗ (arg9.view.loc (c : Thread nD τ) ↦[arg9.view.set]{fullShare} f9)) : sProp 𝕄)
          ⊢ wp frame (wpE (defs₀ (F := F)) Variants.none (c : Thread nD τ) none) E (k0_part56 i arg3 harg3 arg4 harg4 arg5 harg5 arg6 harg6 arg7 harg7 arg8 harg8 arg9 harg9 arg10 harg10 arg11 harg11 arg12 harg12 arg13 harg13 (k0_pay440))
            (fun r' => iprop((arg4.view.loc (c : Thread nD τ) ↦[arg4.view.set]{fullShare} harg4.unread x4) ∗ (arg5.view.loc (c : Thread nD τ) ↦[arg5.view.set]{fullShare} harg5.unread x5) ∗ (arg8.view.loc (c : Thread nD τ) ↦[arg8.view.set]{fullShare} arg8.view.writes (Elt F) f8 L8) ∗ (arg9.view.loc (c : Thread nD τ) ↦[arg9.view.set]{fullShare} arg9.view.writes (Elt F) f9 L9) ∗ ⌜r' = r⌝)))
      ∧ (∀ g : arg8.view.ty.Contents (Elt F), arg8.view.writes (Elt F) g (⟨Rect.unit ![1, 31, 128, 0] S1x1x128x128.size inb_S2x32x256x128_S1x1x128x128_1_31_128_0, r.2.2⟩ :: L8) = harg8.unread (splitHeads k0_pay440 x4))
      ∧ (∀ g : arg9.view.ty.Contents (Elt F), arg9.view.writes (Elt F) g (⟨Rect.unit ![1, 31, 128, 0] S1x1x128x128.size inb_S2x32x256x128_S1x1x128x128_1_31_128_0, k0_pay442 r.1 r.2.1⟩ :: ⟨Rect.unit ![1, 31, 0, 0] S1x1x128x128.size inb_S2x32x256x128_S1x1x128x128_1_31_0_0, k0_pay441 r.1 r.2.1⟩ :: L9) = harg9.unread (splitHeads k0_pay440 x5)) := by
  refine ⟨(runFill (F := F) c i arg3 harg3 arg4 harg4 arg5 harg5 arg6 harg6 arg7 harg7 arg8 harg8 arg9 harg9 arg10 harg10 arg11 harg11 arg12 harg12 arg13 harg13 x4 x5 k0_pay440).1.1, (runFill (F := F) c i arg3 harg3 arg4 harg4 arg5 harg5 arg6 harg6 arg7 harg7 arg8 harg8 arg9 harg9 arg10 harg10 arg11 harg11 arg12 harg12 arg13 harg13 x4 x5 k0_pay440).1.2.1, (runFill (F := F) c i arg3 harg3 arg4 harg4 arg5 harg5 arg6 harg6 arg7 harg7 arg8 harg8 arg9 harg9 arg10 harg10 arg11 harg11 arg12 harg12 arg13 harg13 x4 x5 k0_pay440).1.2.2, ?_, fun g => ?_, fun g => ?_⟩
  · intro E f8 f9
    iintro ⟨H4, H5, H8, H9⟩
    iapply ((runFill (F := F) c i arg3 harg3 arg4 harg4 arg5 harg5 arg6 harg6 arg7 harg7 arg8 harg8 arg9 harg9 arg10 harg10 arg11 harg11 arg12 harg12 arg13 harg13 x4 x5 k0_pay440).2 E f8 f9)
    isplitl [H4]; iexact H4
    isplitl [H5]; iexact H5
    isplitl [H8]; iexact H8
    isplitl [H9]; iexact H9
    iintro ⟨H4, H5, H8, H9⟩
    isplitl [H4]; iexact H4
    isplitl [H5]; iexact H5
    isplitl [H8]; iexact H8
    isplitl [H9]; iexact H9
    ipureintro; rfl
  · exact fill_read8 c i arg3 harg3 arg4 harg4 arg5 harg5 arg6 harg6 arg7 harg7 arg8 harg8 arg9 harg9 arg10 harg10 arg11 harg11 arg12 harg12 arg13 harg13 x4 x5 k0_pay440 _ g
  · exact fill_read9 c i arg3 harg3 arg4 harg4 arg5 harg5 arg6 harg6 arg7 harg7 arg8 harg8 arg9 harg9 arg10 harg10 arg11 harg11 arg12 harg12 arg13 harg13 x4 x5 _ _ g

end Cert.KernelIdeal.Hand
-- ==== Proof.Ideal.Head.lean ====
module

public import proofs.«01_k».proof.Proof.Ideal.Fill

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg3 : Memref sig .tc .vmem S256x256 .bf16) (harg3 : arg3.IsWhole)
  (arg4 : Memref sig .tc .vmem S4096x256 .bf16) (harg4 : arg4.IsWhole)
  (arg5 : Memref sig .tc .vmem S4096x256 .bf16) (harg5 : arg5.IsWhole)
  (arg6 : Memref sig .tc .vmem S256x512 .bf16) (harg6 : arg6.IsWhole)
  (arg7 : Memref sig .tc .vmem S256x256 .bf16) (harg7 : arg7.IsWhole)
  (arg8 : Memref sig .tc .vmem S2x32x256x128 .bf16) (harg8 : arg8.IsWhole)
  (arg9 : Memref sig .tc .vmem S2x32x256x128 .bf16) (harg9 : arg9.IsWhole)
  (arg10 : Memref sig .tc .vmem S2x256x128 .f32) (harg10 : arg10.IsWhole)
  (arg11 : Memref sig .tc .vmem S2x256x256 .f32) (harg11 : arg11.IsWhole)
  (arg12 : Memref sig .tc .vmem S2x2x256x256 .f32) (harg12 : arg12.IsWhole)
  (arg13 : Memref sig .tc .vmem S2x2x256x256 .bf16) (harg13 : arg13.IsWhole)

/-- The condition of the kernel's `if`, as the program tests it: the point is the first of its row of blocks. -/
abbrev cond0 (i : grid0.Coords) : BitVec 1 := Scalar.cmpi .ne (Scalar.extui (Scalar.cmpi .eq (BitVec.ofNat 32 (i 2).val) 0#32) : BitVec 32) 0#32

/-- What the body's first part hands on, from the block of queries `x3`, the triangle matrix `x6` and the split keys `k8`. -/
abbrev headOut (x3 : Vec F S256x256 .bf16) (x6 : Vec F S256x512 .bf16) (k8 : Vec F S2x32x256x128 .bf16) : (Σ' (arg2 : BitVec 32) (v16 : FVec F S256x128 .bf16) (v19 : FVec F S256x128 .bf16) (v21 : FVec F S256x512 .bf16) (v23 : BitVec 32) (v24 : BitVec 32) (v27 : FVec F S256x128 .bf16), FVec F S256x256 .f32) :=
  ⟨BitVec.ofNat 32 (i 2).val, k0_pay445 (View.ld x3 (Rect.unit (s := S256x256) ![0, 0] S256x128.size inb_S256x256_S256x128_0_0)), k0_pay446 (View.ld x3 (Rect.unit (s := S256x256) ![0, 128] S256x128.size inb_S256x256_S256x128_0_128)),
    k0_pay447 x6, Scalar.addi (Scalar.muli (BitVec.ofNat 32 (i 2).val) 2#32) 1#32, Scalar.muli (BitVec.ofNat 32 (i 2).val) 2#32, k0_pay448 (View.ld k8 (Rect.unit (s := S2x32x256x128) (k0_off1 i) S1x1x256x128.size (k0_off1_inb i))),
    constant S256x256 .f32 0x00000000#32⟩

set_option maxHeartbeats 4000000 in
/-- The body's first part at the first block of a row: it splits the keys and the values by head, clears the sums and reads the queries. -/
theorem head_first (hc : cond0 i = 1#1) (x3 : Vec F S256x256 .bf16) (x4 x5 : Vec F S4096x256 .bf16) (x6 : Vec F S256x512 .bf16) (E : Set ℕ) (f8 : arg8.view.ty.Contents (Elt F)) (f9 : arg9.view.ty.Contents (Elt F)) (f10 : arg10.view.ty.Contents (Elt F)) (f11 : arg11.view.ty.Contents (Elt F)) :
    (iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) : sProp 𝕄)
      ⊢ wp frame (wpE (defs₀ (F := F)) Variants.none (c : Thread nD τ) none) E (k0_part69 i arg3 harg3 arg4 harg4 arg5 harg5 arg6 harg6 arg7 harg7 arg8 harg8 arg9 harg9 arg10 harg10 arg11 harg11 arg12 harg12 arg13 harg13)
        (fun r => iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg8.view.loc (c : Thread nD τ) ↦[arg8.view.set]{fullShare} harg8.unread (splitHeads k0_pay440 x4)) ∗ (arg9.view.loc (c : Thread nD τ) ↦[arg9.view.set]{fullShare} harg9.unread (splitHeads k0_pay440 x5)) ∗ (arg10.view.loc (c : Thread nD τ) ↦[arg10.view.set]{fullShare} harg10.unread k0_pay443) ∗ (arg11.view.loc (c : Thread nD τ) ↦[arg11.view.set]{fullShare} harg11.unread k0_pay444) ∗ ⌜r = headOut i x3 x6 (splitHeads k0_pay440 x4)⌝)) := by
  obtain ⟨L8, L9, ⟨r1, r2, r3⟩, hrun, e8, e9⟩ := fill_spec (F := F) c i arg3 harg3 arg4 harg4 arg5 harg5 arg6 harg6 arg7 harg7 arg8 harg8 arg9 harg9 arg10 harg10 arg11 harg11 arg12 harg12 arg13 harg13 x4 x5
  have hcut := hrun E
  clear hrun
  simp only [k0_part69_eq_skeleton]; unfold k0_part69_skel
  iintro ⟨H3, H4, H5, H6, H8, H9, H10, H11⟩
  sl_exec (disch := first | sl_exact hc)
  sl_step
  obtain ⟨rfl, rfl, rfl⟩ : v1994 = r1 ∧ v1995 = r2 ∧ v2007 = r3 := by
    cases hk0_part56_4; exact ⟨rfl, rfl, rfl⟩
  dsimp only at e8 e9
  isplitl [H3]; iexact H3
  isplitl [Hk0_part56_0]; iexact Hk0_part56_0
  isplitl [Hk0_part56_1]; iexact Hk0_part56_1
  isplitl [H6]; iexact H6
  isplitl [Hk0_part56_2]
  · rw [← e8 f8]; iexact Hk0_part56_2
  isplitl [Hk0_part56_3]
  · rw [← e9 f9]; iexact Hk0_part56_3
  isplitl [H10]
  · have e10 : arg10.view.writes (Elt F) f10 [⟨Rect.unit ![0, 0, 0] S2x256x128.size inb_S2x256x128_S2x256x128_0_0_0, k0_pay443⟩] = harg10.unread k0_pay443 :=
      writes_whole arg10 harg10 f10 _ _ (by decide)
    rw [← e10]; iexact H10
  isplitl [H11]
  · have e11 : arg11.view.writes (Elt F) f11 [⟨Rect.unit ![0, 0, 0] S2x256x256.size inb_S2x256x256_S2x256x256_0_0_0, k0_pay444⟩] = harg11.unread k0_pay444 :=
      writes_whole arg11 harg11 f11 _ _ (by decide)
    rw [← e11]; iexact H11
  ipureintro
  have e : View.readAt (Elt F) arg8.view (Rect.unit (s := S2x32x256x128) (k0_off1 i) S1x1x256x128.size (k0_off1_inb i)).toLoadRect
      (arg8.view.writes (Elt F) f8 (⟨Rect.unit ![1, 31, 128, 0] S1x1x128x128.size inb_S2x32x256x128_S1x1x128x128_1_31_128_0, v2007⟩ :: L8))
      = View.ld (splitHeads k0_pay440 x4) (Rect.unit (s := S2x32x256x128) (k0_off1 i) S1x1x256x128.size (k0_off1_inb i)) := by
    rw [e8, View.readAt_eq_ld, harg8.read_unread]
  have e3 : View.readAt (Elt F) arg6.view (Rect.unit (s := S256x512) ![0, 0] S256x512.size inb_S256x512_S256x512_0_0).toLoadRect (harg6.unread x6) = x6 := by
    rw [View.readAt_eq_ld, harg6.read_unread, View.ld_unit_lit' _ _ (by decide)]
  refine (congrArg (fun z => (⟨_, _, _, _, _, _, k0_pay448 z, _⟩ : (Σ' (arg2 : BitVec 32) (v16 : FVec F S256x128 .bf16) (v19 : FVec F S256x128 .bf16) (v21 : FVec F S256x512 .bf16) (v23 : BitVec 32) (v24 : BitVec 32) (v27 : FVec F S256x128 .bf16), FVec F S256x256 .f32))) e).trans ?_
  rw [e3, View.readAt_eq_ld, View.readAt_eq_ld, harg3.read_unread]
  rfl

set_option maxHeartbeats 4000000 in
/-- The body's first part at a later block: the split keys and values stay. -/
theorem head_later (hc : ¬ cond0 i = 1#1) (x3 : Vec F S256x256 .bf16) (x4 x5 : Vec F S4096x256 .bf16) (x6 : Vec F S256x512 .bf16) (k8 v9 : Vec F S2x32x256x128 .bf16) (E : Set ℕ) (f10 : arg10.view.ty.Contents (Elt F)) (f11 : arg11.view.ty.Contents (Elt F)) :
    (iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg8.view.loc (c : Thread nD τ) ↦[arg8.view.set]{fullShare} harg8.unread k8) ∗ (arg9.view.loc (c : Thread nD τ) ↦[arg9.view.set]{fullShare} harg9.unread v9) ∗ (arg10.view.loc (c : Thread nD τ) ↦[arg10.view.set]{fullShare} f10) ∗ (arg11.view.loc (c : Thread nD τ) ↦[arg11.view.set]{fullShare} f11)) : sProp 𝕄)
      ⊢ wp frame (wpE (defs₀ (F := F)) Variants.none (c : Thread nD τ) none) E (k0_part69 i arg3 harg3 arg4 harg4 arg5 harg5 arg6 harg6 arg7 harg7 arg8 harg8 arg9 harg9 arg10 harg10 arg11 harg11 arg12 harg12 arg13 harg13)
        (fun r => iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg8.view.loc (c : Thread nD τ) ↦[arg8.view.set]{fullShare} harg8.unread (k8)) ∗ (arg9.view.loc (c : Thread nD τ) ↦[arg9.view.set]{fullShare} harg9.unread (v9)) ∗ (arg10.view.loc (c : Thread nD τ) ↦[arg10.view.set]{fullShare} harg10.unread k0_pay443) ∗ (arg11.view.loc (c : Thread nD τ) ↦[arg11.view.set]{fullShare} harg11.unread k0_pay444) ∗ ⌜r = headOut i x3 x6 (k8)⌝)) := by
  simp only [k0_part69_eq_skeleton]; unfold k0_part69_skel
  iintro ⟨H3, H4, H5, H6, H8, H9, H10, H11⟩
  sl_exec (disch := first | sl_exact hc)
  sl_step
  isplitl [H3]; iexact H3
  isplitl [H4]; iexact H4
  isplitl [H5]; iexact H5
  isplitl [H6]; iexact H6
  isplitl [H8]; iexact H8
  isplitl [H9]; iexact H9
  isplitl [H10]
  · have e10 : arg10.view.writes (Elt F) f10 [⟨Rect.unit ![0, 0, 0] S2x256x128.size inb_S2x256x128_S2x256x128_0_0_0, k0_pay443⟩] = harg10.unread k0_pay443 :=
      writes_whole arg10 harg10 f10 _ _ (by decide)
    rw [← e10]; iexact H10
  isplitl [H11]
  · have e11 : arg11.view.writes (Elt F) f11 [⟨Rect.unit ![0, 0, 0] S2x256x256.size inb_S2x256x256_S2x256x256_0_0_0, k0_pay444⟩] = harg11.unread k0_pay444 :=
      writes_whole arg11 harg11 f11 _ _ (by decide)
    rw [← e11]; iexact H11
  ipureintro
  have e3 : View.readAt (Elt F) arg6.view (Rect.unit (s := S256x512) ![0, 0] S256x512.size inb_S256x512_S256x512_0_0).toLoadRect (harg6.unread x6) = x6 := by
    rw [View.readAt_eq_ld, harg6.read_unread, View.ld_unit_lit' _ _ (by decide)]
  rw [e3, View.readAt_eq_ld, View.readAt_eq_ld, View.readAt_eq_ld, harg3.read_unread, harg8.read_unread]
  rfl

end Cert.KernelIdeal.Hand
-- ==== Proof.Ideal.Memrefs.lean ====
module

public import proofs.«01_k».proof.Proof.Ideal.Head

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The staging and scratch memrefs, and when the `if` is taken -/

abbrev ms0 (t : Fin cfg0.N) : Memref sig .tc .vmem S256x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x256 .bf16 := win0_4.stage (cfg0.slots t 4)
abbrev hs4 (t : Fin cfg0.N) : (ms4 t).IsWhole := hstage0_4 ((cfg0.slots t 4).cast nbuf0_4)
abbrev sc0 : Memref sig .tc .vmem S2x32x256x128 .bf16 := Memref.whole cc0_scratch0
abbrev sc1 : Memref sig .tc .vmem S2x32x256x128 .bf16 := Memref.whole cc0_scratch1
abbrev sc2 : Memref sig .tc .vmem S2x256x128 .f32 := Memref.whole cc0_scratch2
abbrev sc3 : Memref sig .tc .vmem S2x256x256 .f32 := Memref.whole cc0_scratch3
abbrev sc4 : Memref sig .tc .vmem S2x2x256x256 .f32 := Memref.whole cc0_scratch4
abbrev sc5 : Memref sig .tc .vmem S2x2x256x256 .bf16 := Memref.whole cc0_scratch5

/-- The kernel's `if` is taken at the first of the sixteen blocks of queries. -/
theorem cond0_iff : ∀ t : Fin cfg0.N, cond0 (grid0.coords t) = 1#1 ↔ t.val % 16 = 0 := fun t => by
  have ht : t.val < 128 := Nat.lt_of_lt_of_eq t.isLt N_0
  have e2 : (grid0.coords t 2).val = t.val / 1 % 16 := Pipeline.Grid.coords_val t 2 (by decide) rfl
  simp only [cond0, e2]
  word_cmp

/-- What the launch leaves of the region's own buffers, the scratch arrays one by one. -/
theorem restAny_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-- The body table's row at a point is the body at that point. -/
theorem defs_row (t : Fin cfg0.N) :
    defs₀ (F := F) .tc cfg0.body (cfg0.bodyArgs t (cfg0.slots t)) = bodyAt0 t := by
  unfold defs₀; rw [Defs.onTc_tc]

end Cert.KernelIdeal.Hand
-- ==== Proof.Ideal.BodyAny.lean ====
module

public import proofs.«01_k».proof.Proof.Ideal.Head

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg3 : Memref sig .tc .vmem S256x256 .bf16) (harg3 : arg3.IsWhole)
  (arg4 : Memref sig .tc .vmem S4096x256 .bf16) (harg4 : arg4.IsWhole)
  (arg5 : Memref sig .tc .vmem S4096x256 .bf16) (harg5 : arg5.IsWhole)
  (arg6 : Memref sig .tc .vmem S256x512 .bf16) (harg6 : arg6.IsWhole)
  (arg7 : Memref sig .tc .vmem S256x256 .bf16) (harg7 : arg7.IsWhole)
  (arg8 : Memref sig .tc .vmem S2x32x256x128 .bf16) (harg8 : arg8.IsWhole)
  (arg9 : Memref sig .tc .vmem S2x32x256x128 .bf16) (harg9 : arg9.IsWhole)
  (arg10 : Memref sig .tc .vmem S2x256x128 .f32) (harg10 : arg10.IsWhole)
  (arg11 : Memref sig .tc .vmem S2x256x256 .f32) (harg11 : arg11.IsWhole)
  (arg12 : Memref sig .tc .vmem S2x2x256x256 .f32) (harg12 : arg12.IsWhole)
  (arg13 : Memref sig .tc .vmem S2x2x256x256 .bf16) (harg13 : arg13.IsWhole)

set_option maxHeartbeats 4000000 in
/-- At a first block the body runs, and its inputs are as they were. -/
theorem body_anyA (hc : cond0 i = 1#1) (x3 : Vec F S256x256 .bf16) (x4 x5 : Vec F S4096x256 .bf16) (x6 : Vec F S256x512 .bf16) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_sb_attention i arg3 harg3 arg4 harg4 arg5 harg5 arg6 harg6 arg7 harg7 arg8 harg8 arg9 harg9 arg10 harg10 arg11 harg11 arg12 harg12 arg13 harg13) K := by
  simp only [cc0_sb_attention_eq_skeleton]; unfold cc0_sb_attention_skel
  unfold owns
  iintro ⟨⟨%f3, %hf3, H3⟩, ⟨%f4, %hf4, H4⟩, ⟨%f5, %hf5, H5⟩, ⟨%f6, %hf6, H6⟩, ⟨%d7, %f7, -, H7⟩, ⟨%d8, %f8, %hf8, H8⟩, ⟨%d9, %f9, %hf9, H9⟩, ⟨%d10, %f10, -, H10⟩, ⟨%d11, %f11, -, H11⟩, ⟨%d12, %f12, -, H12⟩, ⟨%d13, %f13, -, H13⟩, Hk⟩
  obtain rfl := harg3.eq_unread hf3; obtain rfl := harg4.eq_unread hf4; obtain rfl := harg5.eq_unread hf5; obtain rfl := harg6.eq_unread hf6; obtain rfl := harg8.eq_unread hf8; obtain rfl := harg9.eq_unread hf9
  have hcut := fun f8 f9 f10 f11 => head_first (F := F) c i arg3 harg3 arg4 harg4 arg5 harg5 arg6 harg6 arg7 harg7 arg8 harg8 arg9 harg9 arg10 harg10 arg11 harg11 arg12 harg12 arg13 harg13 hc x3 x4 x5 x6 E f8 f9 f10 f11
  sl_exec
  sl_step
  iapply Hk
  sl_close

set_option maxHeartbeats 4000000 in
/-- At a later block the body runs, and its inputs are as they were. -/
theorem body_anyB (hc : ¬ cond0 i = 1#1) (x3 : Vec F S256x256 .bf16) (x4 x5 : Vec F S4096x256 .bf16) (x6 : Vec F S256x512 .bf16) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_sb_attention i arg3 harg3 arg4 harg4 arg5 harg5 arg6 harg6 arg7 harg7 arg8 harg8 arg9 harg9 arg10 harg10 arg11 harg11 arg12 harg12 arg13 harg13) K := by
  simp only [cc0_sb_attention_eq_skeleton]; unfold cc0_sb_attention_skel
  unfold owns
  iintro ⟨⟨%f3, %hf3, H3⟩, ⟨%f4, %hf4, H4⟩, ⟨%f5, %hf5, H5⟩, ⟨%f6, %hf6, H6⟩, ⟨%d7, %f7, -, H7⟩, ⟨%d8, %f8, %hf8, H8⟩, ⟨%d9, %f9, %hf9, H9⟩, ⟨%d10, %f10, -, H10⟩, ⟨%d11, %f11, -, H11⟩, ⟨%d12, %f12, -, H12⟩, ⟨%d13, %f13, -, H13⟩, Hk⟩
  obtain rfl := harg3.eq_unread hf3; obtain rfl := harg4.eq_unread hf4; obtain rfl := harg5.eq_unread hf5; obtain rfl := harg6.eq_unread hf6; obtain rfl := harg8.eq_unread hf8; obtain rfl := harg9.eq_unread hf9
  have hcut := fun f10 f11 => head_later (F := F) c i arg3 harg3 arg4 harg4 arg5 harg5 arg6 harg6 arg7 harg7 arg8 harg8 arg9 harg9 arg10 harg10 arg11 harg11 arg12 harg12 arg13 harg13 hc x3 x4 x5 x6 d8 d9 E f10 f11
  sl_exec
  sl_step
  iapply Hk
  sl_close

end Cert.KernelIdeal.Hand
-- ==== Proof.Ideal.FrameAny.lean ====
module

public import proofs.«01_k».proof.Proof.Ideal.Memrefs
public import proofs.«01_k».proof.Proof.Ideal.BodyAny

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The output's window is not named. -/
def forgetsAny : Fin 5 → Bool := fun w => w.val == 4

/-- The proof data: inputs at their blocks, the output at anything, the scratch at anything. -/
def datsAny (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q w := Pipeline.shareOf spec0 w
  owed _ := 0

theorem anyA (c : Dev nD) (w : Fin cfg0.W) : (datsAny m 0 c).A w = V m c (Pipeline.arrRef spec0 w) := by
  dsimp only [datsAny]

theorem anyAfter0 (c : Dev nD) (t : Fin cfg0.N) : (datsAny m 0 c).after 0 t = iblk m c 0 t := by dsimp only [datsAny]
theorem anyAfter1 (c : Dev nD) (t : Fin cfg0.N) : (datsAny m 0 c).after 1 t = iblk m c 1 t := by dsimp only [datsAny]
theorem anyAfter2 (c : Dev nD) (t : Fin cfg0.N) : (datsAny m 0 c).after 2 t = iblk m c 2 t := by dsimp only [datsAny]
theorem anyAfter3 (c : Dev nD) (t : Fin cfg0.N) : (datsAny m 0 c).after 3 t = iblk m c 3 t := by dsimp only [datsAny]

theorem anyBefore0 (c : Dev nD) (t : Fin cfg0.N) (d) : (datsAny m 0 c).before 0 t d = iblk m c 0 t :=
  before0_0_of m (datsAny m 0 c) (anyA m c 0) (anyAfter0 m c) t d
theorem anyBefore1 (c : Dev nD) (t : Fin cfg0.N) (d) : (datsAny m 0 c).before 1 t d = iblk m c 1 t :=
  before0_1_of m (datsAny m 0 c) (anyA m c 1) (anyAfter1 m c) t d
theorem anyBefore2 (c : Dev nD) (t : Fin cfg0.N) (d) : (datsAny m 0 c).before 2 t d = iblk m c 2 t :=
  before0_2_of m (datsAny m 0 c) (anyA m c 2) (anyAfter2 m c) t d
theorem anyBefore3 (c : Dev nD) (t : Fin cfg0.N) (d) : (datsAny m 0 c).before 3 t d = iblk m c 3 t :=
  before0_3_of m (datsAny m 0 c) (anyA m c 3) (anyAfter3 m c) t d

/-- What the body is called with at point `t`. -/
def anyPre (c : Dev nD) (t : Fin cfg0.N) : sProp 𝕄 :=
  iprop((datsAny m 0 c).Φ t.castSucc ∗ (datsAny m 0 c).owesAt () t.castSucc
    ∗ (∃ d, owns (c : Thread nD τ) (ms0 t) fullShare ((datsAny m 0 c).before 0 t d))
    ∗ (∃ d, owns (c : Thread nD τ) (ms1 t) fullShare ((datsAny m 0 c).before 1 t d))
    ∗ (∃ d, owns (c : Thread nD τ) (ms2 t) fullShare ((datsAny m 0 c).before 2 t d))
    ∗ (∃ d, owns (c : Thread nD τ) (ms3 t) fullShare ((datsAny m 0 c).before 3 t d))
    ∗ (∃ d, owns (c : Thread nD τ) (ms4 t) fullShare d))

/-- What the body returns. -/
def anyPost (c : Dev nD) (t : Fin cfg0.N) : sProp 𝕄 :=
  iprop((datsAny m 0 c).Φ t.succ ∗ (datsAny m 0 c).owesAt () t.succ
    ∗ owns (c : Thread nD τ) (ms0 t) fullShare ((datsAny m 0 c).after 0 t)
    ∗ owns (c : Thread nD τ) (ms1 t) fullShare ((datsAny m 0 c).after 1 t)
    ∗ owns (c : Thread nD τ) (ms2 t) fullShare ((datsAny m 0 c).after 2 t)
    ∗ owns (c : Thread nD τ) (ms3 t) fullShare ((datsAny m 0 c).after 3 t)
    ∗ (∃ d, owns (c : Thread nD τ) (ms4 t) fullShare d))

set_option maxHeartbeats 3200000 in
theorem anySound (c : Dev nD) (t : Fin cfg0.N) :
    anyPre m c t ⊢ wp frame (wpE (defs₀ (F := F)) Variants.none c none) Set.univ (bodyAt0 t) (fun _ => anyPost m c t) := by
  unfold anyPre anyPost bodyAt0
  simp only [anyBefore0, anyBefore1, anyBefore2, anyBefore3]
  rw [show (datsAny m 0 c).owesAt () t.succ = (datsAny m 0 c).owesAt () t.castSucc from rfl,
    anyAfter0, anyAfter1, anyAfter2, anyAfter3]
  rw [show (datsAny m 0 c).Φ t.succ = Pipeline.ΦA spec0 c from rfl, show (datsAny m 0 c).Φ t.castSucc = Pipeline.ΦA spec0 c from rfl, restAny_eq]
  by_cases h0 : t.val % 16 = 0
  · iintro ⟨⟨⟨HS0, HS1, HS2, HS3, HS4, HS5⟩, Hg⟩, Ho, ⟨%d0, H0⟩, ⟨%d1, H1⟩, ⟨%d2, H2⟩, ⟨%d3, H3⟩, ⟨%d4, H4⟩⟩
    iapply (body_anyA c (grid0.coords t) _ _ _ _ _ _ _ _ _ _ _ _ _ _ _ _ _ _ _ _ _ _ ((cond0_iff t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    iexact H4
  · iintro ⟨⟨⟨HS0, HS1, HS2, HS3, HS4, HS5⟩, Hg⟩, Ho, ⟨%d0, H0⟩, ⟨%d1, H1⟩, ⟨%d2, H2⟩, ⟨%d3, H3⟩, ⟨%d4, H4⟩⟩
    iapply (body_anyB c (grid0.coords t) _ _ _ _ _ _ _ _ _ _ _ _ _ _ _ _ _ _ _ _ _ _ (fun h => h0 ((cond0_iff t).mp h)) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    iexact H4

/-- The body obligation at every point. -/
theorem anyBody (c : Dev nD) : BodyObligation (datsAny (F := F) m 0 c) (defs₀ (F := F)) Variants.none () Set.univ forgetsAny := fun t => by
  rw [bigSep_W0, bigSep_W0, defs_row]
  exact triple_restated (anySound m c t) rfl .rfl fun _ => .rfl

set_option backward.isDefEq.respectTransparency.types false in
/-- The launch: every fair execution ends, with the input arrays unchanged and every counter at zero. -/
theorem anyRun : θ_run defs (onTc (τ := τ) (main (F := F))) (s₀ m ρ) (fun r => (Pipeline.RDat.FramePost (cfgs 0) (fun c => (datsAny m 0 c).toRForget forgetsAny) (V m)) r ∧ r.2.sem = fun _ => 0) :=
  Pipeline.θ_run_frame_track_forget_shared (Q' := _) cfgs (datsAny m) (0 : Fin 1) launch₀0 defs₀ Variants.none forgetsAny m ρ main
    (hbody := fun c => (anyBody m c).loose) (hq := fun _ _ _ => rfl)
    (howed := fun _ _ => rfl) (V := V m) (hmain := hmain m Variants.none) (hA := anyA m) (hin := fun _ => .rfl) (hout := fun _ => .rfl)

/-- The frame: the argument ends unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => (Pipeline.RDat.FramePost.arr_in h.1 c 2 rfl).trans ((anyA m c 2).trans (V_main_arg0 m c)), h.2⟩) (anyRun m ρ)

end Cert.KernelIdeal.Hand
-- ==== Proof.Ideal.Offs.lean ====
module

public import proofs.«01_k».proof.Proof.Ideal.Split

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The block of keys `n` pairs before the diagonal pair of block `a` of queries, tile `t` of the pair (none below block zero). -/
def jOf (a n t : ℕ) : Fin 32 := Fin.ofNat 32 (2 * a + 1 - t - 2 * n)

theorem jOf_val (a n t : ℕ) (ha : a < 16) : (jOf a n t).val = 2 * a + 1 - t - 2 * n := Nat.mod_eq_of_lt (by omega)

/-- The loop over the earlier pairs takes one trip per earlier block of queries. -/
theorem trips1 (i : grid0.Coords) : (k0_t1_loop i).trips = (i 2).val := by
  have key : ∀ a : Fin 16, (⟨0#32, Scalar.addi 0#32 (Scalar.muli (Scalar.divsi (Scalar.subi (BitVec.ofNat 32 a.val) 0#32) 1#32) 1#32), 1#32⟩ : Scf.Loop 32).trips = a.val := by decide +kernel
  exact key (i 2)

/-- The second half of the loop, as the compiler splits it, takes no trip. -/
theorem trips2 (i : grid0.Coords) : (k0_t2_loop i).trips = 0 := by
  have key : ∀ a : Fin 16, (⟨Scalar.addi 0#32 (Scalar.muli (Scalar.divsi (Scalar.subi (BitVec.ofNat 32 a.val) 0#32) 1#32) 1#32), Scalar.addi 0#32 (Scalar.subi (BitVec.ofNat 32 a.val) 0#32), 1#32⟩ : Scf.Loop 32).trips = 0 := by decide +kernel
  exact key (i 2)

theorem wordA1 : ∀ a : Fin 16, (Scalar.indexCast (Scalar.addi (Scalar.muli (BitVec.ofNat 32 a.val) 2#32) 1#32) : BitVec 32).toNat = (jOf a.val 0 0).val := by decide +kernel
theorem wordA0 : ∀ a : Fin 16, (Scalar.indexCast (Scalar.muli (BitVec.ofNat 32 a.val) 2#32) : BitVec 32).toNat = (jOf a.val 0 1).val := by decide +kernel
theorem wordB1 : ∀ a : Fin 16, (Scalar.indexCast (Scalar.maxsi (Scalar.subi (Scalar.addi (Scalar.muli (BitVec.ofNat 32 a.val) 2#32) 1#32) 2#32) 0#32) : BitVec 32).toNat = (jOf a.val 1 0).val := by decide +kernel
theorem wordB0 : ∀ a : Fin 16, (Scalar.indexCast (Scalar.maxsi (Scalar.subi (Scalar.muli (BitVec.ofNat 32 a.val) 2#32) 2#32) 0#32) : BitVec 32).toNat = (jOf a.val 1 1).val := by decide +kernel
theorem wordC1 : ∀ a k : Fin 16, (Scalar.indexCast (Scalar.maxsi (Scalar.subi (Scalar.addi (Scalar.muli (BitVec.ofNat 32 a.val) 2#32) 1#32) (Scalar.muli 2#32 (Scalar.addi (Scf.iv 0#32 1#32 k) 2#32))) 0#32) : BitVec 32).toNat = (jOf a.val (k.val + 2) 0).val := by decide +kernel
theorem wordC0 : ∀ a k : Fin 16, (Scalar.indexCast (Scalar.maxsi (Scalar.subi (Scalar.muli (BitVec.ofNat 32 a.val) 2#32) (Scalar.muli 2#32 (Scalar.addi (Scf.iv 0#32 1#32 k) 2#32))) 0#32) : BitVec 32).toNat = (jOf a.val (k.val + 2) 1).val := by decide +kernel
theorem wordD1 : ∀ a k : Fin 16, (Scalar.indexCast (Scalar.maxsi (Scalar.subi (Scalar.addi (Scalar.muli (BitVec.ofNat 32 a.val) 2#32) 1#32) (Scalar.muli 2#32 (Scf.iv 0#32 1#32 k))) 0#32) : BitVec 32).toNat = (jOf a.val k.val 0).val := by decide +kernel
theorem wordD0 : ∀ a k : Fin 16, (Scalar.indexCast (Scalar.maxsi (Scalar.subi (Scalar.muli (BitVec.ofNat 32 a.val) 2#32) (Scalar.muli 2#32 (Scf.iv 0#32 1#32 k))) 0#32) : BitVec 32).toNat = (jOf a.val k.val 1).val := by decide +kernel

/-- A trip's number, as a number under sixteen. -/
def tripNo (i : grid0.Coords) (k : Fin (k0_t1_loop i).trips) : Fin 16 := ⟨k.val, lt_trans (lt_of_lt_of_eq k.isLt (trips1 i)) (i 2).isLt⟩

variable (i : grid0.Coords)

theorem off1_eq : k0_off1 i = ![0, (jOf (i 2).val 0 0).val, 0, 0] := congrArg (fun n => ![0, n, 0, 0]) (wordA1 (i 2))
theorem off2_eq : k0_off2 i = ![0, (jOf (i 2).val 0 1).val, 0, 0] := congrArg (fun n => ![0, n, 0, 0]) (wordA0 (i 2))
theorem off3_eq : k0_off3 i = ![0, (jOf (i 2).val 1 0).val, 0, 0] := congrArg (fun n => ![0, n, 0, 0]) (wordB1 (i 2))
theorem off4_eq : k0_off4 i = ![0, (jOf (i 2).val 1 1).val, 0, 0] := congrArg (fun n => ![0, n, 0, 0]) (wordB0 (i 2))
theorem off5_eq : k0_off5 i = ![1, (jOf (i 2).val 0 0).val, 0, 0] := congrArg (fun n => ![1, n, 0, 0]) (wordA1 (i 2))
theorem off6_eq : k0_off6 i = ![1, (jOf (i 2).val 0 1).val, 0, 0] := congrArg (fun n => ![1, n, 0, 0]) (wordA0 (i 2))
theorem off7_eq : k0_off7 i = ![1, (jOf (i 2).val 1 0).val, 0, 0] := congrArg (fun n => ![1, n, 0, 0]) (wordB1 (i 2))
theorem off8_eq : k0_off8 i = ![1, (jOf (i 2).val 1 1).val, 0, 0] := congrArg (fun n => ![1, n, 0, 0]) (wordB0 (i 2))
theorem off9_eq (k : Fin (k0_t1_loop i).trips) : k0_off9 i k = ![0, (jOf (i 2).val (k.val + 2) 0).val, 0, 0] := congrArg (fun n => ![0, n, 0, 0]) (wordC1 (i 2) (tripNo i k))
theorem off10_eq (k : Fin (k0_t1_loop i).trips) : k0_off10 i k = ![0, (jOf (i 2).val (k.val + 2) 1).val, 0, 0] := congrArg (fun n => ![0, n, 0, 0]) (wordC0 (i 2) (tripNo i k))
theorem off11_eq (k : Fin (k0_t1_loop i).trips) : k0_off11 i k = ![0, (jOf (i 2).val k.val 0).val, 0, 0] := congrArg (fun n => ![0, n, 0, 0]) (wordD1 (i 2) (tripNo i k))
theorem off12_eq (k : Fin (k0_t1_loop i).trips) : k0_off12 i k = ![0, (jOf (i 2).val k.val 1).val, 0, 0] := congrArg (fun n => ![0, n, 0, 0]) (wordD0 (i 2) (tripNo i k))
theorem off13_eq (k : Fin (k0_t1_loop i).trips) : k0_off13 i k = ![1, (jOf (i 2).val (k.val + 2) 0).val, 0, 0] := congrArg (fun n => ![1, n, 0, 0]) (wordC1 (i 2) (tripNo i k))
theorem off14_eq (k : Fin (k0_t1_loop i).trips) : k0_off14 i k = ![1, (jOf (i 2).val (k.val + 2) 1).val, 0, 0] := congrArg (fun n => ![1, n, 0, 0]) (wordC0 (i 2) (tripNo i k))
theorem off15_eq (k : Fin (k0_t1_loop i).trips) : k0_off15 i k = ![1, (jOf (i 2).val k.val 0).val, 0, 0] := congrArg (fun n => ![1, n, 0, 0]) (wordD1 (i 2) (tripNo i k))
theorem off16_eq (k : Fin (k0_t1_loop i).trips) : k0_off16 i k = ![1, (jOf (i 2).val k.val 1).val, 0, 0] := congrArg (fun n => ![1, n, 0, 0]) (wordD0 (i 2) (tripNo i k))

end Cert.KernelIdeal.Hand
-- ==== Proof.Ideal.Writes.lean ====
module

public import proofs.«01_k».proof.Proof.Ideal.Split

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable {e : EltTy}

/-- Two stores, one per stream, of the rows of a three-axis array leave the array they agree with. -/
theorem writes_two3 {m n : ℕ} (b : Memref sig .tc .vmem ⟨3, ![2, m, n]⟩ e) (hb : b.IsWhole) (f : b.view.ty.Contents (Elt F))
    (h1 : ∀ a, (![1, 0, 0] : Fin 3 → ℕ) a + (![1, m, n] : Fin 3 → ℕ) a ≤ (⟨3, ![2, m, n]⟩ : Shape).size a)
    (h0 : ∀ a, (![0, 0, 0] : Fin 3 → ℕ) a + (![1, m, n] : Fin 3 → ℕ) a ≤ (⟨3, ![2, m, n]⟩ : Shape).size a)
    (w1 w0 : (⟨3, ![1, m, n]⟩ : Shape).Idx → Elt F e) (X : (⟨3, ![2, m, n]⟩ : Shape).Idx → Elt F e)
    (e1 : ∀ r l, w1 (ix3 0 r l) = X (ix3 1 r l)) (e0 : ∀ r l, w0 (ix3 0 r l) = X (ix3 0 r l)) :
    b.view.writes (Elt F) f [⟨Rect.unit (s := ⟨3, ![2, m, n]⟩) ![1, 0, 0] ![1, m, n] h1, w1⟩, ⟨Rect.unit (s := ⟨3, ![2, m, n]⟩) ![0, 0, 0] ![1, m, n] h0, w0⟩] = hb.unread X := by
  refine hb.eq_unread (funext fun y => ?_)
  obtain ⟨y0, y1, y2, rfl⟩ : ∃ (y0 : Fin 2) (y1 : Fin m) (y2 : Fin n), y = ix3 y0 y1 y2 := ⟨y 0, y 1, y 2, funext fun a => by fin_cases a <;> rfl⟩
  by_cases hs : y0.val = 1
  · obtain rfl : y0 = 1 := Fin.ext hs
    rw [← e1]
    exact View.read_writes_cons_unit_of_mem _ _ h1 w1 _ (ix3 1 y1 y2) (ix3 0 y1 y2) rfl (fun a => by fin_cases a <;> simp [ix3])
  · obtain rfl : y0 = 0 := Fin.ext (by have := y0.isLt; show _ = 0; omega)
    rw [View.read_writes_cons_unit_of_not_mem _ _ h1 w1 _ (ix3 0 y1 y2) rfl 0 (Or.inl (by show 0 < 1; decide)), ← e0]
    exact View.read_writes_cons_unit_of_mem _ _ h0 w0 _ (ix3 0 y1 y2) (ix3 0 y1 y2) rfl (fun a => by fin_cases a <;> simp [ix3])

/-- Four stores, one per stream and tile, leave the array they agree with. -/
theorem writes_four {m n : ℕ} (b : Memref sig .tc .vmem ⟨4, ![2, 2, m, n]⟩ e) (hb : b.IsWhole) (f : b.view.ty.Contents (Elt F))
    (h11 : ∀ a, (![1, 1, 0, 0] : Fin 4 → ℕ) a + (![1, 1, m, n] : Fin 4 → ℕ) a ≤ (⟨4, ![2, 2, m, n]⟩ : Shape).size a)
    (h10 : ∀ a, (![1, 0, 0, 0] : Fin 4 → ℕ) a + (![1, 1, m, n] : Fin 4 → ℕ) a ≤ (⟨4, ![2, 2, m, n]⟩ : Shape).size a)
    (h01 : ∀ a, (![0, 1, 0, 0] : Fin 4 → ℕ) a + (![1, 1, m, n] : Fin 4 → ℕ) a ≤ (⟨4, ![2, 2, m, n]⟩ : Shape).size a)
    (h00 : ∀ a, (![0, 0, 0, 0] : Fin 4 → ℕ) a + (![1, 1, m, n] : Fin 4 → ℕ) a ≤ (⟨4, ![2, 2, m, n]⟩ : Shape).size a)
    (w11 w10 w01 w00 : (⟨4, ![1, 1, m, n]⟩ : Shape).Idx → Elt F e) (X : (⟨4, ![2, 2, m, n]⟩ : Shape).Idx → Elt F e)
    (e11 : ∀ r l, w11 (ix4 0 0 r l) = X (ix4 1 1 r l)) (e10 : ∀ r l, w10 (ix4 0 0 r l) = X (ix4 1 0 r l))
    (e01 : ∀ r l, w01 (ix4 0 0 r l) = X (ix4 0 1 r l)) (e00 : ∀ r l, w00 (ix4 0 0 r l) = X (ix4 0 0 r l)) :
    b.view.writes (Elt F) f [⟨Rect.unit (s := ⟨4, ![2, 2, m, n]⟩) ![1, 1, 0, 0] ![1, 1, m, n] h11, w11⟩, ⟨Rect.unit (s := ⟨4, ![2, 2, m, n]⟩) ![1, 0, 0, 0] ![1, 1, m, n] h10, w10⟩,
      ⟨Rect.unit (s := ⟨4, ![2, 2, m, n]⟩) ![0, 1, 0, 0] ![1, 1, m, n] h01, w01⟩, ⟨Rect.unit (s := ⟨4, ![2, 2, m, n]⟩) ![0, 0, 0, 0] ![1, 1, m, n] h00, w00⟩] = hb.unread X := by
  refine hb.eq_unread (funext fun y => View.read_writes_apply_of_pieces _ _ X _ ?_ y ?_)
  · simp only [List.forall_mem_cons]
    refine ⟨fun x => ?_, fun x => ?_, fun x => ?_, fun x => ?_, fun p hp => absurd hp List.not_mem_nil⟩
    all_goals
      obtain ⟨x0, x1, x2, x3, rfl⟩ : ∃ (x0 x1 : Fin 1) (x2 : Fin m) (x3 : Fin n), x = ix4 x0 x1 x2 x3 := ⟨x 0, x 1, x 2, x 3, funext fun a => by fin_cases a <;> rfl⟩
      obtain rfl : x0 = 0 := Subsingleton.elim _ _
      obtain rfl : x1 = 0 := Subsingleton.elim _ _
    · exact (e11 x2 x3).trans (congrArg X (funext fun a => Fin.ext (by rw [Rect.emb_apply]; fin_cases a <;> simp [Rect.unit, ix4])))
    · exact (e10 x2 x3).trans (congrArg X (funext fun a => Fin.ext (by rw [Rect.emb_apply]; fin_cases a <;> simp [Rect.unit, ix4])))
    · exact (e01 x2 x3).trans (congrArg X (funext fun a => Fin.ext (by rw [Rect.emb_apply]; fin_cases a <;> simp [Rect.unit, ix4])))
    · exact (e00 x2 x3).trans (congrArg X (funext fun a => Fin.ext (by rw [Rect.emb_apply]; fin_cases a <;> simp [Rect.unit, ix4])))
  · obtain ⟨y0, y1, y2, y3, rfl⟩ : ∃ (y0 y1 : Fin 2) (y2 : Fin m) (y3 : Fin n), y = ix4 y0 y1 y2 y3 := ⟨y 0, y 1, y 2, y 3, funext fun a => by fin_cases a <;> rfl⟩
    have key : ∀ (o : Fin 4 → ℕ) (h : ∀ a, o a + (![1, 1, m, n] : Fin 4 → ℕ) a ≤ (⟨4, ![2, 2, m, n]⟩ : Shape).size a),
        o = ![y0.val, y1.val, 0, 0] → (ix4 y0 y1 y2 y3 : (⟨4, ![2, 2, m, n]⟩ : Shape).Idx) ∈ (Rect.unit (s := ⟨4, ![2, 2, m, n]⟩) o ![1, 1, m, n] h).set := by
      rintro o h rfl
      have e : (Rect.unit (s := ⟨4, ![2, 2, m, n]⟩) ![y0.val, y1.val, 0, 0] ![1, 1, m, n] h).emb (ix4 0 0 y2 y3) = ix4 y0 y1 y2 y3 :=
        funext fun a => Fin.ext (by rw [Rect.emb_apply]; fin_cases a <;> simp [Rect.unit, ix4])
      rw [← e, ← Rect.map_emb_univ]
      exact Finset.mem_map_of_mem _ (Finset.mem_univ _)
    fin_cases y0 <;> fin_cases y1
    · exact ⟨_, .tail _ (.tail _ (.tail _ (.head _))), key _ h00 rfl⟩
    · exact ⟨_, .tail _ (.tail _ (.head _)), key _ h01 rfl⟩
    · exact ⟨_, .tail _ (.head _), key _ h10 rfl⟩
    · exact ⟨_, .head _, key _ h11 rfl⟩

/-- A block of the split keys, read at an offset computed on words. -/
theorem read_key (b : Memref sig .tc .vmem S2x32x256x128 e) (hb : b.IsWhole) (K : Vec F S2x32x256x128 e) (s : Fin 2) (j : Fin 32)
    (off : Fin 4 → ℕ) (hoff : off = ![s.val, j.val, 0, 0]) (h : ∀ a, off a + S1x1x256x128.size a ≤ S2x32x256x128.size a) (x : Fin 256) (l : Fin 128) :
    View.readAt (Elt F) b.view (Rect.unit (s := S2x32x256x128) off S1x1x256x128.size h).toLoadRect (hb.unread K) (ix4 0 0 x l) = K (ix4 s j x l) := by
  subst hoff
  rw [Memref.IsWhole.readAt_unread]
  exact congrArg K (funext fun a => Fin.ext (by fin_cases a <;> simp [Rect.unit, ix4]))

/-- An index of the split keys whose coordinates are an offset's, moved by a row and a lane. -/
theorem key_idx (K : Vec F S2x32x256x128 e) (s : Fin 2) (j : Fin 32) (off : Fin 4 → ℕ) (hoff : off = ![s.val, j.val, 0, 0]) (x : Fin 256) (l : Fin 128)
    (h0 : off 0 < 2) (h1 : off 1 < 32) (h2 : off 2 + x.val < 256) (h3 : off 3 + l.val < 128) :
    K (ix4 ⟨off 0, h0⟩ ⟨off 1, h1⟩ ⟨off 2 + x.val, h2⟩ ⟨off 3 + l.val, h3⟩) = K (ix4 s j x l) := by
  subst hoff
  exact congrArg K (funext fun a => Fin.ext (by fin_cases a <;> simp [ix4]))

/-- Two stores, one per half of the columns, leave the array they agree with. -/
theorem writes_cols (b : Memref sig .tc .vmem S256x256 e) (hb : b.IsWhole) (f : b.view.ty.Contents (Elt F))
    (h1 : ∀ a, (![0, 128] : Fin 2 → ℕ) a + (![256, 128] : Fin 2 → ℕ) a ≤ S256x256.size a)
    (h0 : ∀ a, (![0, 0] : Fin 2 → ℕ) a + (![256, 128] : Fin 2 → ℕ) a ≤ S256x256.size a)
    (w1 w0 : (⟨2, ![256, 128]⟩ : Shape).Idx → Elt F e) (X : S256x256.Idx → Elt F e)
    (e1 : ∀ (r : Fin 256) (l : Fin 128), w1 (ix2 r l) = X (ix2 r ⟨128 * 1 + l.val, by omega⟩)) (e0 : ∀ (r : Fin 256) (l : Fin 128), w0 (ix2 r l) = X (ix2 r ⟨128 * 0 + l.val, by omega⟩)) :
    b.view.writes (Elt F) f [⟨Rect.unit (s := S256x256) ![0, 128] ![256, 128] h1, w1⟩, ⟨Rect.unit (s := S256x256) ![0, 0] ![256, 128] h0, w0⟩] = hb.unread X := by
  refine hb.eq_unread (funext fun y => ?_)
  obtain ⟨y0, y1, rfl⟩ : ∃ (y0 y1 : Fin 256), y = ix2 y0 y1 := ⟨y 0, y 1, funext fun a => by fin_cases a <;> rfl⟩
  by_cases hs : 128 ≤ y1.val
  · have hl : y1.val - 128 < 128 := by have := y1.isLt; omega
    refine (View.read_writes_cons_unit_of_mem (off' := ![0, 128]) _ _ h1 w1 _ (ix2 y0 y1) (ix2 y0 ⟨y1.val - 128, hl⟩) rfl (Fin.forall_fin_two.mpr ⟨?_, ?_⟩)).trans
      ((e1 y0 ⟨y1.val - 128, hl⟩).trans (congrArg (fun z => X (ix2 y0 z)) (Fin.ext ?_)))
    · show y0.val = 0 + y0.val
      omega
    · show y1.val = 128 + (y1.val - 128)
      omega
    · show 128 * 1 + (y1.val - 128) = y1.val
      omega
  · have hl : y1.val < 128 := by omega
    rw [View.read_writes_cons_unit_of_not_mem (off' := ![0, 128]) _ _ h1 w1 _ (ix2 y0 y1) rfl 1 (Or.inl hl)]
    refine (View.read_writes_cons_unit_of_mem (off' := ![0, 0]) _ _ h0 w0 _ (ix2 y0 y1) (ix2 y0 ⟨y1.val, hl⟩) rfl (Fin.forall_fin_two.mpr ⟨?_, ?_⟩)).trans
      ((e0 y0 ⟨y1.val, hl⟩).trans (congrArg (fun z => X (ix2 y0 z)) (Fin.ext ?_)))
    · show y0.val = 0 + y0.val
      omega
    · show y1.val = 0 + y1.val
      omega
    · show 128 * 0 + y1.val = y1.val
      omega

end Cert.KernelIdeal.Hand
-- ==== Proof.Ideal.TripRun.lean ====
module

public import proofs.«01_k».proof.Proof.Ideal.Head
public import proofs.«01_k».proof.Proof.Ideal.Offs
public import proofs.«01_k».proof.Proof.Ideal.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (c : Dev nD) (i : grid0.Coords)
  (arg3 : Memref sig .tc .vmem S256x256 .bf16) (harg3 : arg3.IsWhole)
  (arg4 : Memref sig .tc .vmem S4096x256 .bf16) (harg4 : arg4.IsWhole)
  (arg5 : Memref sig .tc .vmem S4096x256 .bf16) (harg5 : arg5.IsWhole)
  (arg6 : Memref sig .tc .vmem S256x512 .bf16) (harg6 : arg6.IsWhole)
  (arg7 : Memref sig .tc .vmem S256x256 .bf16) (harg7 : arg7.IsWhole)
  (arg8 : Memref sig .tc .vmem S2x32x256x128 .bf16) (harg8 : arg8.IsWhole)
  (arg9 : Memref sig .tc .vmem S2x32x256x128 .bf16) (harg9 : arg9.IsWhole)
  (arg10 : Memref sig .tc .vmem S2x256x128 .f32) (harg10 : arg10.IsWhole)
  (arg11 : Memref sig .tc .vmem S2x256x256 .f32) (harg11 : arg11.IsWhole)
  (arg12 : Memref sig .tc .vmem S2x2x256x256 .f32) (harg12 : arg12.IsWhole)
  (arg13 : Memref sig .tc .vmem S2x2x256x256 .bf16) (harg13 : arg13.IsWhole)

/-- The log of the sigmoid of a score, as the kernel computes it. -/
def lbE (z : EReal) : EReal := min z 0 - Ideal.log (1 + FloatOps.exp2 (F := Ideal) (φ := .f32) (FloatOps.absf (F := Ideal) (φ := .f32) z * Named.named (F := Ideal) κ "neg_log2_e" 0xBFB8AA3B#32))

set_option maxHeartbeats 4000000 in
/-- One trip of the loop over the earlier pairs of key blocks: the sums take the earlier pair's weighted values, the running
    sums and weights take the scores kept, and the scores of the next pair are kept. -/
theorem trip_run (k : Fin (k0_t1_loop i).trips) (v16 v19 : FVec Ideal S256x128 .bf16) (v21 : FVec Ideal S256x512 .bf16) (v23 v24 c0 v254 : BitVec 32)
    (K8 V9 : Vec Ideal S2x32x256x128 .bf16) (A A' : Vec Ideal S2x256x128 .f32) (R R' : Vec Ideal S2x256x256 .f32) (Z Z' : Vec Ideal S2x2x256x256 .f32) (P P' : Vec Ideal S2x2x256x256 .bf16) (E : Set ℕ)
    (hA : ∀ (s : Fin 2) (r : Fin 256) (l : Fin 128), A' (ix3 s r l) = A (ix3 s r l) + (∑ x : Fin 256, P (ix4 s 0 r x) * V9 (ix4 s (jOf (i 2).val k.val 0) x l) + ∑ x : Fin 256, P (ix4 s 1 r x) * V9 (ix4 s (jOf (i 2).val k.val 1) x l)))
    (hR : ∀ (s : Fin 2) (r c : Fin 256), R' (ix3 s r c) = R (ix3 s r c) + ∑ x : Fin 256, (lbE (Z (ix4 s 0 r x)) - Z (ix4 s 0 r x)) * v21 (ix2 x ⟨256 + c.val, by omega⟩) + ∑ x : Fin 256, (lbE (Z (ix4 s 1 r x)) - Z (ix4 s 1 r x)) * v21 (ix2 x ⟨256 + c.val, by omega⟩))
    (hZ0 : ∀ (t : Fin 2) (r c : Fin 256), Z' (ix4 0 t r c) = ∑ l : Fin 128, v16 (ix2 r l) * K8 (ix4 0 (jOf (i 2).val (k.val + 2) t.val) c l))
    (hZ1 : ∀ (t : Fin 2) (r c : Fin 256), Z' (ix4 1 t r c) = ∑ l : Fin 128, v19 (ix2 r l) * K8 (ix4 1 (jOf (i 2).val (k.val + 2) t.val) c l))
    (hP0 : ∀ (s : Fin 2) (r c : Fin 256), P' (ix4 s 0 r c) = Ideal.exp (lbE (Z (ix4 s 0 r c)) + ∑ x : Fin 256, (lbE (Z (ix4 s 0 r x)) - Z (ix4 s 0 r x)) * v21 (ix2 x ⟨c.val, by omega⟩) + R (ix3 s r c)))
    (hP1 : ∀ (s : Fin 2) (r c : Fin 256), P' (ix4 s 1 r c) = Ideal.exp (lbE (Z (ix4 s 1 r c)) + ∑ x : Fin 256, (lbE (Z (ix4 s 1 r x)) - Z (ix4 s 1 r x)) * v21 (ix2 x ⟨c.val, by omega⟩) + (R (ix3 s r c) + ∑ x : Fin 256, (lbE (Z (ix4 s 0 r x)) - Z (ix4 s 0 r x)) * v21 (ix2 x ⟨256 + c.val, by omega⟩)))) :
    (iprop((arg8.view.loc (c : Thread nD τ) ↦[arg8.view.set]{fullShare} harg8.unread K8) ∗ (arg9.view.loc (c : Thread nD τ) ↦[arg9.view.set]{fullShare} harg9.unread V9) ∗ (arg10.view.loc (c : Thread nD τ) ↦[arg10.view.set]{fullShare} harg10.unread A) ∗ (arg11.view.loc (c : Thread nD τ) ↦[arg11.view.set]{fullShare} harg11.unread R) ∗ (arg12.view.loc (c : Thread nD τ) ↦[arg12.view.set]{fullShare} harg12.unread Z) ∗ (arg13.view.loc (c : Thread nD τ) ↦[arg13.view.set]{fullShare} harg13.unread P)) : sProp 𝕄)
      ⊢ wp frame (wpE (defs₀ (F := Ideal)) Variants.none (c : Thread nD τ) none) E (k0_t1_body (F := Ideal) i arg3 harg3 arg4 harg4 arg5 harg5 arg6 harg6 arg7 harg7 arg8 harg8 arg9 harg9 arg10 harg10 arg11 harg11 arg12 harg12 arg13 harg13 v16 v19 v21 v23 v24 c0 v254 k PUnit.unit)
        (fun _ => iprop((arg8.view.loc (c : Thread nD τ) ↦[arg8.view.set]{fullShare} harg8.unread K8) ∗ (arg9.view.loc (c : Thread nD τ) ↦[arg9.view.set]{fullShare} harg9.unread V9) ∗ (arg10.view.loc (c : Thread nD τ) ↦[arg10.view.set]{fullShare} harg10.unread A') ∗ (arg11.view.loc (c : Thread nD τ) ↦[arg11.view.set]{fullShare} harg11.unread R') ∗ (arg12.view.loc (c : Thread nD τ) ↦[arg12.view.set]{fullShare} harg12.unread Z') ∗ (arg13.view.loc (c : Thread nD τ) ↦[arg13.view.set]{fullShare} harg13.unread P'))) := by
  unfold k0_t1_body
  iintro ⟨H8, H9, H10, H11, H12, H13⟩
  sl_exec
  sl_step
  isplitl [H8]; iexact H8
  isplitl [H9]; iexact H9
  isplitl [H10]
  · rw [writes_two3 arg10 harg10 _ _ _ _ _ A' ?_ ?_]
    iexact H10
    all_goals
      intro r l
      sl_unfold_run_names
      pointwise [k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay486, Memref.IsWhole.readAt_unread]
      simp only [key_idx _ 0 (jOf (i 2).val k.val 0) _ (off11_eq i k), key_idx _ 0 (jOf (i 2).val k.val 1) _ (off12_eq i k), key_idx _ 1 (jOf (i 2).val k.val 0) _ (off15_eq i k), key_idx _ 1 (jOf (i 2).val k.val 1) _ (off16_eq i k)]
    · exact (hA 1 r l).symm
    · exact (hA 0 r l).symm
  isplitl [H11]
  · rw [writes_two3 arg11 harg11 _ _ _ _ _ R' ?_ ?_]
    iexact H11
    all_goals
      intro r l
      sl_unfold_run_names
      pointwise [k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay486, Memref.IsWhole.readAt_unread]
    · exact (hR 1 r l).symm
    · exact (hR 0 r l).symm
  isplitl [H12]
  · rw [writes_four arg12 harg12 _ _ _ _ _ _ _ _ _ Z' ?_ ?_ ?_ ?_]
    iexact H12
    all_goals
      intro r l
      sl_unfold_run_names
      pointwise [k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay486, Memref.IsWhole.readAt_unread]
      simp only [key_idx _ 0 (jOf (i 2).val (k.val + 2) 0) _ (off9_eq i k), key_idx _ 0 (jOf (i 2).val (k.val + 2) 1) _ (off10_eq i k), key_idx _ 1 (jOf (i 2).val (k.val + 2) 0) _ (off13_eq i k), key_idx _ 1 (jOf (i 2).val (k.val + 2) 1) _ (off14_eq i k)]
    · exact (hZ1 1 r l).symm
    · exact (hZ1 0 r l).symm
    · exact (hZ0 1 r l).symm
    · exact (hZ0 0 r l).symm
  · rw [writes_four arg13 harg13 _ _ _ _ _ _ _ _ _ P' ?_ ?_ ?_ ?_]
    iexact H13
    all_goals
      intro r l
      sl_unfold_run_names
      pointwise [k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay486, Memref.IsWhole.readAt_unread]
    · exact (hP1 1 r l).symm
    · exact (hP0 1 r l).symm
    · exact (hP1 0 r l).symm
    · exact (hP0 0 r l).symm

end Cert.KernelIdeal.Hand
-- ==== Proof.Ideal.Body.lean ====
module

public import proofs.«01_k».proof.Proof.Ideal.TripRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (c : Dev nD) (i : grid0.Coords)
  (arg3 : Memref sig .tc .vmem S256x256 .bf16) (harg3 : arg3.IsWhole)
  (arg4 : Memref sig .tc .vmem S4096x256 .bf16) (harg4 : arg4.IsWhole)
  (arg5 : Memref sig .tc .vmem S4096x256 .bf16) (harg5 : arg5.IsWhole)
  (arg6 : Memref sig .tc .vmem S256x512 .bf16) (harg6 : arg6.IsWhole)
  (arg7 : Memref sig .tc .vmem S256x256 .bf16) (harg7 : arg7.IsWhole)
  (arg8 : Memref sig .tc .vmem S2x32x256x128 .bf16) (harg8 : arg8.IsWhole)
  (arg9 : Memref sig .tc .vmem S2x32x256x128 .bf16) (harg9 : arg9.IsWhole)
  (arg10 : Memref sig .tc .vmem S2x256x128 .f32) (harg10 : arg10.IsWhole)
  (arg11 : Memref sig .tc .vmem S2x256x256 .f32) (harg11 : arg11.IsWhole)
  (arg12 : Memref sig .tc .vmem S2x2x256x256 .f32) (harg12 : arg12.IsWhole)
  (arg13 : Memref sig .tc .vmem S2x2x256x256 .bf16) (harg13 : arg13.IsWhole)

/-- A score: a query's product with a key, in a block of the split keys. -/
def sc (q : FVec Ideal S256x128 .bf16) (K8 : Vec Ideal S2x32x256x128 .bf16) (s : Fin 2) (j : Fin 32) (r x : Fin 256) : EReal := ∑ l : Fin 128, q (ix2 r l) * K8 (ix4 s j x l)

/-- Whether a key of a block is before a query, as the kernel tests it on words: `w` is the block's number. -/
def maskW (w : BitVec 32) (a r x : ℕ) : BitVec 1 :=
  IntOp.cmpi CmpIPredicate.slt (IntOp.addi (Scalar.muli w 128#32) (Scalar.select (IntOp.cmpi CmpIPredicate.sge (BitVec.ofNat 32 x) 128#32) (IntOp.subi (BitVec.ofNat 32 x) 128#32) (BitVec.ofNat 32 x)))
    (IntOp.addi (Scalar.muli (BitVec.ofNat 32 a) 256#32) (BitVec.ofNat 32 r))

/-- The test at the later block of the diagonal pair. -/
def mask0 (a r x : ℕ) : BitVec 1 := maskW (Scalar.addi (Scalar.muli (BitVec.ofNat 32 a) 2#32) 1#32) a r x

/-- The test at the earlier block of the diagonal pair. -/
def mask1 (a r x : ℕ) : BitVec 1 := maskW (Scalar.muli (BitVec.ofNat 32 a) 2#32) a r x

set_option maxHeartbeats 4000000 in
/-- The body, after its first part: every store leaves the array named by the recurrences. -/
theorem body_val (x3 : Vec Ideal S256x256 .bf16) (x4 x5 : Vec Ideal S4096x256 .bf16) (x6 : Vec Ideal S256x512 .bf16) (K8 V9 : Vec Ideal S2x32x256x128 .bf16)
    (v16 v19 : FVec Ideal S256x128 .bf16) (v21 : FVec Ideal S256x512 .bf16) (v27 : FVec Ideal S256x128 .bf16) (O : Vec Ideal S256x256 .bf16)
    (C7 : arg7.view.ty.Contents (Elt Ideal)) (C8 : arg8.view.ty.Contents (Elt Ideal)) (C9 : arg9.view.ty.Contents (Elt Ideal)) (C10 : arg10.view.ty.Contents (Elt Ideal)) (C11 : arg11.view.ty.Contents (Elt Ideal)) (C12 : arg12.view.ty.Contents (Elt Ideal)) (C13 : arg13.view.ty.Contents (Elt Ideal)) (E : Set ℕ)
    (A : ℕ → Vec Ideal S2x256x128 .f32) (R : ℕ → Vec Ideal S2x256x256 .f32) (Z : ℕ → Vec Ideal S2x2x256x256 .f32) (P : ℕ → Vec Ideal S2x2x256x256 .bf16)
    (hv27 : ∀ (x : Fin 256) (l : Fin 128), v27 (ix2 x l) = K8 (ix4 0 (jOf (i 2).val 0 0) x l))
    (hA0 : A 0 = k0_pay443 (F := Ideal))
    (hR : ∀ (s : Fin 2) (r c : Fin 256), R 0 (ix3 s r c) = (∑ x : Fin 256, Scalar.select (mask0 (i 2).val r.val x.val) ((lbE (sc (![v16, v19] s) K8 s (jOf (i 2).val 0 0) r x) - sc (![v16, v19] s) K8 s (jOf (i 2).val 0 0) r x) * v21 (ix2 x ⟨256 + c.val, by omega⟩)) 0)
        + ∑ x : Fin 256, Scalar.select (mask1 (i 2).val r.val x.val) ((lbE (sc (![v16, v19] s) K8 s (jOf (i 2).val 0 1) r x) - sc (![v16, v19] s) K8 s (jOf (i 2).val 0 1) r x) * v21 (ix2 x ⟨256 + c.val, by omega⟩)) 0)
    (hZ : ∀ (s t : Fin 2) (r c : Fin 256), Z 0 (ix4 s t r c) = sc (![v16, v19] s) K8 s (jOf (i 2).val 1 t.val) r c)
    (hP0 : ∀ (s : Fin 2) (r c : Fin 256), P 0 (ix4 s 0 r c) = Scalar.select (mask0 (i 2).val r.val c.val) (Ideal.exp (lbE (sc (![v16, v19] s) K8 s (jOf (i 2).val 0 0) r c)
        + ∑ x : Fin 256, Scalar.select (mask0 (i 2).val r.val x.val) ((lbE (sc (![v16, v19] s) K8 s (jOf (i 2).val 0 0) r x) - sc (![v16, v19] s) K8 s (jOf (i 2).val 0 0) r x) * v21 (ix2 x ⟨c.val, by omega⟩)) 0)) 0)
    (hP1 : ∀ (s : Fin 2) (r c : Fin 256), P 0 (ix4 s 1 r c) = Scalar.select (mask1 (i 2).val r.val c.val) (Ideal.exp (lbE (sc (![v16, v19] s) K8 s (jOf (i 2).val 0 1) r c)
        + (∑ x : Fin 256, Scalar.select (mask1 (i 2).val r.val x.val) ((lbE (sc (![v16, v19] s) K8 s (jOf (i 2).val 0 1) r x) - sc (![v16, v19] s) K8 s (jOf (i 2).val 0 1) r x) * v21 (ix2 x ⟨c.val, by omega⟩)) 0)
        + ∑ x : Fin 256, Scalar.select (mask0 (i 2).val r.val x.val) ((lbE (sc (![v16, v19] s) K8 s (jOf (i 2).val 0 0) r x) - sc (![v16, v19] s) K8 s (jOf (i 2).val 0 0) r x) * v21 (ix2 x ⟨256 + c.val, by omega⟩)) 0)) 0)
    (hAS : ∀ (k : Fin (k0_t1_loop i).trips) (s : Fin 2) (r : Fin 256) (l : Fin 128), A (k + 1) (ix3 s r l) = A k (ix3 s r l) + (∑ x : Fin 256, P k (ix4 s 0 r x) * V9 (ix4 s (jOf (i 2).val k.val 0) x l) + ∑ x : Fin 256, P k (ix4 s 1 r x) * V9 (ix4 s (jOf (i 2).val k.val 1) x l)))
    (hRS : ∀ (k : Fin (k0_t1_loop i).trips) (s : Fin 2) (r c : Fin 256), R (k + 1) (ix3 s r c) = R k (ix3 s r c) + ∑ x : Fin 256, (lbE (Z k (ix4 s 0 r x)) - Z k (ix4 s 0 r x)) * v21 (ix2 x ⟨256 + c.val, by omega⟩) + ∑ x : Fin 256, (lbE (Z k (ix4 s 1 r x)) - Z k (ix4 s 1 r x)) * v21 (ix2 x ⟨256 + c.val, by omega⟩))
    (hZS : ∀ (k : Fin (k0_t1_loop i).trips) (s t : Fin 2) (r c : Fin 256), Z (k + 1) (ix4 s t r c) = sc (![v16, v19] s) K8 s (jOf (i 2).val (k.val + 2) t.val) r c)
    (hP0S : ∀ (k : Fin (k0_t1_loop i).trips) (s : Fin 2) (r c : Fin 256), P (k + 1) (ix4 s 0 r c) = Ideal.exp (lbE (Z k (ix4 s 0 r c)) + ∑ x : Fin 256, (lbE (Z k (ix4 s 0 r x)) - Z k (ix4 s 0 r x)) * v21 (ix2 x ⟨c.val, by omega⟩) + R k (ix3 s r c)))
    (hP1S : ∀ (k : Fin (k0_t1_loop i).trips) (s : Fin 2) (r c : Fin 256), P (k + 1) (ix4 s 1 r c) = Ideal.exp (lbE (Z k (ix4 s 1 r c)) + ∑ x : Fin 256, (lbE (Z k (ix4 s 1 r x)) - Z k (ix4 s 1 r x)) * v21 (ix2 x ⟨c.val, by omega⟩) + (R k (ix3 s r c) + ∑ x : Fin 256, (lbE (Z k (ix4 s 0 r x)) - Z k (ix4 s 0 r x)) * v21 (ix2 x ⟨256 + c.val, by omega⟩))))
    (hO : ∀ (s : Fin 2) (r : Fin 256) (l : Fin 128), O (ix2 r ⟨128 * s.val + l.val, by omega⟩) = A (i 2).val (ix3 s r l) + (∑ x : Fin 256, P (i 2).val (ix4 s 0 r x) * V9 (ix4 s 1 x l) + ∑ x : Fin 256, P (i 2).val (ix4 s 1 r x) * V9 (ix4 s 0 x l)))
    (hcut : ∀ (f10 : arg10.view.ty.Contents (Elt Ideal)) (f11 : arg11.view.ty.Contents (Elt Ideal)), (iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg8.view.loc (c : Thread nD τ) ↦[arg8.view.set]{fullShare} C8) ∗ (arg9.view.loc (c : Thread nD τ) ↦[arg9.view.set]{fullShare} C9) ∗ (arg10.view.loc (c : Thread nD τ) ↦[arg10.view.set]{fullShare} f10) ∗ (arg11.view.loc (c : Thread nD τ) ↦[arg11.view.set]{fullShare} f11)) : sProp 𝕄)
      ⊢ wp frame (wpE (defs₀ (F := Ideal)) Variants.none (c : Thread nD τ) none) E (k0_part69 i arg3 harg3 arg4 harg4 arg5 harg5 arg6 harg6 arg7 harg7 arg8 harg8 arg9 harg9 arg10 harg10 arg11 harg11 arg12 harg12 arg13 harg13)
        (fun r => iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg8.view.loc (c : Thread nD τ) ↦[arg8.view.set]{fullShare} harg8.unread K8) ∗ (arg9.view.loc (c : Thread nD τ) ↦[arg9.view.set]{fullShare} harg9.unread V9) ∗ (arg10.view.loc (c : Thread nD τ) ↦[arg10.view.set]{fullShare} harg10.unread (k0_pay443 (F := Ideal))) ∗ (arg11.view.loc (c : Thread nD τ) ↦[arg11.view.set]{fullShare} harg11.unread (k0_pay444 (F := Ideal))) ∗ ⌜r = ⟨BitVec.ofNat 32 (i 2).val, v16, v19, v21, Scalar.addi (Scalar.muli (BitVec.ofNat 32 (i 2).val) 2#32) 1#32, Scalar.muli (BitVec.ofNat 32 (i 2).val) 2#32, v27, constant S256x256 .f32 0x00000000#32⟩⌝))) (K : PUnit → sProp 𝕄) :
    (iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} C7) ∗ (arg8.view.loc (c : Thread nD τ) ↦[arg8.view.set]{fullShare} C8) ∗ (arg9.view.loc (c : Thread nD τ) ↦[arg9.view.set]{fullShare} C9) ∗ (arg10.view.loc (c : Thread nD τ) ↦[arg10.view.set]{fullShare} C10) ∗ (arg11.view.loc (c : Thread nD τ) ↦[arg11.view.set]{fullShare} C11) ∗ (arg12.view.loc (c : Thread nD τ) ↦[arg12.view.set]{fullShare} C12) ∗ (arg13.view.loc (c : Thread nD τ) ↦[arg13.view.set]{fullShare} C13) ∗ (iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread O) ∗ (arg8.view.loc (c : Thread nD τ) ↦[arg8.view.set]{fullShare} harg8.unread K8) ∗ (arg9.view.loc (c : Thread nD τ) ↦[arg9.view.set]{fullShare} harg9.unread V9) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f))) -∗ K ⟨⟩)) : sProp 𝕄)
      ⊢ wp frame (wpE (defs₀ (F := Ideal)) Variants.none (c : Thread nD τ) none) E (cc0_sb_attention (F := Ideal) i arg3 harg3 arg4 harg4 arg5 harg5 arg6 harg6 arg7 harg7 arg8 harg8 arg9 harg9 arg10 harg10 arg11 harg11 arg12 harg12 arg13 harg13) K := by
  simp only [cc0_sb_attention_eq_skeleton]; unfold cc0_sb_attention_skel
  iintro ⟨H3, H4, H5, H6, H7, H8, H9, H10, H11, H12, H13, Hk⟩
  set_option sl_exec.stopBefore "k0_part76" in sl_exec
  cases hk0_part69_8
  rw [writes_two3 arg11 harg11 _ _ _ _ _ (R 0) ?_ ?_]
  rotate_left
  · intro r l
    sl_unfold_run_names
    pointwise [k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay443, k0_pay444, k0_pay488, k0_pay489, k0_pay490, k0_pay1, Memref.IsWhole.readAt_unread]
    try simp only [hv27, key_idx _ 0 (jOf (i 2).val 0 1) _ (off2_eq i), key_idx _ 0 (jOf (i 2).val 1 0) _ (off3_eq i), key_idx _ 0 (jOf (i 2).val 1 1) _ (off4_eq i), key_idx _ 1 (jOf (i 2).val 0 0) _ (off5_eq i), key_idx _ 1 (jOf (i 2).val 0 1) _ (off6_eq i), key_idx _ 1 (jOf (i 2).val 1 0) _ (off7_eq i), key_idx _ 1 (jOf (i 2).val 1 1) _ (off8_eq i)]
    exact (hR 1 r l).symm
  · intro r l
    sl_unfold_run_names
    pointwise [k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay443, k0_pay444, k0_pay488, k0_pay489, k0_pay490, k0_pay1, Memref.IsWhole.readAt_unread]
    try simp only [hv27, key_idx _ 0 (jOf (i 2).val 0 1) _ (off2_eq i), key_idx _ 0 (jOf (i 2).val 1 0) _ (off3_eq i), key_idx _ 0 (jOf (i 2).val 1 1) _ (off4_eq i), key_idx _ 1 (jOf (i 2).val 0 0) _ (off5_eq i), key_idx _ 1 (jOf (i 2).val 0 1) _ (off6_eq i), key_idx _ 1 (jOf (i 2).val 1 0) _ (off7_eq i), key_idx _ 1 (jOf (i 2).val 1 1) _ (off8_eq i)]
    exact (hR 0 r l).symm
  rw [writes_four arg12 harg12 _ _ _ _ _ _ _ _ _ (Z 0) ?_ ?_ ?_ ?_]
  rotate_left
  · intro r l
    sl_unfold_run_names
    pointwise [k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay443, k0_pay444, k0_pay488, k0_pay489, k0_pay490, k0_pay1, Memref.IsWhole.readAt_unread]
    try simp only [hv27, key_idx _ 0 (jOf (i 2).val 0 1) _ (off2_eq i), key_idx _ 0 (jOf (i 2).val 1 0) _ (off3_eq i), key_idx _ 0 (jOf (i 2).val 1 1) _ (off4_eq i), key_idx _ 1 (jOf (i 2).val 0 0) _ (off5_eq i), key_idx _ 1 (jOf (i 2).val 0 1) _ (off6_eq i), key_idx _ 1 (jOf (i 2).val 1 0) _ (off7_eq i), key_idx _ 1 (jOf (i 2).val 1 1) _ (off8_eq i)]
    exact (hZ 1 1 r l).symm
  · intro r l
    sl_unfold_run_names
    pointwise [k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay443, k0_pay444, k0_pay488, k0_pay489, k0_pay490, k0_pay1, Memref.IsWhole.readAt_unread]
    try simp only [hv27, key_idx _ 0 (jOf (i 2).val 0 1) _ (off2_eq i), key_idx _ 0 (jOf (i 2).val 1 0) _ (off3_eq i), key_idx _ 0 (jOf (i 2).val 1 1) _ (off4_eq i), key_idx _ 1 (jOf (i 2).val 0 0) _ (off5_eq i), key_idx _ 1 (jOf (i 2).val 0 1) _ (off6_eq i), key_idx _ 1 (jOf (i 2).val 1 0) _ (off7_eq i), key_idx _ 1 (jOf (i 2).val 1 1) _ (off8_eq i)]
    exact (hZ 1 0 r l).symm
  · intro r l
    sl_unfold_run_names
    pointwise [k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay443, k0_pay444, k0_pay488, k0_pay489, k0_pay490, k0_pay1, Memref.IsWhole.readAt_unread]
    try simp only [hv27, key_idx _ 0 (jOf (i 2).val 0 1) _ (off2_eq i), key_idx _ 0 (jOf (i 2).val 1 0) _ (off3_eq i), key_idx _ 0 (jOf (i 2).val 1 1) _ (off4_eq i), key_idx _ 1 (jOf (i 2).val 0 0) _ (off5_eq i), key_idx _ 1 (jOf (i 2).val 0 1) _ (off6_eq i), key_idx _ 1 (jOf (i 2).val 1 0) _ (off7_eq i), key_idx _ 1 (jOf (i 2).val 1 1) _ (off8_eq i)]
    exact (hZ 0 1 r l).symm
  · intro r l
    sl_unfold_run_names
    pointwise [k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay443, k0_pay444, k0_pay488, k0_pay489, k0_pay490, k0_pay1, Memref.IsWhole.readAt_unread]
    try simp only [hv27, key_idx _ 0 (jOf (i 2).val 0 1) _ (off2_eq i), key_idx _ 0 (jOf (i 2).val 1 0) _ (off3_eq i), key_idx _ 0 (jOf (i 2).val 1 1) _ (off4_eq i), key_idx _ 1 (jOf (i 2).val 0 0) _ (off5_eq i), key_idx _ 1 (jOf (i 2).val 0 1) _ (off6_eq i), key_idx _ 1 (jOf (i 2).val 1 0) _ (off7_eq i), key_idx _ 1 (jOf (i 2).val 1 1) _ (off8_eq i)]
    exact (hZ 0 0 r l).symm
  rw [writes_four arg13 harg13 _ _ _ _ _ _ _ _ _ (P 0) ?_ ?_ ?_ ?_]
  rotate_left
  · intro r l
    sl_unfold_run_names
    pointwise [k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay443, k0_pay444, k0_pay488, k0_pay489, k0_pay490, k0_pay1, Memref.IsWhole.readAt_unread]
    try simp only [hv27, key_idx _ 0 (jOf (i 2).val 0 1) _ (off2_eq i), key_idx _ 0 (jOf (i 2).val 1 0) _ (off3_eq i), key_idx _ 0 (jOf (i 2).val 1 1) _ (off4_eq i), key_idx _ 1 (jOf (i 2).val 0 0) _ (off5_eq i), key_idx _ 1 (jOf (i 2).val 0 1) _ (off6_eq i), key_idx _ 1 (jOf (i 2).val 1 0) _ (off7_eq i), key_idx _ 1 (jOf (i 2).val 1 1) _ (off8_eq i)]
    exact (hP1 1 r l).symm
  · intro r l
    sl_unfold_run_names
    pointwise [k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay443, k0_pay444, k0_pay488, k0_pay489, k0_pay490, k0_pay1, Memref.IsWhole.readAt_unread]
    try simp only [hv27, key_idx _ 0 (jOf (i 2).val 0 1) _ (off2_eq i), key_idx _ 0 (jOf (i 2).val 1 0) _ (off3_eq i), key_idx _ 0 (jOf (i 2).val 1 1) _ (off4_eq i), key_idx _ 1 (jOf (i 2).val 0 0) _ (off5_eq i), key_idx _ 1 (jOf (i 2).val 0 1) _ (off6_eq i), key_idx _ 1 (jOf (i 2).val 1 0) _ (off7_eq i), key_idx _ 1 (jOf (i 2).val 1 1) _ (off8_eq i)]
    exact (hP0 1 r l).symm
  · intro r l
    sl_unfold_run_names
    pointwise [k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay443, k0_pay444, k0_pay488, k0_pay489, k0_pay490, k0_pay1, Memref.IsWhole.readAt_unread]
    try simp only [hv27, key_idx _ 0 (jOf (i 2).val 0 1) _ (off2_eq i), key_idx _ 0 (jOf (i 2).val 1 0) _ (off3_eq i), key_idx _ 0 (jOf (i 2).val 1 1) _ (off4_eq i), key_idx _ 1 (jOf (i 2).val 0 0) _ (off5_eq i), key_idx _ 1 (jOf (i 2).val 0 1) _ (off6_eq i), key_idx _ 1 (jOf (i 2).val 1 0) _ (off7_eq i), key_idx _ 1 (jOf (i 2).val 1 1) _ (off8_eq i)]
    exact (hP1 0 r l).symm
  · intro r l
    sl_unfold_run_names
    pointwise [k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay443, k0_pay444, k0_pay488, k0_pay489, k0_pay490, k0_pay1, Memref.IsWhole.readAt_unread]
    try simp only [hv27, key_idx _ 0 (jOf (i 2).val 0 1) _ (off2_eq i), key_idx _ 0 (jOf (i 2).val 1 0) _ (off3_eq i), key_idx _ 0 (jOf (i 2).val 1 1) _ (off4_eq i), key_idx _ 1 (jOf (i 2).val 0 0) _ (off5_eq i), key_idx _ 1 (jOf (i 2).val 0 1) _ (off6_eq i), key_idx _ 1 (jOf (i 2).val 1 0) _ (off7_eq i), key_idx _ 1 (jOf (i 2).val 1 1) _ (off8_eq i)]
    exact (hP0 0 r l).symm
  rw [show k0_pay443 (F := Ideal) = A 0 from hA0.symm]
  simp only [k0_part76_eq_skeleton]; unfold k0_part76_skel; simp only [Prog.bind_assoc]
  sl_for (fun k _ => iprop((arg8.view.loc (c : Thread nD τ) ↦[arg8.view.set]{fullShare} harg8.unread K8) ∗ (arg9.view.loc (c : Thread nD τ) ↦[arg9.view.set]{fullShare} harg9.unread V9) ∗ (arg10.view.loc (c : Thread nD τ) ↦[arg10.view.set]{fullShare} harg10.unread (A k)) ∗ (arg11.view.loc (c : Thread nD τ) ↦[arg11.view.set]{fullShare} harg11.unread (R k)) ∗ (arg12.view.loc (c : Thread nD τ) ↦[arg12.view.set]{fullShare} harg12.unread (Z k)) ∗ (arg13.view.loc (c : Thread nD τ) ↦[arg13.view.set]{fullShare} harg13.unread (P k)))) $$ [Hk0_part69_4 Hk0_part69_5 Hk0_part69_6 Hk0_part69_7 H12 H13]
  · intro k acc
    exact trip_run c i arg3 harg3 arg4 harg4 arg5 harg5 arg6 harg6 arg7 harg7 arg8 harg8 arg9 harg9 arg10 harg10 arg11 harg11 arg12 harg12 arg13 harg13 k v16 v19 v21 _ _ _ _ K8 V9 (A k) (A (k + 1)) (R k) (R (k + 1)) (Z k) (Z (k + 1)) (P k) (P (k + 1)) E
      (hAS k) (hRS k) (hZS k 0) (hZS k 1) (hP0S k) (hP1S k)
  · sl_close
  iintro %acc HI
  icases HI with ⟨H8, H9, H10, H11, H12, H13⟩
  rw [show Scf.trips (k0_t1_loop i).lb (k0_t1_loop i).ub (k0_t1_loop i).st = (i 2).val from trips1 i]
  sl_for (fun _ _ => iprop((arg8.view.loc (c : Thread nD τ) ↦[arg8.view.set]{fullShare} harg8.unread K8) ∗ (arg9.view.loc (c : Thread nD τ) ↦[arg9.view.set]{fullShare} harg9.unread V9) ∗ (arg10.view.loc (c : Thread nD τ) ↦[arg10.view.set]{fullShare} harg10.unread (A (i 2).val)) ∗ (arg11.view.loc (c : Thread nD τ) ↦[arg11.view.set]{fullShare} harg11.unread (R (i 2).val)) ∗ (arg12.view.loc (c : Thread nD τ) ↦[arg12.view.set]{fullShare} harg12.unread (Z (i 2).val)) ∗ (arg13.view.loc (c : Thread nD τ) ↦[arg13.view.set]{fullShare} harg13.unread (P (i 2).val)))) $$ [H8 H9 H10 H11 H12 H13]
  · intro k acc
    exact absurd (lt_of_lt_of_eq k.isLt (trips2 i)) (Nat.not_lt_zero _)
  · sl_close
  iintro %acc' HI
  icases HI with ⟨H8, H9, H10, H11, H12, H13⟩
  sl_exec
  sl_step
  rw [writes_cols arg7 harg7 _ _ _ _ _ O ?_ ?_]
  rotate_left
  · intro r l
    sl_unfold_run_names
    pointwise [k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay443, k0_pay444, k0_pay488, k0_pay489, k0_pay490, k0_pay1, Memref.IsWhole.readAt_unread]
    try simp only [hv27, key_idx _ 0 (jOf (i 2).val 0 1) _ (off2_eq i), key_idx _ 0 (jOf (i 2).val 1 0) _ (off3_eq i), key_idx _ 0 (jOf (i 2).val 1 1) _ (off4_eq i), key_idx _ 1 (jOf (i 2).val 0 0) _ (off5_eq i), key_idx _ 1 (jOf (i 2).val 0 1) _ (off6_eq i), key_idx _ 1 (jOf (i 2).val 1 0) _ (off7_eq i), key_idx _ 1 (jOf (i 2).val 1 1) _ (off8_eq i)]
    exact (hO 1 r l).symm.trans (congrArg (fun z => O (ix2 r z)) (Fin.ext (by simp)))
  · intro r l
    sl_unfold_run_names
    pointwise [k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay443, k0_pay444, k0_pay488, k0_pay489, k0_pay490, k0_pay1, Memref.IsWhole.readAt_unread]
    try simp only [hv27, key_idx _ 0 (jOf (i 2).val 0 1) _ (off2_eq i), key_idx _ 0 (jOf (i 2).val 1 0) _ (off3_eq i), key_idx _ 0 (jOf (i 2).val 1 1) _ (off4_eq i), key_idx _ 1 (jOf (i 2).val 0 0) _ (off5_eq i), key_idx _ 1 (jOf (i 2).val 0 1) _ (off6_eq i), key_idx _ 1 (jOf (i 2).val 1 0) _ (off7_eq i), key_idx _ 1 (jOf (i 2).val 1 1) _ (off8_eq i)]
    exact (hO 0 r l).symm.trans (congrArg (fun z => O (ix2 r z)) (Fin.ext (by simp)))
  iapply Hk
  sl_close

end Cert.KernelIdeal.Hand
-- ==== Proof.Ideal.Math.lean ====
module

public import proofs.«01_k».proof.Proof.Ideal.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- Two numbers under two to the thirty-first compare as words as they do as numbers. -/
theorem slt_word (m n : ℕ) (hm : m < 2 ^ 31) (hn : n < 2 ^ 31) : (BitVec.ofNat 32 m).slt (BitVec.ofNat 32 n) = decide (m < n) := by
  simp only [BitVec.slt, BitVec.toInt_eq_toNat_cond, BitVec.toNat_ofNat]
  rw [Nat.mod_eq_of_lt (by omega), Nat.mod_eq_of_lt (by omega), if_pos (by omega), if_pos (by omega)]
  simp

/-- The kernel's test on words, on numbers: a key of block `j` is before the query. -/
theorem maskW_eq (w : BitVec 32) (j a r x : ℕ) (hw : w = BitVec.ofNat 32 j) (hj : j < 32) (ha : a < 16) (hr : r < 256) (hx : x < 256) :
    maskW w a r x = if 128 * j + x % 128 < 256 * a + r then 1#1 else 0#1 := by
  subst hw
  have hcol : Scalar.select (IntOp.cmpi CmpIPredicate.sge (BitVec.ofNat 32 x) 128#32) (IntOp.subi (BitVec.ofNat 32 x) 128#32) (BitVec.ofNat 32 x) = BitVec.ofNat 32 (x % 128) := by
    have key : ∀ x : Fin 256, Scalar.select (IntOp.cmpi CmpIPredicate.sge (BitVec.ofNat 32 x.val) 128#32) (IntOp.subi (BitVec.ofNat 32 x.val) 128#32) (BitVec.ofNat 32 x.val) = BitVec.ofNat 32 (x.val % 128) := by decide +kernel
    exact key ⟨x, hx⟩
  unfold maskW
  rw [hcol]
  have e1 : IntOp.addi (Scalar.muli (BitVec.ofNat 32 j) 128#32) (BitVec.ofNat 32 (x % 128)) = BitVec.ofNat 32 (128 * j + x % 128) := by
    show BitVec.ofNat 32 j * BitVec.ofNat 32 128 + BitVec.ofNat 32 (x % 128) = _
    rw [← BitVec.ofNat_mul, ← BitVec.ofNat_add, Nat.mul_comm]
  have e2 : IntOp.addi (Scalar.muli (BitVec.ofNat 32 a) 256#32) (BitVec.ofNat 32 r) = BitVec.ofNat 32 (256 * a + r) := by
    show BitVec.ofNat 32 a * BitVec.ofNat 32 256 + BitVec.ofNat 32 r = _
    rw [← BitVec.ofNat_mul, ← BitVec.ofNat_add, Nat.mul_comm]
  rw [e1, e2]
  show BitVec.ofBool ((BitVec.ofNat 32 (128 * j + x % 128)).slt (BitVec.ofNat 32 (256 * a + r))) = _
  rw [slt_word _ _ (by omega) (by omega)]
  by_cases h : 128 * j + x % 128 < 256 * a + r <;> simp [h]

theorem mask0_eq (a r x : ℕ) (ha : a < 16) (hr : r < 256) (hx : x < 256) : mask0 a r x = if 128 * (jOf a 0 0).val + x % 128 < 256 * a + r then 1#1 else 0#1 :=
  maskW_eq _ _ a r x (by
    have key : ∀ a : Fin 16, Scalar.addi (Scalar.muli (BitVec.ofNat 32 a.val) 2#32) 1#32 = BitVec.ofNat 32 (jOf a.val 0 0).val := by decide +kernel
    exact key ⟨a, ha⟩) (jOf a 0 0).isLt ha hr hx

theorem mask1_eq (a r x : ℕ) (ha : a < 16) (hr : r < 256) (hx : x < 256) : mask1 a r x = if 128 * (jOf a 0 1).val + x % 128 < 256 * a + r then 1#1 else 0#1 :=
  maskW_eq _ _ a r x (by
    have key : ∀ a : Fin 16, Scalar.muli (BitVec.ofNat 32 a.val) 2#32 = BitVec.ofNat 32 (jOf a.val 0 1).val := by decide +kernel
    exact key ⟨a, ha⟩) (jOf a 0 1).isLt ha hr hx

/-- A sum over the 256 columns of a block, two heads of 128 keys, over the keys and the heads. -/
theorem tileV (F : ℕ → ℕ → EReal) (j : ℕ) : ∑ x : Fin 256, F (x.val / 128) (128 * j + x.val % 128) = ∑ K ∈ Finset.Ico (128 * j) (128 * j + 128), ∑ h ∈ Finset.range 2, F h K := by
  rw [Fin.sum_univ_eq_sum_range (fun x => F (x / 128) (128 * j + x % 128)) 256, Finset.sum_range_add (fun x => F (x / 128) (128 * j + x % 128)) 128 128, ← Finset.sum_add_distrib,
    Finset.sum_Ico_eq_sum_range, show 128 * j + 128 - 128 * j = 128 by omega]
  refine Finset.sum_congr rfl fun y hy => ?_
  have hy' : y < 128 := Finset.mem_range.mp hy
  rw [Finset.sum_range_succ, Finset.sum_range_one, show y / 128 = 0 by omega, show y % 128 = y by omega, show (128 + y) / 128 = 1 by omega, show (128 + y) % 128 = y by omega]

/-- What the triangle matrix holds: the two heads' strict lower triangles, then their squares of ones. -/
def IsTri (v21 : FVec Ideal S256x512 .bf16) : Prop :=
  (∀ x c : Fin 256, v21 (ix2 x ⟨c.val, by omega⟩) = if x.val / 128 = c.val / 128 ∧ c.val % 128 < x.val % 128 then (1 : EReal) else 0)
    ∧ (∀ x c : Fin 256, v21 (ix2 x ⟨256 + c.val, by omega⟩) = if x.val / 128 = c.val / 128 then (1 : EReal) else 0)

/-- A block's product with a triangle: the sum over the later keys of the block, in the column's head. -/
theorem tileC (v21 : FVec Ideal S256x512 .bf16) (h : IsTri v21) (G : ℕ → ℕ → EReal) (j : ℕ) (c : Fin 256) :
    ∑ x : Fin 256, G (x.val / 128) (128 * j + x.val % 128) * v21 (ix2 x ⟨c.val, by omega⟩) = ∑ K ∈ Finset.Ico (128 * j + c.val % 128 + 1) (128 * j + 128), G (c.val / 128) K := by
  simp only [h.1]
  have e : ∀ x : Fin 256, G (x.val / 128) (128 * j + x.val % 128) * (if x.val / 128 = c.val / 128 ∧ c.val % 128 < x.val % 128 then (1 : EReal) else 0)
      = (fun hd K => if hd = c.val / 128 ∧ 128 * j + c.val % 128 < K then G hd K else 0) (x.val / 128) (128 * j + x.val % 128) := fun x => by
    by_cases h : x.val / 128 = c.val / 128 ∧ c.val % 128 < x.val % 128
    · simp [h]
    · have h' : ¬(x.val / 128 = c.val / 128 ∧ 128 * j + c.val % 128 < 128 * j + x.val % 128) := fun hh => h ⟨hh.1, by omega⟩
      simp only [if_neg h, if_neg h', mul_zero]
  rw [Finset.sum_congr rfl fun x _ => e x]
  refine (tileV (fun hd K => if hd = c.val / 128 ∧ 128 * j + c.val % 128 < K then G hd K else 0) j).trans ?_
  have e2 : ∀ K, ∑ hd ∈ Finset.range 2, (if hd = c.val / 128 ∧ 128 * j + c.val % 128 < K then G hd K else 0) = if 128 * j + c.val % 128 < K then G (c.val / 128) K else 0 := fun K => by
    rw [Finset.sum_eq_single_of_mem (c.val / 128) (Finset.mem_range.mpr (by omega)) (fun b _ hb => by simp [hb])]
    simp
  rw [Finset.sum_congr rfl fun K _ => e2 K, ← Finset.sum_filter]
  refine Finset.sum_congr (Finset.ext fun K => ?_) fun _ _ => rfl
  simp only [Finset.mem_filter, Finset.mem_Ico]
  omega

/-- A block's product with a square of ones: the sum over the keys of the block, in the column's head. -/
theorem tileT (v21 : FVec Ideal S256x512 .bf16) (h : IsTri v21) (G : ℕ → ℕ → EReal) (j : ℕ) (c : Fin 256) :
    ∑ x : Fin 256, G (x.val / 128) (128 * j + x.val % 128) * v21 (ix2 x ⟨256 + c.val, by omega⟩) = ∑ K ∈ Finset.Ico (128 * j) (128 * j + 128), G (c.val / 128) K := by
  simp only [h.2]
  have e : ∀ x : Fin 256, G (x.val / 128) (128 * j + x.val % 128) * (if x.val / 128 = c.val / 128 then (1 : EReal) else 0)
      = (fun hd K => if hd = c.val / 128 then G hd K else 0) (x.val / 128) (128 * j + x.val % 128) := fun x => by
    by_cases h : x.val / 128 = c.val / 128
    · simp [h]
    · simp only [if_neg h, mul_zero]
  rw [Finset.sum_congr rfl fun x _ => e x]
  refine (tileV (fun hd K => if hd = c.val / 128 then G hd K else 0) j).trans ?_
  refine Finset.sum_congr rfl fun K _ => ?_
  rw [Finset.sum_eq_single_of_mem (c.val / 128) (Finset.mem_range.mpr (by omega)) (fun b _ hb => by simp [hb])]
  simp

variable (a : ℕ) (q : Fin 2 → FVec Ideal S256x128 .bf16) (K8 V9 : Vec Ideal S2x32x256x128 .bf16)

/-- The score of a query of the block with key `K`, in head `h` of stream `s`. -/
def sK (s : Fin 2) (r : Fin 256) (h K : ℕ) : EReal := sc (q s) K8 s (Fin.ofNat 32 (K / 128)) r (Fin.ofNat 256 (128 * h + K % 128))

/-- The log of what key `K` leaves to the earlier keys; zero where the key is not before the query. -/
def gK (s : Fin 2) (r : Fin 256) (h K : ℕ) : EReal := if K < 256 * a + r.val then lbE (sK q K8 s r h K) - sK q K8 s r h K else 0

/-- The sum of those logs from key `x` on. -/
def lK (s : Fin 2) (r : Fin 256) (h x : ℕ) : EReal := ∑ K ∈ Finset.Ico x (256 * a + 256), gK a q K8 s r h K

/-- The weight of key `K`. -/
def wK (s : Fin 2) (r : Fin 256) (h K : ℕ) : EReal := if K < 256 * a + r.val then Ideal.exp (lbE (sK q K8 s r h K) + lK a q K8 s r h (K + 1)) else 0

/-- A value of key `K`, in the rows of head `h`. -/
def vK (s : Fin 2) (l : Fin 128) (h K : ℕ) : EReal := V9 (ix4 s (Fin.ofNat 32 (K / 128)) (Fin.ofNat 256 (128 * h + K % 128)) l)

/-- The block's sums before trip `n`, the running sums, the kept scores and the kept weights. -/
def stA (n : ℕ) : Vec Ideal S2x256x128 .f32 := fun y => ∑ K ∈ Finset.Ico (256 * a + 256 - 256 * n) (256 * a + 256), ∑ h ∈ Finset.range 2, wK a q K8 (y 0) (y 1) h K * vK V9 (y 0) (y 2) h K
def stR (n : ℕ) : Vec Ideal S2x256x256 .f32 := fun y => lK a q K8 (y 0) (y 1) ((y 2).val / 128) (256 * a - 256 * n)
def stZ (n : ℕ) : Vec Ideal S2x2x256x256 .f32 := fun y => sc (q (y 0)) K8 (y 0) (jOf a (n + 1) (y 1).val) (y 2) (y 3)
def stP (n : ℕ) : Vec Ideal S2x2x256x256 .bf16 := fun y => wK a q K8 (y 0) (y 2) ((y 3).val / 128) (128 * (jOf a n (y 1).val).val + (y 3).val % 128)

/-- What the body stores. -/
def outK : Vec Ideal S256x256 .bf16 := fun y => ∑ K ∈ Finset.range (256 * a + 256), ∑ h ∈ Finset.range 2,
  wK a q K8 (Fin.ofNat 2 ((y 1).val / 128)) (y 0) h K * vK V9 (Fin.ofNat 2 ((y 1).val / 128)) (Fin.ofNat 128 ((y 1).val % 128)) h K

/-- A tile's column is a key of a head. -/
theorem ofTile (j : Fin 32) (x : Fin 256) : (Fin.ofNat 32 ((128 * j.val + x.val % 128) / 128) = j) ∧ (Fin.ofNat 256 (128 * (x.val / 128) + (128 * j.val + x.val % 128) % 128) = x) :=
  ⟨Fin.ext (by show _ % 32 = _; omega), Fin.ext (by show _ % 256 = _; omega)⟩

theorem sc_tile (s : Fin 2) (j : Fin 32) (r x : Fin 256) : sc (q s) K8 s j r x = sK q K8 s r (x.val / 128) (128 * j.val + x.val % 128) := by
  unfold sK
  rw [(ofTile j x).1, (ofTile j x).2]

theorem v_tile (s : Fin 2) (j : Fin 32) (x : Fin 256) (l : Fin 128) : V9 (ix4 s j x l) = vK V9 s l (x.val / 128) (128 * j.val + x.val % 128) := by
  unfold vK
  rw [(ofTile j x).1, (ofTile j x).2]

/-- The weighted values of a block of keys. -/
theorem pv_tile (n : ℕ) (s t : Fin 2) (u : ℕ) (hu : t.val = u) (r : Fin 256) (l : Fin 128) (j : Fin 32) (hj : j = jOf a n u) :
    ∑ x : Fin 256, stP a q K8 n (ix4 s t r x) * V9 (ix4 s j x l)
      = ∑ K ∈ Finset.Ico (128 * (jOf a n u).val) (128 * (jOf a n u).val + 128), ∑ h ∈ Finset.range 2, wK a q K8 s r h K * vK V9 s l h K := by
  subst hj hu
  refine Eq.trans ?_ (tileV (fun h K => wK a q K8 s r h K * vK V9 s l h K) _)
  exact Finset.sum_congr rfl fun x _ => by rw [v_tile V9 s _ x l]; rfl

/-- A block below the diagonal: every key is before every query. -/
theorem g_tile (s : Fin 2) (j : Fin 32) (r x : Fin 256) (h : 128 * j.val + 128 ≤ 256 * a) :
    lbE (sc (q s) K8 s j r x) - sc (q s) K8 s j r x = gK a q K8 s r (x.val / 128) (128 * j.val + x.val % 128) := by
  rw [sc_tile, gK, if_pos (by omega)]

/-- A block of the diagonal pair. -/
theorem m_tile (s : Fin 2) (j : Fin 32) (r x : Fin 256) (y : EReal) (m : BitVec 1) (h : m = if 128 * j.val + x.val % 128 < 256 * a + r.val then 1#1 else 0#1) :
    Scalar.select m ((lbE (sc (q s) K8 s j r x) - sc (q s) K8 s j r x) * y) 0 = gK a q K8 s r (x.val / 128) (128 * j.val + x.val % 128) * y := by
  rw [sc_tile, gK, h]
  by_cases hc : 128 * j.val + x.val % 128 < 256 * a + r.val
  · rw [if_pos hc, if_pos hc]; rfl
  · rw [if_neg hc, if_neg hc, zero_mul]; rfl

variable (v21 : FVec Ideal S256x512 .bf16) (htri : IsTri v21) (ha : a < 16)
include htri ha

/-- The sums of the logs, joined. -/
theorem lK_join (s : Fin 2) (r : Fin 256) (h x y : ℕ) (hxy : x ≤ y) (hy : y ≤ 256 * a + 256) : (∑ K ∈ Finset.Ico x y, gK a q K8 s r h K) + lK a q K8 s r h y = lK a q K8 s r h x :=
  Finset.sum_Ico_consecutive _ hxy hy

theorem stR_zero (s : Fin 2) (r c : Fin 256) : stR a q K8 0 (ix3 s r c)
    = (∑ x : Fin 256, Scalar.select (mask0 a r.val x.val) ((lbE (sc (q s) K8 s (jOf a 0 0) r x) - sc (q s) K8 s (jOf a 0 0) r x) * v21 (ix2 x ⟨256 + c.val, by omega⟩)) 0)
        + ∑ x : Fin 256, Scalar.select (mask1 a r.val x.val) ((lbE (sc (q s) K8 s (jOf a 0 1) r x) - sc (q s) K8 s (jOf a 0 1) r x) * v21 (ix2 x ⟨256 + c.val, by omega⟩)) 0 := by
  rw [Finset.sum_congr rfl fun x _ => m_tile a q K8 s (jOf a 0 0) r x _ _ (mask0_eq a r.val x.val ha r.isLt x.isLt),
    Finset.sum_congr rfl fun x _ => m_tile a q K8 s (jOf a 0 1) r x _ _ (mask1_eq a r.val x.val ha r.isLt x.isLt),
    tileT v21 htri (gK a q K8 s r), tileT v21 htri (gK a q K8 s r), jOf_val a 0 0 ha, jOf_val a 0 1 ha, add_comm]
  show ∑ K ∈ Finset.Ico (256 * a - 256 * 0) (256 * a + 256), gK a q K8 s r (c.val / 128) K = _
  rw [show 128 * (2 * a + 1 - 0 - 2 * 0) = 128 * (2 * a + 1 - 1 - 2 * 0) + 128 by omega, Finset.sum_Ico_consecutive _ (by omega) (by omega)]
  congr 2 <;> omega

theorem stP_zero0 (s : Fin 2) (r c : Fin 256) : stP a q K8 0 (ix4 s 0 r c) = Scalar.select (mask0 a r.val c.val) (Ideal.exp (lbE (sc (q s) K8 s (jOf a 0 0) r c)
        + ∑ x : Fin 256, Scalar.select (mask0 a r.val x.val) ((lbE (sc (q s) K8 s (jOf a 0 0) r x) - sc (q s) K8 s (jOf a 0 0) r x) * v21 (ix2 x ⟨c.val, by omega⟩)) 0)) 0 := by
  rw [Finset.sum_congr rfl fun x _ => m_tile a q K8 s (jOf a 0 0) r x _ _ (mask0_eq a r.val x.val ha r.isLt x.isLt),
    tileC v21 htri (gK a q K8 s r), sc_tile, mask0_eq a r.val c.val ha r.isLt c.isLt]
  show wK a q K8 s r (c.val / 128) (128 * (jOf a 0 0).val + c.val % 128) = _
  rw [wK, lK, show 256 * a + 256 = 128 * (jOf a 0 0).val + 128 by rw [jOf_val a 0 0 ha]; omega]
  by_cases hc : 128 * (jOf a 0 0).val + c.val % 128 < 256 * a + r.val
  · rw [if_pos hc, if_pos hc]; rfl
  · rw [if_neg hc, if_neg hc]; rfl

theorem stP_zero1 (s : Fin 2) (r c : Fin 256) : stP a q K8 0 (ix4 s 1 r c) = Scalar.select (mask1 a r.val c.val) (Ideal.exp (lbE (sc (q s) K8 s (jOf a 0 1) r c)
        + (∑ x : Fin 256, Scalar.select (mask1 a r.val x.val) ((lbE (sc (q s) K8 s (jOf a 0 1) r x) - sc (q s) K8 s (jOf a 0 1) r x) * v21 (ix2 x ⟨c.val, by omega⟩)) 0)
        + ∑ x : Fin 256, Scalar.select (mask0 a r.val x.val) ((lbE (sc (q s) K8 s (jOf a 0 0) r x) - sc (q s) K8 s (jOf a 0 0) r x) * v21 (ix2 x ⟨256 + c.val, by omega⟩)) 0)) 0 := by
  rw [Finset.sum_congr rfl fun x _ => m_tile a q K8 s (jOf a 0 0) r x _ _ (mask0_eq a r.val x.val ha r.isLt x.isLt),
    Finset.sum_congr rfl fun x _ => m_tile a q K8 s (jOf a 0 1) r x _ _ (mask1_eq a r.val x.val ha r.isLt x.isLt),
    tileC v21 htri (gK a q K8 s r), tileT v21 htri (gK a q K8 s r), sc_tile, mask1_eq a r.val c.val ha r.isLt c.isLt, add_assoc,
    show 128 * (jOf a 0 0).val = 128 * (jOf a 0 1).val + 128 by rw [jOf_val a 0 0 ha, jOf_val a 0 1 ha]; omega,
    Finset.sum_Ico_consecutive _ (by omega) (by omega)]
  show wK a q K8 s r (c.val / 128) (128 * (jOf a 0 1).val + c.val % 128) = _
  rw [wK, lK, show 256 * a + 256 = 128 * (jOf a 0 1).val + 128 + 128 by rw [jOf_val a 0 1 ha]; omega]
  by_cases hc : 128 * (jOf a 0 1).val + c.val % 128 < 256 * a + r.val
  · rw [if_pos hc, if_pos hc]; rfl
  · rw [if_neg hc, if_neg hc]; rfl

variable (n : ℕ) (hn : n < a)
include hn

theorem stA_succ (s : Fin 2) (r : Fin 256) (l : Fin 128) : stA a q K8 V9 (n + 1) (ix3 s r l)
    = stA a q K8 V9 n (ix3 s r l) + (∑ x : Fin 256, stP a q K8 n (ix4 s 0 r x) * V9 (ix4 s (jOf a n 0) x l) + ∑ x : Fin 256, stP a q K8 n (ix4 s 1 r x) * V9 (ix4 s (jOf a n 1) x l)) := by
  rw [pv_tile a q K8 V9 n s 0 0 rfl r l _ rfl, pv_tile a q K8 V9 n s 1 1 rfl r l _ rfl]
  show ∑ K ∈ Finset.Ico (256 * a + 256 - 256 * (n + 1)) (256 * a + 256), ∑ h ∈ Finset.range 2, wK a q K8 s r h K * vK V9 s l h K
    = (∑ K ∈ Finset.Ico (256 * a + 256 - 256 * n) (256 * a + 256), ∑ h ∈ Finset.range 2, wK a q K8 s r h K * vK V9 s l h K)
      + ((∑ K ∈ Finset.Ico (128 * (jOf a n 0).val) (128 * (jOf a n 0).val + 128), ∑ h ∈ Finset.range 2, wK a q K8 s r h K * vK V9 s l h K)
        + ∑ K ∈ Finset.Ico (128 * (jOf a n 1).val) (128 * (jOf a n 1).val + 128), ∑ h ∈ Finset.range 2, wK a q K8 s r h K * vK V9 s l h K)
  rw [jOf_val a n 0 ha, jOf_val a n 1 ha, add_comm (∑ K ∈ Finset.Ico (128 * (2 * a + 1 - 0 - 2 * n)) _, _), ← add_comm (_ + _),
    show 128 * (2 * a + 1 - 0 - 2 * n) = 128 * (2 * a + 1 - 1 - 2 * n) + 128 by omega, Finset.sum_Ico_consecutive _ (by omega) (by omega),
    show 256 * a + 256 - 256 * n = 128 * (2 * a + 1 - 1 - 2 * n) + 128 + 128 by omega, Finset.sum_Ico_consecutive _ (by omega) (by omega)]
  congr 2; omega

theorem stR_succ (s : Fin 2) (r c : Fin 256) : stR a q K8 (n + 1) (ix3 s r c)
    = stR a q K8 n (ix3 s r c) + ∑ x : Fin 256, (lbE (stZ a q K8 n (ix4 s 0 r x)) - stZ a q K8 n (ix4 s 0 r x)) * v21 (ix2 x ⟨256 + c.val, by omega⟩)
      + ∑ x : Fin 256, (lbE (stZ a q K8 n (ix4 s 1 r x)) - stZ a q K8 n (ix4 s 1 r x)) * v21 (ix2 x ⟨256 + c.val, by omega⟩) := by
  show lK a q K8 s r (c.val / 128) (256 * a - 256 * (n + 1)) = lK a q K8 s r (c.val / 128) (256 * a - 256 * n)
    + ∑ x : Fin 256, (lbE (sc (q s) K8 s (jOf a (n + 1) 0) r x) - sc (q s) K8 s (jOf a (n + 1) 0) r x) * v21 (ix2 x ⟨256 + c.val, by omega⟩)
    + ∑ x : Fin 256, (lbE (sc (q s) K8 s (jOf a (n + 1) 1) r x) - sc (q s) K8 s (jOf a (n + 1) 1) r x) * v21 (ix2 x ⟨256 + c.val, by omega⟩)
  have j0 := jOf_val a (n + 1) 0 ha
  have j1 := jOf_val a (n + 1) 1 ha
  simp only [g_tile a q K8 s (jOf a (n + 1) 0) r _ (by omega), g_tile a q K8 s (jOf a (n + 1) 1) r _ (by omega)]
  rw [tileT v21 htri (gK a q K8 s r), tileT v21 htri (gK a q K8 s r), j0, j1, add_comm (lK _ _ _ _ _ _ _),
    show 256 * a - 256 * n = 128 * (2 * a + 1 - 0 - 2 * (n + 1)) + 128 by omega, lK_join a q K8 v21 htri ha s r _ _ _ (by omega) (by omega), add_comm (lK _ _ _ _ _ _ _),
    show 128 * (2 * a + 1 - 0 - 2 * (n + 1)) = 128 * (2 * a + 1 - 1 - 2 * (n + 1)) + 128 by omega, lK_join a q K8 v21 htri ha s r _ _ _ (by omega) (by omega)]
  congr 1; omega

theorem stP_succ0 (s : Fin 2) (r c : Fin 256) : stP a q K8 (n + 1) (ix4 s 0 r c)
    = Ideal.exp (lbE (stZ a q K8 n (ix4 s 0 r c)) + ∑ x : Fin 256, (lbE (stZ a q K8 n (ix4 s 0 r x)) - stZ a q K8 n (ix4 s 0 r x)) * v21 (ix2 x ⟨c.val, by omega⟩) + stR a q K8 n (ix3 s r c)) := by
  show wK a q K8 s r (c.val / 128) (128 * (jOf a (n + 1) 0).val + c.val % 128) = Ideal.exp (lbE (sc (q s) K8 s (jOf a (n + 1) 0) r c)
    + ∑ x : Fin 256, (lbE (sc (q s) K8 s (jOf a (n + 1) 0) r x) - sc (q s) K8 s (jOf a (n + 1) 0) r x) * v21 (ix2 x ⟨c.val, by omega⟩) + lK a q K8 s r (c.val / 128) (256 * a - 256 * n))
  have j0 := jOf_val a (n + 1) 0 ha
  simp only [g_tile a q K8 s (jOf a (n + 1) 0) r _ (by omega)]
  rw [tileC v21 htri (gK a q K8 s r), sc_tile, add_assoc, show 256 * a - 256 * n = 128 * (jOf a (n + 1) 0).val + 128 by omega,
    lK_join a q K8 v21 htri ha s r _ _ _ (by omega) (by omega), wK, if_pos (by omega)]

theorem stP_succ1 (s : Fin 2) (r c : Fin 256) : stP a q K8 (n + 1) (ix4 s 1 r c)
    = Ideal.exp (lbE (stZ a q K8 n (ix4 s 1 r c)) + ∑ x : Fin 256, (lbE (stZ a q K8 n (ix4 s 1 r x)) - stZ a q K8 n (ix4 s 1 r x)) * v21 (ix2 x ⟨c.val, by omega⟩)
      + (stR a q K8 n (ix3 s r c) + ∑ x : Fin 256, (lbE (stZ a q K8 n (ix4 s 0 r x)) - stZ a q K8 n (ix4 s 0 r x)) * v21 (ix2 x ⟨256 + c.val, by omega⟩))) := by
  show wK a q K8 s r (c.val / 128) (128 * (jOf a (n + 1) 1).val + c.val % 128) = Ideal.exp (lbE (sc (q s) K8 s (jOf a (n + 1) 1) r c)
    + ∑ x : Fin 256, (lbE (sc (q s) K8 s (jOf a (n + 1) 1) r x) - sc (q s) K8 s (jOf a (n + 1) 1) r x) * v21 (ix2 x ⟨c.val, by omega⟩) + (lK a q K8 s r (c.val / 128) (256 * a - 256 * n)
    + ∑ x : Fin 256, (lbE (sc (q s) K8 s (jOf a (n + 1) 0) r x) - sc (q s) K8 s (jOf a (n + 1) 0) r x) * v21 (ix2 x ⟨256 + c.val, by omega⟩)))
  have j0 := jOf_val a (n + 1) 0 ha
  have j1 := jOf_val a (n + 1) 1 ha
  simp only [g_tile a q K8 s (jOf a (n + 1) 0) r _ (by omega), g_tile a q K8 s (jOf a (n + 1) 1) r _ (by omega)]
  rw [tileC v21 htri (gK a q K8 s r), tileT v21 htri (gK a q K8 s r), sc_tile, add_assoc, add_comm (lK _ _ _ _ _ _ _), show 256 * a - 256 * n = 128 * (jOf a (n + 1) 0).val + 128 by omega,
    lK_join a q K8 v21 htri ha s r _ _ _ (by omega) (by omega), show 128 * (jOf a (n + 1) 0).val = 128 * (jOf a (n + 1) 1).val + 128 by omega,
    lK_join a q K8 v21 htri ha s r _ _ _ (by omega) (by omega), wK, if_pos (by omega)]

omit hn htri in
theorem outK_eq (s : Fin 2) (r : Fin 256) (l : Fin 128) : outK a q K8 V9 (ix2 r ⟨128 * s.val + l.val, by omega⟩)
    = stA a q K8 V9 a (ix3 s r l) + (∑ x : Fin 256, stP a q K8 a (ix4 s 0 r x) * V9 (ix4 s 1 x l) + ∑ x : Fin 256, stP a q K8 a (ix4 s 1 r x) * V9 (ix4 s 0 x l)) := by
  have j0 := jOf_val a a 0 ha
  have j1 := jOf_val a a 1 ha
  rw [pv_tile a q K8 V9 a s 0 0 rfl r l 1 (Fin.ext (by show 1 = _; omega)), pv_tile a q K8 V9 a s 1 1 rfl r l 0 (Fin.ext (by show 0 = _; omega))]
  have hs : Fin.ofNat 2 ((128 * s.val + l.val) / 128) = s := Fin.ext (by show _ % 2 = _; omega)
  have hl : Fin.ofNat 128 ((128 * s.val + l.val) % 128) = l := Fin.ext (by show _ % 128 = _; omega)
  show ∑ K ∈ Finset.range (256 * a + 256), ∑ h ∈ Finset.range 2, wK a q K8 (Fin.ofNat 2 ((128 * s.val + l.val) / 128)) r h K * vK V9 (Fin.ofNat 2 ((128 * s.val + l.val) / 128)) (Fin.ofNat 128 ((128 * s.val + l.val) % 128)) h K
    = (∑ K ∈ Finset.Ico (256 * a + 256 - 256 * a) (256 * a + 256), ∑ h ∈ Finset.range 2, wK a q K8 s r h K * vK V9 s l h K)
      + ((∑ K ∈ Finset.Ico (128 * (jOf a a 0).val) (128 * (jOf a a 0).val + 128), ∑ h ∈ Finset.range 2, wK a q K8 s r h K * vK V9 s l h K)
        + ∑ K ∈ Finset.Ico (128 * (jOf a a 1).val) (128 * (jOf a a 1).val + 128), ∑ h ∈ Finset.range 2, wK a q K8 s r h K * vK V9 s l h K)
  rw [hs, hl, j0, j1, add_comm (∑ K ∈ Finset.Ico (128 * (2 * a + 1 - 0 - 2 * a)) _, _), add_comm _ (_ + _), Finset.range_eq_Ico,
    show 128 * (2 * a + 1 - 1 - 2 * a) = 0 by omega, show 128 * (2 * a + 1 - 0 - 2 * a) = 0 + 128 by omega, Finset.sum_Ico_consecutive _ (by omega) (by omega),
    show 256 * a + 256 - 256 * a = 0 + 128 + 128 by omega, Finset.sum_Ico_consecutive _ (by omega) (by omega)]

end Cert.KernelIdeal.Hand
-- ==== Proof.Ideal.RefTerm.lean ====
module

public import proofs.«01_k».proof.Proof.Gen.ReferenceIdeal.Run
public import proofs.«01_k».proof.Proof.Ideal.Math
public import Idealize.ShloMosaic.Lib.Pipeline.ValueKit
public import Idealize.ShloMosaic.Lib.IdealHost

@[expose] public section

set_option maxRecDepth 16384

noncomputable section

namespace Cert.ReferenceIdeal.Hand

open Cert.ReferenceIdeal Cert.ReferenceIdeal.Gen Idealize.ShloMosaic Idealize.ShloMosaic.TcCoe Idealize.SL.Sem

/-- The queries, the keys and the values by sequence, head, position and coordinate: the argument's columns from `o` on. -/
def qArr (X : FVec Ideal S8192x3072 .bf16) : FVec Ideal S2x16x4096x64 .bf16 :=
  transpose S2x16x4096x64 [0, 2, 1, 3] (shapeCast S2x4096x16x64 (extractStridedSlice S8192x1024 ![0, 0] X slices_S8192x3072_S8192x1024_0_0) shapeCasts_S8192x1024_S2x4096x16x64) transposes_S2x4096x16x64_S2x16x4096x64_0_2_1_3
def kArr (X : FVec Ideal S8192x3072 .bf16) : FVec Ideal S2x16x4096x64 .bf16 :=
  transpose S2x16x4096x64 [0, 2, 1, 3] (shapeCast S2x4096x16x64 (extractStridedSlice S8192x1024 ![0, 1024] X slices_S8192x3072_S8192x1024_0_1024) shapeCasts_S8192x1024_S2x4096x16x64) transposes_S2x4096x16x64_S2x16x4096x64_0_2_1_3
def vArr (X : FVec Ideal S8192x3072 .bf16) : FVec Ideal S2x16x4096x64 .bf16 :=
  transpose S2x16x4096x64 [0, 2, 1, 3] (shapeCast S2x4096x16x64 (extractStridedSlice S8192x1024 ![0, 2048] X slices_S8192x3072_S8192x1024_0_2048) shapeCasts_S8192x1024_S2x4096x16x64) transposes_S2x4096x16x64_S2x16x4096x64_0_2_1_3

/-- The scaled scores. -/
def zArr (X : FVec Ideal S8192x3072 .bf16) : FVec Ideal S2x16x4096x4096 .f32 :=
  mulf (Host.dotGeneral dot_S2x16x4096x64_S2x16x4096x64_S2x16x4096x4096_3_3_2_2_01_01 none (qArr X) (kArr X)) (broadcastInDim S2x16x4096x4096 ![] bcast_S_S2x16x4096x4096 (constant S_ .f32 0x3E000000#32))

/-- Zero everywhere, and the causal test. -/
def oArr : FVec Ideal S2x16x4096x4096 .f32 := broadcastInDim S2x16x4096x4096 ![] bcast_S_S2x16x4096x4096 (constant S_ .f32 0x00000000#32)
def cArr : IVec S2x16x4096x4096 1 :=
  broadcastInDim S2x16x4096x4096 ![2, 3] bcast_S4096x4096_S2x16x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- The logarithm of the logistic function of `-u`, as the reference spells it. -/
def logsig (u : FVec Ideal S2x16x4096x4096 .f32) : FVec Ideal S2x16x4096x4096 .f32 :=
  Host.negf (select (cmpf .une (subf u oArr) (subf u oArr)) (addf u oArr) (addf (maximumf u oArr) (Host.log1p (Host.exp (Host.negf (Host.absf (subf u oArr)))))))

/-- What each earlier key leaves, and its sums over the later keys. -/
def keepArr (z : FVec Ideal S2x16x4096x4096 .f32) : FVec Ideal S2x16x4096x4096 .f32 := select cArr (logsig (Host.negf (Host.negf z))) oArr
def cumArr (x : FVec Ideal S2x16x4096x4096 .f32) : FVec Ideal S2x16x4096x4096 .f32 :=
  Host.reduceWindowAdd ![1, 1, 1, 4096] ![1, 1, 1, 1] ![0, 0, 0, 0] ![0, 0, 0, 4095] x (broadcastInDim S_ ![] bcast_S_S_ (constant S_ .f32 0x00000000#32)) reduceWindows_S2x16x4096x4096_S2x16x4096x4096_w1s1p0_0_w1s1p0_0_w1s1p0_0_w4096s1p0_4095 h_S_

/-- The weights. -/
def wArr (z : FVec Ideal S2x16x4096x4096 .f32) : FVec Ideal S2x16x4096x4096 .f32 :=
  select cArr (Host.exp (addf (logsig (Host.negf z)) (subf (cumArr (keepArr z)) (keepArr z)))) oArr

/-- The weighted values by sequence, head, position and coordinate, and the reference's result. -/
def avArr (w : FVec Ideal S2x16x4096x4096 .f32) (v : FVec Ideal S2x16x4096x64 .bf16) : FVec Ideal S2x16x4096x64 .f32 :=
  Host.dotGeneral dot_S2x16x4096x4096_S2x16x4096x64_S2x16x4096x64_3_2_2_3_01_01 none (truncf .bf16 w bitsLt_bf16_f32) v
def refOut (X : FVec Ideal S8192x3072 .bf16) : FVec Ideal S8192x1024 .bf16 :=
  truncf .bf16 (shapeCast S8192x1024 (transpose S2x4096x16x64 [0, 2, 1, 3] (avArr (wArr (zArr X)) (vArr X)) transposes_S2x16x4096x64_S2x4096x16x64_0_2_1_3) shapeCasts_S2x4096x16x64_S8192x1024) bitsLt_bf16_f32

theorem res_eq (m : (ℓ : Loc nD τ sig) → Buf (Elt Ideal) ℓ) (c : Dev nD) :
    Cert.ReferenceIdeal.Value.res_main_v31 m c = refOut (m ((c.tc : Thread nD τ).loc main_arg0)) := by
  unfold Cert.ReferenceIdeal.Value.res_main_v31
  rfl

theorem qArr_at (X : FVec Ideal S8192x3072 .bf16) (b : Fin 2) (h : Fin 16) (q : Fin 4096) (l : Fin 64) :
    qArr X (ix4 b h q l) = X (ix2 ⟨4096 * b.val + q.val, by omega⟩ ⟨64 * h.val + l.val, by omega⟩) := by
  pointwise [qArr]
  blk_ext
theorem kArr_at (X : FVec Ideal S8192x3072 .bf16) (b : Fin 2) (h : Fin 16) (q : Fin 4096) (l : Fin 64) :
    kArr X (ix4 b h q l) = X (ix2 ⟨4096 * b.val + q.val, by omega⟩ ⟨1024 + (64 * h.val + l.val), by omega⟩) := by
  pointwise [kArr]
  blk_ext
theorem vArr_at (X : FVec Ideal S8192x3072 .bf16) (b : Fin 2) (h : Fin 16) (q : Fin 4096) (l : Fin 64) :
    vArr X (ix4 b h q l) = X (ix2 ⟨4096 * b.val + q.val, by omega⟩ ⟨2048 + (64 * h.val + l.val), by omega⟩) := by
  pointwise [vArr]
  blk_ext

theorem oArr_at (i) : oArr i = 0 := by
  unfold oArr
  exact Ideal.ofBits_zero_f32

theorem cArr_at (b : Fin 2) (h : Fin 16) (q k : Fin 4096) : cArr (ix4 b h q k) = if k.val < q.val then 1#1 else 0#1 := by
  have e : cArr (ix4 b h q k) = IntOp.cmpi .slt (BitVec.ofNat 32 k.val) (BitVec.ofNat 32 q.val) := by pointwise [cArr]
  rw [e]
  unfold IntOp.cmpi
  have := Cert.KernelIdeal.Hand.slt_word k.val q.val (by omega) (by omega)
  by_cases hk : k.val < q.val <;> simp [this, hk]

theorem zArr_at (X : FVec Ideal S8192x3072 .bf16) (b : Fin 2) (h : Fin 16) (q k : Fin 4096) :
    zArr X (ix4 b h q k) = (∑ l : Fin 64, X (ix2 ⟨4096 * b.val + q.val, by omega⟩ ⟨64 * h.val + l.val, by omega⟩)
      * X (ix2 ⟨4096 * b.val + k.val, by omega⟩ ⟨1024 + (64 * h.val + l.val), by omega⟩)) * ((1 / 8 : ℝ) : EReal) := by
  have e : zArr X (ix4 b h q k) = (∑ l : Fin 64, qArr X (ix4 b h q l) * kArr X (ix4 b h k l)) * Ideal.ofBits .f32 0x3E000000#32 := by
    pointwise [zArr]
  rw [e]
  simp only [qArr_at, kArr_at]
  refine congrArg _ ?_
  simp [Ideal.ofBits, Ideal.ieee, -EReal.coe_mul]; norm_num

theorem avArr_at (w : FVec Ideal S2x16x4096x4096 .f32) (v : FVec Ideal S2x16x4096x64 .bf16) (b : Fin 2) (h : Fin 16) (q : Fin 4096) (d : Fin 64) :
    avArr w v (ix4 b h q d) = ∑ k : Fin 4096, w (ix4 b h q k) * v (ix4 b h k d) := by
  pointwise [avArr]

theorem refOut_at (X : FVec Ideal S8192x3072 .bf16) (b : Fin 2) (h : Fin 16) (q : Fin 4096) (d : Fin 64) :
    refOut X (ix2 ⟨4096 * b.val + q.val, by omega⟩ ⟨64 * h.val + d.val, by omega⟩) = avArr (wArr (zArr X)) (vArr X) (ix4 b h q d) := by
  pointwise [refOut]
  blk_ext

end Cert.ReferenceIdeal.Hand
-- ==== Proof.Ideal.Out.lean ====
module

public import proofs.«01_k».proof.Proof.Ideal.Math

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (c : Dev nD) (i : grid0.Coords)
  (arg3 : Memref sig .tc .vmem S256x256 .bf16) (harg3 : arg3.IsWhole)
  (arg4 : Memref sig .tc .vmem S4096x256 .bf16) (harg4 : arg4.IsWhole)
  (arg5 : Memref sig .tc .vmem S4096x256 .bf16) (harg5 : arg5.IsWhole)
  (arg6 : Memref sig .tc .vmem S256x512 .bf16) (harg6 : arg6.IsWhole)
  (arg7 : Memref sig .tc .vmem S256x256 .bf16) (harg7 : arg7.IsWhole)
  (arg8 : Memref sig .tc .vmem S2x32x256x128 .bf16) (harg8 : arg8.IsWhole)
  (arg9 : Memref sig .tc .vmem S2x32x256x128 .bf16) (harg9 : arg9.IsWhole)
  (arg10 : Memref sig .tc .vmem S2x256x128 .f32) (harg10 : arg10.IsWhole)
  (arg11 : Memref sig .tc .vmem S2x256x256 .f32) (harg11 : arg11.IsWhole)
  (arg12 : Memref sig .tc .vmem S2x2x256x256 .f32) (harg12 : arg12.IsWhole)
  (arg13 : Memref sig .tc .vmem S2x2x256x256 .bf16) (harg13 : arg13.IsWhole)

/-- The two streams' queries of a block, scaled. -/
abbrev qsOf (x3 : Vec Ideal S256x256 .bf16) : Fin 2 → FVec Ideal S256x128 .bf16 :=
  ![k0_pay445 (View.ld x3 (Rect.unit (s := S256x256) ![0, 0] S256x128.size inb_S256x256_S256x128_0_0)), k0_pay446 (View.ld x3 (Rect.unit (s := S256x256) ![0, 128] S256x128.size inb_S256x256_S256x128_0_128))]

theorem pay447_eq (x6 : Vec Ideal S256x512 .bf16) : k0_pay447 x6 = x6 := by
  funext y
  idx_vars y;
  pointwise [k0_pay447]

theorem pay448_eq (K8 : Vec Ideal S2x32x256x128 .bf16) (x : Fin 256) (l : Fin 128) :
    k0_pay448 (View.ld K8 (Rect.unit (s := S2x32x256x128) (k0_off1 i) S1x1x256x128.size (k0_off1_inb i))) (ix2 x l) = K8 (ix4 0 (jOf (i 2).val 0 0) x l) := by
  pointwise [k0_pay448]
  simp only [key_idx _ 0 (jOf (i 2).val 0 0) _ (off1_eq i)]

theorem stA_zero (a : ℕ) (q : Fin 2 → FVec Ideal S256x128 .bf16) (K8 V9 : Vec Ideal S2x32x256x128 .bf16) : stA a q K8 V9 0 = k0_pay443 (F := Ideal) := by
  funext y
  obtain ⟨y0, y1, y2, rfl⟩ : ∃ y0 y1 y2, y = ix3 y0 y1 y2 := ⟨y 0, y 1, y 2, funext fun a => by fin_cases a <;> rfl⟩
  have e : k0_pay443 (F := Ideal) (ix3 y0 y1 y2) = 0 := by pointwise [k0_pay443]
  rw [e]
  show ∑ K ∈ Finset.Ico (256 * a + 256 - 256 * 0) (256 * a + 256), _ = _
  rw [Nat.mul_zero, Nat.sub_zero, Finset.Ico_self, Finset.sum_empty]

set_option maxHeartbeats 4000000 in
/-- At a first block the body stores its block of the result and leaves the split keys and values. -/
theorem body_outA (hc : cond0 i = 1#1) (x3 : Vec Ideal S256x256 .bf16) (x4 x5 : Vec Ideal S4096x256 .bf16) (x6 : Vec Ideal S256x512 .bf16) (htri : IsTri x6) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (outK (i 2).val (qsOf x3) (splitHeads k0_pay440 x4) (splitHeads k0_pay440 x5)) ∗ owns (c : Thread nD τ) arg8 fullShare (splitHeads k0_pay440 x4) ∗ owns (c : Thread nD τ) arg9 fullShare (splitHeads k0_pay440 x5) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := Ideal)) Variants.none (c : Thread nD τ) none) E (cc0_sb_attention i arg3 harg3 arg4 harg4 arg5 harg5 arg6 harg6 arg7 harg7 arg8 harg8 arg9 harg9 arg10 harg10 arg11 harg11 arg12 harg12 arg13 harg13) K := by
  have ha : (i 2).val < 16 := (i 2).isLt
  have hn : ∀ k : Fin (k0_t1_loop i).trips, k.val < (i 2).val := fun k => lt_of_lt_of_eq k.isLt (trips1 i)
  have htri' : IsTri (k0_pay447 x6) := by rw [pay447_eq]; exact htri
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg3.eq_unread hf3; obtain rfl := harg4.eq_unread hf4; obtain rfl := harg5.eq_unread hf5; obtain rfl := harg6.eq_unread hf6
  iapply (body_val c i arg3 harg3 arg4 harg4 arg5 harg5 arg6 harg6 arg7 harg7 arg8 harg8 arg9 harg9 arg10 harg10 arg11 harg11 arg12 harg12 arg13 harg13 x3 x4 x5 x6 (splitHeads k0_pay440 x4) (splitHeads k0_pay440 x5) _ _ _ _ (outK (i 2).val (qsOf x3) (splitHeads k0_pay440 x4) (splitHeads k0_pay440 x5)) f7 f8 f9 f10 f11 f12 f13 E
    (stA (i 2).val (qsOf x3) (splitHeads k0_pay440 x4) (splitHeads k0_pay440 x5)) (stR (i 2).val (qsOf x3) (splitHeads k0_pay440 x4)) (stZ (i 2).val (qsOf x3) (splitHeads k0_pay440 x4)) (stP (i 2).val (qsOf x3) (splitHeads k0_pay440 x4))
    (pay448_eq i _) (stA_zero _ _ _ _) (stR_zero _ _ _ _ htri' ha) (fun _ _ _ _ => rfl) (stP_zero0 _ _ _ _ htri' ha) (stP_zero1 _ _ _ _ htri' ha)
    (fun k => stA_succ _ _ _ _ _ htri' ha _ (hn k)) (fun k => stR_succ _ _ _ _ htri' ha _ (hn k)) (fun _ _ _ _ _ => rfl) (fun k => stP_succ0 _ _ _ _ htri' ha _ (hn k)) (fun k => stP_succ1 _ _ _ _ htri' ha _ (hn k))
    (outK_eq _ _ _ _ ha 0) (fun f10 f11 => head_first (F := Ideal) c i arg3 harg3 arg4 harg4 arg5 harg5 arg6 harg6 arg7 harg7 arg8 harg8 arg9 harg9 arg10 harg10 arg11 harg11 arg12 harg12 arg13 harg13 hc x3 x4 x5 x6 E f8 f9 f10 f11) K)
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexact H12
  isplitl [H13]; iexact H13
  iintro ⟨H3, H4, H5, H6, H7, H8, H9, ⟨%g10, H10⟩, ⟨%g11, H11⟩, ⟨%g12, H12⟩, ⟨%g13, H13⟩⟩
  iapply Hk
  have h7 := harg7.read_unread (outK (i 2).val (qsOf x3) (splitHeads k0_pay440 x4) (splitHeads k0_pay440 x5))
  have h8 := harg8.read_unread (splitHeads k0_pay440 x4)
  have h9 := harg9.read_unread (splitHeads k0_pay440 x5)
  sl_close

set_option maxHeartbeats 4000000 in
/-- At a later block the body stores its block of the result from the split keys and values it finds. -/
theorem body_outB (hc : ¬ cond0 i = 1#1) (x3 : Vec Ideal S256x256 .bf16) (x4 x5 : Vec Ideal S4096x256 .bf16) (x6 : Vec Ideal S256x512 .bf16) (htri : IsTri x6) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare (splitHeads k0_pay440 x4) ∗ owns (c : Thread nD τ) arg9 fullShare (splitHeads k0_pay440 x5) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (outK (i 2).val (qsOf x3) (splitHeads k0_pay440 x4) (splitHeads k0_pay440 x5)) ∗ owns (c : Thread nD τ) arg8 fullShare (splitHeads k0_pay440 x4) ∗ owns (c : Thread nD τ) arg9 fullShare (splitHeads k0_pay440 x5) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := Ideal)) Variants.none (c : Thread nD τ) none) E (cc0_sb_attention i arg3 harg3 arg4 harg4 arg5 harg5 arg6 harg6 arg7 harg7 arg8 harg8 arg9 harg9 arg10 harg10 arg11 harg11 arg12 harg12 arg13 harg13) K := by
  have ha : (i 2).val < 16 := (i 2).isLt
  have hn : ∀ k : Fin (k0_t1_loop i).trips, k.val < (i 2).val := fun k => lt_of_lt_of_eq k.isLt (trips1 i)
  have htri' : IsTri (k0_pay447 x6) := by rw [pay447_eq]; exact htri
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  obtain rfl := harg3.eq_unread hf3; obtain rfl := harg4.eq_unread hf4; obtain rfl := harg5.eq_unread hf5; obtain rfl := harg6.eq_unread hf6; obtain rfl := harg8.eq_unread hf8; obtain rfl := harg9.eq_unread hf9
  iapply (body_val c i arg3 harg3 arg4 harg4 arg5 harg5 arg6 harg6 arg7 harg7 arg8 harg8 arg9 harg9 arg10 harg10 arg11 harg11 arg12 harg12 arg13 harg13 x3 x4 x5 x6 (splitHeads k0_pay440 x4) (splitHeads k0_pay440 x5) _ _ _ _ (outK (i 2).val (qsOf x3) (splitHeads k0_pay440 x4) (splitHeads k0_pay440 x5)) f7 (harg8.unread (splitHeads k0_pay440 x4)) (harg9.unread (splitHeads k0_pay440 x5)) f10 f11 f12 f13 E
    (stA (i 2).val (qsOf x3) (splitHeads k0_pay440 x4) (splitHeads k0_pay440 x5)) (stR (i 2).val (qsOf x3) (splitHeads k0_pay440 x4)) (stZ (i 2).val (qsOf x3) (splitHeads k0_pay440 x4)) (stP (i 2).val (qsOf x3) (splitHeads k0_pay440 x4))
    (pay448_eq i _) (stA_zero _ _ _ _) (stR_zero _ _ _ _ htri' ha) (fun _ _ _ _ => rfl) (stP_zero0 _ _ _ _ htri' ha) (stP_zero1 _ _ _ _ htri' ha)
    (fun k => stA_succ _ _ _ _ _ htri' ha _ (hn k)) (fun k => stR_succ _ _ _ _ htri' ha _ (hn k)) (fun _ _ _ _ _ => rfl) (fun k => stP_succ0 _ _ _ _ htri' ha _ (hn k)) (fun k => stP_succ1 _ _ _ _ htri' ha _ (hn k))
    (outK_eq _ _ _ _ ha 0) (fun f10 f11 => head_later (F := Ideal) c i arg3 harg3 arg4 harg4 arg5 harg5 arg6 harg6 arg7 harg7 arg8 harg8 arg9 harg9 arg10 harg10 arg11 harg11 arg12 harg12 arg13 harg13 hc x3 x4 x5 x6 (splitHeads k0_pay440 x4) (splitHeads k0_pay440 x5) E f10 f11) K)
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexact H12
  isplitl [H13]; iexact H13
  iintro ⟨H3, H4, H5, H6, H7, H8, H9, ⟨%g10, H10⟩, ⟨%g11, H11⟩, ⟨%g12, H12⟩, ⟨%g13, H13⟩⟩
  iapply Hk
  have h7 := harg7.read_unread (outK (i 2).val (qsOf x3) (splitHeads k0_pay440 x4) (splitHeads k0_pay440 x5))
  have h8 := harg8.read_unread (splitHeads k0_pay440 x4)
  have h9 := harg9.read_unread (splitHeads k0_pay440 x5)
  sl_close

end Cert.KernelIdeal.Hand
-- ==== Proof.Ideal.Simp.lean ====
module

public import proofs.«01_k».proof.Proof.Ideal.Out

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- Attention at one query: `P` keys before it, of `N` keys; `s` the scores, `v` the values. -/
def attn (P N : ℕ) (s v : ℕ → EReal) : EReal :=
  ∑ K ∈ Finset.range N, (if K < P then Ideal.exp (lbE (s K) + ∑ J ∈ Finset.Ico (K + 1) N, if J < P then lbE (s J) - s J else 0) else 0) * v K

/-- The keys that are not before the query do not count. -/
theorem attn_more (P N M : ℕ) (h : P ≤ N) (hM : N ≤ M) (s v : ℕ → EReal) : attn P N s v = attn P M s v := by
  have tail : ∀ f : ℕ → EReal, ∀ x, x ≤ N → (∀ K, ¬ K < P → f K = 0) → ∑ K ∈ Finset.Ico x N, f K = ∑ K ∈ Finset.Ico x M, f K := fun f x hx hf => by
    rw [← Finset.sum_Ico_consecutive f hx hM, Finset.sum_eq_zero (s := Finset.Ico N M) (fun K hK => hf K (by have := Finset.mem_Ico.mp hK; omega)), add_zero]
  unfold attn
  rw [Finset.range_eq_Ico, Finset.range_eq_Ico, tail _ 0 (Nat.zero_le _) (fun K hK => by rw [if_neg hK, zero_mul])]
  refine Finset.sum_congr rfl fun K hK => ?_
  by_cases hc : K < P
  · rw [if_pos hc, if_pos hc, tail _ (K + 1) (by omega) (fun J hJ => by rw [if_neg hJ])]
  · rw [if_neg hc, if_neg hc]

/-- The score of query `r` with key `K` in head `h` of the four: over the head's 64 lanes, the query scaled. -/
def sH (x3 : Vec Ideal S256x256 .bf16) (x4 : Vec Ideal S4096x256 .bf16) (r : Fin 256) (h K : ℕ) : EReal :=
  ∑ l : Fin 64, x3 (ix2 r (Fin.ofNat 256 (64 * h + l.val))) * ((1 / 8 : ℝ) : EReal) * x4 (ix2 (Fin.ofNat 4096 K) (Fin.ofNat 256 (64 * h + l.val)))

/-- The factor on the queries. -/
theorem eighth : Ideal.ofBits .bf16 0x3E00#16 = ((1 / 8 : ℝ) : EReal) := by
  simp [Ideal.ofBits, Ideal.ieee, -EReal.coe_mul]
  norm_num

theorem lanes_eq (l : Fin 128) : k0_pay440 (ix2 0 l) = if l.val < 64 then 1#1 else 0#1 := by
  have key : ∀ l : Fin 128, BitVec.ofBool ((BitVec.ofNat 32 l.val).slt 64#32) = if l.val < 64 then 1#1 else 0#1 := by decide +kernel
  refine Eq.trans ?_ (key l)
  pointwise [k0_pay440]
  rfl

theorem split_eq (x : Vec Ideal S4096x256 .bf16) (s : Fin 2) (l : Fin 128) (h K : ℕ) (hh : h < 2) :
    splitHeads k0_pay440 x (ix4 s (Fin.ofNat 32 (K / 128)) (Fin.ofNat 256 (128 * h + K % 128)) l)
      = if l.val / 64 = h then x (ix2 (Fin.ofNat 4096 K) (Fin.ofNat 256 (128 * s.val + l.val))) else 0 := by
  have e3 : FloatOps.ofBits (F := Ideal) .bf16 0#16 = (0 : EReal) := Ideal.ofBits_zero_bf16
  have ex : ∀ y : S4096x256.Idx, (y 0).val = 128 * (K / 128 % 32) + (128 * h + K % 128) % 256 % 128 → (y 1).val = 128 * s.val + l.val → x y = x (ix2 (Fin.ofNat 4096 K) (Fin.ofNat 256 (128 * s.val + l.val))) := fun y h0 h1 => by
    congr 1
    funext d
    fin_cases d
    · exact Fin.ext (h0.trans (by show _ = K % 4096; omega))
    · exact Fin.ext (h1.trans (by show _ = (128 * s.val + l.val) % 256; omega))
  have e : splitHeads k0_pay440 x (ix4 s (Fin.ofNat 32 (K / 128)) (Fin.ofNat 256 (128 * h + K % 128)) l)
      = if (Fin.ofNat 256 (128 * h + K % 128)).val < 128 then Scalar.select (k0_pay440 (ix2 0 l)) (x (ix2 (Fin.ofNat 4096 K) (Fin.ofNat 256 (128 * s.val + l.val)))) (0 : EReal)
        else Scalar.select (k0_pay440 (ix2 0 l)) (0 : EReal) (x (ix2 (Fin.ofNat 4096 K) (Fin.ofNat 256 (128 * s.val + l.val)))) :=
    ite_congr rfl (fun _ => congrArg₂ (Scalar.select (k0_pay440 (ix2 0 l))) (ex _ rfl rfl) e3) (fun _ => congrArg₂ (Scalar.select (k0_pay440 (ix2 0 l))) e3 (ex _ rfl rfl))
  rw [e, lanes_eq]
  have hv : (Fin.ofNat 256 (128 * h + K % 128)).val = 128 * h + K % 128 := by show _ % 256 = _; omega
  rw [hv]
  unfold Scalar.select
  have hl := l.isLt
  by_cases h0 : h = 0
  · by_cases hc : l.val < 64
    · rw [if_pos (by omega), if_pos hc, if_pos (by decide), if_pos (by omega)]
    · rw [if_pos (by omega), if_neg hc, if_neg (by decide), if_neg (by omega)]
  · by_cases hc : l.val < 64
    · rw [if_neg (by omega), if_pos hc, if_pos (by decide), if_neg (by omega)]
    · rw [if_neg (by omega), if_neg hc, if_neg (by decide), if_pos (by omega)]

theorem qsOf_eq (x3 : Vec Ideal S256x256 .bf16) (s : Fin 2) (r : Fin 256) (l : Fin 128) :
    qsOf x3 s (ix2 r l) = x3 (ix2 r (Fin.ofNat 256 (128 * s.val + l.val))) * ((1 / 8 : ℝ) : EReal) := by
  have e0 : k0_pay445 (View.ld x3 (Rect.unit (s := S256x256) ![0, 0] S256x128.size inb_S256x256_S256x128_0_0)) (ix2 r l) = x3 (ix2 r ⟨l.val, by omega⟩) * ((1 / 8 : ℝ) : EReal) := by
    pointwise [k0_pay445]
    rw [eighth]
  have e1 : k0_pay446 (View.ld x3 (Rect.unit (s := S256x256) ![0, 128] S256x128.size inb_S256x256_S256x128_0_128)) (ix2 r l) = x3 (ix2 r ⟨128 + l.val, by omega⟩) * ((1 / 8 : ℝ) : EReal) := by
    pointwise [k0_pay446]
    rw [eighth]
  fin_cases s
  · refine e0.trans ?_
    rw [show (⟨l.val, by omega⟩ : Fin 256) = Fin.ofNat 256 (128 * 0 + l.val) from Fin.ext (by show l.val = _ % 256; omega)]
  · refine e1.trans ?_
    rw [show (⟨128 + l.val, by omega⟩ : Fin 256) = Fin.ofNat 256 (128 * 1 + l.val) from Fin.ext (by show 128 + l.val = _ % 256; omega)]

theorem sK_eq (x3 : Vec Ideal S256x256 .bf16) (x4 : Vec Ideal S4096x256 .bf16) (s : Fin 2) (r : Fin 256) (h K : ℕ) (hh : h < 2) :
    sK (qsOf x3) (splitHeads k0_pay440 x4) s r h K = sH x3 x4 r (2 * s.val + h) K := by
  unfold sK sc sH
  simp only [split_eq x4 s _ h K hh, qsOf_eq]
  rw [Fin.sum_univ_eq_sum_range (fun l => x3 (ix2 r (Fin.ofNat 256 (128 * s.val + l))) * ((1 / 8 : ℝ) : EReal) * (if l / 64 = h then x4 (ix2 (Fin.ofNat 4096 K) (Fin.ofNat 256 (128 * s.val + l))) else 0)) 128,
    Fin.sum_univ_eq_sum_range (fun l => x3 (ix2 r (Fin.ofNat 256 (64 * (2 * s.val + h) + l))) * ((1 / 8 : ℝ) : EReal) * x4 (ix2 (Fin.ofNat 4096 K) (Fin.ofNat 256 (64 * (2 * s.val + h) + l)))) 64,
    show 128 = 64 + 64 from rfl, Finset.sum_range_add]
  interval_cases h
  · rw [Finset.sum_eq_zero (s := Finset.range 64) (f := fun x => x3 (ix2 r (Fin.ofNat 256 ((64 + 64) * s.val + (64 + x)))) * _ * _) (fun x hx => by
      rw [if_neg (by have := Finset.mem_range.mp hx; omega), mul_zero]), add_zero]
    refine Finset.sum_congr rfl fun x hx => ?_
    have := Finset.mem_range.mp hx
    rw [if_pos (by omega), show (64 + 64) * s.val + x = 64 * (2 * s.val + 0) + x by omega]
  · rw [Finset.sum_eq_zero (s := Finset.range 64) (f := fun x => x3 (ix2 r (Fin.ofNat 256 ((64 + 64) * s.val + x))) * _ * _) (fun x hx => by
      rw [if_neg (by have := Finset.mem_range.mp hx; omega), mul_zero]), zero_add]
    refine Finset.sum_congr rfl fun x hx => ?_
    have := Finset.mem_range.mp hx
    rw [if_pos (by omega), show (64 + 64) * s.val + (64 + x) = 64 * (2 * s.val + 1) + x by omega]

/-- What the body stores, at an index of its block. -/
theorem outK_at (a : ℕ) (x3 : Vec Ideal S256x256 .bf16) (x4 x5 : Vec Ideal S4096x256 .bf16) (r e : Fin 256) :
    outK a (qsOf x3) (splitHeads k0_pay440 x4) (splitHeads k0_pay440 x5) (ix2 r e)
      = attn (256 * a + r.val) (256 * a + 256) (sH x3 x4 r (e.val / 64)) (fun K => x5 (ix2 (Fin.ofNat 4096 K) e)) := by
  have he : Fin.ofNat 256 (128 * (Fin.ofNat 2 (e.val / 128)).val + (Fin.ofNat 128 (e.val % 128)).val) = e := Fin.ext (by show (128 * (e.val / 128 % 2) + e.val % 128 % 128) % 256 = e.val; omega)
  have hh : e.val % 128 / 64 < 2 := by omega
  have hs : ∀ K, sK (qsOf x3) (splitHeads k0_pay440 x4) (Fin.ofNat 2 (e.val / 128)) r (e.val % 128 / 64) K = sH x3 x4 r (e.val / 64) K := fun K => by
    rw [sK_eq _ _ _ _ _ _ hh, show 2 * (Fin.ofNat 2 (e.val / 128)).val + e.val % 128 / 64 = e.val / 64 by show 2 * (e.val / 128 % 2) + _ = _; omega]
  show ∑ K ∈ Finset.range (256 * a + 256), ∑ h ∈ Finset.range 2, wK a (qsOf x3) (splitHeads k0_pay440 x4) (Fin.ofNat 2 (e.val / 128)) r h K * vK (splitHeads k0_pay440 x5) (Fin.ofNat 2 (e.val / 128)) (Fin.ofNat 128 (e.val % 128)) h K = _
  unfold attn
  refine Finset.sum_congr rfl fun K _ => ?_
  have hm : (Fin.ofNat 128 (e.val % 128)).val = e.val % 128 := by show _ % 128 = _; omega
  rw [Finset.sum_eq_single_of_mem (e.val % 128 / 64) (Finset.mem_range.mpr hh) (fun h h1 h2 => by
    unfold vK; rw [split_eq _ _ _ _ _ (Finset.mem_range.mp h1), if_neg (by rw [hm]; exact Ne.symm h2), mul_zero])]
  unfold vK
  rw [split_eq _ _ _ _ _ hh, if_pos (by rw [hm]), he]
  unfold wK lK gK
  simp only [hs]

end Cert.KernelIdeal.Hand
-- ==== Proof.Ideal.Cs.lean ====
module

public import proofs.«01_k».proof.Proof.Ideal.Simp
public import proofs.«01_k».proof.Proof.Ideal.Memrefs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

/-- Four squares beside each other. -/
abbrev row4 (a b d e : Vec Ideal S128x128 .bf16) : Vec Ideal S128x512 .bf16 :=
  concatenate S128x512 1 [⟨S128x128, a⟩, ⟨S128x128, b⟩, ⟨S128x128, d⟩, ⟨S128x128, e⟩] concatenates_S128x128_S128x128_S128x128_S128x128_S128x512_d1

/-- The program's block matrix, from its squares. -/
theorem block_eq (σ : Valuation τ sig (Elt Ideal)) : StableHlo.after hostOps0_1 σ (Proc.devRef .tc main_v9)
    = concatenate S256x512 0 [⟨S128x512, row4 (σ (Proc.devRef .tc main_v6)) (σ (Proc.devRef .tc main_v8)) (σ (Proc.devRef .tc main_v7)) (σ (Proc.devRef .tc main_v8))⟩,
        ⟨S128x512, row4 (σ (Proc.devRef .tc main_v8)) (σ (Proc.devRef .tc main_v6)) (σ (Proc.devRef .tc main_v8)) (σ (Proc.devRef .tc main_v7))⟩] concatenates_S128x512_S128x512_S256x512_d0 := by
  simp only [StableHlo.after_cons, StableHlo.after_nil, StableHlo.TRef.binary, StableHlo.TRef.nary]
  rw [StableHlo.binary_result]
  repeat (first | rw [StableHlo.nary_result] | (rw [StableHlo.nary_result_ne]; rotate_left; decide))
  rfl

/-- The squares: the strict lower triangle, the ones and the zeros. -/
theorem squares_eq (σ : Valuation τ sig (Elt Ideal)) :
    (∀ x e : Fin 128, StableHlo.after hostOps0 σ (Proc.devRef .tc main_v6) (ix2 x e) = if e.val < x.val then (1 : EReal) else 0)
    ∧ (∀ x e : Fin 128, StableHlo.after hostOps0 σ (Proc.devRef .tc main_v7) (ix2 x e) = (1 : EReal))
    ∧ (∀ x e : Fin 128, StableHlo.after hostOps0 σ (Proc.devRef .tc main_v8) (ix2 x e) = (0 : EReal)) := by
  refine ⟨fun x e => ?_, fun x e => ?_, fun x e => ?_⟩
  · after_results
    pointwise
    have e1 : IntOp.cmpi CmpIPredicate.sgt (BitVec.ofNat 32 x.val) (BitVec.ofNat 32 e.val) = BitVec.ofBool ((BitVec.ofNat 32 e.val).slt (BitVec.ofNat 32 x.val)) := rfl
    rw [e1, slt_word _ _ (by omega) (by omega)]
    by_cases h : e.val < x.val
    · rw [if_pos h, decide_eq_true h]
      show (((1#1 : BitVec 1).toNat : ℝ) : EReal) = 1
      simp
    · rw [if_neg h, decide_eq_false h]
      show (((0#1 : BitVec 1).toNat : ℝ) : EReal) = 0
      simp
  · after_results
    pointwise
  · after_results
    pointwise

/-- The triangle matrix, as the region finds it. -/
theorem tri_at (c : Dev nD) : IsTri (V m c main_v9) := by
  have e : V m c main_v9 = _ := (congrFun (StableHlo.after_append hostOps0 hostOps0_1 _) _).trans (block_eq (StableHlo.after hostOps0 (fun b => m (c, b))))
  obtain ⟨h6, h7, h8⟩ := squares_eq (fun b => m (c, b))
  rw [e]
  constructor
  · intro x e
    pointwise
    simp only [h6, h7, h8]
    split_ifs <;> first | rfl | (exfalso; omega)
  · intro x e
    pointwise
    simp only [h6, h7, h8]
    split_ifs <;> first | rfl | (exfalso; omega)

end Cert.KernelIdeal.Hand
-- ==== Proof.Ideal.Blocks.lean ====
module

public import proofs.«01_k».proof.Proof.Ideal.Cs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The windows' blocks by the point: sixteen blocks of queries, under four groups of heads, under two sequences. -/
theorem blk_idx : ∀ t : Fin cfg0.N, win0_0.index t = ![16 * (t.val / 64) + t.val % 16, t.val / 16 % 4] ∧ win0_1.index t = ![t.val / 64, 4 + t.val / 16 % 4]
    ∧ win0_2.index t = ![t.val / 64, 8 + t.val / 16 % 4] ∧ win0_3.index t = ![0, 0] ∧ win0_4.index t = ![16 * (t.val / 64) + t.val % 16, t.val / 16 % 4] :=
  (by decide +kernel : ∀ t : Fin grid0.N, _)

/-- A point's last coordinate. -/
theorem coord2 (t : Fin cfg0.N) : (grid0.coords t 2).val = t.val % 16 := by
  have e2 : (grid0.coords t 2).val = t.val / 1 % 16 := Pipeline.Grid.coords_val t 2 (by decide) rfl
  omega

theorem blk3_eq (c : Dev nD) (t : Fin cfg0.N) : iblk m c 3 t = V m c main_v9 := by
  funext y
  blk_ext [iblk, (blk_idx t).2.2.2.1]

theorem blk1_at (c : Dev nD) (t : Fin cfg0.N) (x : Fin 4096) (e : Fin 256) : iblk m c 1 t (ix2 x e) = m ((c : Thread nD τ).loc main_arg0) (ix2 ⟨4096 * (t.val / 64) + x.val, by have := lt_of_lt_of_eq t.isLt N_0; omega⟩ ⟨1024 + 256 * (t.val / 16 % 4) + e.val, by omega⟩) := by
  rw [← V_main_arg0 m c]
  blk_ext [iblk, (blk_idx t).2.1]

theorem blk2_at (c : Dev nD) (t : Fin cfg0.N) (x : Fin 4096) (e : Fin 256) : iblk m c 2 t (ix2 x e) = m ((c : Thread nD τ).loc main_arg0) (ix2 ⟨4096 * (t.val / 64) + x.val, by have := lt_of_lt_of_eq t.isLt N_0; omega⟩ ⟨2048 + 256 * (t.val / 16 % 4) + e.val, by omega⟩) := by
  rw [← V_main_arg0 m c]
  blk_ext [iblk, (blk_idx t).2.2.1]

theorem blk0_at (c : Dev nD) (t : Fin cfg0.N) (x : Fin 256) (e : Fin 256) : iblk m c 0 t (ix2 x e) = m ((c : Thread nD τ).loc main_arg0) (ix2 ⟨4096 * (t.val / 64) + 256 * (t.val % 16) + x.val, by have := lt_of_lt_of_eq t.isLt N_0; omega⟩ ⟨256 * (t.val / 16 % 4) + e.val, by omega⟩) := by
  rw [← V_main_arg0 m c]
  blk_ext [iblk, (blk_idx t).1]

theorem blk1_same (c : Dev nD) (t u : Fin cfg0.N) (h : t.val / 16 = u.val / 16) : (iblk m c 1 t : Vec Ideal S4096x256 .bf16) = iblk m c 1 u := by
  funext y
  obtain ⟨y0, y1, rfl⟩ : ∃ y0 y1, y = ix2 y0 y1 := ⟨y 0, y 1, funext fun a => by fin_cases a <;> rfl⟩
  rw [blk1_at m c t y0 y1, blk1_at m c u y0 y1]
  simp only [h, show t.val / 64 = u.val / 64 by omega]

theorem blk2_same (c : Dev nD) (t u : Fin cfg0.N) (h : t.val / 16 = u.val / 16) : (iblk m c 2 t : Vec Ideal S4096x256 .bf16) = iblk m c 2 u := by
  funext y
  obtain ⟨y0, y1, rfl⟩ : ∃ y0 y1, y = ix2 y0 y1 := ⟨y 0, y 1, funext fun a => by fin_cases a <;> rfl⟩
  rw [blk2_at m c t y0 y1, blk2_at m c u y0 y1]
  simp only [h, show t.val / 64 = u.val / 64 by omega]

end Cert.KernelIdeal.Hand
-- ==== Proof.Ideal.Region.lean ====
module

public import proofs.«01_k».proof.Proof.Ideal.Blocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The keys of a point's four heads, split by head; and the values. -/
def keysOf (c : Dev nD) (t : Fin cfg0.N) : Vec Ideal S2x32x256x128 .bf16 := splitHeads k0_pay440 (iblk m c 1 t)
def valsOf (c : Dev nD) (t : Fin cfg0.N) : Vec Ideal S2x32x256x128 .bf16 := splitHeads k0_pay440 (iblk m c 2 t)

/-- What the body stores at a point. -/
def outOf (c : Dev nD) (t : Fin cfg0.N) : Vec Ideal S256x256 .bf16 := outK (grid0.coords t 2).val (qsOf (iblk m c 0 t)) (keysOf m c t) (valsOf m c t)

/-- The point of a number. -/
def pt (n : ℕ) : Fin cfg0.N := ⟨n % 128, lt_of_lt_of_eq (Nat.mod_lt _ (by decide)) N_0.symm⟩

/-- The scratch with the keys and the values in place. -/
def held (c : Dev nD) (t : Fin cfg0.N) : sProp 𝕄 :=
  iprop(iprop(owns (c : Thread nD τ) sc0 fullShare (keysOf m c t) ∗ owns (c : Thread nD τ) sc1 fullShare (valsOf m c t) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r))

/-- The scratch before point `n`: anything at a row's first point, the row's keys and values at the others. -/
def scratchAt (c : Dev nD) (n : ℕ) : sProp 𝕄 := if n % 16 = 0 then Pipeline.ΦA spec0 c else held m c (pt (n - 1))

/-- The proof data: the inputs at their blocks, the output at what the body stores. -/
def valDats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outOf m c t
  Φ t := scratchAt m c t.val
  q w := Pipeline.shareOf spec0 w
  owed _ := 0

theorem valA (c : Dev nD) (w : Fin cfg0.W) : (valDats m 0 c).A w = V m c (Pipeline.arrRef spec0 w) := by
  dsimp only [valDats]

theorem valAfter0 (c : Dev nD) (t : Fin cfg0.N) : (valDats m 0 c).after 0 t = iblk m c 0 t := by dsimp only [valDats]
theorem valAfter1 (c : Dev nD) (t : Fin cfg0.N) : (valDats m 0 c).after 1 t = iblk m c 1 t := by dsimp only [valDats]
theorem valAfter2 (c : Dev nD) (t : Fin cfg0.N) : (valDats m 0 c).after 2 t = iblk m c 2 t := by dsimp only [valDats]
theorem valAfter3 (c : Dev nD) (t : Fin cfg0.N) : (valDats m 0 c).after 3 t = iblk m c 3 t := by dsimp only [valDats]
theorem valAfter4 (c : Dev nD) (t : Fin cfg0.N) : (valDats m 0 c).after 4 t = outOf m c t := by dsimp only [valDats]

theorem valBefore0 (c : Dev nD) (t : Fin cfg0.N) (d) : (valDats m 0 c).before 0 t d = iblk m c 0 t :=
  before0_0_of m (valDats m 0 c) (valA m c 0) (valAfter0 m c) t d
theorem valBefore1 (c : Dev nD) (t : Fin cfg0.N) (d) : (valDats m 0 c).before 1 t d = iblk m c 1 t :=
  before0_1_of m (valDats m 0 c) (valA m c 1) (valAfter1 m c) t d
theorem valBefore2 (c : Dev nD) (t : Fin cfg0.N) (d) : (valDats m 0 c).before 2 t d = iblk m c 2 t :=
  before0_2_of m (valDats m 0 c) (valA m c 2) (valAfter2 m c) t d
theorem valBefore3 (c : Dev nD) (t : Fin cfg0.N) (d) : (valDats m 0 c).before 3 t d = iblk m c 3 t :=
  before0_3_of m (valDats m 0 c) (valA m c 3) (valAfter3 m c) t d

/-- What the body is called with at point `t`. -/
def valPre (c : Dev nD) (t : Fin cfg0.N) : sProp 𝕄 :=
  iprop((valDats m 0 c).Φ t.castSucc ∗ (valDats m 0 c).owesAt () t.castSucc
    ∗ (∃ d, owns (c : Thread nD τ) (ms0 t) fullShare ((valDats m 0 c).before 0 t d))
    ∗ (∃ d, owns (c : Thread nD τ) (ms1 t) fullShare ((valDats m 0 c).before 1 t d))
    ∗ (∃ d, owns (c : Thread nD τ) (ms2 t) fullShare ((valDats m 0 c).before 2 t d))
    ∗ (∃ d, owns (c : Thread nD τ) (ms3 t) fullShare ((valDats m 0 c).before 3 t d))
    ∗ (∃ d, owns (c : Thread nD τ) (ms4 t) fullShare ((valDats m 0 c).before 4 t d)))

/-- What the body returns. -/
def valPost (c : Dev nD) (t : Fin cfg0.N) : sProp 𝕄 :=
  iprop((valDats m 0 c).Φ t.succ ∗ (valDats m 0 c).owesAt () t.succ
    ∗ owns (c : Thread nD τ) (ms0 t) fullShare ((valDats m 0 c).after 0 t)
    ∗ owns (c : Thread nD τ) (ms1 t) fullShare ((valDats m 0 c).after 1 t)
    ∗ owns (c : Thread nD τ) (ms2 t) fullShare ((valDats m 0 c).after 2 t)
    ∗ owns (c : Thread nD τ) (ms3 t) fullShare ((valDats m 0 c).after 3 t)
    ∗ owns (c : Thread nD τ) (ms4 t) fullShare ((valDats m 0 c).after 4 t))

/-- The scratch after a point, from the keys and the values in place. -/
theorem held_next (c : Dev nD) (t : Fin cfg0.N) : held m c t ⊢ scratchAt m c (t.val + 1) := by
  have ht : t.val < 128 := lt_of_lt_of_eq t.isLt N_0
  unfold scratchAt
  by_cases h : (t.val + 1) % 16 = 0
  · rw [if_pos h, restAny_eq]
    unfold held
    iintro ⟨⟨HS0, HS1, HS2, HS3, HS4, HS5⟩, Hg⟩
    isplitl [HS0 HS1 HS2 HS3 HS4 HS5]
    · isplitl [HS0]; · iexists _; iexact HS0
      isplitl [HS1]; · iexists _; iexact HS1
      isplitl [HS2]; · iexact HS2
      isplitl [HS3]; · iexact HS3
      isplitl [HS4]; · iexact HS4
      iexact HS5
    iexact Hg
  · rw [if_neg h, show pt (t.val + 1 - 1) = t from Fin.ext (by show (t.val + 1 - 1) % 128 = t.val; omega)]

/-- The keys and the values stay along a row. -/
theorem held_row (c : Dev nD) (t : Fin cfg0.N) (h : ¬ t.val % 16 = 0) : scratchAt m c t.val = held m c t := by
  have ht : t.val < 128 := lt_of_lt_of_eq t.isLt N_0
  unfold scratchAt
  rw [if_neg h]
  have hp : (pt (t.val - 1)).val / 16 = t.val / 16 := by show (t.val - 1) % 128 / 16 = _; omega
  unfold held keysOf valsOf
  rw [blk1_same m c _ t hp, blk2_same m c _ t hp]

set_option maxHeartbeats 3200000 in
theorem valSound (c : Dev nD) (t : Fin cfg0.N) :
    valPre m c t ⊢ wp frame (wpE (defs₀ (F := Ideal)) Variants.none c none) Set.univ (bodyAt0 t) (fun _ => valPost m c t) := by
  have htri : IsTri (iblk m c 3 t) := by rw [blk3_eq]; exact tri_at m c
  unfold valPre valPost bodyAt0
  simp only [valBefore0, valBefore1, valBefore2, valBefore3]
  rw [show (valDats m 0 c).owesAt () t.succ = (valDats m 0 c).owesAt () t.castSucc from rfl,
    valAfter0, valAfter1, valAfter2, valAfter3, valAfter4]
  rw [show (valDats m 0 c).Φ t.succ = scratchAt m c (t.val + 1) from rfl, show (valDats m 0 c).Φ t.castSucc = scratchAt m c t.val from rfl]
  refine BIBase.Entails.trans ?_ (wp_mono _ _ _ fun _ => sep_mono (held_next m c t) .rfl)
  by_cases h0 : t.val % 16 = 0
  · rw [show scratchAt m c t.val = Pipeline.ΦA spec0 c from if_pos h0, restAny_eq]
    unfold held
    iintro ⟨⟨⟨HS0, HS1, HS2, HS3, HS4, HS5⟩, Hg⟩, Ho, ⟨%d0, H0⟩, ⟨%d1, H1⟩, ⟨%d2, H2⟩, ⟨%d3, H3⟩, ⟨%d4, H4⟩⟩
    iapply (body_outA c (grid0.coords t) _ _ _ _ _ _ _ _ _ _ _ _ _ _ _ _ _ _ _ _ _ _ ((cond0_iff t).mpr h0) (iblk m c 0 t) (iblk m c 1 t) (iblk m c 2 t) (iblk m c 3 t) htri Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    iexact H4
  · rw [held_row m c t h0]
    unfold held
    iintro ⟨⟨⟨HS0, HS1, HS2, HS3, HS4, HS5⟩, Hg⟩, Ho, ⟨%d0, H0⟩, ⟨%d1, H1⟩, ⟨%d2, H2⟩, ⟨%d3, H3⟩, ⟨%d4, H4⟩⟩
    iapply (body_outB c (grid0.coords t) _ _ _ _ _ _ _ _ _ _ _ _ _ _ _ _ _ _ _ _ _ _ (fun h => h0 ((cond0_iff t).mp h)) (iblk m c 0 t) (iblk m c 1 t) (iblk m c 2 t) (iblk m c 3 t) htri Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    iexact H4

/-- The body obligation at every point. -/
theorem valBody (c : Dev nD) : BodyObligation (valDats m 0 c) (defs₀ (F := Ideal)) Variants.none () Set.univ := fun t => by
  rw [bigSep_W0, bigSep_W0, defs_row]
  exact triple_restated (valSound m c t) rfl .rfl fun _ => .rfl

theorem last_held (c : Dev nD) : (valDats m 0 c).Φ (Fin.last (cfgs 0).N) = Pipeline.ΦA spec0 c := by
  show scratchAt m c cfg0.N = _
  exact if_pos ((congrArg (· % 16) N_0).trans rfl)

set_option backward.isDefEq.respectTransparency.types false in
/-- The launch: every fair execution ends, with the arrays at what the run leaves and every counter at zero. -/
theorem valRun : θ_run defs (onTc (τ := τ) (main (F := Ideal))) (s₀ m ρ) (fun r => Pipeline.FramePost cfgs (valDats m) 0 (V m) r ∧ r.2.sem = fun _ => 0) :=
  Pipeline.θ_run_frame_track_shared (Q' := _) cfgs (valDats m) (0 : Fin 1) launch₀0 defs₀ Variants.none m ρ main
    (hbody := fun c => (valBody m c).loose) (hq := fun _ _ _ => rfl)
    (howed := fun _ _ => rfl) (V := V m) (hmain := hmain m Variants.none) (hA := valA m) (hin := fun _ => .rfl) (hout := fun c => by
      exact Entails.of_eq (last_held m c))

end Cert.KernelIdeal.Hand
-- ==== Proof.Ideal.Final.lean ====
module

public import proofs.«01_k».proof.Proof.Ideal.Region

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The score of a row of the argument's queries against a row of its keys, in the kernel's order. -/
def sX (X : FVec Ideal S8192x3072 .bf16) (p h K : ℕ) : EReal :=
  ∑ l : Fin 64, X (ix2 (Fin.ofNat 8192 p) (Fin.ofNat 3072 (64 * h + l.val))) * ((1 / 8 : ℝ) : EReal)
    * X (ix2 (Fin.ofNat 8192 (4096 * (p / 4096) + K % 4096)) (Fin.ofNat 3072 (1024 + (64 * h + l.val))))

/-- A row of the argument's values. -/
def vX (X : FVec Ideal S8192x3072 .bf16) (p n K : ℕ) : EReal :=
  X (ix2 (Fin.ofNat 8192 (4096 * (p / 4096) + K % 4096)) (Fin.ofNat 3072 (2048 + n)))

/-- The attention of the argument, row by row. -/
def attnOf (X : FVec Ideal S8192x3072 .bf16) : FVec Ideal S8192x1024 .bf16 := fun i =>
  attn ((i 0).val % 4096) 4096 (sX X (i 0).val ((i 1).val / 64)) (vX X (i 0).val (i 1).val)

variable (m : (ℓ : Loc nD τ sig) → Buf (Elt Ideal) ℓ) (ρ : Dev nD → PrngReg)

/-- What the body stores at an index of a point's block is the attention there. -/
theorem outOf_at (c : Dev nD) (t : Fin cfg0.N) (r e : Fin 256) (i : Fin 8192) (j : Fin 1024) (hi : i.val = 4096 * (t.val / 64) + 256 * (t.val % 16) + r.val)
    (hj : j.val = 256 * (t.val / 16 % 4) + e.val) :
    outOf m c t (ix2 r e) = attnOf (m ((c : Thread nD τ).loc main_arg0)) (ix2 i j) := by
  have ht : t.val < 128 := lt_of_lt_of_eq t.isLt N_0
  have hr := r.isLt
  have he := e.isLt
  refine (outK_at (grid0.coords t 2).val (iblk m c 0 t) (iblk m c 1 t) (iblk m c 2 t) r e).trans ?_
  have e1 : (fun K => iblk m c 2 t (ix2 (Fin.ofNat 4096 K) e)) = vX (m ((c : Thread nD τ).loc main_arg0)) i.val j.val := funext fun K => by
    rw [blk2_at m c t (Fin.ofNat 4096 K) e]
    unfold vX
    refine congrArg _ (congrArg₂ ix2 (Fin.ext ?_) (Fin.ext ?_))
    · show 4096 * (t.val / 64) + K % 4096 = (4096 * (i.val / 4096) + K % 4096) % 8192
      omega
    · show 2048 + 256 * (t.val / 16 % 4) + e.val = (2048 + j.val) % 3072
      omega
  have e2 : sH (iblk m c 0 t) (iblk m c 1 t) r (e.val / 64) = sX (m ((c : Thread nD τ).loc main_arg0)) i.val (j.val / 64) := funext fun K => by
    unfold sH sX
    refine Finset.sum_congr rfl fun l _ => ?_
    have hl := l.isLt
    rw [blk0_at m c t r (Fin.ofNat 256 (64 * (e.val / 64) + l.val)), blk1_at m c t (Fin.ofNat 4096 K) (Fin.ofNat 256 (64 * (e.val / 64) + l.val))]
    refine congrArg₂ (fun a b : EReal => a * ((1 / 8 : ℝ) : EReal) * b) (congrArg _ (congrArg₂ ix2 (Fin.ext ?_) (Fin.ext ?_))) (congrArg _ (congrArg₂ ix2 (Fin.ext ?_) (Fin.ext ?_)))
    · show 4096 * (t.val / 64) + 256 * (t.val % 16) + r.val = i.val % 8192
      omega
    · show 256 * (t.val / 16 % 4) + (64 * (e.val / 64) + l.val) % 256 = (64 * (j.val / 64) + l.val) % 3072
      omega
    · show 4096 * (t.val / 64) + K % 4096 = (4096 * (i.val / 4096) + K % 4096) % 8192
      omega
    · show 1024 + 256 * (t.val / 16 % 4) + (64 * (e.val / 64) + l.val) % 256 = (1024 + (64 * (j.val / 64) + l.val)) % 3072
      omega
  rw [e2, e1, attn_more _ _ 4096 (by omega) (by rw [coord2]; omega)]
  have e3 : 256 * (grid0.coords t 2).val + r.val = i.val % 4096 := by rw [coord2]; omega
  rw [e3]
  rfl

set_option maxRecDepth 16384 in
/-- The result array after the run. -/
theorem final (c : Dev nD) : (valDats m 0 c).arrAt 4 (cfgs 0).N = attnOf (m ((c : Thread nD τ).loc main_arg0)) := by
  refine (valDats m 0 c).arrAt_eq_of_covers 4 _ (by decide +kernel) fun t _ y => ?_
  blk_simp
  rw [valAfter4]
  have ht : t.val < 128 := lt_of_lt_of_eq t.isLt N_0
  obtain ⟨y0, y1, rfl⟩ : ∃ (y0 y1 : Fin 256), y = ix2 y0 y1 := ⟨y 0, y 1, funext fun a => by fin_cases a <;> rfl⟩
  refine (outOf_at m c t y0 y1 ⟨4096 * (t.val / 64) + 256 * (t.val % 16) + y0.val, by omega⟩ ⟨256 * (t.val / 16 % 4) + y1.val, by omega⟩ rfl rfl).trans ?_
  blk_ext [(blk_idx t).2.2.2.2]

/-- The kernel's run: the result at the attention of the argument, the argument unchanged. -/
theorem kernel_run : θ_run defs (onTc (τ := τ) (main (F := Ideal))) ⟨m, fun _ => 0, ρ⟩ (fun r => ∀ c : Dev nD,
      r.2.mem ((c.tc : Thread nD τ).loc main_v10) = attnOf (m ((c.tc : Thread nD τ).loc main_arg0))
      ∧ r.2.mem ((c.tc : Thread nD τ).loc main_arg0) = m ((c.tc : Thread nD τ).loc main_arg0)) :=
  (θ_run defs _ _).mono (fun _ h c => ⟨((h.1 c).1 4).trans (final m c),
    ((h.1 c).1 2).trans (((valDats m 0 c).arrAt_in 2 rfl _).trans ((valA m c 2).trans (V_main_arg0 m c)))⟩) (valRun m ρ)

end Cert.KernelIdeal.Hand
-- ==== Proof.Ideal.RefMath.lean ====
module

public import proofs.«01_k».proof.Proof.Ideal.RefTerm
public import proofs.«01_k».proof.Proof.Ideal.Final

@[expose] public section

set_option maxRecDepth 16384

noncomputable section

namespace Cert.ReferenceIdeal.Hand

open Cert.ReferenceIdeal Cert.ReferenceIdeal.Gen Idealize.ShloMosaic Idealize.ShloMosaic.TcCoe Idealize.SL.Sem

open Cert.KernelIdeal.Hand (lbE attn)

theorem foldl_add {α : Type} (f : EReal → α → EReal) (g : α → EReal) (hf : ∀ r n, f r n = r + g n) (l : List α) (a : EReal) : l.foldl f a = a + (l.map g).sum := by
  induction l generalizing a with
  | nil => simp
  | cons n l ih => rw [List.foldl_cons, ih, List.map_cons, List.sum_cons, hf, add_assoc]

/-- A window sum from zero, at an index: the sum over the window's positions. -/
theorem window_sum {s t : Shape} (window strides lo hi : Fin s.rank → ℕ) (h : s.ReduceWindows window strides lo hi t) (x : s.Idx → EReal) (j : t.Idx) :
    Ideal.hostReduceWindowAdd window strides lo hi h x 0 j = ∑ y : (⟨s.rank, window⟩ : Shape).Idx,
      (if hin : ∀ a, lo a ≤ (j (a.cast h.1.symm)).val * strides a + (y a).val ∧ (j (a.cast h.1.symm)).val * strides a + (y a).val - lo a < s.size a
        then x (fun a => ⟨(j (a.cast h.1.symm)).val * strides a + (y a).val - lo a, (hin a).2⟩) else 0) := by
  unfold Ideal.hostReduceWindowAdd Host.reduceWindow
  dsimp only
  refine (foldl_add _ (fun n => if hin : ∀ a, lo a ≤ (j (a.cast h.1.symm)).val * strides a + ((⟨s.rank, window⟩ : Shape).rowMajor.symm n a).val ∧ (j (a.cast h.1.symm)).val * strides a + ((⟨s.rank, window⟩ : Shape).rowMajor.symm n a).val - lo a < s.size a
        then x (fun a => ⟨(j (a.cast h.1.symm)).val * strides a + ((⟨s.rank, window⟩ : Shape).rowMajor.symm n a).val - lo a, (hin a).2⟩) else 0) (fun r n => congrArg (r + ·) (dite_congr rfl (fun _ => rfl) fun _ => rfl)) _ _).trans ?_
  rw [zero_add, ← Fin.sum_univ_def]
  exact Equiv.sum_comp (⟨s.rank, window⟩ : Shape).rowMajor.symm (fun y => if hin : ∀ a, lo a ≤ (j (a.cast h.1.symm)).val * strides a + (y a).val ∧ (j (a.cast h.1.symm)).val * strides a + (y a).val - lo a < s.size a
        then x (fun a => ⟨(j (a.cast h.1.symm)).val * strides a + (y a).val - lo a, (hin a).2⟩) else 0)

/-- The indices of a window along the last axis. -/
theorem sum_last {n : ℕ} (g : (⟨4, ![1, 1, 1, n]⟩ : Shape).Idx → EReal) : ∑ y, g y = ∑ J : Fin n, g (ix4 (0 : Fin 1) (0 : Fin 1) (0 : Fin 1) J) := by
  refine (Fintype.sum_bijective (fun J : Fin n => (ix4 (0 : Fin 1) (0 : Fin 1) (0 : Fin 1) J : (⟨4, ![1, 1, 1, n]⟩ : Shape).Idx)) ⟨fun a b e => ?_, fun y => ⟨y 3, ?_⟩⟩ _ _ fun _ => rfl).symm
  · exact congrFun e 3
  · funext a
    fin_cases a
    · exact Subsingleton.elim (α := Fin 1) _ _
    · exact Subsingleton.elim (α := Fin 1) _ _
    · exact Subsingleton.elim (α := Fin 1) _ _
    · rfl

/-- A reversed running sum along the last axis, at any extents. -/
theorem cum_sum {A B M n p : ℕ} (x : (⟨4, ![A, B, M, n]⟩ : Shape).Idx → EReal) (hw : (⟨4, ![A, B, M, n]⟩ : Shape).ReduceWindows ![1, 1, 1, n] ![1, 1, 1, 1] ![0, 0, 0, 0] ![0, 0, 0, p] ⟨4, ![A, B, M, n]⟩)
    (b : Fin A) (h : Fin B) (q : Fin M) (k : Fin n) :
    Ideal.hostReduceWindowAdd ![1, 1, 1, n] ![1, 1, 1, 1] ![0, 0, 0, 0] ![0, 0, 0, p] hw x 0 (ix4 b h q k)
      = ∑ J : Fin n, if hJ : k.val + J.val < n then x (ix4 b h q ⟨k.val + J.val, hJ⟩) else 0 := by
  rw [window_sum]
  refine (sum_last (n := n) _).trans ?_
  refine Finset.sum_congr rfl fun J _ => ?_
  by_cases hin : k.val + J.val < n
  · have hb := b.isLt
    have hh := h.isLt
    have hq := q.isLt
    rw [dif_pos (fun a => ?_), dif_pos hin]
    · refine congrArg x (funext fun a => Fin.ext ?_)
      fin_cases a
      · show b.val * 1 + 0 - 0 = b.val; omega
      · show h.val * 1 + 0 - 0 = h.val; omega
      · show q.val * 1 + 0 - 0 = q.val; omega
      · show k.val * 1 + J.val - 0 = k.val + J.val; omega
    · fin_cases a
      · show 0 ≤ b.val * 1 + 0 ∧ b.val * 1 + 0 - 0 < A; omega
      · show 0 ≤ h.val * 1 + 0 ∧ h.val * 1 + 0 - 0 < B; omega
      · show 0 ≤ q.val * 1 + 0 ∧ q.val * 1 + 0 - 0 < M; omega
      · show 0 ≤ k.val * 1 + J.val ∧ k.val * 1 + J.val - 0 < n; omega
  · rw [dif_neg (fun hc => hin (by have := (hc 3).2; change k.val * 1 + J.val - 0 < n at this; omega)), dif_neg hin]

theorem window_def {s t u : Shape} (window strides lo hi : Fin s.rank → ℕ) (x : FVec Ideal s .f32) (init : u.Idx → Ideal .f32) (h : s.ReduceWindows window strides lo hi t) (hu : 0 < u.numel) :
    Host.reduceWindowAdd window strides lo hi x init h hu = Ideal.hostReduceWindowAdd window strides lo hi h x (init (Shape.Idx.first hu)) := rfl

/-- The sums over the later keys, each key's own included. -/
theorem cumArr_at (x : FVec Ideal S2x16x4096x4096 .f32) (b : Fin 2) (h : Fin 16) (q k : Fin 4096) :
    cumArr x (ix4 b h q k) = ∑ J ∈ Finset.Ico k.val 4096, x (ix4 b h q (Fin.ofNat 4096 J)) := by
  have h0 : (broadcastInDim S_ ![] bcast_S_S_ (constant (F := Ideal) S_ .f32 0x00000000#32)) (Shape.Idx.first h_S_) = 0 := Ideal.ofBits_zero_f32
  unfold cumArr
  rw [window_def, h0]
  refine (cum_sum x _ b h q k).trans ?_
  have e : ∀ J : Fin 4096, (if hJ : k.val + J.val < 4096 then x (ix4 b h q ⟨k.val + J.val, hJ⟩) else 0) = if k.val + J.val < 4096 then x (ix4 b h q (Fin.ofNat 4096 (k.val + J.val))) else 0 := fun J => by
    by_cases hJ : k.val + J.val < 4096
    · rw [dif_pos hJ, if_pos hJ]
      exact congrArg x (congrArg (ix4 b h q) (Fin.ext (Nat.mod_eq_of_lt hJ).symm))
    · rw [dif_neg hJ, if_neg hJ]
  refine (Finset.sum_congr rfl fun J _ => e J).trans ?_
  have hk := k.isLt
  rw [Fin.sum_univ_eq_sum_range (fun J => if k.val + J < 4096 then x (ix4 b h q (Fin.ofNat 4096 (k.val + J))) else 0) 4096, ← Finset.sum_filter, Finset.sum_Ico_eq_sum_range]
  refine Finset.sum_congr (Finset.ext fun J => ?_) fun _ _ => rfl
  simp only [Finset.mem_filter, Finset.mem_range]
  omega

theorem exp_pos_log (r : ℝ) : Ideal.log (1 + ((Real.exp r : ℝ) : EReal)) = ((Real.log (1 + Real.exp r) : ℝ) : EReal) := by
  rw [← EReal.coe_one, ← EReal.coe_add, Ideal.log_coe, if_neg (by have := Real.exp_pos r; linarith)]

theorem max_coe (a b : ℝ) : max (a : EReal) (b : EReal) = ((max a b : ℝ) : EReal) := (EReal.coe_strictMono.monotone.map_max (a := a) (b := b)).symm
theorem min_coe (a b : ℝ) : min (a : EReal) (b : EReal) = ((min a b : ℝ) : EReal) := (EReal.coe_strictMono.monotone.map_min (a := a) (b := b)).symm

theorem logsig_at (u : FVec Ideal S2x16x4096x4096 .f32) (i : S2x16x4096x4096.Idx) (r : ℝ) (hr : u i = (r : EReal)) :
    logsig u i = ((-(max r 0 + Real.log (1 + Real.exp (-|r|))) : ℝ) : EReal) := by
  have e : logsig u i = -(Scalar.select (FloatOps.cmpf (F := Ideal) (φ := .f32) .une (u i - oArr i : EReal) (u i - oArr i : EReal)) (u i + oArr i : EReal) (max (u i) (oArr i) + Ideal.log (1 + Ideal.exp (-(max (u i - oArr i : EReal) (-(u i - oArr i : EReal))))) : EReal)) := rfl
  have hc : FloatOps.cmpf (F := Ideal) (φ := .f32) .une (u i - oArr i : EReal) (u i - oArr i : EReal) = 0#1 := by
    show BitVec.ofBool (decide ((u i - oArr i : EReal) ≠ (u i - oArr i : EReal))) = 0#1
    rw [decide_eq_false (fun h => h rfl)]
    rfl
  rw [e, hc, oArr_at, hr]
  unfold Scalar.select
  rw [if_neg (by decide), sub_zero, ← EReal.coe_neg, max_coe, ← EReal.coe_neg, Ideal.exp_coe, exp_pos_log, ← EReal.coe_zero, max_coe, ← EReal.coe_add, ← EReal.coe_neg]
  rfl

theorem lbE_real (r : ℝ) : lbE (r : EReal) = ((min r 0 - Real.log (1 + Real.exp (-|r|)) : ℝ) : EReal) := by
  have hn : Named.named (F := Ideal) (φ := .f32) Cert.KernelIdeal.κ "neg_log2_e" 0xBFB8AA3B#32 = ((-(Real.log 2)⁻¹ : ℝ) : EReal) := IdealRules.named_const.ideal_named_scalar _ _ _ _ rfl
  have h2 : Real.rpow 2 (|r| * (-(Real.log 2)⁻¹)) = Real.exp (-|r|) := by
    show (2 : ℝ) ^ (|r| * (-(Real.log 2)⁻¹)) = _
    have hl : Real.log 2 ≠ 0 := (Real.log_pos (by norm_num)).ne'
    rw [Real.rpow_def_of_pos (by norm_num)]
    congr 1
    field_simp
  unfold lbE
  rw [hn]
  have e : FloatOps.absf (F := Ideal) (φ := .f32) (r : EReal) = ((|r| : ℝ) : EReal) := by
    show max (r : EReal) (-(r : EReal)) = _
    rw [← EReal.coe_neg, max_coe]
    rfl
  rw [e, ← EReal.coe_mul]
  show min (r : EReal) 0 - Ideal.log (1 + Ideal.exp2 ((|r| * (-(Real.log 2)⁻¹) : ℝ) : EReal)) = _
  rw [Ideal.exp2_coe, h2, exp_pos_log, ← EReal.coe_zero, min_coe, ← EReal.coe_sub]

/-- What a key gets, and what it leaves, are the kernel's. -/
theorem get_at (u : FVec Ideal S2x16x4096x4096 .f32) (i : S2x16x4096x4096.Idx) (r : ℝ) (hr : u i = (r : EReal)) : logsig (Host.negf u) i = lbE (r : EReal) := by
  rw [logsig_at (Host.negf u) i (-r) ((congrArg (- · : EReal → EReal) hr).trans (EReal.coe_neg r).symm), lbE_real, abs_neg]
  refine congrArg _ ?_
  have : max (-r) 0 = -min r 0 := by rw [← neg_zero (G := ℝ), max_neg_neg, neg_zero]
  rw [this]; ring

theorem leave_at (u : FVec Ideal S2x16x4096x4096 .f32) (i : S2x16x4096x4096.Idx) (r : ℝ) (hr : u i = (r : EReal)) :
    logsig (Host.negf (Host.negf u)) i = lbE (r : EReal) - (r : EReal) := by
  rw [logsig_at (Host.negf (Host.negf u)) i r (((neg_neg (u i : EReal))).trans hr), lbE_real, ← EReal.coe_sub]
  refine congrArg _ ?_
  have := min_add_max r 0
  linarith

end Cert.ReferenceIdeal.Hand
-- ==== Proof.Ideal.RefEq.lean ====
module

public import proofs.«01_k».proof.Proof.Ideal.RefMath
public import proofs.«01_k».proof.Pre_queries_and_keys_are_finite
public import Idealize.ShloMosaic.Lib.ReduceAll

@[expose] public section

set_option maxRecDepth 16384

noncomputable section

namespace Cert.ReferenceIdeal.Hand

open Cert.ReferenceIdeal Cert.ReferenceIdeal.Gen Idealize.ShloMosaic Idealize.ShloMosaic.TcCoe Idealize.SL.Sem

open Cert.KernelIdeal.Hand (lbE attn sX vX attnOf)

theorem sum_real {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem cancel_real (a : ℝ) (S : EReal) : (a : EReal) + S - (a : EReal) = S := by
  induction S using EReal.rec with
  | bot => simp
  | coe x => rw [← EReal.coe_add, ← EReal.coe_sub]; congr 1; ring
  | top => simp

/-- Queries and keys that are real numbers. -/
def RealQK (X : FVec Ideal S8192x3072 .bf16) : Prop := ∀ (i : Fin 8192) (j : Fin 3072), j.val < 2048 → ∃ r : ℝ, X (ix2 i j) = (r : EReal)

/-- A score is a real number, the same in both orders of its product. -/
theorem score (X : FVec Ideal S8192x3072 .bf16) (hX : RealQK X) (b : Fin 2) (h : Fin 16) (q : Fin 4096) (K : ℕ) :
    ∃ r : ℝ, zArr X (ix4 b h q (Fin.ofNat 4096 K)) = (r : EReal) ∧ sX X (4096 * b.val + q.val) h.val K = (r : EReal) := by
  have hb := b.isLt
  have hq := q.isLt
  have hh := h.isLt
  have hQ : ∀ l : Fin 64, ∃ r : ℝ, X (ix2 ⟨4096 * b.val + q.val, by omega⟩ ⟨64 * h.val + l.val, by omega⟩) = (r : EReal) := fun l => hX _ _ (by show 64 * h.val + l.val < 2048; omega)
  have hK : ∀ l : Fin 64, ∃ r : ℝ, X (ix2 ⟨4096 * b.val + (Fin.ofNat 4096 K).val, by omega⟩ ⟨1024 + (64 * h.val + l.val), by omega⟩) = (r : EReal) := fun l => hX _ _ (by show 1024 + (64 * h.val + l.val) < 2048; omega)
  choose rq hrq using hQ
  choose rk hrk using hK
  refine ⟨(∑ l, rq l * rk l) * (1 / 8), ?_, ?_⟩
  · rw [zArr_at]
    simp only [hrq, hrk]
    simp only [← EReal.coe_mul]
    rw [sum_real, ← EReal.coe_mul]
  · unfold sX
    have e : ∀ l : Fin 64, X (ix2 (Fin.ofNat 8192 (4096 * b.val + q.val)) (Fin.ofNat 3072 (64 * h.val + l.val))) * ((1 / 8 : ℝ) : EReal)
        * X (ix2 (Fin.ofNat 8192 (4096 * ((4096 * b.val + q.val) / 4096) + K % 4096)) (Fin.ofNat 3072 (1024 + (64 * h.val + l.val)))) = ((rq l * (1 / 8) * rk l : ℝ) : EReal) := fun l => by
      rw [EReal.coe_mul, EReal.coe_mul, ← hrq, ← hrk]
      refine congrArg₂ (fun a b : EReal => a * ((1 / 8 : ℝ) : EReal) * b) (congrArg X (congrArg₂ ix2 (Fin.ext ?_) (Fin.ext ?_))) (congrArg X (congrArg₂ ix2 (Fin.ext ?_) (Fin.ext ?_)))
      · show (4096 * b.val + q.val) % 8192 = 4096 * b.val + q.val; omega
      · show (64 * h.val + l.val) % 3072 = 64 * h.val + l.val; omega
      · show (4096 * ((4096 * b.val + q.val) / 4096) + K % 4096) % 8192 = 4096 * b.val + K % 4096; omega
      · show (1024 + (64 * h.val + l.val)) % 3072 = 1024 + (64 * h.val + l.val); omega
    rw [Finset.sum_congr rfl fun l _ => e l, sum_real, Finset.sum_mul]
    refine congrArg _ (Finset.sum_congr rfl fun l _ => ?_)
    ring

theorem ofNat_self (k : Fin 4096) : Fin.ofNat 4096 k.val = k := Fin.ext (Nat.mod_eq_of_lt k.isLt)

/-- What each earlier key leaves. -/
theorem keepArr_at (X : FVec Ideal S8192x3072 .bf16) (hX : RealQK X) (b : Fin 2) (h : Fin 16) (q : Fin 4096) (K : ℕ) (hK : K < 4096) :
    keepArr (zArr X) (ix4 b h q (Fin.ofNat 4096 K))
      = if K < q.val then lbE (sX X (4096 * b.val + q.val) h.val K) - sX X (4096 * b.val + q.val) h.val K else 0 := by
  obtain ⟨r, hr, hs⟩ := score X hX b h q K
  have e : keepArr (zArr X) (ix4 b h q (Fin.ofNat 4096 K)) = Scalar.select (cArr (ix4 b h q (Fin.ofNat 4096 K))) (logsig (Host.negf (Host.negf (zArr X))) (ix4 b h q (Fin.ofNat 4096 K))) (oArr (ix4 b h q (Fin.ofNat 4096 K))) := rfl
  rw [e, cArr_at, leave_at _ _ r hr, oArr_at, hs, show (Fin.ofNat 4096 K).val = K from Nat.mod_eq_of_lt hK]
  unfold Scalar.select
  by_cases hc : K < q.val
  · rw [if_pos hc, if_pos (by decide), if_pos hc]
  · rw [if_neg hc, if_neg (by decide), if_neg hc]

theorem keep_real (X : FVec Ideal S8192x3072 .bf16) (hX : RealQK X) (b : Fin 2) (h : Fin 16) (q : Fin 4096) (K : ℕ) :
    ∃ r : ℝ, (if K < q.val then lbE (sX X (4096 * b.val + q.val) h.val K) - sX X (4096 * b.val + q.val) h.val K else 0) = (r : EReal) := by
  obtain ⟨r, hr, hs⟩ := score X hX b h q K
  rw [hs, lbE_real, ← EReal.coe_sub]
  by_cases hc : K < q.val
  · exact ⟨_, if_pos hc⟩
  · exact ⟨0, if_neg hc⟩

/-- The weights. -/
theorem wArr_at (X : FVec Ideal S8192x3072 .bf16) (hX : RealQK X) (b : Fin 2) (h : Fin 16) (q : Fin 4096) (K : ℕ) (hK : K < 4096) :
    wArr (zArr X) (ix4 b h q (Fin.ofNat 4096 K)) = if K < q.val then Ideal.exp (lbE (sX X (4096 * b.val + q.val) h.val K)
      + ∑ J ∈ Finset.Ico (K + 1) 4096, if J < q.val then lbE (sX X (4096 * b.val + q.val) h.val J) - sX X (4096 * b.val + q.val) h.val J else 0) else 0 := by
  obtain ⟨r, hr, hs⟩ := score X hX b h q K
  obtain ⟨r', hr'⟩ := keep_real X hX b h q K
  have e : wArr (zArr X) (ix4 b h q (Fin.ofNat 4096 K)) = Scalar.select (cArr (ix4 b h q (Fin.ofNat 4096 K)))
      (Ideal.exp (logsig (Host.negf (zArr X)) (ix4 b h q (Fin.ofNat 4096 K)) + (cumArr (keepArr (zArr X)) (ix4 b h q (Fin.ofNat 4096 K)) - keepArr (zArr X) (ix4 b h q (Fin.ofNat 4096 K)) : EReal) : EReal)) (oArr (ix4 b h q (Fin.ofNat 4096 K))) := rfl
  have ek : (Fin.ofNat 4096 K).val = K := Nat.mod_eq_of_lt hK
  have es : ∑ J ∈ Finset.Ico K 4096, keepArr (zArr X) (ix4 b h q (Fin.ofNat 4096 J))
      = ∑ J ∈ Finset.Ico K 4096, (if J < q.val then lbE (sX X (4096 * b.val + q.val) h.val J) - sX X (4096 * b.val + q.val) h.val J else 0) :=
    Finset.sum_congr rfl fun J hJ => keepArr_at X hX b h q J (Finset.mem_Ico.mp hJ).2
  rw [e, cArr_at, get_at _ _ r hr, oArr_at, cumArr_at, ek, es, keepArr_at X hX b h q K hK, Finset.sum_eq_sum_Ico_succ_bot hK, hr', cancel_real, hs]
  unfold Scalar.select
  by_cases hc : K < q.val
  · rw [if_pos hc, if_pos (by decide), if_pos hc]
  · rw [if_neg hc, if_neg (by decide), if_neg hc]

/-- The reference's result is the attention of the argument. -/
theorem ref_eq (X : FVec Ideal S8192x3072 .bf16) (hX : RealQK X) : refOut X = attnOf X := by
  funext i
  obtain ⟨i0, i1, rfl⟩ : ∃ (i0 : Fin 8192) (i1 : Fin 1024), i = ix2 i0 i1 := ⟨i 0, i 1, funext fun a => by fin_cases a <;> rfl⟩
  have h0 := i0.isLt
  have h1 := i1.isLt
  have e := refOut_at X ⟨i0.val / 4096, by omega⟩ ⟨i1.val / 64, by omega⟩ ⟨i0.val % 4096, by omega⟩ ⟨i1.val % 64, by omega⟩
  have ei : (ix2 ⟨4096 * (i0.val / 4096) + i0.val % 4096, by omega⟩ ⟨64 * (i1.val / 64) + i1.val % 64, by omega⟩ : S8192x1024.Idx) = ix2 i0 i1 :=
    congrArg₂ ix2 (Fin.ext (by show 4096 * (i0.val / 4096) + i0.val % 4096 = i0.val; omega)) (Fin.ext (by show 64 * (i1.val / 64) + i1.val % 64 = i1.val; omega))
  refine (congrArg (refOut X) ei.symm).trans (e.trans ?_)
  rw [avArr_at]
  have ep : 4096 * (i0.val / 4096) + i0.val % 4096 = i0.val := by omega
  have et : ∀ k : Fin 4096, wArr (zArr X) (ix4 ⟨i0.val / 4096, by omega⟩ ⟨i1.val / 64, by omega⟩ ⟨i0.val % 4096, by omega⟩ k)
      * vArr X (ix4 ⟨i0.val / 4096, by omega⟩ ⟨i1.val / 64, by omega⟩ k ⟨i1.val % 64, by omega⟩)
      = (if k.val < i0.val % 4096 then Ideal.exp (lbE (sX X i0.val (i1.val / 64) k.val)
      + ∑ J ∈ Finset.Ico (k.val + 1) 4096, if J < i0.val % 4096 then lbE (sX X i0.val (i1.val / 64) J) - sX X i0.val (i1.val / 64) J else 0) else 0) * vX X i0.val i1.val k.val := fun k => by
    have hk := k.isLt
    have hw := wArr_at X hX ⟨i0.val / 4096, by omega⟩ ⟨i1.val / 64, by omega⟩ ⟨i0.val % 4096, by omega⟩ k.val k.isLt
    rw [ofNat_self] at hw
    simp only [ep] at hw
    rw [hw, vArr_at]
    refine congrArg _ ?_
    unfold vX
    refine congrArg X (congrArg₂ ix2 (Fin.ext ?_) (Fin.ext ?_))
    · show 4096 * (i0.val / 4096) + k.val = (4096 * (i0.val / 4096) + k.val % 4096) % 8192; omega
    · show 2048 + (64 * (i1.val / 64) + i1.val % 64) = (2048 + i1.val) % 3072; omega
  refine (Finset.sum_congr rfl fun k _ => et k).trans ?_
  rw [Fin.sum_univ_eq_sum_range (fun k => (if k < i0.val % 4096 then Ideal.exp (lbE (sX X i0.val (i1.val / 64) k)
      + ∑ J ∈ Finset.Ico (k + 1) 4096, if J < i0.val % 4096 then lbE (sX X i0.val (i1.val / 64) J) - sX X i0.val (i1.val / 64) J else 0) else 0) * vX X i0.val i1.val k) 4096]
  rfl

/-- The stated condition: an extended real whose absolute value is below infinity is a real number. -/
theorem real_of_abs (x : EReal) (h : max x (-x) < ⊤) : ∃ r : ℝ, x = (r : EReal) := by
  induction x using EReal.rec with
  | bot => simp at h
  | coe r => exact ⟨r, rfl⟩
  | top => simp at h

theorem pre_facts : Cert.Pre_queries_and_keys_are_finite.Facts :=
  ⟨by decide, by decide, by decide, by decide, by decide⟩

theorem real_of_pre (X : FVec Ideal S8192x3072 .bf16) (hf : Cert.Pre_queries_and_keys_are_finite.Facts) (h : Cert.Pre_queries_and_keys_are_finite.fn (F := Ideal) X = fun _ => 1#1) : RealQK X := by
  intro i j hj
  have h1 := congrFun h (Shape.Idx.first hf.h_S_)
  dsimp only [Cert.Pre_queries_and_keys_are_finite.fn] at h1
  have h2 := Host.reduce_andi_all _ _ _ _ _ h1 (ix2 i ⟨j.val, hj⟩)
  have ht : Ideal.ofBits .f32 0x7F800000#32 = ⊤ := by simp [Ideal.ofBits, Ideal.ieee]
  have ex : extractStridedSlice Cert.Pre_queries_and_keys_are_finite.S8192x2048 ![0, 0] X hf.slices_S8192x3072_S8192x2048_0_0 (ix2 i ⟨j.val, hj⟩) = X (ix2 i j) := by
    pointwise []
    try blk_ext
  have h3 : Ideal.cmp .olt (max (X (ix2 i j) : EReal) (-(X (ix2 i j) : EReal))) (Ideal.ofBits .f32 0x7F800000#32) = 1#1 := by
    rw [← ex]
    exact h2
  rw [ht] at h3
  refine real_of_abs _ ?_
  by_contra hc
  have h4 : Ideal.cmp .olt (max (X (ix2 i j) : EReal) (-(X (ix2 i j) : EReal))) ⊤ = 0#1 := by
    show BitVec.ofBool (decide _) = _
    rw [decide_eq_false hc]
    rfl
  rw [h4] at h3
  exact absurd h3 (by decide)

end Cert.ReferenceIdeal.Hand
-- ==== Proof.lean ====
/- The claims of this certificate, assembled. -/
module

public import proofs.«01_k».proof.Proof.Moe.Equal
public import proofs.«01_k».proof.Proof.Gen.On_rows_with_work
public import proofs.«01_k».proof.Proof.Gen.Pre_items_are_packed
public import proofs.«01_k».proof.Proof.MoeBits.Frame
public import proofs.«01_k».proof.Proof.Gen.ReferenceMoeIdeal.Run
public import proofs.«01_k».proof.Proof.Calls.Qkv
public import proofs.«01_k».proof.Proof.Calls.Uv
public import proofs.«01_k».proof.Proof.Calls.Gates
public import proofs.«01_k».proof.Proof.Calls.Merge
public import proofs.«01_k».proof.Proof.Gen.KernelQkv.Frame
public import proofs.«01_k».proof.Proof.Gen.KernelQkvIdeal.Frame
public import proofs.«01_k».proof.Proof.Gen.KernelQkvIdeal.Value
public import proofs.«01_k».proof.Proof.Gen.ReferenceQkvIdeal.Run
public import proofs.«01_k».proof.Proof.Gen.KernelUv.Frame
public import proofs.«01_k».proof.Proof.Gen.KernelUvIdeal.Frame
public import proofs.«01_k».proof.Proof.Gen.KernelUvIdeal.Value
public import proofs.«01_k».proof.Proof.Gen.ReferenceUvIdeal.Run
public import proofs.«01_k».proof.Proof.Gen.KernelGates.Frame
public import proofs.«01_k».proof.Proof.Gen.KernelGatesIdeal.Frame
public import proofs.«01_k».proof.Proof.Gen.KernelGatesIdeal.Value
public import proofs.«01_k».proof.Proof.Gen.ReferenceGatesIdeal.Run
public import proofs.«01_k».proof.Proof.Gen.KernelMerge.Frame
public import proofs.«01_k».proof.Proof.Gen.KernelMergeIdeal.Frame
public import proofs.«01_k».proof.Proof.Gen.KernelMergeIdeal.Value
public import proofs.«01_k».proof.Proof.Gen.ReferenceMergeIdeal.Run
public import proofs.«01_k».proof.Defs
public import proofs.«01_k».proof.Proof.Bits.FrameAny
public import proofs.«01_k».proof.Proof.Ideal.FrameAny
public import proofs.«01_k».proof.Proof.Ideal.RefEq
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem

theorem frame_p : Cert.quiescent_Kernel := fun m ρ _ => Cert.Kernel.Hand.frame_any m ρ
theorem frame_pi : Cert.quiescent_KernelIdeal := fun m ρ _ => Cert.KernelIdeal.Hand.frame_any m ρ
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The named constant is minus one over the logarithm of two. -/
theorem preserves : Cert.preserves_Kernel_KernelIdeal :=
  IdealRules.named_const.statement Cert.KernelIdeal.κ "neg_log2_e" .f32 0xBFB8AA3B#32 ((-((Real.log 2)⁻¹) : ℝ) : EReal) rfl

theorem frame_pi_pre : @Cert.quiescent_KernelIdeal_pre_queries_and_keys_are_finite Cert.KernelIdeal.Gen.facts Cert.ReferenceIdeal.Hand.pre_facts :=
  fun m ρ _ => Cert.KernelIdeal.Hand.frame_any m ρ
theorem frame_ri_pre : @Cert.quiescent_ReferenceIdeal_pre_queries_and_keys_are_finite Cert.ReferenceIdeal.Gen.facts Cert.ReferenceIdeal.Hand.pre_facts :=
  fun m ρ _ => frame_ri m ρ trivial

/-- The kernel and the reference end with the same array: the attention of the argument. -/
theorem algebraic : @Cert.algebraic_KernelIdeal_ReferenceIdeal_pre_queries_and_keys_are_finite Cert.KernelIdeal.Gen.facts Cert.ReferenceIdeal.Gen.facts Cert.ReferenceIdeal.Hand.pre_facts :=
  fun m ρ m' ρ' hpre hm => by
    refine ⟨fun c => Cert.KernelIdeal.Hand.attnOf (m ((c.tc : Thread Cert.KernelIdeal.nD Cert.KernelIdeal.τ).loc Cert.KernelIdeal.main_arg0)), Cert.KernelIdeal.Hand.kernel_run m ρ, ?_⟩
    refine (θ_run Cert.ReferenceIdeal.defs _ _).mono (fun r h c => ⟨(h c).1.trans ?_, (h c).2⟩) (Cert.ReferenceIdeal.Value.run (F := Ideal) m' ρ')
    refine (Cert.ReferenceIdeal.Hand.res_eq m' c).trans ?_
    refine (congrArg Cert.ReferenceIdeal.Hand.refOut (hm c)).trans ?_
    exact Cert.ReferenceIdeal.Hand.ref_eq _ (Cert.ReferenceIdeal.Hand.real_of_pre _ Cert.ReferenceIdeal.Hand.pre_facts (hpre c))

theorem frame_p_Qkv : Cert.quiescent_KernelQkv := fun m ρ _ => Cert.KernelQkv.Gen.frame m ρ
theorem frame_pi_Qkv : Cert.quiescent_KernelQkvIdeal := fun m ρ _ => Cert.KernelQkvIdeal.Gen.frame m ρ
theorem frame_ri_Qkv : Cert.quiescent_ReferenceQkvIdeal := fun m ρ _ =>
  (θ_run Cert.ReferenceQkvIdeal.defs _ _).mono (fun r h => ⟨fun c => (h c).2,
      Idealize.ShloMosaic.sem_eq_zero_of_no_sems (by decide) r.2⟩)
    (Cert.ReferenceQkvIdeal.Value.run (F := Ideal) m ρ)

/-- The kernel and the reference end with the same array: the reference's term of the arguments. -/
theorem algebraic_Qkv : Cert.algebraic_KernelQkvIdeal_ReferenceQkvIdeal := fun m ρ m' ρ' _ hm => by
  refine ⟨fun c => Cert.KernelQkvIdeal.Hand.REF (m ((c.tc : Thread Cert.KernelQkvIdeal.nD Cert.KernelQkvIdeal.τ).loc Cert.KernelQkvIdeal.main_arg0)) (m ((c.tc : Thread Cert.KernelQkvIdeal.nD Cert.KernelQkvIdeal.τ).loc Cert.KernelQkvIdeal.main_arg1)),
    (θ_run Cert.KernelQkvIdeal.defs _ _).mono (fun r h c => ⟨(h c).1.trans (Cert.KernelQkvIdeal.Hand.final m c), (h c).2⟩) (Cert.KernelQkvIdeal.Value.run_blocks (F := Ideal) m ρ), ?_⟩
  refine (θ_run Cert.ReferenceQkvIdeal.defs _ _).mono (fun r h c => ⟨(h c).1.trans ?_, (h c).2⟩) (Cert.ReferenceQkvIdeal.Value.run (F := Ideal) m' ρ')
  obtain ⟨h0, h1⟩ := hm c
  rw [h0, h1]

theorem frame_p_Uv : Cert.quiescent_KernelUv := fun m ρ _ => Cert.KernelUv.Gen.frame m ρ
theorem frame_pi_Uv : Cert.quiescent_KernelUvIdeal := fun m ρ _ => Cert.KernelUvIdeal.Gen.frame m ρ
theorem frame_ri_Uv : Cert.quiescent_ReferenceUvIdeal := fun m ρ _ =>
  (θ_run Cert.ReferenceUvIdeal.defs _ _).mono (fun r h => ⟨fun c => (h c).2,
      Idealize.ShloMosaic.sem_eq_zero_of_no_sems (by decide) r.2⟩)
    (Cert.ReferenceUvIdeal.Value.run (F := Ideal) m ρ)

/-- The kernel and the reference end with the same array: the reference's term of the arguments. -/
theorem algebraic_Uv : Cert.algebraic_KernelUvIdeal_ReferenceUvIdeal := fun m ρ m' ρ' _ hm => by
  refine ⟨fun c => Cert.KernelUvIdeal.Hand.REF (m ((c.tc : Thread Cert.KernelUvIdeal.nD Cert.KernelUvIdeal.τ).loc Cert.KernelUvIdeal.main_arg0)) (m ((c.tc : Thread Cert.KernelUvIdeal.nD Cert.KernelUvIdeal.τ).loc Cert.KernelUvIdeal.main_arg1)),
    (θ_run Cert.KernelUvIdeal.defs _ _).mono (fun r h c => ⟨(h c).1.trans (Cert.KernelUvIdeal.Hand.final m c), (h c).2⟩) (Cert.KernelUvIdeal.Value.run_blocks (F := Ideal) m ρ), ?_⟩
  refine (θ_run Cert.ReferenceUvIdeal.defs _ _).mono (fun r h c => ⟨(h c).1.trans ?_, (h c).2⟩) (Cert.ReferenceUvIdeal.Value.run (F := Ideal) m' ρ')
  obtain ⟨h0, h1⟩ := hm c
  rw [h0, h1]

theorem frame_p_Gates : Cert.quiescent_KernelGates := fun m ρ _ => Cert.KernelGates.Gen.frame m ρ
theorem frame_pi_Gates : Cert.quiescent_KernelGatesIdeal := fun m ρ _ => Cert.KernelGatesIdeal.Gen.frame m ρ
theorem frame_ri_Gates : Cert.quiescent_ReferenceGatesIdeal := fun m ρ _ =>
  (θ_run Cert.ReferenceGatesIdeal.defs _ _).mono (fun r h => ⟨fun c => (h c).2,
      Idealize.ShloMosaic.sem_eq_zero_of_no_sems (by decide) r.2⟩)
    (Cert.ReferenceGatesIdeal.Value.run (F := Ideal) m ρ)

/-- The kernel and the reference end with the same array: the reference's term of the arguments. -/
theorem algebraic_Gates : Cert.algebraic_KernelGatesIdeal_ReferenceGatesIdeal := fun m ρ m' ρ' _ hm => by
  refine ⟨fun c => Cert.KernelGatesIdeal.Hand.REF (m ((c.tc : Thread Cert.KernelGatesIdeal.nD Cert.KernelGatesIdeal.τ).loc Cert.KernelGatesIdeal.main_arg0)) (m ((c.tc : Thread Cert.KernelGatesIdeal.nD Cert.KernelGatesIdeal.τ).loc Cert.KernelGatesIdeal.main_arg1)) (m ((c.tc : Thread Cert.KernelGatesIdeal.nD Cert.KernelGatesIdeal.τ).loc Cert.KernelGatesIdeal.main_arg2)),
    (θ_run Cert.KernelGatesIdeal.defs _ _).mono (fun r h c => ⟨(h c).1.trans (Cert.KernelGatesIdeal.Hand.final m c), (h c).2⟩) (Cert.KernelGatesIdeal.Value.run_blocks (F := Ideal) m ρ), ?_⟩
  refine (θ_run Cert.ReferenceGatesIdeal.defs _ _).mono (fun r h c => ⟨(h c).1.trans ?_, (h c).2⟩) (Cert.ReferenceGatesIdeal.Value.run (F := Ideal) m' ρ')
  obtain ⟨h0, h1, h2⟩ := hm c
  rw [h0, h1, h2]

theorem frame_p_Merge : Cert.quiescent_KernelMerge := fun m ρ _ => Cert.KernelMerge.Gen.frame m ρ
theorem frame_pi_Merge : Cert.quiescent_KernelMergeIdeal := fun m ρ _ => Cert.KernelMergeIdeal.Gen.frame m ρ
theorem frame_ri_Merge : Cert.quiescent_ReferenceMergeIdeal := fun m ρ _ =>
  (θ_run Cert.ReferenceMergeIdeal.defs _ _).mono (fun r h => ⟨fun c => (h c).2,
      Idealize.ShloMosaic.sem_eq_zero_of_no_sems (by decide) r.2⟩)
    (Cert.ReferenceMergeIdeal.Value.run (F := Ideal) m ρ)

/-- The kernel and the reference end with the same array: the reference's term of the arguments. -/
theorem algebraic_Merge : Cert.algebraic_KernelMergeIdeal_ReferenceMergeIdeal := fun m ρ m' ρ' _ hm => by
  refine ⟨fun c => Cert.KernelMergeIdeal.Hand.REF (m ((c.tc : Thread Cert.KernelMergeIdeal.nD Cert.KernelMergeIdeal.τ).loc Cert.KernelMergeIdeal.main_arg0)) (m ((c.tc : Thread Cert.KernelMergeIdeal.nD Cert.KernelMergeIdeal.τ).loc Cert.KernelMergeIdeal.main_arg1)) (m ((c.tc : Thread Cert.KernelMergeIdeal.nD Cert.KernelMergeIdeal.τ).loc Cert.KernelMergeIdeal.main_arg2)) (m ((c.tc : Thread Cert.KernelMergeIdeal.nD Cert.KernelMergeIdeal.τ).loc Cert.KernelMergeIdeal.main_arg3)) (m ((c.tc : Thread Cert.KernelMergeIdeal.nD Cert.KernelMergeIdeal.τ).loc Cert.KernelMergeIdeal.main_arg4)) (m ((c.tc : Thread Cert.KernelMergeIdeal.nD Cert.KernelMergeIdeal.τ).loc Cert.KernelMergeIdeal.main_arg5)) (m ((c.tc : Thread Cert.KernelMergeIdeal.nD Cert.KernelMergeIdeal.τ).loc Cert.KernelMergeIdeal.main_arg6)),
    (θ_run Cert.KernelMergeIdeal.defs _ _).mono (fun r h c => ⟨(h c).1.trans (Cert.KernelMergeIdeal.Hand.final m c), (h c).2⟩) (Cert.KernelMergeIdeal.Value.run_blocks (F := Ideal) m ρ), ?_⟩
  refine (θ_run Cert.ReferenceMergeIdeal.defs _ _).mono (fun r h c => ⟨(h c).1.trans ?_, (h c).2⟩) (Cert.ReferenceMergeIdeal.Value.run (F := Ideal) m' ρ')
  obtain ⟨h0, h1, h2, h3, h4, h5, h6⟩ := hm c
  rw [h0, h1, h2, h3, h4, h5, h6]

theorem frame_p_Moe : Cert.quiescent_KernelMoe := fun m ρ h =>
  Cert.KernelMoe.Hand.frameM m ρ (Cert.KernelMoe.Hand.packed_of_pre _ _ _ _ _ _ _ _ (h 0))
theorem frame_pi_Moe : Cert.quiescent_KernelMoeIdeal := fun m ρ h =>
  Cert.KernelMoeIdeal.Hand.frameM m ρ (Cert.KernelMoeIdeal.Hand.packed_of_pre _ _ _ _ _ _ _ _ (h 0))
theorem frame_ri_Moe : Cert.quiescent_ReferenceMoeIdeal := fun m ρ _ =>
  (θ_run Cert.ReferenceMoeIdeal.defs _ _).mono (fun r h => ⟨fun c => (h c).2,
      Idealize.ShloMosaic.sem_eq_zero_of_no_sems (by decide) r.2⟩)
    (Cert.ReferenceMoeIdeal.Value.run (F := Ideal) m ρ)
theorem frame_ri_pre_Moe : Cert.quiescent_ReferenceMoeIdeal_pre_items_are_packed := fun m ρ _ => frame_ri_Moe m ρ trivial

/-- On the rows that have work the kernel and the reference end alike: at the reference's term of the arguments. -/
theorem algebraic_Moe : Cert.algebraic_KernelMoeIdeal_ReferenceMoeIdeal_on_rows_with_work := fun m ρ m' ρ' hp hm => by
  have hO : Cert.KernelMoeIdeal.Hand.Ok m := Cert.KernelMoeIdeal.Hand.packed_of_pre _ _ _ _ _ _ _ _ (hp 0)
  refine ⟨fun c => Cert.ReferenceMoeIdeal.Hand.REF (m ((c.tc : Thread Cert.KernelMoeIdeal.nD Cert.KernelMoeIdeal.τ).loc Cert.KernelMoeIdeal.main_arg0)) (m ((c.tc : Thread Cert.KernelMoeIdeal.nD Cert.KernelMoeIdeal.τ).loc Cert.KernelMoeIdeal.main_arg3)) (m ((c.tc : Thread Cert.KernelMoeIdeal.nD Cert.KernelMoeIdeal.τ).loc Cert.KernelMoeIdeal.main_arg4)) (m ((c.tc : Thread Cert.KernelMoeIdeal.nD Cert.KernelMoeIdeal.τ).loc Cert.KernelMoeIdeal.main_arg5)) (m ((c.tc : Thread Cert.KernelMoeIdeal.nD Cert.KernelMoeIdeal.τ).loc Cert.KernelMoeIdeal.main_arg6)) (m ((c.tc : Thread Cert.KernelMoeIdeal.nD Cert.KernelMoeIdeal.τ).loc Cert.KernelMoeIdeal.main_arg7)),
    (θ_run Cert.KernelMoeIdeal.defs _ _).mono (fun r h c => ⟨fun i hi => (congrFun ((h.1 c).1 5) i).trans (Cert.KernelMoeIdeal.Hand.on_mask m hO c i hi),
      Cert.KernelMoeIdeal.Hand.args_kept m hO r h.1 c⟩) (Cert.KernelMoeIdeal.Hand.runM m ρ hO), ?_⟩
  refine (θ_run Cert.ReferenceMoeIdeal.defs _ _).mono (fun r h c => ⟨fun i _ => congrFun ((h c).1.trans ?_) i, (h c).2⟩) (Cert.ReferenceMoeIdeal.Value.run (F := Ideal) m' ρ')
  obtain ⟨h0, h1, h2, h3, h4, h5, h6, h7⟩ := hm c
  rw [h0, h3, h4, h5, h6, h7]

theorem claim : Cert.Claim :=
  ⟨Cert.Kernel.Gen.facts, Cert.KernelIdeal.Gen.facts, Cert.ReferenceIdeal.Gen.facts, Cert.KernelQkv.Gen.facts, Cert.KernelQkvIdeal.Gen.facts, Cert.ReferenceQkvIdeal.Gen.facts, Cert.KernelUv.Gen.facts, Cert.KernelUvIdeal.Gen.facts, Cert.ReferenceUvIdeal.Gen.facts, Cert.KernelGates.Gen.facts, Cert.KernelGatesIdeal.Gen.facts, Cert.ReferenceGatesIdeal.Gen.facts, Cert.KernelMerge.Gen.facts, Cert.KernelMergeIdeal.Gen.facts, Cert.ReferenceMergeIdeal.Gen.facts, Cert.KernelMoe.Gen.facts, Cert.KernelMoeIdeal.Gen.facts, Cert.ReferenceMoeIdeal.Gen.facts, Cert.ReferenceIdeal.Hand.pre_facts, Cert.Pre_items_are_packed.Gen.facts, Cert.On_rows_with_work.Gen.facts,
    frame_p, frame_pi, frame_pi_pre, frame_ri, frame_ri_pre,
    frame_p_Qkv, frame_pi_Qkv, frame_ri_Qkv, frame_p_Uv, frame_pi_Uv, frame_ri_Uv, frame_p_Gates, frame_pi_Gates, frame_ri_Gates, frame_p_Merge, frame_pi_Merge, frame_ri_Merge, frame_p_Moe, frame_pi_Moe, frame_ri_Moe, frame_ri_pre_Moe,
    preserves, algebraic,
    trivial, algebraic_Qkv, trivial, algebraic_Uv, trivial, algebraic_Gates, trivial, algebraic_Merge, trivial, algebraic_Moe⟩

end Cert.Proof

end
